-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v2_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v118) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x8192x1024 : Shape := ⟨3, ![2, 8192, 1024]⟩
abbrev S2x2x8192x256 : Shape := ⟨4, ![2, 2, 8192, 256]⟩
abbrev S1x1024x3072 : Shape := ⟨3, ![1, 1024, 3072]⟩
abbrev S1x3x1024 : Shape := ⟨3, ![1, 3, 1024]⟩
abbrev S1x1024x1024 : Shape := ⟨3, ![1, 1024, 1024]⟩
abbrev S2x1024 : Shape := ⟨2, ![2, 1024]⟩
abbrev S2x1024x4096 : Shape := ⟨3, ![2, 1024, 4096]⟩
abbrev S2x4096x1024 : Shape := ⟨3, ![2, 4096, 1024]⟩
abbrev S2x1024x1024 : Shape := ⟨3, ![2, 1024, 1024]⟩
abbrev S2x256x1024 : Shape := ⟨3, ![2, 256, 1024]⟩
abbrev S1024x3072 : Shape := ⟨2, ![1024, 3072]⟩
abbrev S1024x1024 : Shape := ⟨2, ![1024, 1024]⟩
abbrev S1024x4096 : Shape := ⟨2, ![1024, 4096]⟩
abbrev S4096x1024 : Shape := ⟨2, ![4096, 1024]⟩
abbrev S256x1024 : Shape := ⟨2, ![256, 1024]⟩
abbrev S1 : Shape := ⟨1, ![1]⟩
abbrev S5 : Shape := ⟨1, ![5]⟩
abbrev S64x1024 : Shape := ⟨2, ![64, 1024]⟩
abbrev S64x4096 : Shape := ⟨2, ![64, 4096]⟩
abbrev S16x1024 : Shape := ⟨2, ![16, 1024]⟩
abbrev S2x520x1024 : Shape := ⟨3, ![2, 520, 1024]⟩
abbrev S_ : Shape := ⟨0, ![]⟩
abbrev S2x2x512x1024 : Shape := ⟨4, ![2, 2, 512, 1024]⟩
abbrev S2 : Shape := ⟨1, ![2]⟩
abbrev S1x2x512x1024 : Shape := ⟨4, ![1, 2, 512, 1024]⟩
abbrev S2x512x1024 : Shape := ⟨3, ![2, 512, 1024]⟩
abbrev S1x64x1024 : Shape := ⟨3, ![1, 64, 1024]⟩
abbrev S1x64x4096 : Shape := ⟨3, ![1, 64, 4096]⟩
abbrev S1x256x1024 : Shape := ⟨3, ![1, 256, 1024]⟩
abbrev S1x16x1024 : Shape := ⟨3, ![1, 16, 1024]⟩
abbrev S8x1024 : Shape := ⟨2, ![8, 1024]⟩
abbrev S1x8x1024 : Shape := ⟨3, ![1, 8, 1024]⟩
abbrev S3x1024 : Shape := ⟨2, ![3, 1024]⟩
abbrev S1x1024 : Shape := ⟨2, ![1, 1024]⟩
abbrev S1x1x256x1024 : Shape := ⟨4, ![1, 1, 256, 1024]⟩
abbrev S2x256x4096 : Shape := ⟨3, ![2, 256, 4096]⟩
abbrev S2x2x512x256 : Shape := ⟨4, ![2, 2, 512, 256]⟩
abbrev S1x2x512x256 : Shape := ⟨4, ![1, 2, 512, 256]⟩
abbrev S2x512x256 : Shape := ⟨3, ![2, 512, 256]⟩
abbrev S1x2x8192x256 : Shape := ⟨4, ![1, 2, 8192, 256]⟩
abbrev S2x8192x256 : Shape := ⟨3, ![2, 8192, 256]⟩
abbrev S256 : Shape := ⟨1, ![256]⟩
abbrev S256x1 : Shape := ⟨2, ![256, 1]⟩
abbrev S1x256x4096 : Shape := ⟨3, ![1, 256, 4096]⟩
abbrev S256x4096 : Shape := ⟨2, ![256, 4096]⟩
abbrev S1x256x256 : Shape := ⟨3, ![1, 256, 256]⟩
abbrev S256x256 : Shape := ⟨2, ![256, 256]⟩

abbrev nBuf : Space → Nat
  | .hbm => 17
  | .vmem => 26
  | .smem => 1
  | _ => 0

abbrev bufTy : (tb : Table) → Fin (tcTables nBuf tb) → BufTy
  | .hbm, ⟨0, _⟩ => ⟨S2x8192x1024, .f32⟩
  | .hbm, ⟨1, _⟩ => ⟨S2x2x8192x256, .f32⟩
  | .hbm, ⟨2, _⟩ => ⟨S1x1024x3072, .f32⟩
  | .hbm, ⟨3, _⟩ => ⟨S1x3x1024, .f32⟩
  | .hbm, ⟨4, _⟩ => ⟨S1x1024x1024, .f32⟩
  | .hbm, ⟨5, _⟩ => ⟨S2x1024, .f32⟩
  | .hbm, ⟨6, _⟩ => ⟨S2x1024, .f32⟩
  | .hbm, ⟨7, _⟩ => ⟨S2x1024x4096, .f32⟩
  | .hbm, ⟨8, _⟩ => ⟨S2x4096x1024, .f32⟩
  | .hbm, ⟨9, _⟩ => ⟨S2x1024, .f32⟩
  | .hbm, ⟨10, _⟩ => ⟨S2x1024, .f32⟩
  | .hbm, ⟨11, _⟩ => ⟨S2x1024x1024, .f32⟩
  | .hbm, ⟨12, _⟩ => ⟨S2x256x1024, .f32⟩
  | .hbm, ⟨13, _⟩ => ⟨S1024x3072, .f32⟩
  | .hbm, ⟨14, _⟩ => ⟨S1024x3072, .bf16⟩
  | .hbm, ⟨15, _⟩ => ⟨S2x8192x1024, .f32⟩
  | .hbm, ⟨16, _⟩ => ⟨S2x8192x1024, .bf16⟩
  | .local _ .vmem, ⟨0, _⟩ => ⟨S1x3x1024, .f32⟩
  | .local _ .vmem, ⟨1, _⟩ => ⟨S2x1024, .f32⟩
  | .local _ .vmem, ⟨2, _⟩ => ⟨S2x1024, .f32⟩
  | .local _ .vmem, ⟨3, _⟩ => ⟨S2x1024, .f32⟩
  | .local _ .vmem, ⟨4, _⟩ => ⟨S2x1024, .f32⟩
  | .local _ .vmem, ⟨5, _⟩ => ⟨S1024x1024, .bf16⟩
  | .local _ .vmem, ⟨6, _⟩ => ⟨S1024x4096, .bf16⟩
  | .local _ .vmem, ⟨7, _⟩ => ⟨S4096x1024, .bf16⟩
  | .local _ .vmem, ⟨8, _⟩ => ⟨S1024x1024, .bf16⟩
  | .local _ .vmem, ⟨9, _⟩ => ⟨S256x1024, .bf16⟩
  | .local _ .vmem, ⟨10, _⟩ => ⟨S64x1024, .f32⟩
  | .local _ .vmem, ⟨11, _⟩ => ⟨S64x4096, .f32⟩
  | .local _ .vmem, ⟨12, _⟩ => ⟨S256x1024, .f32⟩
  | .local _ .vmem, ⟨13, _⟩ => ⟨S64x1024, .f32⟩
  | .local _ .vmem, ⟨14, _⟩ => ⟨S16x1024, .f32⟩
  | .local _ .vmem, ⟨15, _⟩ => ⟨S1024x3072, .bf16⟩
  | .local _ .vmem, ⟨16, _⟩ => ⟨S2x520x1024, .f32⟩
  | .local _ .vmem, ⟨17, _⟩ => ⟨S2x2x512x1024, .f32⟩
  | .local _ .vmem, ⟨18, _⟩ => ⟨S2x2x512x1024, .bf16⟩
  | .local _ .vmem, ⟨19, _⟩ => ⟨S2x256x1024, .bf16⟩
  | .local _ .vmem, ⟨20, _⟩ => ⟨S2x256x4096, .bf16⟩
  | .local _ .vmem, ⟨21, _⟩ => ⟨S2x256x1024, .bf16⟩
  | .local _ .vmem, ⟨22, _⟩ => ⟨S2x2x512x1024, .f32⟩
  | .local _ .vmem, ⟨23, _⟩ => ⟨S2x2x512x1024, .bf16⟩
  | .local _ .vmem, ⟨24, _⟩ => ⟨S2x2x512x256, .f32⟩
  | .local _ .vmem, ⟨25, _⟩ => ⟨S2x2x512x1024, .f32⟩
  | .local _ .smem, ⟨0, _⟩ => ⟨S1, .i32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .smem, ⟨0, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2_0 : Ref sig .tc := ⟨.hbm, 15, rfl⟩
abbrev main_v2_1 : Ref sig .tc := ⟨.hbm, 16, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_scratch3 : Ref sig .tc := ⟨.vmem, 8, rfl⟩
abbrev cc0_scratch4 : Ref sig .tc := ⟨.vmem, 9, rfl⟩
abbrev cc0_scoped2 : Ref sig .tc := ⟨.vmem, 10, rfl⟩
abbrev cc0_scoped3 : Ref sig .tc := ⟨.vmem, 11, rfl⟩
abbrev cc0_scoped4 : Ref sig .tc := ⟨.vmem, 12, rfl⟩
abbrev cc0_scoped5 : Ref sig .tc := ⟨.vmem, 13, rfl⟩
abbrev cc0_scoped6 : Ref sig .tc := ⟨.vmem, 14, rfl⟩
abbrev cc0_scoped7 : Ref sig .tc := ⟨.vmem, 15, rfl⟩
abbrev cc0_scoped8 : Ref sig .tc := ⟨.vmem, 16, rfl⟩
abbrev cc0_scoped10 : Ref sig .tc := ⟨.vmem, 17, rfl⟩
abbrev cc0_scoped12 : Ref sig .tc := ⟨.vmem, 18, rfl⟩
abbrev cc0_scoped14 : Ref sig .tc := ⟨.vmem, 19, rfl⟩
abbrev cc0_scoped15 : Ref sig .tc := ⟨.vmem, 20, rfl⟩
abbrev cc0_scoped16 : Ref sig .tc := ⟨.vmem, 21, rfl⟩
abbrev cc0_scoped17 : Ref sig .tc := ⟨.vmem, 22, rfl⟩
abbrev cc0_scoped19 : Ref sig .tc := ⟨.vmem, 23, rfl⟩
abbrev cc0_scoped21 : Ref sig .tc := ⟨.vmem, 24, rfl⟩
abbrev cc0_scoped23 : Ref sig .tc := ⟨.vmem, 25, rfl⟩
abbrev cc0_scoped0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

def k0_off1 : Fin 1 → Nat :=
  let c0_i32_21_r1 : BitVec 32 := 0#32
  let c2_i32_r1 : BitVec 32 := 2#32
  let v18_r1 : BitVec 32 := Scalar.remui c0_i32_21_r1 c2_i32_r1
  ![v18_r1.toNat]
def k0_off2 : Fin 4 → Nat :=
  let c0_i32_21_r1 : BitVec 32 := 0#32
  let c2_i32_r1 : BitVec 32 := 2#32
  let v18_r1 : BitVec 32 := Scalar.remui c0_i32_21_r1 c2_i32_r1
  let c0_i32_22_r1 : BitVec 32 := 0#32
  let c0_i32_23_r1 : BitVec 32 := 0#32
  let c0_i32_24_r1 : BitVec 32 := 0#32
  ![v18_r1.toNat, 0, 0, 0]
@[reducible] def k0_t1_loop : Scf.Loop 32 :=
  let c0_i32_34_r1 : BitVec 32 := 0#32
  let c16_i32_35_r1 : BitVec 32 := 16#32
  let v25_r1 : BitVec 32 := Scalar.addi c0_i32_34_r1 c16_i32_35_r1
  let c1_i32_36_r1 : BitVec 32 := 1#32
  ⟨c0_i32_34_r1, v25_r1, c1_i32_36_r1⟩
def k0_off3 (arg21_r1 : BitVec 32) : Fin 1 → Nat :=
  let c2_i32_293_r1 : BitVec 32 := 2#32
  let v401_r1 : BitVec 32 := Scalar.remui arg21_r1 c2_i32_293_r1
  ![v401_r1.toNat]
def k0_cond1 (k0_t1 : Fin k0_t1_loop.trips) (arg25_r1 : BitVec 32) : BitVec 1 :=
  let c0_i32_66_r1 : BitVec 32 := 0#32
  let v56_r1 : BitVec 32 := Scalar.addi arg25_r1 c0_i32_66_r1
  let true_73_r1 : BitVec 1 := 1#1
  let c1_i32_72_r1 : BitVec 32 := 1#32
  let v62_r1 : BitVec 32 := Scalar.addi arg25_r1 c1_i32_72_r1
  let v63_r1 : BitVec 32 := Scalar.select true_73_r1 v62_r1 arg25_r1
  let c16_i32_74_r1 : BitVec 32 := 16#32
  let v64_r1 : BitVec 1 := Scalar.cmpi .eq v63_r1 c16_i32_74_r1
  let c0_i32_75_r1 : BitVec 32 := 0#32
  let v65_r1 : BitVec 32 := Scalar.select v64_r1 c0_i32_75_r1 v63_r1
  let c0_i32_76_r1 : BitVec 32 := 0#32
  let v66_r1 : BitVec 32 := Scalar.addi v65_r1 c0_i32_76_r1
  let v72_r1 : BitVec 1 := Scalar.cmpi .ne v56_r1 v66_r1
  let c0_i32_34_r1 : BitVec 32 := 0#32
  let c1_i32_36_r1 : BitVec 32 := 1#32
  let arg20_r1 : BitVec 32 := Scf.iv c0_i32_34_r1 c1_i32_36_r1 k0_t1
  let c15_i32_82_r1 : BitVec 32 := 15#32
  let v73_r1 : BitVec 1 := Scalar.cmpi .sge arg20_r1 c15_i32_82_r1
  let true_83_r1 : BitVec 1 := 1#1
  let v74_r1 : BitVec 1 := Scalar.xori v73_r1 true_83_r1
  let v75_r1 : BitVec 1 := Scalar.andi v72_r1 v74_r1
  let true_84_r1 : BitVec 1 := 1#1
  let v76_r1 : BitVec 1 := Scalar.andi v75_r1 true_84_r1
  let v77_r1 : BitVec 32 := Scalar.extui v76_r1
  let c0_i32_85_r1 : BitVec 32 := 0#32
  let v78_r1 : BitVec 1 := Scalar.cmpi .ne v77_r1 c0_i32_85_r1
  v78_r1

def k0_off4 (arg21_r1 : BitVec 32) : Fin 4 → Nat :=
  let c2_i32_293_r1 : BitVec 32 := 2#32
  let v401_r1 : BitVec 32 := Scalar.remui arg21_r1 c2_i32_293_r1
  let c0_i32_295_r1 : BitVec 32 := 0#32
  let c0_i32_296_r1 : BitVec 32 := 0#32
  let c0_i32_297_r1 : BitVec 32 := 0#32
  ![v401_r1.toNat, 0, 0, 0]
def k0_off5 (arg25_r1 : BitVec 32) : Fin 3 → Nat :=
  let c0_i32_298_r1 : BitVec 32 := 0#32
  let c512_i32_294_r1 : BitVec 32 := 512#32
  let true_73_r1 : BitVec 1 := 1#1
  let c1_i32_72_r1 : BitVec 32 := 1#32
  let v62_r1 : BitVec 32 := Scalar.addi arg25_r1 c1_i32_72_r1
  let v63_r1 : BitVec 32 := Scalar.select true_73_r1 v62_r1 arg25_r1
  let c16_i32_74_r1 : BitVec 32 := 16#32
  let v64_r1 : BitVec 1 := Scalar.cmpi .eq v63_r1 c16_i32_74_r1
  let c0_i32_75_r1 : BitVec 32 := 0#32
  let v65_r1 : BitVec 32 := Scalar.select v64_r1 c0_i32_75_r1 v63_r1
  let c0_i32_76_r1 : BitVec 32 := 0#32
  let v66_r1 : BitVec 32 := Scalar.addi v65_r1 c0_i32_76_r1
  let v402_r1 : BitVec 32 := Scalar.muli c512_i32_294_r1 v66_r1
  let c0_i32_299_r1 : BitVec 32 := 0#32
  ![0, v402_r1.toNat, 0]
def k0_off6 (arg22_r1 : BitVec 32) : Fin 1 → Nat :=
  let c2_i32_294_r1 : BitVec 32 := 2#32
  let v402_r1 : BitVec 32 := Scalar.remui arg22_r1 c2_i32_294_r1
  ![v402_r1.toNat]
def k0_cond2 (k0_t1 : Fin k0_t1_loop.trips) (arg25_r1 : BitVec 32) : BitVec 1 :=
  let c0_i32_66_r1 : BitVec 32 := 0#32
  let v56_r1 : BitVec 32 := Scalar.addi arg25_r1 c0_i32_66_r1
  let true_68_r1 : BitVec 1 := 1#1
  let c1_i32_67_r1 : BitVec 32 := 1#32
  let v57_r1 : BitVec 32 := Scalar.subi arg25_r1 c1_i32_67_r1
  let v58_r1 : BitVec 32 := Scalar.select true_68_r1 v57_r1 arg25_r1
  let c_m1_i32_69_r1 : BitVec 32 := 4294967295#32
  let v59_r1 : BitVec 1 := Scalar.cmpi .eq v58_r1 c_m1_i32_69_r1
  let c15_i32_70_r1 : BitVec 32 := 15#32
  let v60_r1 : BitVec 32 := Scalar.select v59_r1 c15_i32_70_r1 v58_r1
  let c0_i32_71_r1 : BitVec 32 := 0#32
  let v61_r1 : BitVec 32 := Scalar.addi v60_r1 c0_i32_71_r1
  let v86_r1 : BitVec 1 := Scalar.cmpi .ne v56_r1 v61_r1
  let c0_i32_34_r1 : BitVec 32 := 0#32
  let c1_i32_36_r1 : BitVec 32 := 1#32
  let arg20_r1 : BitVec 32 := Scf.iv c0_i32_34_r1 c1_i32_36_r1 k0_t1
  let c0_i32_64_r1 : BitVec 32 := 0#32
  let v54_r1 : BitVec 1 := Scalar.cmpi .eq arg20_r1 c0_i32_64_r1
  let v87_r1 : BitVec 1 := Scalar.ori v86_r1 v54_r1
  let c0_i32_90_r1 : BitVec 32 := 0#32
  let v88_r1 : BitVec 1 := Scalar.cmpi .sge arg20_r1 c0_i32_90_r1
  let v89_r1 : BitVec 1 := Scalar.andi v87_r1 v88_r1
  let v90_r1 : BitVec 32 := Scalar.extui v89_r1
  let c0_i32_91_r1 : BitVec 32 := 0#32
  let v91_r1 : BitVec 1 := Scalar.cmpi .ne v90_r1 c0_i32_91_r1
  v91_r1

def k0_off7 (arg22_r1 : BitVec 32) : Fin 4 → Nat :=
  let c2_i32_294_r1 : BitVec 32 := 2#32
  let v402_r1 : BitVec 32 := Scalar.remui arg22_r1 c2_i32_294_r1
  let c0_i32_295_r1 : BitVec 32 := 0#32
  let c0_i32_296_r1 : BitVec 32 := 0#32
  let c0_i32_297_r1 : BitVec 32 := 0#32
  ![v402_r1.toNat, 0, 0, 0]
def k0_off8 (arg25_r1 : BitVec 32) : Fin 3 → Nat :=
  let c0_i32_298_r1 : BitVec 32 := 0#32
  let c512_i32_293_r1 : BitVec 32 := 512#32
  let c0_i32_66_r1 : BitVec 32 := 0#32
  let v56_r1 : BitVec 32 := Scalar.addi arg25_r1 c0_i32_66_r1
  let v401_r1 : BitVec 32 := Scalar.muli c512_i32_293_r1 v56_r1
  let c0_i32_299_r1 : BitVec 32 := 0#32
  ![0, v401_r1.toNat, 0]
def k0_mult1 (v100_r1 : BitVec 32) : BitVec 32 :=
  let c64_i32_r1 : BitVec 32 := 64#32
  let v101_r1 : BitVec 32 := Scalar.muli v100_r1 c64_i32_r1
  v101_r1

def k0_mult2 (v100_r1 : BitVec 32) : BitVec 32 :=
  let c64_i32_97_r1 : BitVec 32 := 64#32
  let v103_r1 : BitVec 32 := Scalar.muli v100_r1 c64_i32_97_r1
  v103_r1
def k0_mult3 (v100_r1 : BitVec 32) : BitVec 32 :=
  let c256_i32_r1 : BitVec 32 := 256#32
  let v105_r1 : BitVec 32 := Scalar.muli v100_r1 c256_i32_r1
  v105_r1
def k0_mult4 (v100_r1 : BitVec 32) : BitVec 32 :=
  let c64_i32_98_r1 : BitVec 32 := 64#32
  let v107_r1 : BitVec 32 := Scalar.muli v100_r1 c64_i32_98_r1
  v107_r1
def k0_mult5 (v100_r1 : BitVec 32) : BitVec 32 :=
  let c16_i32_99_r1 : BitVec 32 := 16#32
  let v109_r1 : BitVec 32 := Scalar.muli v100_r1 c16_i32_99_r1
  v109_r1
def k0_off9 (v100_r1 : BitVec 32) : Fin 3 → Nat :=
  let c0_i32_100_r1 : BitVec 32 := 0#32
  let c64_i32_r1 : BitVec 32 := 64#32
  let v101_r1 : BitVec 32 := Scalar.muli v100_r1 c64_i32_r1
  let v102_r1 : BitVec 32 := v101_r1
  let c0_i32_102_r1 : BitVec 32 := 0#32
  ![0, v102_r1.toNat, 0]
def k0_off10 (v100_r1 : BitVec 32) : Fin 3 → Nat :=
  let c1_i32_103_r1 : BitVec 32 := 1#32
  let c64_i32_97_r1 : BitVec 32 := 64#32
  let v103_r1 : BitVec 32 := Scalar.muli v100_r1 c64_i32_97_r1
  let v104_r1 : BitVec 32 := v103_r1
  let c0_i32_105_r1 : BitVec 32 := 0#32
  ![1, v104_r1.toNat, 0]
def k0_off11 (v100_r1 : BitVec 32) : Fin 3 → Nat :=
  let c1_i32_106_r1 : BitVec 32 := 1#32
  let c256_i32_r1 : BitVec 32 := 256#32
  let v105_r1 : BitVec 32 := Scalar.muli v100_r1 c256_i32_r1
  let v106_r1 : BitVec 32 := v105_r1
  let c0_i32_108_r1 : BitVec 32 := 0#32
  ![1, v106_r1.toNat, 0]
def k0_off12 (v100_r1 : BitVec 32) : Fin 3 → Nat :=
  let c1_i32_109_r1 : BitVec 32 := 1#32
  let c64_i32_98_r1 : BitVec 32 := 64#32
  let v107_r1 : BitVec 32 := Scalar.muli v100_r1 c64_i32_98_r1
  let v108_r1 : BitVec 32 := v107_r1
  let c0_i32_110_r1 : BitVec 32 := 0#32
  ![1, v108_r1.toNat, 0]
def k0_off13 (v100_r1 : BitVec 32) : Fin 3 → Nat :=
  let c1_i32_111_r1 : BitVec 32 := 1#32
  let c16_i32_99_r1 : BitVec 32 := 16#32
  let v109_r1 : BitVec 32 := Scalar.muli v100_r1 c16_i32_99_r1
  let v110_r1 : BitVec 32 := v109_r1
  let c0_i32_112_r1 : BitVec 32 := 0#32
  ![1, v110_r1.toNat, 0]
def k0_off14 (arg22_r1 : BitVec 32) : Fin 4 → Nat :=
  let c2_i32_94_r1 : BitVec 32 := 2#32
  let v98_r1 : BitVec 32 := Scalar.remui arg22_r1 c2_i32_94_r1
  let c0_i32_117_r1 : BitVec 32 := 0#32
  let c0_i32_118_r1 : BitVec 32 := 0#32
  let c0_i32_119_r1 : BitVec 32 := 0#32
  ![v98_r1.toNat, 0, 0, 0]

def k0_chk3 (arg22_r1 : BitVec 32) : Prop :=
  (∀ a, (k0_off14 arg22_r1) a + S1x2x512x1024.size a ≤ S2x2x512x1024.size a)
theorem k0_off14_inb : ∀ (arg22_r1 : BitVec 32) (k0_hw3 : k0_chk3 arg22_r1), ∀ a, (k0_off14 arg22_r1) a + S1x2x512x1024.size a ≤ S2x2x512x1024.size a := fun arg22_r1 k0_hw3 => k0_hw3

def k0_off15 (arg23_r1 : BitVec 32) : Fin 4 → Nat :=
  let c2_i32_95_r1 : BitVec 32 := 2#32
  let v99_r1 : BitVec 32 := Scalar.remui arg23_r1 c2_i32_95_r1
  let c0_i32_189_r1 : BitVec 32 := 0#32
  let c0_i32_190_r1 : BitVec 32 := 0#32
  let c0_i32_191_r1 : BitVec 32 := 0#32
  ![v99_r1.toNat, 0, 0, 0]

def k0_off16 (arg23_r1 : BitVec 32) : Fin 4 → Nat :=
  let c2_i32_95_r1 : BitVec 32 := 2#32
  let v99_r1 : BitVec 32 := Scalar.remui arg23_r1 c2_i32_95_r1
  let c0_i32_189_r1 : BitVec 32 := 0#32
  let c0_i32_190_r1 : BitVec 32 := 0#32
  let c0_i32_191_r1 : BitVec 32 := 0#32
  ![v99_r1.toNat, 0, 0, 0]
def k0_off17 (arg23_r1 : BitVec 32) : Fin 4 → Nat :=
  let c2_i32_95_r1 : BitVec 32 := 2#32
  let v99_r1 : BitVec 32 := Scalar.remui arg23_r1 c2_i32_95_r1
  let c0_i32_199_r1 : BitVec 32 := 0#32
  let c0_i32_201_r1 : BitVec 32 := 0#32
  ![v99_r1.toNat, 0, 256, 0]
def k0_off18 (arg23_r1 : BitVec 32) : Fin 4 → Nat :=
  let c2_i32_95_r1 : BitVec 32 := 2#32
  let v99_r1 : BitVec 32 := Scalar.remui arg23_r1 c2_i32_95_r1
  let c0_i32_212_r1 : BitVec 32 := 0#32
  let c0_i32_213_r1 : BitVec 32 := 0#32
  ![v99_r1.toNat, 1, 0, 0]
def k0_off19 (arg23_r1 : BitVec 32) : Fin 4 → Nat :=
  let c2_i32_95_r1 : BitVec 32 := 2#32
  let v99_r1 : BitVec 32 := Scalar.remui arg23_r1 c2_i32_95_r1
  let c0_i32_225_r1 : BitVec 32 := 0#32
  ![v99_r1.toNat, 1, 256, 0]

def k0_chk4 (arg23_r1 : BitVec 32) : Prop :=
  (∀ a, (k0_off15 arg23_r1) a + S1x2x512x1024.size a ≤ S2x2x512x1024.size a) ∧
  (∀ a, (k0_off16 arg23_r1) a + S1x1x256x1024.size a ≤ S2x2x512x1024.size a) ∧
  (∀ (hinb : ∀ a, (k0_off16 arg23_r1) a + S1x1x256x1024.size a ≤ S2x2x512x1024.size a), (Rect.unit (s := S2x2x512x1024) (k0_off16 arg23_r1) S1x1x256x1024.size hinb).PackedRows (EltTy.packing .bf16)) ∧
  (∀ a, (k0_off17 arg23_r1) a + S1x1x256x1024.size a ≤ S2x2x512x1024.size a) ∧
  (∀ (hinb : ∀ a, (k0_off17 arg23_r1) a + S1x1x256x1024.size a ≤ S2x2x512x1024.size a), (Rect.unit (s := S2x2x512x1024) (k0_off17 arg23_r1) S1x1x256x1024.size hinb).PackedRows (EltTy.packing .bf16)) ∧
  (∀ a, (k0_off18 arg23_r1) a + S1x1x256x1024.size a ≤ S2x2x512x1024.size a) ∧
  (∀ (hinb : ∀ a, (k0_off18 arg23_r1) a + S1x1x256x1024.size a ≤ S2x2x512x1024.size a), (Rect.unit (s := S2x2x512x1024) (k0_off18 arg23_r1) S1x1x256x1024.size hinb).PackedRows (EltTy.packing .bf16)) ∧
  (∀ a, (k0_off19 arg23_r1) a + S1x1x256x1024.size a ≤ S2x2x512x1024.size a) ∧
  (∀ (hinb : ∀ a, (k0_off19 arg23_r1) a + S1x1x256x1024.size a ≤ S2x2x512x1024.size a), (Rect.unit (s := S2x2x512x1024) (k0_off19 arg23_r1) S1x1x256x1024.size hinb).PackedRows (EltTy.packing .bf16))
theorem k0_off15_inb : ∀ (arg23_r1 : BitVec 32) (k0_hw4 : k0_chk4 arg23_r1), ∀ a, (k0_off15 arg23_r1) a + S1x2x512x1024.size a ≤ S2x2x512x1024.size a := fun arg23_r1 k0_hw4 => k0_hw4.1
theorem k0_off16_inb : ∀ (arg23_r1 : BitVec 32) (k0_hw4 : k0_chk4 arg23_r1), ∀ a, (k0_off16 arg23_r1) a + S1x1x256x1024.size a ≤ S2x2x512x1024.size a := fun arg23_r1 k0_hw4 => k0_hw4.2.1
theorem k0_off16_packedbf16 : ∀ (arg23_r1 : BitVec 32) (k0_hw4 : k0_chk4 arg23_r1), (Rect.unit (s := S2x2x512x1024) (k0_off16 arg23_r1) S1x1x256x1024.size (k0_off16_inb arg23_r1 k0_hw4)).PackedRows (EltTy.packing .bf16) := fun arg23_r1 k0_hw4 => k0_hw4.2.2.1 (k0_off16_inb arg23_r1 k0_hw4)
theorem k0_off17_inb : ∀ (arg23_r1 : BitVec 32) (k0_hw4 : k0_chk4 arg23_r1), ∀ a, (k0_off17 arg23_r1) a + S1x1x256x1024.size a ≤ S2x2x512x1024.size a := fun arg23_r1 k0_hw4 => k0_hw4.2.2.2.1
theorem k0_off17_packedbf16 : ∀ (arg23_r1 : BitVec 32) (k0_hw4 : k0_chk4 arg23_r1), (Rect.unit (s := S2x2x512x1024) (k0_off17 arg23_r1) S1x1x256x1024.size (k0_off17_inb arg23_r1 k0_hw4)).PackedRows (EltTy.packing .bf16) := fun arg23_r1 k0_hw4 => k0_hw4.2.2.2.2.1 (k0_off17_inb arg23_r1 k0_hw4)
theorem k0_off18_inb : ∀ (arg23_r1 : BitVec 32) (k0_hw4 : k0_chk4 arg23_r1), ∀ a, (k0_off18 arg23_r1) a + S1x1x256x1024.size a ≤ S2x2x512x1024.size a := fun arg23_r1 k0_hw4 => k0_hw4.2.2.2.2.2.1
theorem k0_off18_packedbf16 : ∀ (arg23_r1 : BitVec 32) (k0_hw4 : k0_chk4 arg23_r1), (Rect.unit (s := S2x2x512x1024) (k0_off18 arg23_r1) S1x1x256x1024.size (k0_off18_inb arg23_r1 k0_hw4)).PackedRows (EltTy.packing .bf16) := fun arg23_r1 k0_hw4 => k0_hw4.2.2.2.2.2.2.1 (k0_off18_inb arg23_r1 k0_hw4)
theorem k0_off19_inb : ∀ (arg23_r1 : BitVec 32) (k0_hw4 : k0_chk4 arg23_r1), ∀ a, (k0_off19 arg23_r1) a + S1x1x256x1024.size a ≤ S2x2x512x1024.size a := fun arg23_r1 k0_hw4 => k0_hw4.2.2.2.2.2.2.2.1
theorem k0_off19_packedbf16 : ∀ (arg23_r1 : BitVec 32) (k0_hw4 : k0_chk4 arg23_r1), (Rect.unit (s := S2x2x512x1024) (k0_off19 arg23_r1) S1x1x256x1024.size (k0_off19_inb arg23_r1 k0_hw4)).PackedRows (EltTy.packing .bf16) := fun arg23_r1 k0_hw4 => k0_hw4.2.2.2.2.2.2.2.2 (k0_off19_inb arg23_r1 k0_hw4)

def k0_mult6 (v100_r1 : BitVec 32) : BitVec 32 :=
  let c64_i32_235_r1 : BitVec 32 := 64#32
  let v295_r1 : BitVec 32 := Scalar.muli v100_r1 c64_i32_235_r1
  v295_r1
def k0_mult7 (v100_r1 : BitVec 32) : BitVec 32 :=
  let c64_i32_236_r1 : BitVec 32 := 64#32
  let v297_r1 : BitVec 32 := Scalar.muli v100_r1 c64_i32_236_r1
  v297_r1
def k0_mult8 (v100_r1 : BitVec 32) : BitVec 32 :=
  let c256_i32_237_r1 : BitVec 32 := 256#32
  let v299_r1 : BitVec 32 := Scalar.muli v100_r1 c256_i32_237_r1
  v299_r1
def k0_mult9 (v100_r1 : BitVec 32) : BitVec 32 :=
  let c64_i32_238_r1 : BitVec 32 := 64#32
  let v301_r1 : BitVec 32 := Scalar.muli v100_r1 c64_i32_238_r1
  v301_r1
def k0_mult10 (v100_r1 : BitVec 32) : BitVec 32 :=
  let c16_i32_239_r1 : BitVec 32 := 16#32
  let v303_r1 : BitVec 32 := Scalar.muli v100_r1 c16_i32_239_r1
  v303_r1
def k0_off20 (v100_r1 : BitVec 32) : Fin 3 → Nat :=
  let c0_i32_240_r1 : BitVec 32 := 0#32
  let c64_i32_235_r1 : BitVec 32 := 64#32
  let v295_r1 : BitVec 32 := Scalar.muli v100_r1 c64_i32_235_r1
  let v296_r1 : BitVec 32 := v295_r1
  let c0_i32_242_r1 : BitVec 32 := 0#32
  ![0, v296_r1.toNat, 0]
def k0_mult11 (v100_r1 : BitVec 32) : BitVec 32 :=
  let c64_i32_243_r1 : BitVec 32 := 64#32
  let v309_r1 : BitVec 32 := Scalar.muli v100_r1 c64_i32_243_r1
  v309_r1
def k0_off21 (v100_r1 : BitVec 32) : Fin 2 → Nat :=
  let c64_i32_243_r1 : BitVec 32 := 64#32
  let v309_r1 : BitVec 32 := Scalar.muli v100_r1 c64_i32_243_r1
  let v310_r1 : BitVec 32 := v309_r1
  let v313_r1 : Index := Scalar.indexCast v310_r1
  let c0_246_r1 : Index := 0#32
  ![v313_r1.toNat, 0]
def k0_off22 (v100_r1 : BitVec 32) : Fin 3 → Nat :=
  let c1_i32_247_r1 : BitVec 32 := 1#32
  let c64_i32_236_r1 : BitVec 32 := 64#32
  let v297_r1 : BitVec 32 := Scalar.muli v100_r1 c64_i32_236_r1
  let v298_r1 : BitVec 32 := v297_r1
  let c0_i32_249_r1 : BitVec 32 := 0#32
  ![1, v298_r1.toNat, 0]
def k0_mult12 (v100_r1 : BitVec 32) : BitVec 32 :=
  let c64_i32_250_r1 : BitVec 32 := 64#32
  let v321_r1 : BitVec 32 := Scalar.muli v100_r1 c64_i32_250_r1
  v321_r1
def k0_off23 (v100_r1 : BitVec 32) : Fin 2 → Nat :=
  let c64_i32_250_r1 : BitVec 32 := 64#32
  let v321_r1 : BitVec 32 := Scalar.muli v100_r1 c64_i32_250_r1
  let v322_r1 : BitVec 32 := v321_r1
  let v325_r1 : Index := Scalar.indexCast v322_r1
  let c0_253_r1 : Index := 0#32
  ![v325_r1.toNat, 0]
def k0_off24 (v100_r1 : BitVec 32) : Fin 3 → Nat :=
  let c1_i32_254_r1 : BitVec 32 := 1#32
  let c256_i32_237_r1 : BitVec 32 := 256#32
  let v299_r1 : BitVec 32 := Scalar.muli v100_r1 c256_i32_237_r1
  let v300_r1 : BitVec 32 := v299_r1
  let c0_i32_256_r1 : BitVec 32 := 0#32
  ![1, v300_r1.toNat, 0]
def k0_mult13 (v100_r1 : BitVec 32) : BitVec 32 :=
  let c256_i32_257_r1 : BitVec 32 := 256#32
  let v333_r1 : BitVec 32 := Scalar.muli v100_r1 c256_i32_257_r1
  v333_r1
def k0_off25 (v100_r1 : BitVec 32) : Fin 2 → Nat :=
  let c256_i32_257_r1 : BitVec 32 := 256#32
  let v333_r1 : BitVec 32 := Scalar.muli v100_r1 c256_i32_257_r1
  let v334_r1 : BitVec 32 := v333_r1
  let v337_r1 : Index := Scalar.indexCast v334_r1
  let c0_260_r1 : Index := 0#32
  ![v337_r1.toNat, 0]
def k0_off26 (v100_r1 : BitVec 32) : Fin 3 → Nat :=
  let c1_i32_261_r1 : BitVec 32 := 1#32
  let c64_i32_238_r1 : BitVec 32 := 64#32
  let v301_r1 : BitVec 32 := Scalar.muli v100_r1 c64_i32_238_r1
  let v302_r1 : BitVec 32 := v301_r1
  let c0_i32_263_r1 : BitVec 32 := 0#32
  ![1, v302_r1.toNat, 0]
def k0_mult14 (v100_r1 : BitVec 32) : BitVec 32 :=
  let c64_i32_264_r1 : BitVec 32 := 64#32
  let v345_r1 : BitVec 32 := Scalar.muli v100_r1 c64_i32_264_r1
  v345_r1
def k0_off27 (v100_r1 : BitVec 32) : Fin 3 → Nat :=
  let c1_i32_268_r1 : BitVec 32 := 1#32
  let c16_i32_239_r1 : BitVec 32 := 16#32
  let v303_r1 : BitVec 32 := Scalar.muli v100_r1 c16_i32_239_r1
  let v304_r1 : BitVec 32 := v303_r1
  let c0_i32_270_r1 : BitVec 32 := 0#32
  ![1, v304_r1.toNat, 0]
def k0_mult15 (v100_r1 : BitVec 32) : BitVec 32 :=
  let c16_i32_271_r1 : BitVec 32 := 16#32
  let v357_r1 : BitVec 32 := Scalar.muli v100_r1 c16_i32_271_r1
  v357_r1
def k0_off28 (v100_r1 : BitVec 32) : Fin 2 → Nat :=
  let c16_i32_271_r1 : BitVec 32 := 16#32
  let v357_r1 : BitVec 32 := Scalar.muli v100_r1 c16_i32_271_r1
  let v358_r1 : BitVec 32 := v357_r1
  let v361_r1 : Index := Scalar.indexCast v358_r1
  let c0_274_r1 : Index := 0#32
  ![v361_r1.toNat, 0]

def k0_chk2_0 (v100_r1 : BitVec 32) : Prop :=
  (64 ∣ (k0_mult1 v100_r1).toNat) ∧
  (64 ∣ (k0_mult2 v100_r1).toNat) ∧
  (256 ∣ (k0_mult3 v100_r1).toNat) ∧
  (64 ∣ (k0_mult4 v100_r1).toNat) ∧
  (16 ∣ (k0_mult5 v100_r1).toNat) ∧
  (∀ a, (k0_off9 v100_r1) a + S1x64x1024.size a ≤ S1x1024x1024.size a) ∧
  (∀ a, (k0_off10 v100_r1) a + S1x64x4096.size a ≤ S2x1024x4096.size a) ∧
  (∀ a, (k0_off11 v100_r1) a + S1x256x1024.size a ≤ S2x4096x1024.size a) ∧
  (∀ a, (k0_off12 v100_r1) a + S1x64x1024.size a ≤ S2x1024x1024.size a) ∧
  (∀ a, (k0_off13 v100_r1) a + S1x16x1024.size a ≤ S2x256x1024.size a) ∧
  (64 ∣ (k0_mult6 v100_r1).toNat) ∧
  (64 ∣ (k0_mult7 v100_r1).toNat) ∧
  (256 ∣ (k0_mult8 v100_r1).toNat) ∧
  (64 ∣ (k0_mult9 v100_r1).toNat) ∧
  (16 ∣ (k0_mult10 v100_r1).toNat) ∧
  (∀ a, (k0_off20 v100_r1) a + S1x64x1024.size a ≤ S1x1024x1024.size a) ∧
  (64 ∣ (k0_mult11 v100_r1).toNat) ∧
  (∀ a, (k0_off21 v100_r1) a + S64x1024.size a ≤ S1024x1024.size a) ∧
  (∀ (hinb : ∀ a, (k0_off21 v100_r1) a + S64x1024.size a ≤ S1024x1024.size a), (Rect.unit (s := S1024x1024) (k0_off21 v100_r1) S64x1024.size hinb).PackedRows (EltTy.packing .bf16)) ∧
  (∀ a, (k0_off22 v100_r1) a + S1x64x4096.size a ≤ S2x1024x4096.size a) ∧
  (64 ∣ (k0_mult12 v100_r1).toNat) ∧
  (∀ a, (k0_off23 v100_r1) a + S64x4096.size a ≤ S1024x4096.size a) ∧
  (∀ (hinb : ∀ a, (k0_off23 v100_r1) a + S64x4096.size a ≤ S1024x4096.size a), (Rect.unit (s := S1024x4096) (k0_off23 v100_r1) S64x4096.size hinb).PackedRows (EltTy.packing .bf16)) ∧
  (∀ a, (k0_off24 v100_r1) a + S1x256x1024.size a ≤ S2x4096x1024.size a) ∧
  (256 ∣ (k0_mult13 v100_r1).toNat) ∧
  (∀ a, (k0_off25 v100_r1) a + S256x1024.size a ≤ S4096x1024.size a) ∧
  (∀ (hinb : ∀ a, (k0_off25 v100_r1) a + S256x1024.size a ≤ S4096x1024.size a), (Rect.unit (s := S4096x1024) (k0_off25 v100_r1) S256x1024.size hinb).PackedRows (EltTy.packing .bf16)) ∧
  (∀ a, (k0_off26 v100_r1) a + S1x64x1024.size a ≤ S2x1024x1024.size a) ∧
  (64 ∣ (k0_mult14 v100_r1).toNat) ∧
  (∀ a, (k0_off27 v100_r1) a + S1x16x1024.size a ≤ S2x256x1024.size a) ∧
  (16 ∣ (k0_mult15 v100_r1).toNat) ∧
  (∀ a, (k0_off28 v100_r1) a + S16x1024.size a ≤ S256x1024.size a)
def k0_chk2_1 (v100_r1 : BitVec 32) : Prop :=
  (∀ (hinb : ∀ a, (k0_off28 v100_r1) a + S16x1024.size a ≤ S256x1024.size a), (Rect.unit (s := S256x1024) (k0_off28 v100_r1) S16x1024.size hinb).PackedRows (EltTy.packing .bf16))
def k0_chk2 (v100_r1 : BitVec 32) : Prop :=
  k0_chk2_0 v100_r1 ∧
  k0_chk2_1 v100_r1
theorem k0_mult1_dvd : ∀ (v100_r1 : BitVec 32) (k0_hw2 : k0_chk2 v100_r1), 64 ∣ (k0_mult1 v100_r1).toNat := fun v100_r1 k0_hw2 => k0_hw2.1.1
theorem k0_mult2_dvd : ∀ (v100_r1 : BitVec 32) (k0_hw2 : k0_chk2 v100_r1), 64 ∣ (k0_mult2 v100_r1).toNat := fun v100_r1 k0_hw2 => k0_hw2.1.2.1
theorem k0_mult3_dvd : ∀ (v100_r1 : BitVec 32) (k0_hw2 : k0_chk2 v100_r1), 256 ∣ (k0_mult3 v100_r1).toNat := fun v100_r1 k0_hw2 => k0_hw2.1.2.2.1
theorem k0_mult4_dvd : ∀ (v100_r1 : BitVec 32) (k0_hw2 : k0_chk2 v100_r1), 64 ∣ (k0_mult4 v100_r1).toNat := fun v100_r1 k0_hw2 => k0_hw2.1.2.2.2.1
theorem k0_mult5_dvd : ∀ (v100_r1 : BitVec 32) (k0_hw2 : k0_chk2 v100_r1), 16 ∣ (k0_mult5 v100_r1).toNat := fun v100_r1 k0_hw2 => k0_hw2.1.2.2.2.2.1
theorem k0_off9_inb : ∀ (v100_r1 : BitVec 32) (k0_hw2 : k0_chk2 v100_r1), ∀ a, (k0_off9 v100_r1) a + S1x64x1024.size a ≤ S1x1024x1024.size a := fun v100_r1 k0_hw2 => k0_hw2.1.2.2.2.2.2.1
theorem k0_off10_inb : ∀ (v100_r1 : BitVec 32) (k0_hw2 : k0_chk2 v100_r1), ∀ a, (k0_off10 v100_r1) a + S1x64x4096.size a ≤ S2x1024x4096.size a := fun v100_r1 k0_hw2 => k0_hw2.1.2.2.2.2.2.2.1
theorem k0_off11_inb : ∀ (v100_r1 : BitVec 32) (k0_hw2 : k0_chk2 v100_r1), ∀ a, (k0_off11 v100_r1) a + S1x256x1024.size a ≤ S2x4096x1024.size a := fun v100_r1 k0_hw2 => k0_hw2.1.2.2.2.2.2.2.2.1
theorem k0_off12_inb : ∀ (v100_r1 : BitVec 32) (k0_hw2 : k0_chk2 v100_r1), ∀ a, (k0_off12 v100_r1) a + S1x64x1024.size a ≤ S2x1024x1024.size a := fun v100_r1 k0_hw2 => k0_hw2.1.2.2.2.2.2.2.2.2.1
theorem k0_off13_inb : ∀ (v100_r1 : BitVec 32) (k0_hw2 : k0_chk2 v100_r1), ∀ a, (k0_off13 v100_r1) a + S1x16x1024.size a ≤ S2x256x1024.size a := fun v100_r1 k0_hw2 => k0_hw2.1.2.2.2.2.2.2.2.2.2.1
theorem k0_mult6_dvd : ∀ (v100_r1 : BitVec 32) (k0_hw2 : k0_chk2 v100_r1), 64 ∣ (k0_mult6 v100_r1).toNat := fun v100_r1 k0_hw2 => k0_hw2.1.2.2.2.2.2.2.2.2.2.2.1
theorem k0_mult7_dvd : ∀ (v100_r1 : BitVec 32) (k0_hw2 : k0_chk2 v100_r1), 64 ∣ (k0_mult7 v100_r1).toNat := fun v100_r1 k0_hw2 => k0_hw2.1.2.2.2.2.2.2.2.2.2.2.2.1
theorem k0_mult8_dvd : ∀ (v100_r1 : BitVec 32) (k0_hw2 : k0_chk2 v100_r1), 256 ∣ (k0_mult8 v100_r1).toNat := fun v100_r1 k0_hw2 => k0_hw2.1.2.2.2.2.2.2.2.2.2.2.2.2.1
theorem k0_mult9_dvd : ∀ (v100_r1 : BitVec 32) (k0_hw2 : k0_chk2 v100_r1), 64 ∣ (k0_mult9 v100_r1).toNat := fun v100_r1 k0_hw2 => k0_hw2.1.2.2.2.2.2.2.2.2.2.2.2.2.2.1
theorem k0_mult10_dvd : ∀ (v100_r1 : BitVec 32) (k0_hw2 : k0_chk2 v100_r1), 16 ∣ (k0_mult10 v100_r1).toNat := fun v100_r1 k0_hw2 => k0_hw2.1.2.2.2.2.2.2.2.2.2.2.2.2.2.2.1
theorem k0_off20_inb : ∀ (v100_r1 : BitVec 32) (k0_hw2 : k0_chk2 v100_r1), ∀ a, (k0_off20 v100_r1) a + S1x64x1024.size a ≤ S1x1024x1024.size a := fun v100_r1 k0_hw2 => k0_hw2.1.2.2.2.2.2.2.2.2.2.2.2.2.2.2.2.1
theorem k0_mult11_dvd : ∀ (v100_r1 : BitVec 32) (k0_hw2 : k0_chk2 v100_r1), 64 ∣ (k0_mult11 v100_r1).toNat := fun v100_r1 k0_hw2 => k0_hw2.1.2.2.2.2.2.2.2.2.2.2.2.2.2.2.2.2.1
theorem k0_off21_inb : ∀ (v100_r1 : BitVec 32) (k0_hw2 : k0_chk2 v100_r1), ∀ a, (k0_off21 v100_r1) a + S64x1024.size a ≤ S1024x1024.size a := fun v100_r1 k0_hw2 => k0_hw2.1.2.2.2.2.2.2.2.2.2.2.2.2.2.2.2.2.2.1
theorem k0_off21_packedbf16 : ∀ (v100_r1 : BitVec 32) (k0_hw2 : k0_chk2 v100_r1), (Rect.unit (s := S1024x1024) (k0_off21 v100_r1) S64x1024.size (k0_off21_inb v100_r1 k0_hw2)).PackedRows (EltTy.packing .bf16) := fun v100_r1 k0_hw2 => k0_hw2.1.2.2.2.2.2.2.2.2.2.2.2.2.2.2.2.2.2.2.1 (k0_off21_inb v100_r1 k0_hw2)
theorem k0_off22_inb : ∀ (v100_r1 : BitVec 32) (k0_hw2 : k0_chk2 v100_r1), ∀ a, (k0_off22 v100_r1) a + S1x64x4096.size a ≤ S2x1024x4096.size a := fun v100_r1 k0_hw2 => k0_hw2.1.2.2.2.2.2.2.2.2.2.2.2.2.2.2.2.2.2.2.2.1
theorem k0_mult12_dvd : ∀ (v100_r1 : BitVec 32) (k0_hw2 : k0_chk2 v100_r1), 64 ∣ (k0_mult12 v100_r1).toNat := fun v100_r1 k0_hw2 => k0_hw2.1.2.2.2.2.2.2.2.2.2.2.2.2.2.2.2.2.2.2.2.2.1
theorem k0_off23_inb : ∀ (v100_r1 : BitVec 32) (k0_hw2 : k0_chk2 v100_r1), ∀ a, (k0_off23 v100_r1) a + S64x4096.size a ≤ S1024x4096.size a := fun v100_r1 k0_hw2 => k0_hw2.1.2.2.2.2.2.2.2.2.2.2.2.2.2.2.2.2.2.2.2.2.2.1
theorem k0_off23_packedbf16 : ∀ (v100_r1 : BitVec 32) (k0_hw2 : k0_chk2 v100_r1), (Rect.unit (s := S1024x4096) (k0_off23 v100_r1) S64x4096.size (k0_off23_inb v100_r1 k0_hw2)).PackedRows (EltTy.packing .bf16) := fun v100_r1 k0_hw2 => k0_hw2.1.2.2.2.2.2.2.2.2.2.2.2.2.2.2.2.2.2.2.2.2.2.2.1 (k0_off23_inb v100_r1 k0_hw2)
theorem k0_off24_inb : ∀ (v100_r1 : BitVec 32) (k0_hw2 : k0_chk2 v100_r1), ∀ a, (k0_off24 v100_r1) a + S1x256x1024.size a ≤ S2x4096x1024.size a := fun v100_r1 k0_hw2 => k0_hw2.1.2.2.2.2.2.2.2.2.2.2.2.2.2.2.2.2.2.2.2.2.2.2.2.1
theorem k0_mult13_dvd : ∀ (v100_r1 : BitVec 32) (k0_hw2 : k0_chk2 v100_r1), 256 ∣ (k0_mult13 v100_r1).toNat := fun v100_r1 k0_hw2 => k0_hw2.1.2.2.2.2.2.2.2.2.2.2.2.2.2.2.2.2.2.2.2.2.2.2.2.2.1
theorem k0_off25_inb : ∀ (v100_r1 : BitVec 32) (k0_hw2 : k0_chk2 v100_r1), ∀ a, (k0_off25 v100_r1) a + S256x1024.size a ≤ S4096x1024.size a := fun v100_r1 k0_hw2 => k0_hw2.1.2.2.2.2.2.2.2.2.2.2.2.2.2.2.2.2.2.2.2.2.2.2.2.2.2.1
theorem k0_off25_packedbf16 : ∀ (v100_r1 : BitVec 32) (k0_hw2 : k0_chk2 v100_r1), (Rect.unit (s := S4096x1024) (k0_off25 v100_r1) S256x1024.size (k0_off25_inb v100_r1 k0_hw2)).PackedRows (EltTy.packing .bf16) := fun v100_r1 k0_hw2 => k0_hw2.1.2.2.2.2.2.2.2.2.2.2.2.2.2.2.2.2.2.2.2.2.2.2.2.2.2.2.1 (k0_off25_inb v100_r1 k0_hw2)
theorem k0_off26_inb : ∀ (v100_r1 : BitVec 32) (k0_hw2 : k0_chk2 v100_r1), ∀ a, (k0_off26 v100_r1) a + S1x64x1024.size a ≤ S2x1024x1024.size a := fun v100_r1 k0_hw2 => k0_hw2.1.2.2.2.2.2.2.2.2.2.2.2.2.2.2.2.2.2.2.2.2.2.2.2.2.2.2.2.1
theorem k0_mult14_dvd : ∀ (v100_r1 : BitVec 32) (k0_hw2 : k0_chk2 v100_r1), 64 ∣ (k0_mult14 v100_r1).toNat := fun v100_r1 k0_hw2 => k0_hw2.1.2.2.2.2.2.2.2.2.2.2.2.2.2.2.2.2.2.2.2.2.2.2.2.2.2.2.2.2.1
theorem k0_off27_inb : ∀ (v100_r1 : BitVec 32) (k0_hw2 : k0_chk2 v100_r1), ∀ a, (k0_off27 v100_r1) a + S1x16x1024.size a ≤ S2x256x1024.size a := fun v100_r1 k0_hw2 => k0_hw2.1.2.2.2.2.2.2.2.2.2.2.2.2.2.2.2.2.2.2.2.2.2.2.2.2.2.2.2.2.2.1
theorem k0_mult15_dvd : ∀ (v100_r1 : BitVec 32) (k0_hw2 : k0_chk2 v100_r1), 16 ∣ (k0_mult15 v100_r1).toNat := fun v100_r1 k0_hw2 => k0_hw2.1.2.2.2.2.2.2.2.2.2.2.2.2.2.2.2.2.2.2.2.2.2.2.2.2.2.2.2.2.2.2.1
theorem k0_off28_inb : ∀ (v100_r1 : BitVec 32) (k0_hw2 : k0_chk2 v100_r1), ∀ a, (k0_off28 v100_r1) a + S16x1024.size a ≤ S256x1024.size a := fun v100_r1 k0_hw2 => k0_hw2.1.2.2.2.2.2.2.2.2.2.2.2.2.2.2.2.2.2.2.2.2.2.2.2.2.2.2.2.2.2.2.2
theorem k0_off28_packedbf16 : ∀ (v100_r1 : BitVec 32) (k0_hw2 : k0_chk2 v100_r1), (Rect.unit (s := S256x1024) (k0_off28 v100_r1) S16x1024.size (k0_off28_inb v100_r1 k0_hw2)).PackedRows (EltTy.packing .bf16) := fun v100_r1 k0_hw2 => k0_hw2.2 (k0_off28_inb v100_r1 k0_hw2)

def k0_off29 (arg23_r1 : BitVec 32) : Fin 1 → Nat :=
  let c2_i32_293_r1 : BitVec 32 := 2#32
  let v401_r1 : BitVec 32 := Scalar.remui arg23_r1 c2_i32_293_r1
  ![v401_r1.toNat]
def k0_cond7 (k0_t1 : Fin k0_t1_loop.trips) (arg25_r1 : BitVec 32) : BitVec 1 :=
  let c0_i32_66_r1 : BitVec 32 := 0#32
  let v56_r1 : BitVec 32 := Scalar.addi arg25_r1 c0_i32_66_r1
  let true_73_r1 : BitVec 1 := 1#1
  let c1_i32_72_r1 : BitVec 32 := 1#32
  let v62_r1 : BitVec 32 := Scalar.addi arg25_r1 c1_i32_72_r1
  let v63_r1 : BitVec 32 := Scalar.select true_73_r1 v62_r1 arg25_r1
  let c16_i32_74_r1 : BitVec 32 := 16#32
  let v64_r1 : BitVec 1 := Scalar.cmpi .eq v63_r1 c16_i32_74_r1
  let c0_i32_75_r1 : BitVec 32 := 0#32
  let v65_r1 : BitVec 32 := Scalar.select v64_r1 c0_i32_75_r1 v63_r1
  let c0_i32_76_r1 : BitVec 32 := 0#32
  let v66_r1 : BitVec 32 := Scalar.addi v65_r1 c0_i32_76_r1
  let v372_r1 : BitVec 1 := Scalar.cmpi .ne v56_r1 v66_r1
  let c0_i32_34_r1 : BitVec 32 := 0#32
  let c1_i32_36_r1 : BitVec 32 := 1#32
  let arg20_r1 : BitVec 32 := Scf.iv c0_i32_34_r1 c1_i32_36_r1 k0_t1
  let c15_i32_65_r1 : BitVec 32 := 15#32
  let v55_r1 : BitVec 1 := Scalar.cmpi .eq arg20_r1 c15_i32_65_r1
  let v373_r1 : BitVec 1 := Scalar.ori v372_r1 v55_r1
  let v374_r1 : BitVec 32 := Scalar.extui v373_r1
  let c0_i32_278_r1 : BitVec 32 := 0#32
  let v375_r1 : BitVec 1 := Scalar.cmpi .ne v374_r1 c0_i32_278_r1
  v375_r1

def k0_off30 (arg25_r1 : BitVec 32) : Fin 3 → Nat :=
  let c0_i32_295_r1 : BitVec 32 := 0#32
  let c512_i32_294_r1 : BitVec 32 := 512#32
  let c0_i32_66_r1 : BitVec 32 := 0#32
  let v56_r1 : BitVec 32 := Scalar.addi arg25_r1 c0_i32_66_r1
  let v402_r1 : BitVec 32 := Scalar.muli c512_i32_294_r1 v56_r1
  let c0_i32_296_r1 : BitVec 32 := 0#32
  ![0, v402_r1.toNat, 0]
def k0_off31 (arg23_r1 : BitVec 32) : Fin 4 → Nat :=
  let c2_i32_293_r1 : BitVec 32 := 2#32
  let v401_r1 : BitVec 32 := Scalar.remui arg23_r1 c2_i32_293_r1
  let c0_i32_297_r1 : BitVec 32 := 0#32
  let c0_i32_298_r1 : BitVec 32 := 0#32
  let c0_i32_299_r1 : BitVec 32 := 0#32
  ![v401_r1.toNat, 0, 0, 0]
def k0_off32 (arg24_r1 : BitVec 32) : Fin 1 → Nat :=
  let c2_i32_293_r1 : BitVec 32 := 2#32
  let v401_r1 : BitVec 32 := Scalar.remui arg24_r1 c2_i32_293_r1
  ![v401_r1.toNat]
def k0_cond9 (k0_t1 : Fin k0_t1_loop.trips) (arg25_r1 : BitVec 32) : BitVec 1 :=
  let c0_i32_66_r1 : BitVec 32 := 0#32
  let v56_r1 : BitVec 32 := Scalar.addi arg25_r1 c0_i32_66_r1
  let true_68_r1 : BitVec 1 := 1#1
  let c1_i32_67_r1 : BitVec 32 := 1#32
  let v57_r1 : BitVec 32 := Scalar.subi arg25_r1 c1_i32_67_r1
  let v58_r1 : BitVec 32 := Scalar.select true_68_r1 v57_r1 arg25_r1
  let c_m1_i32_69_r1 : BitVec 32 := 4294967295#32
  let v59_r1 : BitVec 1 := Scalar.cmpi .eq v58_r1 c_m1_i32_69_r1
  let c15_i32_70_r1 : BitVec 32 := 15#32
  let v60_r1 : BitVec 32 := Scalar.select v59_r1 c15_i32_70_r1 v58_r1
  let c0_i32_71_r1 : BitVec 32 := 0#32
  let v61_r1 : BitVec 32 := Scalar.addi v60_r1 c0_i32_71_r1
  let v385_r1 : BitVec 1 := Scalar.cmpi .ne v56_r1 v61_r1
  let c0_i32_34_r1 : BitVec 32 := 0#32
  let c1_i32_36_r1 : BitVec 32 := 1#32
  let arg20_r1 : BitVec 32 := Scf.iv c0_i32_34_r1 c1_i32_36_r1 k0_t1
  let c0_i32_64_r1 : BitVec 32 := 0#32
  let v54_r1 : BitVec 1 := Scalar.cmpi .eq arg20_r1 c0_i32_64_r1
  let true_284_r1 : BitVec 1 := 1#1
  let v386_r1 : BitVec 1 := Scalar.xori v54_r1 true_284_r1
  let v387_r1 : BitVec 1 := Scalar.andi v385_r1 v386_r1
  let v388_r1 : BitVec 32 := Scalar.extui v387_r1
  let c0_i32_285_r1 : BitVec 32 := 0#32
  let v389_r1 : BitVec 1 := Scalar.cmpi .ne v388_r1 c0_i32_285_r1
  v389_r1

def k0_off33 (arg25_r1 : BitVec 32) : Fin 3 → Nat :=
  let c0_i32_295_r1 : BitVec 32 := 0#32
  let c512_i32_294_r1 : BitVec 32 := 512#32
  let true_68_r1 : BitVec 1 := 1#1
  let c1_i32_67_r1 : BitVec 32 := 1#32
  let v57_r1 : BitVec 32 := Scalar.subi arg25_r1 c1_i32_67_r1
  let v58_r1 : BitVec 32 := Scalar.select true_68_r1 v57_r1 arg25_r1
  let c_m1_i32_69_r1 : BitVec 32 := 4294967295#32
  let v59_r1 : BitVec 1 := Scalar.cmpi .eq v58_r1 c_m1_i32_69_r1
  let c15_i32_70_r1 : BitVec 32 := 15#32
  let v60_r1 : BitVec 32 := Scalar.select v59_r1 c15_i32_70_r1 v58_r1
  let c0_i32_71_r1 : BitVec 32 := 0#32
  let v61_r1 : BitVec 32 := Scalar.addi v60_r1 c0_i32_71_r1
  let v402_r1 : BitVec 32 := Scalar.muli c512_i32_294_r1 v61_r1
  let c0_i32_296_r1 : BitVec 32 := 0#32
  ![0, v402_r1.toNat, 0]
def k0_off34 (arg24_r1 : BitVec 32) : Fin 4 → Nat :=
  let c2_i32_293_r1 : BitVec 32 := 2#32
  let v401_r1 : BitVec 32 := Scalar.remui arg24_r1 c2_i32_293_r1
  let c0_i32_297_r1 : BitVec 32 := 0#32
  let c0_i32_298_r1 : BitVec 32 := 0#32
  let c0_i32_299_r1 : BitVec 32 := 0#32
  ![v401_r1.toNat, 0, 0, 0]

def k0_chk1 (k0_t1 : Fin k0_t1_loop.trips) (arg21_r1 : BitVec 32) (arg22_r1 : BitVec 32) (arg23_r1 : BitVec 32) (arg24_r1 : BitVec 32) (arg25_r1 : BitVec 32) : Prop :=
  (∀ (k0_h1 : k0_cond1 k0_t1 arg25_r1 = 1#1), ∀ a, (k0_off3 arg21_r1) a + S1.size a ≤ S2.size a) ∧
  (∀ (k0_h1 : k0_cond1 k0_t1 arg25_r1 = 1#1), ∀ a, (k0_off4 arg21_r1) a + S1x2x512x1024.size a ≤ S2x2x512x1024.size a) ∧
  (∀ (k0_h1 : k0_cond1 k0_t1 arg25_r1 = 1#1), ∀ a, (k0_off5 arg25_r1) a + S2x512x1024.size a ≤ S2x8192x1024.size a) ∧
  (∀ (k0_h2 : k0_cond2 k0_t1 arg25_r1 = 1#1), ∀ a, (k0_off6 arg22_r1) a + S1.size a ≤ S2.size a) ∧
  (∀ (k0_h2 : k0_cond2 k0_t1 arg25_r1 = 1#1), ∀ a, (k0_off7 arg22_r1) a + S1x2x512x1024.size a ≤ S2x2x512x1024.size a) ∧
  (∀ (k0_h2 : k0_cond2 k0_t1 arg25_r1 = 1#1), ∀ a, (k0_off8 arg25_r1) a + S2x512x1024.size a ≤ S2x8192x1024.size a) ∧
  (∀ (k0_h7 : k0_cond7 k0_t1 arg25_r1 = 1#1), ∀ a, (k0_off29 arg23_r1) a + S1.size a ≤ S2.size a) ∧
  (∀ (k0_h7 : k0_cond7 k0_t1 arg25_r1 = 1#1), ∀ a, (k0_off30 arg25_r1) a + S2x512x1024.size a ≤ S2x8192x1024.size a) ∧
  (∀ (k0_h7 : k0_cond7 k0_t1 arg25_r1 = 1#1), ∀ a, (k0_off31 arg23_r1) a + S1x2x512x1024.size a ≤ S2x2x512x1024.size a) ∧
  (∀ (k0_h7 : k0_cond7 k0_t1 arg25_r1 = 1#1), ∀ (hinb : ∀ a, (k0_off31 arg23_r1) a + S1x2x512x1024.size a ≤ S2x2x512x1024.size a), (Rect.unit (s := S2x2x512x1024) (k0_off31 arg23_r1) S1x2x512x1024.size hinb).WholeWords (EltTy.packing .bf16)) ∧
  (∀ (k0_h7 : k0_cond7 k0_t1 arg25_r1 = 1#1), ∀ (hinb : ∀ a, (k0_off30 arg25_r1) a + S2x512x1024.size a ≤ S2x8192x1024.size a), (Rect.unit (s := S2x8192x1024) (k0_off30 arg25_r1) S2x512x1024.size hinb).WholeWords (EltTy.packing .bf16)) ∧
  (∀ (k0_h9 : k0_cond9 k0_t1 arg25_r1 = 1#1), ∀ a, (k0_off32 arg24_r1) a + S1.size a ≤ S2.size a) ∧
  (∀ (k0_h9 : k0_cond9 k0_t1 arg25_r1 = 1#1), ∀ a, (k0_off33 arg25_r1) a + S2x512x1024.size a ≤ S2x8192x1024.size a) ∧
  (∀ (k0_h9 : k0_cond9 k0_t1 arg25_r1 = 1#1), ∀ a, (k0_off34 arg24_r1) a + S1x2x512x1024.size a ≤ S2x2x512x1024.size a) ∧
  (∀ (k0_h9 : k0_cond9 k0_t1 arg25_r1 = 1#1), ∀ (hinb : ∀ a, (k0_off34 arg24_r1) a + S1x2x512x1024.size a ≤ S2x2x512x1024.size a), (Rect.unit (s := S2x2x512x1024) (k0_off34 arg24_r1) S1x2x512x1024.size hinb).WholeWords (EltTy.packing .bf16)) ∧
  (∀ (k0_h9 : k0_cond9 k0_t1 arg25_r1 = 1#1), ∀ (hinb : ∀ a, (k0_off33 arg25_r1) a + S2x512x1024.size a ≤ S2x8192x1024.size a), (Rect.unit (s := S2x8192x1024) (k0_off33 arg25_r1) S2x512x1024.size hinb).WholeWords (EltTy.packing .bf16))
theorem k0_off3_inb : ∀ (k0_t1 : Fin k0_t1_loop.trips) (arg21_r1 : BitVec 32) (arg22_r1 : BitVec 32) (arg23_r1 : BitVec 32) (arg24_r1 : BitVec 32) (arg25_r1 : BitVec 32) (k0_hw1 : k0_chk1 k0_t1 arg21_r1 arg22_r1 arg23_r1 arg24_r1 arg25_r1), ∀ (k0_h1 : k0_cond1 k0_t1 arg25_r1 = 1#1), ∀ a, (k0_off3 arg21_r1) a + S1.size a ≤ S2.size a := fun k0_t1 arg21_r1 arg22_r1 arg23_r1 arg24_r1 arg25_r1 k0_hw1 k0_h1 => k0_hw1.1 k0_h1
theorem k0_off4_inb : ∀ (k0_t1 : Fin k0_t1_loop.trips) (arg21_r1 : BitVec 32) (arg22_r1 : BitVec 32) (arg23_r1 : BitVec 32) (arg24_r1 : BitVec 32) (arg25_r1 : BitVec 32) (k0_hw1 : k0_chk1 k0_t1 arg21_r1 arg22_r1 arg23_r1 arg24_r1 arg25_r1), ∀ (k0_h1 : k0_cond1 k0_t1 arg25_r1 = 1#1), ∀ a, (k0_off4 arg21_r1) a + S1x2x512x1024.size a ≤ S2x2x512x1024.size a := fun k0_t1 arg21_r1 arg22_r1 arg23_r1 arg24_r1 arg25_r1 k0_hw1 k0_h1 => k0_hw1.2.1 k0_h1
theorem k0_off5_inb : ∀ (k0_t1 : Fin k0_t1_loop.trips) (arg21_r1 : BitVec 32) (arg22_r1 : BitVec 32) (arg23_r1 : BitVec 32) (arg24_r1 : BitVec 32) (arg25_r1 : BitVec 32) (k0_hw1 : k0_chk1 k0_t1 arg21_r1 arg22_r1 arg23_r1 arg24_r1 arg25_r1), ∀ (k0_h1 : k0_cond1 k0_t1 arg25_r1 = 1#1), ∀ a, (k0_off5 arg25_r1) a + S2x512x1024.size a ≤ S2x8192x1024.size a := fun k0_t1 arg21_r1 arg22_r1 arg23_r1 arg24_r1 arg25_r1 k0_hw1 k0_h1 => k0_hw1.2.2.1 k0_h1
theorem k0_off6_inb : ∀ (k0_t1 : Fin k0_t1_loop.trips) (arg21_r1 : BitVec 32) (arg22_r1 : BitVec 32) (arg23_r1 : BitVec 32) (arg24_r1 : BitVec 32) (arg25_r1 : BitVec 32) (k0_hw1 : k0_chk1 k0_t1 arg21_r1 arg22_r1 arg23_r1 arg24_r1 arg25_r1), ∀ (k0_h2 : k0_cond2 k0_t1 arg25_r1 = 1#1), ∀ a, (k0_off6 arg22_r1) a + S1.size a ≤ S2.size a := fun k0_t1 arg21_r1 arg22_r1 arg23_r1 arg24_r1 arg25_r1 k0_hw1 k0_h2 => k0_hw1.2.2.2.1 k0_h2
theorem k0_off7_inb : ∀ (k0_t1 : Fin k0_t1_loop.trips) (arg21_r1 : BitVec 32) (arg22_r1 : BitVec 32) (arg23_r1 : BitVec 32) (arg24_r1 : BitVec 32) (arg25_r1 : BitVec 32) (k0_hw1 : k0_chk1 k0_t1 arg21_r1 arg22_r1 arg23_r1 arg24_r1 arg25_r1), ∀ (k0_h2 : k0_cond2 k0_t1 arg25_r1 = 1#1), ∀ a, (k0_off7 arg22_r1) a + S1x2x512x1024.size a ≤ S2x2x512x1024.size a := fun k0_t1 arg21_r1 arg22_r1 arg23_r1 arg24_r1 arg25_r1 k0_hw1 k0_h2 => k0_hw1.2.2.2.2.1 k0_h2
theorem k0_off8_inb : ∀ (k0_t1 : Fin k0_t1_loop.trips) (arg21_r1 : BitVec 32) (arg22_r1 : BitVec 32) (arg23_r1 : BitVec 32) (arg24_r1 : BitVec 32) (arg25_r1 : BitVec 32) (k0_hw1 : k0_chk1 k0_t1 arg21_r1 arg22_r1 arg23_r1 arg24_r1 arg25_r1), ∀ (k0_h2 : k0_cond2 k0_t1 arg25_r1 = 1#1), ∀ a, (k0_off8 arg25_r1) a + S2x512x1024.size a ≤ S2x8192x1024.size a := fun k0_t1 arg21_r1 arg22_r1 arg23_r1 arg24_r1 arg25_r1 k0_hw1 k0_h2 => k0_hw1.2.2.2.2.2.1 k0_h2
theorem k0_off29_inb : ∀ (k0_t1 : Fin k0_t1_loop.trips) (arg21_r1 : BitVec 32) (arg22_r1 : BitVec 32) (arg23_r1 : BitVec 32) (arg24_r1 : BitVec 32) (arg25_r1 : BitVec 32) (k0_hw1 : k0_chk1 k0_t1 arg21_r1 arg22_r1 arg23_r1 arg24_r1 arg25_r1), ∀ (k0_h7 : k0_cond7 k0_t1 arg25_r1 = 1#1), ∀ a, (k0_off29 arg23_r1) a + S1.size a ≤ S2.size a := fun k0_t1 arg21_r1 arg22_r1 arg23_r1 arg24_r1 arg25_r1 k0_hw1 k0_h7 => k0_hw1.2.2.2.2.2.2.1 k0_h7
theorem k0_off30_inb : ∀ (k0_t1 : Fin k0_t1_loop.trips) (arg21_r1 : BitVec 32) (arg22_r1 : BitVec 32) (arg23_r1 : BitVec 32) (arg24_r1 : BitVec 32) (arg25_r1 : BitVec 32) (k0_hw1 : k0_chk1 k0_t1 arg21_r1 arg22_r1 arg23_r1 arg24_r1 arg25_r1), ∀ (k0_h7 : k0_cond7 k0_t1 arg25_r1 = 1#1), ∀ a, (k0_off30 arg25_r1) a + S2x512x1024.size a ≤ S2x8192x1024.size a := fun k0_t1 arg21_r1 arg22_r1 arg23_r1 arg24_r1 arg25_r1 k0_hw1 k0_h7 => k0_hw1.2.2.2.2.2.2.2.1 k0_h7
theorem k0_off31_inb : ∀ (k0_t1 : Fin k0_t1_loop.trips) (arg21_r1 : BitVec 32) (arg22_r1 : BitVec 32) (arg23_r1 : BitVec 32) (arg24_r1 : BitVec 32) (arg25_r1 : BitVec 32) (k0_hw1 : k0_chk1 k0_t1 arg21_r1 arg22_r1 arg23_r1 arg24_r1 arg25_r1), ∀ (k0_h7 : k0_cond7 k0_t1 arg25_r1 = 1#1), ∀ a, (k0_off31 arg23_r1) a + S1x2x512x1024.size a ≤ S2x2x512x1024.size a := fun k0_t1 arg21_r1 arg22_r1 arg23_r1 arg24_r1 arg25_r1 k0_hw1 k0_h7 => k0_hw1.2.2.2.2.2.2.2.2.1 k0_h7
theorem k0_off31_wordsbf16 : ∀ (k0_t1 : Fin k0_t1_loop.trips) (arg21_r1 : BitVec 32) (arg22_r1 : BitVec 32) (arg23_r1 : BitVec 32) (arg24_r1 : BitVec 32) (arg25_r1 : BitVec 32) (k0_hw1 : k0_chk1 k0_t1 arg21_r1 arg22_r1 arg23_r1 arg24_r1 arg25_r1), ∀ (k0_h7 : k0_cond7 k0_t1 arg25_r1 = 1#1), (Rect.unit (s := S2x2x512x1024) (k0_off31 arg23_r1) S1x2x512x1024.size (k0_off31_inb k0_t1 arg21_r1 arg22_r1 arg23_r1 arg24_r1 arg25_r1 k0_hw1 k0_h7)).WholeWords (EltTy.packing .bf16) := fun k0_t1 arg21_r1 arg22_r1 arg23_r1 arg24_r1 arg25_r1 k0_hw1 k0_h7 => k0_hw1.2.2.2.2.2.2.2.2.2.1 k0_h7 (k0_off31_inb k0_t1 arg21_r1 arg22_r1 arg23_r1 arg24_r1 arg25_r1 k0_hw1 k0_h7)
theorem k0_off30_wordsbf16 : ∀ (k0_t1 : Fin k0_t1_loop.trips) (arg21_r1 : BitVec 32) (arg22_r1 : BitVec 32) (arg23_r1 : BitVec 32) (arg24_r1 : BitVec 32) (arg25_r1 : BitVec 32) (k0_hw1 : k0_chk1 k0_t1 arg21_r1 arg22_r1 arg23_r1 arg24_r1 arg25_r1), ∀ (k0_h7 : k0_cond7 k0_t1 arg25_r1 = 1#1), (Rect.unit (s := S2x8192x1024) (k0_off30 arg25_r1) S2x512x1024.size (k0_off30_inb k0_t1 arg21_r1 arg22_r1 arg23_r1 arg24_r1 arg25_r1 k0_hw1 k0_h7)).WholeWords (EltTy.packing .bf16) := fun k0_t1 arg21_r1 arg22_r1 arg23_r1 arg24_r1 arg25_r1 k0_hw1 k0_h7 => k0_hw1.2.2.2.2.2.2.2.2.2.2.1 k0_h7 (k0_off30_inb k0_t1 arg21_r1 arg22_r1 arg23_r1 arg24_r1 arg25_r1 k0_hw1 k0_h7)
theorem k0_off32_inb : ∀ (k0_t1 : Fin k0_t1_loop.trips) (arg21_r1 : BitVec 32) (arg22_r1 : BitVec 32) (arg23_r1 : BitVec 32) (arg24_r1 : BitVec 32) (arg25_r1 : BitVec 32) (k0_hw1 : k0_chk1 k0_t1 arg21_r1 arg22_r1 arg23_r1 arg24_r1 arg25_r1), ∀ (k0_h9 : k0_cond9 k0_t1 arg25_r1 = 1#1), ∀ a, (k0_off32 arg24_r1) a + S1.size a ≤ S2.size a := fun k0_t1 arg21_r1 arg22_r1 arg23_r1 arg24_r1 arg25_r1 k0_hw1 k0_h9 => k0_hw1.2.2.2.2.2.2.2.2.2.2.2.1 k0_h9
theorem k0_off33_inb : ∀ (k0_t1 : Fin k0_t1_loop.trips) (arg21_r1 : BitVec 32) (arg22_r1 : BitVec 32) (arg23_r1 : BitVec 32) (arg24_r1 : BitVec 32) (arg25_r1 : BitVec 32) (k0_hw1 : k0_chk1 k0_t1 arg21_r1 arg22_r1 arg23_r1 arg24_r1 arg25_r1), ∀ (k0_h9 : k0_cond9 k0_t1 arg25_r1 = 1#1), ∀ a, (k0_off33 arg25_r1) a + S2x512x1024.size a ≤ S2x8192x1024.size a := fun k0_t1 arg21_r1 arg22_r1 arg23_r1 arg24_r1 arg25_r1 k0_hw1 k0_h9 => k0_hw1.2.2.2.2.2.2.2.2.2.2.2.2.1 k0_h9
theorem k0_off34_inb : ∀ (k0_t1 : Fin k0_t1_loop.trips) (arg21_r1 : BitVec 32) (arg22_r1 : BitVec 32) (arg23_r1 : BitVec 32) (arg24_r1 : BitVec 32) (arg25_r1 : BitVec 32) (k0_hw1 : k0_chk1 k0_t1 arg21_r1 arg22_r1 arg23_r1 arg24_r1 arg25_r1), ∀ (k0_h9 : k0_cond9 k0_t1 arg25_r1 = 1#1), ∀ a, (k0_off34 arg24_r1) a + S1x2x512x1024.size a ≤ S2x2x512x1024.size a := fun k0_t1 arg21_r1 arg22_r1 arg23_r1 arg24_r1 arg25_r1 k0_hw1 k0_h9 => k0_hw1.2.2.2.2.2.2.2.2.2.2.2.2.2.1 k0_h9
theorem k0_off34_wordsbf16 : ∀ (k0_t1 : Fin k0_t1_loop.trips) (arg21_r1 : BitVec 32) (arg22_r1 : BitVec 32) (arg23_r1 : BitVec 32) (arg24_r1 : BitVec 32) (arg25_r1 : BitVec 32) (k0_hw1 : k0_chk1 k0_t1 arg21_r1 arg22_r1 arg23_r1 arg24_r1 arg25_r1), ∀ (k0_h9 : k0_cond9 k0_t1 arg25_r1 = 1#1), (Rect.unit (s := S2x2x512x1024) (k0_off34 arg24_r1) S1x2x512x1024.size (k0_off34_inb k0_t1 arg21_r1 arg22_r1 arg23_r1 arg24_r1 arg25_r1 k0_hw1 k0_h9)).WholeWords (EltTy.packing .bf16) := fun k0_t1 arg21_r1 arg22_r1 arg23_r1 arg24_r1 arg25_r1 k0_hw1 k0_h9 => k0_hw1.2.2.2.2.2.2.2.2.2.2.2.2.2.2.1 k0_h9 (k0_off34_inb k0_t1 arg21_r1 arg22_r1 arg23_r1 arg24_r1 arg25_r1 k0_hw1 k0_h9)
theorem k0_off33_wordsbf16 : ∀ (k0_t1 : Fin k0_t1_loop.trips) (arg21_r1 : BitVec 32) (arg22_r1 : BitVec 32) (arg23_r1 : BitVec 32) (arg24_r1 : BitVec 32) (arg25_r1 : BitVec 32) (k0_hw1 : k0_chk1 k0_t1 arg21_r1 arg22_r1 arg23_r1 arg24_r1 arg25_r1), ∀ (k0_h9 : k0_cond9 k0_t1 arg25_r1 = 1#1), (Rect.unit (s := S2x8192x1024) (k0_off33 arg25_r1) S2x512x1024.size (k0_off33_inb k0_t1 arg21_r1 arg22_r1 arg23_r1 arg24_r1 arg25_r1 k0_hw1 k0_h9)).WholeWords (EltTy.packing .bf16) := fun k0_t1 arg21_r1 arg22_r1 arg23_r1 arg24_r1 arg25_r1 k0_hw1 k0_h9 => k0_hw1.2.2.2.2.2.2.2.2.2.2.2.2.2.2.2 k0_h9 (k0_off33_inb k0_t1 arg21_r1 arg22_r1 arg23_r1 arg24_r1 arg25_r1 k0_hw1 k0_h9)

def k0_off35 (v26_3_r1 : BitVec 32) : Fin 1 → Nat :=
  let c2_i32_58_r1 : BitVec 32 := 2#32
  let v47_r1 : BitVec 32 := Scalar.remui v26_3_r1 c2_i32_58_r1
  ![v47_r1.toNat]

def k0_off36 (v26_4_r1 : BitVec 32) : Fin 3 → Nat :=
  let c0_i32_59_r1 : BitVec 32 := 0#32
  let c512_i32_r1 : BitVec 32 := 512#32
  let true_39_r1 : BitVec 1 := 1#1
  let c1_i32_38_r1 : BitVec 32 := 1#32
  let v27_r1 : BitVec 32 := Scalar.subi v26_4_r1 c1_i32_38_r1
  let v28_r1 : BitVec 32 := Scalar.select true_39_r1 v27_r1 v26_4_r1
  let c_m1_i32_40_r1 : BitVec 32 := 4294967295#32
  let v29_r1 : BitVec 1 := Scalar.cmpi .eq v28_r1 c_m1_i32_40_r1
  let c15_i32_41_r1 : BitVec 32 := 15#32
  let v30_r1 : BitVec 32 := Scalar.select v29_r1 c15_i32_41_r1 v28_r1
  let c0_i32_42_r1 : BitVec 32 := 0#32
  let v31_r1 : BitVec 32 := Scalar.addi v30_r1 c0_i32_42_r1
  let v48_r1 : BitVec 32 := Scalar.muli c512_i32_r1 v31_r1
  let c0_i32_60_r1 : BitVec 32 := 0#32
  ![0, v48_r1.toNat, 0]

def k0_off37 (v26_3_r1 : BitVec 32) : Fin 4 → Nat :=
  let c2_i32_58_r1 : BitVec 32 := 2#32
  let v47_r1 : BitVec 32 := Scalar.remui v26_3_r1 c2_i32_58_r1
  let c0_i32_61_r1 : BitVec 32 := 0#32
  let c0_i32_62_r1 : BitVec 32 := 0#32
  let c0_i32_63_r1 : BitVec 32 := 0#32
  ![v47_r1.toNat, 0, 0, 0]

def k0_chk5 (v26_3_r1 : BitVec 32) : Prop :=
  (∀ a, (k0_off35 v26_3_r1) a + S1.size a ≤ S2.size a) ∧
  (∀ a, (k0_off37 v26_3_r1) a + S1x2x512x1024.size a ≤ S2x2x512x1024.size a) ∧
  (∀ (hinb : ∀ a, (k0_off37 v26_3_r1) a + S1x2x512x1024.size a ≤ S2x2x512x1024.size a), (Rect.unit (s := S2x2x512x1024) (k0_off37 v26_3_r1) S1x2x512x1024.size hinb).WholeWords (EltTy.packing .bf16))
theorem k0_off35_inb : ∀ (v26_3_r1 : BitVec 32) (k0_hw5 : k0_chk5 v26_3_r1), ∀ a, (k0_off35 v26_3_r1) a + S1.size a ≤ S2.size a := fun v26_3_r1 k0_hw5 => k0_hw5.1
theorem k0_off37_inb : ∀ (v26_3_r1 : BitVec 32) (k0_hw5 : k0_chk5 v26_3_r1), ∀ a, (k0_off37 v26_3_r1) a + S1x2x512x1024.size a ≤ S2x2x512x1024.size a := fun v26_3_r1 k0_hw5 => k0_hw5.2.1
theorem k0_off37_wordsbf16 : ∀ (v26_3_r1 : BitVec 32) (k0_hw5 : k0_chk5 v26_3_r1), (Rect.unit (s := S2x2x512x1024) (k0_off37 v26_3_r1) S1x2x512x1024.size (k0_off37_inb v26_3_r1 k0_hw5)).WholeWords (EltTy.packing .bf16) := fun v26_3_r1 k0_hw5 => k0_hw5.2.2 (k0_off37_inb v26_3_r1 k0_hw5)

def k0_chk6 (v26_4_r1 : BitVec 32) : Prop :=
  (∀ a, (k0_off36 v26_4_r1) a + S2x512x1024.size a ≤ S2x8192x1024.size a) ∧
  (∀ (hinb : ∀ a, (k0_off36 v26_4_r1) a + S2x512x1024.size a ≤ S2x8192x1024.size a), (Rect.unit (s := S2x8192x1024) (k0_off36 v26_4_r1) S2x512x1024.size hinb).WholeWords (EltTy.packing .bf16))
theorem k0_off36_inb : ∀ (v26_4_r1 : BitVec 32) (k0_hw6 : k0_chk6 v26_4_r1), ∀ a, (k0_off36 v26_4_r1) a + S2x512x1024.size a ≤ S2x8192x1024.size a := fun v26_4_r1 k0_hw6 => k0_hw6.1
theorem k0_off36_wordsbf16 : ∀ (v26_4_r1 : BitVec 32) (k0_hw6 : k0_chk6 v26_4_r1), (Rect.unit (s := S2x8192x1024) (k0_off36 v26_4_r1) S2x512x1024.size (k0_off36_inb v26_4_r1 k0_hw6)).WholeWords (EltTy.packing .bf16) := fun v26_4_r1 k0_hw6 => k0_hw6.2 (k0_off36_inb v26_4_r1 k0_hw6)

def k0_off38 : Fin 1 → Nat :=
  let c0_i32_18_r3 : BitVec 32 := 0#32
  let c2_i32_r3 : BitVec 32 := 2#32
  let v17_r3 : BitVec 32 := Scalar.remui c0_i32_18_r3 c2_i32_r3
  ![v17_r3.toNat]
def k0_off39 : Fin 4 → Nat :=
  let c0_i32_18_r3 : BitVec 32 := 0#32
  let c2_i32_r3 : BitVec 32 := 2#32
  let v17_r3 : BitVec 32 := Scalar.remui c0_i32_18_r3 c2_i32_r3
  let c0_i32_19_r3 : BitVec 32 := 0#32
  let c0_i32_20_r3 : BitVec 32 := 0#32
  let c0_i32_21_r3 : BitVec 32 := 0#32
  ![v17_r3.toNat, 0, 0, 0]
def k0_off40 : Fin 4 → Nat :=
  let c0_i32_37_r3 : BitVec 32 := 0#32
  let c2_i32_38_r3 : BitVec 32 := 2#32
  let v31_r3 : BitVec 32 := Scalar.remui c0_i32_37_r3 c2_i32_38_r3
  let c0_i32_39_r3 : BitVec 32 := 0#32
  let c0_i32_40_r3 : BitVec 32 := 0#32
  let c0_i32_41_r3 : BitVec 32 := 0#32
  ![v31_r3.toNat, 0, 0, 0]
@[reducible] def k0_t2_loop : Scf.Loop 32 :=
  let c0_i32_56_r3 : BitVec 32 := 0#32
  let c16_i32_57_r3 : BitVec 32 := 16#32
  let v40_r3 : BitVec 32 := Scalar.addi c0_i32_56_r3 c16_i32_57_r3
  let c1_i32_58_r3 : BitVec 32 := 1#32
  ⟨c0_i32_56_r3, v40_r3, c1_i32_58_r3⟩
def k0_off41 (arg21_r3 : BitVec 32) : Fin 1 → Nat :=
  let c2_i32_565_r3 : BitVec 32 := 2#32
  let v741_r3 : BitVec 32 := Scalar.remui arg21_r3 c2_i32_565_r3
  ![v741_r3.toNat]
def k0_cond10 (k0_t2 : Fin k0_t2_loop.trips) (arg29_r3 : BitVec 32) : BitVec 1 :=
  let c0_i32_88_r3 : BitVec 32 := 0#32
  let v71_r3 : BitVec 32 := Scalar.addi arg29_r3 c0_i32_88_r3
  let true_95_r3 : BitVec 1 := 1#1
  let c1_i32_94_r3 : BitVec 32 := 1#32
  let v77_r3 : BitVec 32 := Scalar.addi arg29_r3 c1_i32_94_r3
  let v78_r3 : BitVec 32 := Scalar.select true_95_r3 v77_r3 arg29_r3
  let c16_i32_96_r3 : BitVec 32 := 16#32
  let v79_r3 : BitVec 1 := Scalar.cmpi .eq v78_r3 c16_i32_96_r3
  let c0_i32_97_r3 : BitVec 32 := 0#32
  let v80_r3 : BitVec 32 := Scalar.select v79_r3 c0_i32_97_r3 v78_r3
  let c0_i32_98_r3 : BitVec 32 := 0#32
  let v81_r3 : BitVec 32 := Scalar.addi v80_r3 c0_i32_98_r3
  let v87_r3 : BitVec 1 := Scalar.cmpi .ne v71_r3 v81_r3
  let c0_i32_56_r3 : BitVec 32 := 0#32
  let c1_i32_58_r3 : BitVec 32 := 1#32
  let arg20_r3 : BitVec 32 := Scf.iv c0_i32_56_r3 c1_i32_58_r3 k0_t2
  let c15_i32_104_r3 : BitVec 32 := 15#32
  let v88_r3 : BitVec 1 := Scalar.cmpi .sge arg20_r3 c15_i32_104_r3
  let true_105_r3 : BitVec 1 := 1#1
  let v89_r3 : BitVec 1 := Scalar.xori v88_r3 true_105_r3
  let v90_r3 : BitVec 1 := Scalar.andi v87_r3 v89_r3
  let true_106_r3 : BitVec 1 := 1#1
  let v91_r3 : BitVec 1 := Scalar.andi v90_r3 true_106_r3
  let v92_r3 : BitVec 32 := Scalar.extui v91_r3
  let c0_i32_107_r3 : BitVec 32 := 0#32
  let v93_r3 : BitVec 1 := Scalar.cmpi .ne v92_r3 c0_i32_107_r3
  v93_r3

def k0_off42 (arg21_r3 : BitVec 32) : Fin 4 → Nat :=
  let c2_i32_565_r3 : BitVec 32 := 2#32
  let v741_r3 : BitVec 32 := Scalar.remui arg21_r3 c2_i32_565_r3
  let c0_i32_567_r3 : BitVec 32 := 0#32
  let c0_i32_568_r3 : BitVec 32 := 0#32
  let c0_i32_569_r3 : BitVec 32 := 0#32
  ![v741_r3.toNat, 0, 0, 0]
def k0_off43 (arg29_r3 : BitVec 32) : Fin 3 → Nat :=
  let c0_i32_570_r3 : BitVec 32 := 0#32
  let c512_i32_566_r3 : BitVec 32 := 512#32
  let true_95_r3 : BitVec 1 := 1#1
  let c1_i32_94_r3 : BitVec 32 := 1#32
  let v77_r3 : BitVec 32 := Scalar.addi arg29_r3 c1_i32_94_r3
  let v78_r3 : BitVec 32 := Scalar.select true_95_r3 v77_r3 arg29_r3
  let c16_i32_96_r3 : BitVec 32 := 16#32
  let v79_r3 : BitVec 1 := Scalar.cmpi .eq v78_r3 c16_i32_96_r3
  let c0_i32_97_r3 : BitVec 32 := 0#32
  let v80_r3 : BitVec 32 := Scalar.select v79_r3 c0_i32_97_r3 v78_r3
  let c0_i32_98_r3 : BitVec 32 := 0#32
  let v81_r3 : BitVec 32 := Scalar.addi v80_r3 c0_i32_98_r3
  let v742_r3 : BitVec 32 := Scalar.muli c512_i32_566_r3 v81_r3
  let c0_i32_571_r3 : BitVec 32 := 0#32
  ![0, v742_r3.toNat, 0]
def k0_off44 (arg23_r3 : BitVec 32) : Fin 1 → Nat :=
  let c2_i32_565_r3 : BitVec 32 := 2#32
  let v741_r3 : BitVec 32 := Scalar.remui arg23_r3 c2_i32_565_r3
  ![v741_r3.toNat]
def k0_cond11 (k0_t2 : Fin k0_t2_loop.trips) (arg29_r3 : BitVec 32) : BitVec 1 :=
  let c0_i32_88_r3 : BitVec 32 := 0#32
  let v71_r3 : BitVec 32 := Scalar.addi arg29_r3 c0_i32_88_r3
  let true_95_r3 : BitVec 1 := 1#1
  let c1_i32_94_r3 : BitVec 32 := 1#32
  let v77_r3 : BitVec 32 := Scalar.addi arg29_r3 c1_i32_94_r3
  let v78_r3 : BitVec 32 := Scalar.select true_95_r3 v77_r3 arg29_r3
  let c16_i32_96_r3 : BitVec 32 := 16#32
  let v79_r3 : BitVec 1 := Scalar.cmpi .eq v78_r3 c16_i32_96_r3
  let c0_i32_97_r3 : BitVec 32 := 0#32
  let v80_r3 : BitVec 32 := Scalar.select v79_r3 c0_i32_97_r3 v78_r3
  let c0_i32_98_r3 : BitVec 32 := 0#32
  let v81_r3 : BitVec 32 := Scalar.addi v80_r3 c0_i32_98_r3
  let v97_r3 : BitVec 1 := Scalar.cmpi .ne v71_r3 v81_r3
  let c0_i32_56_r3 : BitVec 32 := 0#32
  let c1_i32_58_r3 : BitVec 32 := 1#32
  let arg20_r3 : BitVec 32 := Scf.iv c0_i32_56_r3 c1_i32_58_r3 k0_t2
  let c15_i32_110_r3 : BitVec 32 := 15#32
  let v98_r3 : BitVec 1 := Scalar.cmpi .sge arg20_r3 c15_i32_110_r3
  let true_111_r3 : BitVec 1 := 1#1
  let v99_r3 : BitVec 1 := Scalar.xori v98_r3 true_111_r3
  let v100_r3 : BitVec 1 := Scalar.andi v97_r3 v99_r3
  let true_112_r3 : BitVec 1 := 1#1
  let v101_r3 : BitVec 1 := Scalar.andi v100_r3 true_112_r3
  let v102_r3 : BitVec 32 := Scalar.extui v101_r3
  let c0_i32_113_r3 : BitVec 32 := 0#32
  let v103_r3 : BitVec 1 := Scalar.cmpi .ne v102_r3 c0_i32_113_r3
  v103_r3

def k0_off45 (arg23_r3 : BitVec 32) : Fin 4 → Nat :=
  let c2_i32_565_r3 : BitVec 32 := 2#32
  let v741_r3 : BitVec 32 := Scalar.remui arg23_r3 c2_i32_565_r3
  let c0_i32_567_r3 : BitVec 32 := 0#32
  let c0_i32_568_r3 : BitVec 32 := 0#32
  let c0_i32_569_r3 : BitVec 32 := 0#32
  ![v741_r3.toNat, 0, 0, 0]
def k0_off46 (arg29_r3 : BitVec 32) : Fin 3 → Nat :=
  let c0_i32_570_r3 : BitVec 32 := 0#32
  let c512_i32_566_r3 : BitVec 32 := 512#32
  let true_95_r3 : BitVec 1 := 1#1
  let c1_i32_94_r3 : BitVec 32 := 1#32
  let v77_r3 : BitVec 32 := Scalar.addi arg29_r3 c1_i32_94_r3
  let v78_r3 : BitVec 32 := Scalar.select true_95_r3 v77_r3 arg29_r3
  let c16_i32_96_r3 : BitVec 32 := 16#32
  let v79_r3 : BitVec 1 := Scalar.cmpi .eq v78_r3 c16_i32_96_r3
  let c0_i32_97_r3 : BitVec 32 := 0#32
  let v80_r3 : BitVec 32 := Scalar.select v79_r3 c0_i32_97_r3 v78_r3
  let c0_i32_98_r3 : BitVec 32 := 0#32
  let v81_r3 : BitVec 32 := Scalar.addi v80_r3 c0_i32_98_r3
  let v742_r3 : BitVec 32 := Scalar.muli c512_i32_566_r3 v81_r3
  let c0_i32_571_r3 : BitVec 32 := 0#32
  ![0, v742_r3.toNat, 0]
def k0_off47 (arg25_r3 : BitVec 32) : Fin 1 → Nat :=
  let c2_i32_565_r3 : BitVec 32 := 2#32
  let v741_r3 : BitVec 32 := Scalar.remui arg25_r3 c2_i32_565_r3
  ![v741_r3.toNat]
def k0_cond12 (k0_t2 : Fin k0_t2_loop.trips) (arg29_r3 : BitVec 32) : BitVec 1 :=
  let c0_i32_88_r3 : BitVec 32 := 0#32
  let v71_r3 : BitVec 32 := Scalar.addi arg29_r3 c0_i32_88_r3
  let true_95_r3 : BitVec 1 := 1#1
  let c1_i32_94_r3 : BitVec 32 := 1#32
  let v77_r3 : BitVec 32 := Scalar.addi arg29_r3 c1_i32_94_r3
  let v78_r3 : BitVec 32 := Scalar.select true_95_r3 v77_r3 arg29_r3
  let c16_i32_96_r3 : BitVec 32 := 16#32
  let v79_r3 : BitVec 1 := Scalar.cmpi .eq v78_r3 c16_i32_96_r3
  let c0_i32_97_r3 : BitVec 32 := 0#32
  let v80_r3 : BitVec 32 := Scalar.select v79_r3 c0_i32_97_r3 v78_r3
  let c0_i32_98_r3 : BitVec 32 := 0#32
  let v81_r3 : BitVec 32 := Scalar.addi v80_r3 c0_i32_98_r3
  let v107_r3 : BitVec 1 := Scalar.cmpi .ne v71_r3 v81_r3
  let c0_i32_56_r3 : BitVec 32 := 0#32
  let c1_i32_58_r3 : BitVec 32 := 1#32
  let arg20_r3 : BitVec 32 := Scf.iv c0_i32_56_r3 c1_i32_58_r3 k0_t2
  let c15_i32_116_r3 : BitVec 32 := 15#32
  let v108_r3 : BitVec 1 := Scalar.cmpi .sge arg20_r3 c15_i32_116_r3
  let true_117_r3 : BitVec 1 := 1#1
  let v109_r3 : BitVec 1 := Scalar.xori v108_r3 true_117_r3
  let v110_r3 : BitVec 1 := Scalar.andi v107_r3 v109_r3
  let true_118_r3 : BitVec 1 := 1#1
  let v111_r3 : BitVec 1 := Scalar.andi v110_r3 true_118_r3
  let v112_r3 : BitVec 32 := Scalar.extui v111_r3
  let c0_i32_119_r3 : BitVec 32 := 0#32
  let v113_r3 : BitVec 1 := Scalar.cmpi .ne v112_r3 c0_i32_119_r3
  v113_r3

def k0_off48 (arg25_r3 : BitVec 32) : Fin 4 → Nat :=
  let c2_i32_565_r3 : BitVec 32 := 2#32
  let v741_r3 : BitVec 32 := Scalar.remui arg25_r3 c2_i32_565_r3
  let c0_i32_567_r3 : BitVec 32 := 0#32
  let c0_i32_568_r3 : BitVec 32 := 0#32
  let c0_i32_569_r3 : BitVec 32 := 0#32
  ![v741_r3.toNat, 0, 0, 0]
def k0_off49 (arg29_r3 : BitVec 32) : Fin 3 → Nat :=
  let c0_i32_573_r3 : BitVec 32 := 0#32
  let c512_i32_566_r3 : BitVec 32 := 512#32
  let true_95_r3 : BitVec 1 := 1#1
  let c1_i32_94_r3 : BitVec 32 := 1#32
  let v77_r3 : BitVec 32 := Scalar.addi arg29_r3 c1_i32_94_r3
  let v78_r3 : BitVec 32 := Scalar.select true_95_r3 v77_r3 arg29_r3
  let c16_i32_96_r3 : BitVec 32 := 16#32
  let v79_r3 : BitVec 1 := Scalar.cmpi .eq v78_r3 c16_i32_96_r3
  let c0_i32_97_r3 : BitVec 32 := 0#32
  let v80_r3 : BitVec 32 := Scalar.select v79_r3 c0_i32_97_r3 v78_r3
  let c0_i32_98_r3 : BitVec 32 := 0#32
  let v81_r3 : BitVec 32 := Scalar.addi v80_r3 c0_i32_98_r3
  let v742_r3 : BitVec 32 := Scalar.muli c512_i32_566_r3 v81_r3
  let c0_i32_574_r3 : BitVec 32 := 0#32
  ![0, v742_r3.toNat, 0]
def k0_off50 (arg22_r3 : BitVec 32) : Fin 1 → Nat :=
  let c2_i32_566_r3 : BitVec 32 := 2#32
  let v742_r3 : BitVec 32 := Scalar.remui arg22_r3 c2_i32_566_r3
  ![v742_r3.toNat]
def k0_cond13 (k0_t2 : Fin k0_t2_loop.trips) (arg29_r3 : BitVec 32) : BitVec 1 :=
  let c0_i32_88_r3 : BitVec 32 := 0#32
  let v71_r3 : BitVec 32 := Scalar.addi arg29_r3 c0_i32_88_r3
  let true_90_r3 : BitVec 1 := 1#1
  let c1_i32_89_r3 : BitVec 32 := 1#32
  let v72_r3 : BitVec 32 := Scalar.subi arg29_r3 c1_i32_89_r3
  let v73_r3 : BitVec 32 := Scalar.select true_90_r3 v72_r3 arg29_r3
  let c_m1_i32_91_r3 : BitVec 32 := 4294967295#32
  let v74_r3 : BitVec 1 := Scalar.cmpi .eq v73_r3 c_m1_i32_91_r3
  let c15_i32_92_r3 : BitVec 32 := 15#32
  let v75_r3 : BitVec 32 := Scalar.select v74_r3 c15_i32_92_r3 v73_r3
  let c0_i32_93_r3 : BitVec 32 := 0#32
  let v76_r3 : BitVec 32 := Scalar.addi v75_r3 c0_i32_93_r3
  let v121_r3 : BitVec 1 := Scalar.cmpi .ne v71_r3 v76_r3
  let c0_i32_56_r3 : BitVec 32 := 0#32
  let c1_i32_58_r3 : BitVec 32 := 1#32
  let arg20_r3 : BitVec 32 := Scf.iv c0_i32_56_r3 c1_i32_58_r3 k0_t2
  let c0_i32_86_r3 : BitVec 32 := 0#32
  let v69_r3 : BitVec 1 := Scalar.cmpi .eq arg20_r3 c0_i32_86_r3
  let v122_r3 : BitVec 1 := Scalar.ori v121_r3 v69_r3
  let c0_i32_124_r3 : BitVec 32 := 0#32
  let v123_r3 : BitVec 1 := Scalar.cmpi .sge arg20_r3 c0_i32_124_r3
  let v124_r3 : BitVec 1 := Scalar.andi v122_r3 v123_r3
  let v125_r3 : BitVec 32 := Scalar.extui v124_r3
  let c0_i32_125_r3 : BitVec 32 := 0#32
  let v126_r3 : BitVec 1 := Scalar.cmpi .ne v125_r3 c0_i32_125_r3
  v126_r3

def k0_off51 (arg22_r3 : BitVec 32) : Fin 4 → Nat :=
  let c2_i32_566_r3 : BitVec 32 := 2#32
  let v742_r3 : BitVec 32 := Scalar.remui arg22_r3 c2_i32_566_r3
  let c0_i32_567_r3 : BitVec 32 := 0#32
  let c0_i32_568_r3 : BitVec 32 := 0#32
  let c0_i32_569_r3 : BitVec 32 := 0#32
  ![v742_r3.toNat, 0, 0, 0]
def k0_off52 (arg29_r3 : BitVec 32) : Fin 3 → Nat :=
  let c0_i32_570_r3 : BitVec 32 := 0#32
  let c512_i32_565_r3 : BitVec 32 := 512#32
  let c0_i32_88_r3 : BitVec 32 := 0#32
  let v71_r3 : BitVec 32 := Scalar.addi arg29_r3 c0_i32_88_r3
  let v741_r3 : BitVec 32 := Scalar.muli c512_i32_565_r3 v71_r3
  let c0_i32_571_r3 : BitVec 32 := 0#32
  ![0, v741_r3.toNat, 0]
def k0_off53 (arg24_r3 : BitVec 32) : Fin 1 → Nat :=
  let c2_i32_566_r3 : BitVec 32 := 2#32
  let v742_r3 : BitVec 32 := Scalar.remui arg24_r3 c2_i32_566_r3
  ![v742_r3.toNat]
def k0_cond14 (k0_t2 : Fin k0_t2_loop.trips) (arg29_r3 : BitVec 32) : BitVec 1 :=
  let c0_i32_88_r3 : BitVec 32 := 0#32
  let v71_r3 : BitVec 32 := Scalar.addi arg29_r3 c0_i32_88_r3
  let true_90_r3 : BitVec 1 := 1#1
  let c1_i32_89_r3 : BitVec 32 := 1#32
  let v72_r3 : BitVec 32 := Scalar.subi arg29_r3 c1_i32_89_r3
  let v73_r3 : BitVec 32 := Scalar.select true_90_r3 v72_r3 arg29_r3
  let c_m1_i32_91_r3 : BitVec 32 := 4294967295#32
  let v74_r3 : BitVec 1 := Scalar.cmpi .eq v73_r3 c_m1_i32_91_r3
  let c15_i32_92_r3 : BitVec 32 := 15#32
  let v75_r3 : BitVec 32 := Scalar.select v74_r3 c15_i32_92_r3 v73_r3
  let c0_i32_93_r3 : BitVec 32 := 0#32
  let v76_r3 : BitVec 32 := Scalar.addi v75_r3 c0_i32_93_r3
  let v127_r3 : BitVec 1 := Scalar.cmpi .ne v71_r3 v76_r3
  let c0_i32_56_r3 : BitVec 32 := 0#32
  let c1_i32_58_r3 : BitVec 32 := 1#32
  let arg20_r3 : BitVec 32 := Scf.iv c0_i32_56_r3 c1_i32_58_r3 k0_t2
  let c0_i32_86_r3 : BitVec 32 := 0#32
  let v69_r3 : BitVec 1 := Scalar.cmpi .eq arg20_r3 c0_i32_86_r3
  let v128_r3 : BitVec 1 := Scalar.ori v127_r3 v69_r3
  let c0_i32_126_r3 : BitVec 32 := 0#32
  let v129_r3 : BitVec 1 := Scalar.cmpi .sge arg20_r3 c0_i32_126_r3
  let v130_r3 : BitVec 1 := Scalar.andi v128_r3 v129_r3
  let v131_r3 : BitVec 32 := Scalar.extui v130_r3
  let c0_i32_127_r3 : BitVec 32 := 0#32
  let v132_r3 : BitVec 1 := Scalar.cmpi .ne v131_r3 c0_i32_127_r3
  v132_r3

def k0_off54 (arg24_r3 : BitVec 32) : Fin 4 → Nat :=
  let c2_i32_566_r3 : BitVec 32 := 2#32
  let v742_r3 : BitVec 32 := Scalar.remui arg24_r3 c2_i32_566_r3
  let c0_i32_567_r3 : BitVec 32 := 0#32
  let c0_i32_568_r3 : BitVec 32 := 0#32
  let c0_i32_569_r3 : BitVec 32 := 0#32
  ![v742_r3.toNat, 0, 0, 0]
def k0_off55 (arg29_r3 : BitVec 32) : Fin 3 → Nat :=
  let c0_i32_570_r3 : BitVec 32 := 0#32
  let c512_i32_565_r3 : BitVec 32 := 512#32
  let c0_i32_88_r3 : BitVec 32 := 0#32
  let v71_r3 : BitVec 32 := Scalar.addi arg29_r3 c0_i32_88_r3
  let v741_r3 : BitVec 32 := Scalar.muli c512_i32_565_r3 v71_r3
  let c0_i32_571_r3 : BitVec 32 := 0#32
  ![0, v741_r3.toNat, 0]
def k0_off56 (arg26_r3 : BitVec 32) : Fin 1 → Nat :=
  let c2_i32_566_r3 : BitVec 32 := 2#32
  let v742_r3 : BitVec 32 := Scalar.remui arg26_r3 c2_i32_566_r3
  ![v742_r3.toNat]
def k0_cond15 (k0_t2 : Fin k0_t2_loop.trips) (arg29_r3 : BitVec 32) : BitVec 1 :=
  let c0_i32_88_r3 : BitVec 32 := 0#32
  let v71_r3 : BitVec 32 := Scalar.addi arg29_r3 c0_i32_88_r3
  let true_90_r3 : BitVec 1 := 1#1
  let c1_i32_89_r3 : BitVec 32 := 1#32
  let v72_r3 : BitVec 32 := Scalar.subi arg29_r3 c1_i32_89_r3
  let v73_r3 : BitVec 32 := Scalar.select true_90_r3 v72_r3 arg29_r3
  let c_m1_i32_91_r3 : BitVec 32 := 4294967295#32
  let v74_r3 : BitVec 1 := Scalar.cmpi .eq v73_r3 c_m1_i32_91_r3
  let c15_i32_92_r3 : BitVec 32 := 15#32
  let v75_r3 : BitVec 32 := Scalar.select v74_r3 c15_i32_92_r3 v73_r3
  let c0_i32_93_r3 : BitVec 32 := 0#32
  let v76_r3 : BitVec 32 := Scalar.addi v75_r3 c0_i32_93_r3
  let v133_r3 : BitVec 1 := Scalar.cmpi .ne v71_r3 v76_r3
  let c0_i32_56_r3 : BitVec 32 := 0#32
  let c1_i32_58_r3 : BitVec 32 := 1#32
  let arg20_r3 : BitVec 32 := Scf.iv c0_i32_56_r3 c1_i32_58_r3 k0_t2
  let c0_i32_86_r3 : BitVec 32 := 0#32
  let v69_r3 : BitVec 1 := Scalar.cmpi .eq arg20_r3 c0_i32_86_r3
  let v134_r3 : BitVec 1 := Scalar.ori v133_r3 v69_r3
  let c0_i32_128_r3 : BitVec 32 := 0#32
  let v135_r3 : BitVec 1 := Scalar.cmpi .sge arg20_r3 c0_i32_128_r3
  let v136_r3 : BitVec 1 := Scalar.andi v134_r3 v135_r3
  let v137_r3 : BitVec 32 := Scalar.extui v136_r3
  let c0_i32_129_r3 : BitVec 32 := 0#32
  let v138_r3 : BitVec 1 := Scalar.cmpi .ne v137_r3 c0_i32_129_r3
  v138_r3

def k0_off57 (arg26_r3 : BitVec 32) : Fin 4 → Nat :=
  let c2_i32_566_r3 : BitVec 32 := 2#32
  let v742_r3 : BitVec 32 := Scalar.remui arg26_r3 c2_i32_566_r3
  let c0_i32_567_r3 : BitVec 32 := 0#32
  let c0_i32_568_r3 : BitVec 32 := 0#32
  let c0_i32_569_r3 : BitVec 32 := 0#32
  ![v742_r3.toNat, 0, 0, 0]
def k0_off58 (arg29_r3 : BitVec 32) : Fin 3 → Nat :=
  let c0_i32_573_r3 : BitVec 32 := 0#32
  let c512_i32_565_r3 : BitVec 32 := 512#32
  let c0_i32_88_r3 : BitVec 32 := 0#32
  let v71_r3 : BitVec 32 := Scalar.addi arg29_r3 c0_i32_88_r3
  let v741_r3 : BitVec 32 := Scalar.muli c512_i32_565_r3 v71_r3
  let c0_i32_574_r3 : BitVec 32 := 0#32
  ![0, v741_r3.toNat, 0]
def k0_off59 (arg24_r3 : BitVec 32) : Fin 4 → Nat :=
  let c2_i32_133_r3 : BitVec 32 := 2#32
  let v146_r3 : BitVec 32 := Scalar.remui arg24_r3 c2_i32_133_r3
  let c0_i32_142_r3 : BitVec 32 := 0#32
  let c0_i32_143_r3 : BitVec 32 := 0#32
  let c0_i32_144_r3 : BitVec 32 := 0#32
  ![v146_r3.toNat, 0, 0, 0]

def k0_off60 (arg22_r3 : BitVec 32) : Fin 4 → Nat :=
  let c2_i32_132_r3 : BitVec 32 := 2#32
  let v145_r3 : BitVec 32 := Scalar.remui arg22_r3 c2_i32_132_r3
  let c0_i32_158_r3 : BitVec 32 := 0#32
  let c0_i32_159_r3 : BitVec 32 := 0#32
  let c0_i32_160_r3 : BitVec 32 := 0#32
  ![v145_r3.toNat, 0, 0, 0]

def k0_off61 (arg26_r3 : BitVec 32) : Fin 4 → Nat :=
  let c2_i32_134_r3 : BitVec 32 := 2#32
  let v147_r3 : BitVec 32 := Scalar.remui arg26_r3 c2_i32_134_r3
  let c0_i32_307_r3 : BitVec 32 := 0#32
  let c0_i32_308_r3 : BitVec 32 := 0#32
  let c0_i32_309_r3 : BitVec 32 := 0#32
  ![v147_r3.toNat, 0, 0, 0]

def k0_off62 (arg27_r3 : BitVec 32) : Fin 4 → Nat :=
  let c2_i32_135_r3 : BitVec 32 := 2#32
  let v148_r3 : BitVec 32 := Scalar.remui arg27_r3 c2_i32_135_r3
  let c0_i32_316_r3 : BitVec 32 := 0#32
  let c0_i32_317_r3 : BitVec 32 := 0#32
  let c0_i32_318_r3 : BitVec 32 := 0#32
  ![v148_r3.toNat, 0, 0, 0]

def k0_chk11 (arg27_r3 : BitVec 32) : Prop :=
  (∀ a, (k0_off62 arg27_r3) a + S1x2x512x1024.size a ≤ S2x2x512x1024.size a)
theorem k0_off62_inb : ∀ (arg27_r3 : BitVec 32) (k0_hw11 : k0_chk11 arg27_r3), ∀ a, (k0_off62 arg27_r3) a + S1x2x512x1024.size a ≤ S2x2x512x1024.size a := fun arg27_r3 k0_hw11 => k0_hw11

def k0_off63 (arg24_r3 : BitVec 32) : Fin 4 → Nat :=
  let c2_i32_133_r3 : BitVec 32 := 2#32
  let v146_r3 : BitVec 32 := Scalar.remui arg24_r3 c2_i32_133_r3
  let c0_i32_322_r3 : BitVec 32 := 0#32
  let c0_i32_323_r3 : BitVec 32 := 0#32
  let c0_i32_324_r3 : BitVec 32 := 0#32
  ![v146_r3.toNat, 0, 0, 0]

def k0_chk8 (arg24_r3 : BitVec 32) : Prop :=
  (∀ a, (k0_off59 arg24_r3) a + S1x2x512x1024.size a ≤ S2x2x512x1024.size a) ∧
  (∀ a, (k0_off63 arg24_r3) a + S1x2x512x1024.size a ≤ S2x2x512x1024.size a)
theorem k0_off59_inb : ∀ (arg24_r3 : BitVec 32) (k0_hw8 : k0_chk8 arg24_r3), ∀ a, (k0_off59 arg24_r3) a + S1x2x512x1024.size a ≤ S2x2x512x1024.size a := fun arg24_r3 k0_hw8 => k0_hw8.1
theorem k0_off63_inb : ∀ (arg24_r3 : BitVec 32) (k0_hw8 : k0_chk8 arg24_r3), ∀ a, (k0_off63 arg24_r3) a + S1x2x512x1024.size a ≤ S2x2x512x1024.size a := fun arg24_r3 k0_hw8 => k0_hw8.2

def k0_off64 (arg22_r3 : BitVec 32) : Fin 4 → Nat :=
  let c2_i32_132_r3 : BitVec 32 := 2#32
  let v145_r3 : BitVec 32 := Scalar.remui arg22_r3 c2_i32_132_r3
  let c0_i32_331_r3 : BitVec 32 := 0#32
  let c0_i32_332_r3 : BitVec 32 := 0#32
  let c0_i32_333_r3 : BitVec 32 := 0#32
  ![v145_r3.toNat, 0, 0, 0]

def k0_chk9 (arg22_r3 : BitVec 32) : Prop :=
  (∀ a, (k0_off60 arg22_r3) a + S1x2x512x1024.size a ≤ S2x2x512x1024.size a) ∧
  (∀ a, (k0_off64 arg22_r3) a + S1x2x512x1024.size a ≤ S2x2x512x1024.size a)
theorem k0_off60_inb : ∀ (arg22_r3 : BitVec 32) (k0_hw9 : k0_chk9 arg22_r3), ∀ a, (k0_off60 arg22_r3) a + S1x2x512x1024.size a ≤ S2x2x512x1024.size a := fun arg22_r3 k0_hw9 => k0_hw9.1
theorem k0_off64_inb : ∀ (arg22_r3 : BitVec 32) (k0_hw9 : k0_chk9 arg22_r3), ∀ a, (k0_off64 arg22_r3) a + S1x2x512x1024.size a ≤ S2x2x512x1024.size a := fun arg22_r3 k0_hw9 => k0_hw9.2

def k0_off65 (arg26_r3 : BitVec 32) : Fin 4 → Nat :=
  let c2_i32_134_r3 : BitVec 32 := 2#32
  let v147_r3 : BitVec 32 := Scalar.remui arg26_r3 c2_i32_134_r3
  let c0_i32_407_r3 : BitVec 32 := 0#32
  let c0_i32_408_r3 : BitVec 32 := 0#32
  let c0_i32_409_r3 : BitVec 32 := 0#32
  ![v147_r3.toNat, 0, 0, 0]

def k0_chk10 (arg26_r3 : BitVec 32) : Prop :=
  (∀ a, (k0_off61 arg26_r3) a + S1x2x512x256.size a ≤ S2x2x512x256.size a) ∧
  (∀ a, (k0_off65 arg26_r3) a + S1x2x512x256.size a ≤ S2x2x512x256.size a)
theorem k0_off61_inb : ∀ (arg26_r3 : BitVec 32) (k0_hw10 : k0_chk10 arg26_r3), ∀ a, (k0_off61 arg26_r3) a + S1x2x512x256.size a ≤ S2x2x512x256.size a := fun arg26_r3 k0_hw10 => k0_hw10.1
theorem k0_off65_inb : ∀ (arg26_r3 : BitVec 32) (k0_hw10 : k0_chk10 arg26_r3), ∀ a, (k0_off65 arg26_r3) a + S1x2x512x256.size a ≤ S2x2x512x256.size a := fun arg26_r3 k0_hw10 => k0_hw10.2

def k0_off66 (arg27_r3 : BitVec 32) : Fin 1 → Nat :=
  let c2_i32_565_r3 : BitVec 32 := 2#32
  let v741_r3 : BitVec 32 := Scalar.remui arg27_r3 c2_i32_565_r3
  ![v741_r3.toNat]
def k0_cond20 (k0_t2 : Fin k0_t2_loop.trips) (arg29_r3 : BitVec 32) : BitVec 1 :=
  let c0_i32_88_r3 : BitVec 32 := 0#32
  let v71_r3 : BitVec 32 := Scalar.addi arg29_r3 c0_i32_88_r3
  let true_95_r3 : BitVec 1 := 1#1
  let c1_i32_94_r3 : BitVec 32 := 1#32
  let v77_r3 : BitVec 32 := Scalar.addi arg29_r3 c1_i32_94_r3
  let v78_r3 : BitVec 32 := Scalar.select true_95_r3 v77_r3 arg29_r3
  let c16_i32_96_r3 : BitVec 32 := 16#32
  let v79_r3 : BitVec 1 := Scalar.cmpi .eq v78_r3 c16_i32_96_r3
  let c0_i32_97_r3 : BitVec 32 := 0#32
  let v80_r3 : BitVec 32 := Scalar.select v79_r3 c0_i32_97_r3 v78_r3
  let c0_i32_98_r3 : BitVec 32 := 0#32
  let v81_r3 : BitVec 32 := Scalar.addi v80_r3 c0_i32_98_r3
  let v692_r3 : BitVec 1 := Scalar.cmpi .ne v71_r3 v81_r3
  let c0_i32_56_r3 : BitVec 32 := 0#32
  let c1_i32_58_r3 : BitVec 32 := 1#32
  let arg20_r3 : BitVec 32 := Scf.iv c0_i32_56_r3 c1_i32_58_r3 k0_t2
  let c15_i32_87_r3 : BitVec 32 := 15#32
  let v70_r3 : BitVec 1 := Scalar.cmpi .eq arg20_r3 c15_i32_87_r3
  let v693_r3 : BitVec 1 := Scalar.ori v692_r3 v70_r3
  let v694_r3 : BitVec 32 := Scalar.extui v693_r3
  let c0_i32_542_r3 : BitVec 32 := 0#32
  let v695_r3 : BitVec 1 := Scalar.cmpi .ne v694_r3 c0_i32_542_r3
  v695_r3

def k0_off67 (arg29_r3 : BitVec 32) : Fin 3 → Nat :=
  let c0_i32_567_r3 : BitVec 32 := 0#32
  let c512_i32_566_r3 : BitVec 32 := 512#32
  let c0_i32_88_r3 : BitVec 32 := 0#32
  let v71_r3 : BitVec 32 := Scalar.addi arg29_r3 c0_i32_88_r3
  let v742_r3 : BitVec 32 := Scalar.muli c512_i32_566_r3 v71_r3
  let c0_i32_568_r3 : BitVec 32 := 0#32
  ![0, v742_r3.toNat, 0]
def k0_off68 (arg27_r3 : BitVec 32) : Fin 4 → Nat :=
  let c2_i32_565_r3 : BitVec 32 := 2#32
  let v741_r3 : BitVec 32 := Scalar.remui arg27_r3 c2_i32_565_r3
  let c0_i32_569_r3 : BitVec 32 := 0#32
  let c0_i32_570_r3 : BitVec 32 := 0#32
  let c0_i32_571_r3 : BitVec 32 := 0#32
  ![v741_r3.toNat, 0, 0, 0]
def k0_off69 (arg28_r3 : BitVec 32) : Fin 1 → Nat :=
  let c2_i32_565_r3 : BitVec 32 := 2#32
  let v741_r3 : BitVec 32 := Scalar.remui arg28_r3 c2_i32_565_r3
  ![v741_r3.toNat]
def k0_cond24 (k0_t2 : Fin k0_t2_loop.trips) (arg29_r3 : BitVec 32) : BitVec 1 :=
  let c0_i32_88_r3 : BitVec 32 := 0#32
  let v71_r3 : BitVec 32 := Scalar.addi arg29_r3 c0_i32_88_r3
  let true_90_r3 : BitVec 1 := 1#1
  let c1_i32_89_r3 : BitVec 32 := 1#32
  let v72_r3 : BitVec 32 := Scalar.subi arg29_r3 c1_i32_89_r3
  let v73_r3 : BitVec 32 := Scalar.select true_90_r3 v72_r3 arg29_r3
  let c_m1_i32_91_r3 : BitVec 32 := 4294967295#32
  let v74_r3 : BitVec 1 := Scalar.cmpi .eq v73_r3 c_m1_i32_91_r3
  let c15_i32_92_r3 : BitVec 32 := 15#32
  let v75_r3 : BitVec 32 := Scalar.select v74_r3 c15_i32_92_r3 v73_r3
  let c0_i32_93_r3 : BitVec 32 := 0#32
  let v76_r3 : BitVec 32 := Scalar.addi v75_r3 c0_i32_93_r3
  let v717_r3 : BitVec 1 := Scalar.cmpi .ne v71_r3 v76_r3
  let c0_i32_56_r3 : BitVec 32 := 0#32
  let c1_i32_58_r3 : BitVec 32 := 1#32
  let arg20_r3 : BitVec 32 := Scf.iv c0_i32_56_r3 c1_i32_58_r3 k0_t2
  let c0_i32_86_r3 : BitVec 32 := 0#32
  let v69_r3 : BitVec 1 := Scalar.cmpi .eq arg20_r3 c0_i32_86_r3
  let true_554_r3 : BitVec 1 := 1#1
  let v718_r3 : BitVec 1 := Scalar.xori v69_r3 true_554_r3
  let v719_r3 : BitVec 1 := Scalar.andi v717_r3 v718_r3
  let v720_r3 : BitVec 32 := Scalar.extui v719_r3
  let c0_i32_555_r3 : BitVec 32 := 0#32
  let v721_r3 : BitVec 1 := Scalar.cmpi .ne v720_r3 c0_i32_555_r3
  v721_r3

def k0_off70 (arg29_r3 : BitVec 32) : Fin 3 → Nat :=
  let c0_i32_567_r3 : BitVec 32 := 0#32
  let c512_i32_566_r3 : BitVec 32 := 512#32
  let true_90_r3 : BitVec 1 := 1#1
  let c1_i32_89_r3 : BitVec 32 := 1#32
  let v72_r3 : BitVec 32 := Scalar.subi arg29_r3 c1_i32_89_r3
  let v73_r3 : BitVec 32 := Scalar.select true_90_r3 v72_r3 arg29_r3
  let c_m1_i32_91_r3 : BitVec 32 := 4294967295#32
  let v74_r3 : BitVec 1 := Scalar.cmpi .eq v73_r3 c_m1_i32_91_r3
  let c15_i32_92_r3 : BitVec 32 := 15#32
  let v75_r3 : BitVec 32 := Scalar.select v74_r3 c15_i32_92_r3 v73_r3
  let c0_i32_93_r3 : BitVec 32 := 0#32
  let v76_r3 : BitVec 32 := Scalar.addi v75_r3 c0_i32_93_r3
  let v742_r3 : BitVec 32 := Scalar.muli c512_i32_566_r3 v76_r3
  let c0_i32_568_r3 : BitVec 32 := 0#32
  ![0, v742_r3.toNat, 0]
def k0_off71 (arg28_r3 : BitVec 32) : Fin 4 → Nat :=
  let c2_i32_565_r3 : BitVec 32 := 2#32
  let v741_r3 : BitVec 32 := Scalar.remui arg28_r3 c2_i32_565_r3
  let c0_i32_569_r3 : BitVec 32 := 0#32
  let c0_i32_570_r3 : BitVec 32 := 0#32
  let c0_i32_571_r3 : BitVec 32 := 0#32
  ![v741_r3.toNat, 0, 0, 0]

def k0_chk7 (k0_t2 : Fin k0_t2_loop.trips) (arg21_r3 : BitVec 32) (arg22_r3 : BitVec 32) (arg23_r3 : BitVec 32) (arg24_r3 : BitVec 32) (arg25_r3 : BitVec 32) (arg26_r3 : BitVec 32) (arg27_r3 : BitVec 32) (arg28_r3 : BitVec 32) (arg29_r3 : BitVec 32) : Prop :=
  (∀ (k0_h10 : k0_cond10 k0_t2 arg29_r3 = 1#1), ∀ a, (k0_off41 arg21_r3) a + S1.size a ≤ S2.size a) ∧
  (∀ (k0_h10 : k0_cond10 k0_t2 arg29_r3 = 1#1), ∀ a, (k0_off42 arg21_r3) a + S1x2x512x1024.size a ≤ S2x2x512x1024.size a) ∧
  (∀ (k0_h10 : k0_cond10 k0_t2 arg29_r3 = 1#1), ∀ a, (k0_off43 arg29_r3) a + S2x512x1024.size a ≤ S2x8192x1024.size a) ∧
  (∀ (k0_h11 : k0_cond11 k0_t2 arg29_r3 = 1#1), ∀ a, (k0_off44 arg23_r3) a + S1.size a ≤ S2.size a) ∧
  (∀ (k0_h11 : k0_cond11 k0_t2 arg29_r3 = 1#1), ∀ a, (k0_off45 arg23_r3) a + S1x2x512x1024.size a ≤ S2x2x512x1024.size a) ∧
  (∀ (k0_h11 : k0_cond11 k0_t2 arg29_r3 = 1#1), ∀ a, (k0_off46 arg29_r3) a + S2x512x1024.size a ≤ S2x8192x1024.size a) ∧
  (∀ (k0_h11 : k0_cond11 k0_t2 arg29_r3 = 1#1), ∀ (hinb : ∀ a, (k0_off46 arg29_r3) a + S2x512x1024.size a ≤ S2x8192x1024.size a), (Rect.unit (s := S2x8192x1024) (k0_off46 arg29_r3) S2x512x1024.size hinb).WholeWords (EltTy.packing .bf16)) ∧
  (∀ (k0_h11 : k0_cond11 k0_t2 arg29_r3 = 1#1), ∀ (hinb : ∀ a, (k0_off45 arg23_r3) a + S1x2x512x1024.size a ≤ S2x2x512x1024.size a), (Rect.unit (s := S2x2x512x1024) (k0_off45 arg23_r3) S1x2x512x1024.size hinb).WholeWords (EltTy.packing .bf16)) ∧
  (∀ (k0_h12 : k0_cond12 k0_t2 arg29_r3 = 1#1), ∀ a, (k0_off47 arg25_r3) a + S1.size a ≤ S2.size a) ∧
  (∀ (k0_h12 : k0_cond12 k0_t2 arg29_r3 = 1#1), ∀ a, (k0_off48 arg25_r3) a + S1x2x512x256.size a ≤ S2x2x512x256.size a) ∧
  (∀ (k0_h12 : k0_cond12 k0_t2 arg29_r3 = 1#1), ∀ a, (k0_off49 arg29_r3) a + S2x512x256.size a ≤ S2x8192x256.size a) ∧
  (∀ (k0_h13 : k0_cond13 k0_t2 arg29_r3 = 1#1), ∀ a, (k0_off50 arg22_r3) a + S1.size a ≤ S2.size a) ∧
  (∀ (k0_h13 : k0_cond13 k0_t2 arg29_r3 = 1#1), ∀ a, (k0_off51 arg22_r3) a + S1x2x512x1024.size a ≤ S2x2x512x1024.size a) ∧
  (∀ (k0_h13 : k0_cond13 k0_t2 arg29_r3 = 1#1), ∀ a, (k0_off52 arg29_r3) a + S2x512x1024.size a ≤ S2x8192x1024.size a) ∧
  (∀ (k0_h14 : k0_cond14 k0_t2 arg29_r3 = 1#1), ∀ a, (k0_off53 arg24_r3) a + S1.size a ≤ S2.size a) ∧
  (∀ (k0_h14 : k0_cond14 k0_t2 arg29_r3 = 1#1), ∀ a, (k0_off54 arg24_r3) a + S1x2x512x1024.size a ≤ S2x2x512x1024.size a) ∧
  (∀ (k0_h14 : k0_cond14 k0_t2 arg29_r3 = 1#1), ∀ a, (k0_off55 arg29_r3) a + S2x512x1024.size a ≤ S2x8192x1024.size a) ∧
  (∀ (k0_h14 : k0_cond14 k0_t2 arg29_r3 = 1#1), ∀ (hinb : ∀ a, (k0_off55 arg29_r3) a + S2x512x1024.size a ≤ S2x8192x1024.size a), (Rect.unit (s := S2x8192x1024) (k0_off55 arg29_r3) S2x512x1024.size hinb).WholeWords (EltTy.packing .bf16)) ∧
  (∀ (k0_h14 : k0_cond14 k0_t2 arg29_r3 = 1#1), ∀ (hinb : ∀ a, (k0_off54 arg24_r3) a + S1x2x512x1024.size a ≤ S2x2x512x1024.size a), (Rect.unit (s := S2x2x512x1024) (k0_off54 arg24_r3) S1x2x512x1024.size hinb).WholeWords (EltTy.packing .bf16)) ∧
  (∀ (k0_h15 : k0_cond15 k0_t2 arg29_r3 = 1#1), ∀ a, (k0_off56 arg26_r3) a + S1.size a ≤ S2.size a) ∧
  (∀ (k0_h15 : k0_cond15 k0_t2 arg29_r3 = 1#1), ∀ a, (k0_off57 arg26_r3) a + S1x2x512x256.size a ≤ S2x2x512x256.size a) ∧
  (∀ (k0_h15 : k0_cond15 k0_t2 arg29_r3 = 1#1), ∀ a, (k0_off58 arg29_r3) a + S2x512x256.size a ≤ S2x8192x256.size a) ∧
  (∀ (k0_h20 : k0_cond20 k0_t2 arg29_r3 = 1#1), ∀ a, (k0_off66 arg27_r3) a + S1.size a ≤ S2.size a) ∧
  (∀ (k0_h20 : k0_cond20 k0_t2 arg29_r3 = 1#1), ∀ a, (k0_off67 arg29_r3) a + S2x512x1024.size a ≤ S2x8192x1024.size a) ∧
  (∀ (k0_h20 : k0_cond20 k0_t2 arg29_r3 = 1#1), ∀ a, (k0_off68 arg27_r3) a + S1x2x512x1024.size a ≤ S2x2x512x1024.size a) ∧
  (∀ (k0_h24 : k0_cond24 k0_t2 arg29_r3 = 1#1), ∀ a, (k0_off69 arg28_r3) a + S1.size a ≤ S2.size a) ∧
  (∀ (k0_h24 : k0_cond24 k0_t2 arg29_r3 = 1#1), ∀ a, (k0_off70 arg29_r3) a + S2x512x1024.size a ≤ S2x8192x1024.size a) ∧
  (∀ (k0_h24 : k0_cond24 k0_t2 arg29_r3 = 1#1), ∀ a, (k0_off71 arg28_r3) a + S1x2x512x1024.size a ≤ S2x2x512x1024.size a)
theorem k0_off41_inb : ∀ (k0_t2 : Fin k0_t2_loop.trips) (arg21_r3 : BitVec 32) (arg22_r3 : BitVec 32) (arg23_r3 : BitVec 32) (arg24_r3 : BitVec 32) (arg25_r3 : BitVec 32) (arg26_r3 : BitVec 32) (arg27_r3 : BitVec 32) (arg28_r3 : BitVec 32) (arg29_r3 : BitVec 32) (k0_hw7 : k0_chk7 k0_t2 arg21_r3 arg22_r3 arg23_r3 arg24_r3 arg25_r3 arg26_r3 arg27_r3 arg28_r3 arg29_r3), ∀ (k0_h10 : k0_cond10 k0_t2 arg29_r3 = 1#1), ∀ a, (k0_off41 arg21_r3) a + S1.size a ≤ S2.size a := fun k0_t2 arg21_r3 arg22_r3 arg23_r3 arg24_r3 arg25_r3 arg26_r3 arg27_r3 arg28_r3 arg29_r3 k0_hw7 k0_h10 => k0_hw7.1 k0_h10
theorem k0_off42_inb : ∀ (k0_t2 : Fin k0_t2_loop.trips) (arg21_r3 : BitVec 32) (arg22_r3 : BitVec 32) (arg23_r3 : BitVec 32) (arg24_r3 : BitVec 32) (arg25_r3 : BitVec 32) (arg26_r3 : BitVec 32) (arg27_r3 : BitVec 32) (arg28_r3 : BitVec 32) (arg29_r3 : BitVec 32) (k0_hw7 : k0_chk7 k0_t2 arg21_r3 arg22_r3 arg23_r3 arg24_r3 arg25_r3 arg26_r3 arg27_r3 arg28_r3 arg29_r3), ∀ (k0_h10 : k0_cond10 k0_t2 arg29_r3 = 1#1), ∀ a, (k0_off42 arg21_r3) a + S1x2x512x1024.size a ≤ S2x2x512x1024.size a := fun k0_t2 arg21_r3 arg22_r3 arg23_r3 arg24_r3 arg25_r3 arg26_r3 arg27_r3 arg28_r3 arg29_r3 k0_hw7 k0_h10 => k0_hw7.2.1 k0_h10
theorem k0_off43_inb : ∀ (k0_t2 : Fin k0_t2_loop.trips) (arg21_r3 : BitVec 32) (arg22_r3 : BitVec 32) (arg23_r3 : BitVec 32) (arg24_r3 : BitVec 32) (arg25_r3 : BitVec 32) (arg26_r3 : BitVec 32) (arg27_r3 : BitVec 32) (arg28_r3 : BitVec 32) (arg29_r3 : BitVec 32) (k0_hw7 : k0_chk7 k0_t2 arg21_r3 arg22_r3 arg23_r3 arg24_r3 arg25_r3 arg26_r3 arg27_r3 arg28_r3 arg29_r3), ∀ (k0_h10 : k0_cond10 k0_t2 arg29_r3 = 1#1), ∀ a, (k0_off43 arg29_r3) a + S2x512x1024.size a ≤ S2x8192x1024.size a := fun k0_t2 arg21_r3 arg22_r3 arg23_r3 arg24_r3 arg25_r3 arg26_r3 arg27_r3 arg28_r3 arg29_r3 k0_hw7 k0_h10 => k0_hw7.2.2.1 k0_h10
theorem k0_off44_inb : ∀ (k0_t2 : Fin k0_t2_loop.trips) (arg21_r3 : BitVec 32) (arg22_r3 : BitVec 32) (arg23_r3 : BitVec 32) (arg24_r3 : BitVec 32) (arg25_r3 : BitVec 32) (arg26_r3 : BitVec 32) (arg27_r3 : BitVec 32) (arg28_r3 : BitVec 32) (arg29_r3 : BitVec 32) (k0_hw7 : k0_chk7 k0_t2 arg21_r3 arg22_r3 arg23_r3 arg24_r3 arg25_r3 arg26_r3 arg27_r3 arg28_r3 arg29_r3), ∀ (k0_h11 : k0_cond11 k0_t2 arg29_r3 = 1#1), ∀ a, (k0_off44 arg23_r3) a + S1.size a ≤ S2.size a := fun k0_t2 arg21_r3 arg22_r3 arg23_r3 arg24_r3 arg25_r3 arg26_r3 arg27_r3 arg28_r3 arg29_r3 k0_hw7 k0_h11 => k0_hw7.2.2.2.1 k0_h11
theorem k0_off45_inb : ∀ (k0_t2 : Fin k0_t2_loop.trips) (arg21_r3 : BitVec 32) (arg22_r3 : BitVec 32) (arg23_r3 : BitVec 32) (arg24_r3 : BitVec 32) (arg25_r3 : BitVec 32) (arg26_r3 : BitVec 32) (arg27_r3 : BitVec 32) (arg28_r3 : BitVec 32) (arg29_r3 : BitVec 32) (k0_hw7 : k0_chk7 k0_t2 arg21_r3 arg22_r3 arg23_r3 arg24_r3 arg25_r3 arg26_r3 arg27_r3 arg28_r3 arg29_r3), ∀ (k0_h11 : k0_cond11 k0_t2 arg29_r3 = 1#1), ∀ a, (k0_off45 arg23_r3) a + S1x2x512x1024.size a ≤ S2x2x512x1024.size a := fun k0_t2 arg21_r3 arg22_r3 arg23_r3 arg24_r3 arg25_r3 arg26_r3 arg27_r3 arg28_r3 arg29_r3 k0_hw7 k0_h11 => k0_hw7.2.2.2.2.1 k0_h11
theorem k0_off46_inb : ∀ (k0_t2 : Fin k0_t2_loop.trips) (arg21_r3 : BitVec 32) (arg22_r3 : BitVec 32) (arg23_r3 : BitVec 32) (arg24_r3 : BitVec 32) (arg25_r3 : BitVec 32) (arg26_r3 : BitVec 32) (arg27_r3 : BitVec 32) (arg28_r3 : BitVec 32) (arg29_r3 : BitVec 32) (k0_hw7 : k0_chk7 k0_t2 arg21_r3 arg22_r3 arg23_r3 arg24_r3 arg25_r3 arg26_r3 arg27_r3 arg28_r3 arg29_r3), ∀ (k0_h11 : k0_cond11 k0_t2 arg29_r3 = 1#1), ∀ a, (k0_off46 arg29_r3) a + S2x512x1024.size a ≤ S2x8192x1024.size a := fun k0_t2 arg21_r3 arg22_r3 arg23_r3 arg24_r3 arg25_r3 arg26_r3 arg27_r3 arg28_r3 arg29_r3 k0_hw7 k0_h11 => k0_hw7.2.2.2.2.2.1 k0_h11
theorem k0_off46_wordsbf16 : ∀ (k0_t2 : Fin k0_t2_loop.trips) (arg21_r3 : BitVec 32) (arg22_r3 : BitVec 32) (arg23_r3 : BitVec 32) (arg24_r3 : BitVec 32) (arg25_r3 : BitVec 32) (arg26_r3 : BitVec 32) (arg27_r3 : BitVec 32) (arg28_r3 : BitVec 32) (arg29_r3 : BitVec 32) (k0_hw7 : k0_chk7 k0_t2 arg21_r3 arg22_r3 arg23_r3 arg24_r3 arg25_r3 arg26_r3 arg27_r3 arg28_r3 arg29_r3), ∀ (k0_h11 : k0_cond11 k0_t2 arg29_r3 = 1#1), (Rect.unit (s := S2x8192x1024) (k0_off46 arg29_r3) S2x512x1024.size (k0_off46_inb k0_t2 arg21_r3 arg22_r3 arg23_r3 arg24_r3 arg25_r3 arg26_r3 arg27_r3 arg28_r3 arg29_r3 k0_hw7 k0_h11)).WholeWords (EltTy.packing .bf16) := fun k0_t2 arg21_r3 arg22_r3 arg23_r3 arg24_r3 arg25_r3 arg26_r3 arg27_r3 arg28_r3 arg29_r3 k0_hw7 k0_h11 => k0_hw7.2.2.2.2.2.2.1 k0_h11 (k0_off46_inb k0_t2 arg21_r3 arg22_r3 arg23_r3 arg24_r3 arg25_r3 arg26_r3 arg27_r3 arg28_r3 arg29_r3 k0_hw7 k0_h11)
theorem k0_off45_wordsbf16 : ∀ (k0_t2 : Fin k0_t2_loop.trips) (arg21_r3 : BitVec 32) (arg22_r3 : BitVec 32) (arg23_r3 : BitVec 32) (arg24_r3 : BitVec 32) (arg25_r3 : BitVec 32) (arg26_r3 : BitVec 32) (arg27_r3 : BitVec 32) (arg28_r3 : BitVec 32) (arg29_r3 : BitVec 32) (k0_hw7 : k0_chk7 k0_t2 arg21_r3 arg22_r3 arg23_r3 arg24_r3 arg25_r3 arg26_r3 arg27_r3 arg28_r3 arg29_r3), ∀ (k0_h11 : k0_cond11 k0_t2 arg29_r3 = 1#1), (Rect.unit (s := S2x2x512x1024) (k0_off45 arg23_r3) S1x2x512x1024.size (k0_off45_inb k0_t2 arg21_r3 arg22_r3 arg23_r3 arg24_r3 arg25_r3 arg26_r3 arg27_r3 arg28_r3 arg29_r3 k0_hw7 k0_h11)).WholeWords (EltTy.packing .bf16) := fun k0_t2 arg21_r3 arg22_r3 arg23_r3 arg24_r3 arg25_r3 arg26_r3 arg27_r3 arg28_r3 arg29_r3 k0_hw7 k0_h11 => k0_hw7.2.2.2.2.2.2.2.1 k0_h11 (k0_off45_inb k0_t2 arg21_r3 arg22_r3 arg23_r3 arg24_r3 arg25_r3 arg26_r3 arg27_r3 arg28_r3 arg29_r3 k0_hw7 k0_h11)
theorem k0_off47_inb : ∀ (k0_t2 : Fin k0_t2_loop.trips) (arg21_r3 : BitVec 32) (arg22_r3 : BitVec 32) (arg23_r3 : BitVec 32) (arg24_r3 : BitVec 32) (arg25_r3 : BitVec 32) (arg26_r3 : BitVec 32) (arg27_r3 : BitVec 32) (arg28_r3 : BitVec 32) (arg29_r3 : BitVec 32) (k0_hw7 : k0_chk7 k0_t2 arg21_r3 arg22_r3 arg23_r3 arg24_r3 arg25_r3 arg26_r3 arg27_r3 arg28_r3 arg29_r3), ∀ (k0_h12 : k0_cond12 k0_t2 arg29_r3 = 1#1), ∀ a, (k0_off47 arg25_r3) a + S1.size a ≤ S2.size a := fun k0_t2 arg21_r3 arg22_r3 arg23_r3 arg24_r3 arg25_r3 arg26_r3 arg27_r3 arg28_r3 arg29_r3 k0_hw7 k0_h12 => k0_hw7.2.2.2.2.2.2.2.2.1 k0_h12
theorem k0_off48_inb : ∀ (k0_t2 : Fin k0_t2_loop.trips) (arg21_r3 : BitVec 32) (arg22_r3 : BitVec 32) (arg23_r3 : BitVec 32) (arg24_r3 : BitVec 32) (arg25_r3 : BitVec 32) (arg26_r3 : BitVec 32) (arg27_r3 : BitVec 32) (arg28_r3 : BitVec 32) (arg29_r3 : BitVec 32) (k0_hw7 : k0_chk7 k0_t2 arg21_r3 arg22_r3 arg23_r3 arg24_r3 arg25_r3 arg26_r3 arg27_r3 arg28_r3 arg29_r3), ∀ (k0_h12 : k0_cond12 k0_t2 arg29_r3 = 1#1), ∀ a, (k0_off48 arg25_r3) a + S1x2x512x256.size a ≤ S2x2x512x256.size a := fun k0_t2 arg21_r3 arg22_r3 arg23_r3 arg24_r3 arg25_r3 arg26_r3 arg27_r3 arg28_r3 arg29_r3 k0_hw7 k0_h12 => k0_hw7.2.2.2.2.2.2.2.2.2.1 k0_h12
theorem k0_off49_inb : ∀ (k0_t2 : Fin k0_t2_loop.trips) (arg21_r3 : BitVec 32) (arg22_r3 : BitVec 32) (arg23_r3 : BitVec 32) (arg24_r3 : BitVec 32) (arg25_r3 : BitVec 32) (arg26_r3 : BitVec 32) (arg27_r3 : BitVec 32) (arg28_r3 : BitVec 32) (arg29_r3 : BitVec 32) (k0_hw7 : k0_chk7 k0_t2 arg21_r3 arg22_r3 arg23_r3 arg24_r3 arg25_r3 arg26_r3 arg27_r3 arg28_r3 arg29_r3), ∀ (k0_h12 : k0_cond12 k0_t2 arg29_r3 = 1#1), ∀ a, (k0_off49 arg29_r3) a + S2x512x256.size a ≤ S2x8192x256.size a := fun k0_t2 arg21_r3 arg22_r3 arg23_r3 arg24_r3 arg25_r3 arg26_r3 arg27_r3 arg28_r3 arg29_r3 k0_hw7 k0_h12 => k0_hw7.2.2.2.2.2.2.2.2.2.2.1 k0_h12
theorem k0_off50_inb : ∀ (k0_t2 : Fin k0_t2_loop.trips) (arg21_r3 : BitVec 32) (arg22_r3 : BitVec 32) (arg23_r3 : BitVec 32) (arg24_r3 : BitVec 32) (arg25_r3 : BitVec 32) (arg26_r3 : BitVec 32) (arg27_r3 : BitVec 32) (arg28_r3 : BitVec 32) (arg29_r3 : BitVec 32) (k0_hw7 : k0_chk7 k0_t2 arg21_r3 arg22_r3 arg23_r3 arg24_r3 arg25_r3 arg26_r3 arg27_r3 arg28_r3 arg29_r3), ∀ (k0_h13 : k0_cond13 k0_t2 arg29_r3 = 1#1), ∀ a, (k0_off50 arg22_r3) a + S1.size a ≤ S2.size a := fun k0_t2 arg21_r3 arg22_r3 arg23_r3 arg24_r3 arg25_r3 arg26_r3 arg27_r3 arg28_r3 arg29_r3 k0_hw7 k0_h13 => k0_hw7.2.2.2.2.2.2.2.2.2.2.2.1 k0_h13
theorem k0_off51_inb : ∀ (k0_t2 : Fin k0_t2_loop.trips) (arg21_r3 : BitVec 32) (arg22_r3 : BitVec 32) (arg23_r3 : BitVec 32) (arg24_r3 : BitVec 32) (arg25_r3 : BitVec 32) (arg26_r3 : BitVec 32) (arg27_r3 : BitVec 32) (arg28_r3 : BitVec 32) (arg29_r3 : BitVec 32) (k0_hw7 : k0_chk7 k0_t2 arg21_r3 arg22_r3 arg23_r3 arg24_r3 arg25_r3 arg26_r3 arg27_r3 arg28_r3 arg29_r3), ∀ (k0_h13 : k0_cond13 k0_t2 arg29_r3 = 1#1), ∀ a, (k0_off51 arg22_r3) a + S1x2x512x1024.size a ≤ S2x2x512x1024.size a := fun k0_t2 arg21_r3 arg22_r3 arg23_r3 arg24_r3 arg25_r3 arg26_r3 arg27_r3 arg28_r3 arg29_r3 k0_hw7 k0_h13 => k0_hw7.2.2.2.2.2.2.2.2.2.2.2.2.1 k0_h13
theorem k0_off52_inb : ∀ (k0_t2 : Fin k0_t2_loop.trips) (arg21_r3 : BitVec 32) (arg22_r3 : BitVec 32) (arg23_r3 : BitVec 32) (arg24_r3 : BitVec 32) (arg25_r3 : BitVec 32) (arg26_r3 : BitVec 32) (arg27_r3 : BitVec 32) (arg28_r3 : BitVec 32) (arg29_r3 : BitVec 32) (k0_hw7 : k0_chk7 k0_t2 arg21_r3 arg22_r3 arg23_r3 arg24_r3 arg25_r3 arg26_r3 arg27_r3 arg28_r3 arg29_r3), ∀ (k0_h13 : k0_cond13 k0_t2 arg29_r3 = 1#1), ∀ a, (k0_off52 arg29_r3) a + S2x512x1024.size a ≤ S2x8192x1024.size a := fun k0_t2 arg21_r3 arg22_r3 arg23_r3 arg24_r3 arg25_r3 arg26_r3 arg27_r3 arg28_r3 arg29_r3 k0_hw7 k0_h13 => k0_hw7.2.2.2.2.2.2.2.2.2.2.2.2.2.1 k0_h13
theorem k0_off53_inb : ∀ (k0_t2 : Fin k0_t2_loop.trips) (arg21_r3 : BitVec 32) (arg22_r3 : BitVec 32) (arg23_r3 : BitVec 32) (arg24_r3 : BitVec 32) (arg25_r3 : BitVec 32) (arg26_r3 : BitVec 32) (arg27_r3 : BitVec 32) (arg28_r3 : BitVec 32) (arg29_r3 : BitVec 32) (k0_hw7 : k0_chk7 k0_t2 arg21_r3 arg22_r3 arg23_r3 arg24_r3 arg25_r3 arg26_r3 arg27_r3 arg28_r3 arg29_r3), ∀ (k0_h14 : k0_cond14 k0_t2 arg29_r3 = 1#1), ∀ a, (k0_off53 arg24_r3) a + S1.size a ≤ S2.size a := fun k0_t2 arg21_r3 arg22_r3 arg23_r3 arg24_r3 arg25_r3 arg26_r3 arg27_r3 arg28_r3 arg29_r3 k0_hw7 k0_h14 => k0_hw7.2.2.2.2.2.2.2.2.2.2.2.2.2.2.1 k0_h14
theorem k0_off54_inb : ∀ (k0_t2 : Fin k0_t2_loop.trips) (arg21_r3 : BitVec 32) (arg22_r3 : BitVec 32) (arg23_r3 : BitVec 32) (arg24_r3 : BitVec 32) (arg25_r3 : BitVec 32) (arg26_r3 : BitVec 32) (arg27_r3 : BitVec 32) (arg28_r3 : BitVec 32) (arg29_r3 : BitVec 32) (k0_hw7 : k0_chk7 k0_t2 arg21_r3 arg22_r3 arg23_r3 arg24_r3 arg25_r3 arg26_r3 arg27_r3 arg28_r3 arg29_r3), ∀ (k0_h14 : k0_cond14 k0_t2 arg29_r3 = 1#1), ∀ a, (k0_off54 arg24_r3) a + S1x2x512x1024.size a ≤ S2x2x512x1024.size a := fun k0_t2 arg21_r3 arg22_r3 arg23_r3 arg24_r3 arg25_r3 arg26_r3 arg27_r3 arg28_r3 arg29_r3 k0_hw7 k0_h14 => k0_hw7.2.2.2.2.2.2.2.2.2.2.2.2.2.2.2.1 k0_h14
theorem k0_off55_inb : ∀ (k0_t2 : Fin k0_t2_loop.trips) (arg21_r3 : BitVec 32) (arg22_r3 : BitVec 32) (arg23_r3 : BitVec 32) (arg24_r3 : BitVec 32) (arg25_r3 : BitVec 32) (arg26_r3 : BitVec 32) (arg27_r3 : BitVec 32) (arg28_r3 : BitVec 32) (arg29_r3 : BitVec 32) (k0_hw7 : k0_chk7 k0_t2 arg21_r3 arg22_r3 arg23_r3 arg24_r3 arg25_r3 arg26_r3 arg27_r3 arg28_r3 arg29_r3), ∀ (k0_h14 : k0_cond14 k0_t2 arg29_r3 = 1#1), ∀ a, (k0_off55 arg29_r3) a + S2x512x1024.size a ≤ S2x8192x1024.size a := fun k0_t2 arg21_r3 arg22_r3 arg23_r3 arg24_r3 arg25_r3 arg26_r3 arg27_r3 arg28_r3 arg29_r3 k0_hw7 k0_h14 => k0_hw7.2.2.2.2.2.2.2.2.2.2.2.2.2.2.2.2.1 k0_h14
theorem k0_off55_wordsbf16 : ∀ (k0_t2 : Fin k0_t2_loop.trips) (arg21_r3 : BitVec 32) (arg22_r3 : BitVec 32) (arg23_r3 : BitVec 32) (arg24_r3 : BitVec 32) (arg25_r3 : BitVec 32) (arg26_r3 : BitVec 32) (arg27_r3 : BitVec 32) (arg28_r3 : BitVec 32) (arg29_r3 : BitVec 32) (k0_hw7 : k0_chk7 k0_t2 arg21_r3 arg22_r3 arg23_r3 arg24_r3 arg25_r3 arg26_r3 arg27_r3 arg28_r3 arg29_r3), ∀ (k0_h14 : k0_cond14 k0_t2 arg29_r3 = 1#1), (Rect.unit (s := S2x8192x1024) (k0_off55 arg29_r3) S2x512x1024.size (k0_off55_inb k0_t2 arg21_r3 arg22_r3 arg23_r3 arg24_r3 arg25_r3 arg26_r3 arg27_r3 arg28_r3 arg29_r3 k0_hw7 k0_h14)).WholeWords (EltTy.packing .bf16) := fun k0_t2 arg21_r3 arg22_r3 arg23_r3 arg24_r3 arg25_r3 arg26_r3 arg27_r3 arg28_r3 arg29_r3 k0_hw7 k0_h14 => k0_hw7.2.2.2.2.2.2.2.2.2.2.2.2.2.2.2.2.2.1 k0_h14 (k0_off55_inb k0_t2 arg21_r3 arg22_r3 arg23_r3 arg24_r3 arg25_r3 arg26_r3 arg27_r3 arg28_r3 arg29_r3 k0_hw7 k0_h14)
theorem k0_off54_wordsbf16 : ∀ (k0_t2 : Fin k0_t2_loop.trips) (arg21_r3 : BitVec 32) (arg22_r3 : BitVec 32) (arg23_r3 : BitVec 32) (arg24_r3 : BitVec 32) (arg25_r3 : BitVec 32) (arg26_r3 : BitVec 32) (arg27_r3 : BitVec 32) (arg28_r3 : BitVec 32) (arg29_r3 : BitVec 32) (k0_hw7 : k0_chk7 k0_t2 arg21_r3 arg22_r3 arg23_r3 arg24_r3 arg25_r3 arg26_r3 arg27_r3 arg28_r3 arg29_r3), ∀ (k0_h14 : k0_cond14 k0_t2 arg29_r3 = 1#1), (Rect.unit (s := S2x2x512x1024) (k0_off54 arg24_r3) S1x2x512x1024.size (k0_off54_inb k0_t2 arg21_r3 arg22_r3 arg23_r3 arg24_r3 arg25_r3 arg26_r3 arg27_r3 arg28_r3 arg29_r3 k0_hw7 k0_h14)).WholeWords (EltTy.packing .bf16) := fun k0_t2 arg21_r3 arg22_r3 arg23_r3 arg24_r3 arg25_r3 arg26_r3 arg27_r3 arg28_r3 arg29_r3 k0_hw7 k0_h14 => k0_hw7.2.2.2.2.2.2.2.2.2.2.2.2.2.2.2.2.2.2.1 k0_h14 (k0_off54_inb k0_t2 arg21_r3 arg22_r3 arg23_r3 arg24_r3 arg25_r3 arg26_r3 arg27_r3 arg28_r3 arg29_r3 k0_hw7 k0_h14)
theorem k0_off56_inb : ∀ (k0_t2 : Fin k0_t2_loop.trips) (arg21_r3 : BitVec 32) (arg22_r3 : BitVec 32) (arg23_r3 : BitVec 32) (arg24_r3 : BitVec 32) (arg25_r3 : BitVec 32) (arg26_r3 : BitVec 32) (arg27_r3 : BitVec 32) (arg28_r3 : BitVec 32) (arg29_r3 : BitVec 32) (k0_hw7 : k0_chk7 k0_t2 arg21_r3 arg22_r3 arg23_r3 arg24_r3 arg25_r3 arg26_r3 arg27_r3 arg28_r3 arg29_r3), ∀ (k0_h15 : k0_cond15 k0_t2 arg29_r3 = 1#1), ∀ a, (k0_off56 arg26_r3) a + S1.size a ≤ S2.size a := fun k0_t2 arg21_r3 arg22_r3 arg23_r3 arg24_r3 arg25_r3 arg26_r3 arg27_r3 arg28_r3 arg29_r3 k0_hw7 k0_h15 => k0_hw7.2.2.2.2.2.2.2.2.2.2.2.2.2.2.2.2.2.2.2.1 k0_h15
theorem k0_off57_inb : ∀ (k0_t2 : Fin k0_t2_loop.trips) (arg21_r3 : BitVec 32) (arg22_r3 : BitVec 32) (arg23_r3 : BitVec 32) (arg24_r3 : BitVec 32) (arg25_r3 : BitVec 32) (arg26_r3 : BitVec 32) (arg27_r3 : BitVec 32) (arg28_r3 : BitVec 32) (arg29_r3 : BitVec 32) (k0_hw7 : k0_chk7 k0_t2 arg21_r3 arg22_r3 arg23_r3 arg24_r3 arg25_r3 arg26_r3 arg27_r3 arg28_r3 arg29_r3), ∀ (k0_h15 : k0_cond15 k0_t2 arg29_r3 = 1#1), ∀ a, (k0_off57 arg26_r3) a + S1x2x512x256.size a ≤ S2x2x512x256.size a := fun k0_t2 arg21_r3 arg22_r3 arg23_r3 arg24_r3 arg25_r3 arg26_r3 arg27_r3 arg28_r3 arg29_r3 k0_hw7 k0_h15 => k0_hw7.2.2.2.2.2.2.2.2.2.2.2.2.2.2.2.2.2.2.2.2.1 k0_h15
theorem k0_off58_inb : ∀ (k0_t2 : Fin k0_t2_loop.trips) (arg21_r3 : BitVec 32) (arg22_r3 : BitVec 32) (arg23_r3 : BitVec 32) (arg24_r3 : BitVec 32) (arg25_r3 : BitVec 32) (arg26_r3 : BitVec 32) (arg27_r3 : BitVec 32) (arg28_r3 : BitVec 32) (arg29_r3 : BitVec 32) (k0_hw7 : k0_chk7 k0_t2 arg21_r3 arg22_r3 arg23_r3 arg24_r3 arg25_r3 arg26_r3 arg27_r3 arg28_r3 arg29_r3), ∀ (k0_h15 : k0_cond15 k0_t2 arg29_r3 = 1#1), ∀ a, (k0_off58 arg29_r3) a + S2x512x256.size a ≤ S2x8192x256.size a := fun k0_t2 arg21_r3 arg22_r3 arg23_r3 arg24_r3 arg25_r3 arg26_r3 arg27_r3 arg28_r3 arg29_r3 k0_hw7 k0_h15 => k0_hw7.2.2.2.2.2.2.2.2.2.2.2.2.2.2.2.2.2.2.2.2.2.1 k0_h15
theorem k0_off66_inb : ∀ (k0_t2 : Fin k0_t2_loop.trips) (arg21_r3 : BitVec 32) (arg22_r3 : BitVec 32) (arg23_r3 : BitVec 32) (arg24_r3 : BitVec 32) (arg25_r3 : BitVec 32) (arg26_r3 : BitVec 32) (arg27_r3 : BitVec 32) (arg28_r3 : BitVec 32) (arg29_r3 : BitVec 32) (k0_hw7 : k0_chk7 k0_t2 arg21_r3 arg22_r3 arg23_r3 arg24_r3 arg25_r3 arg26_r3 arg27_r3 arg28_r3 arg29_r3), ∀ (k0_h20 : k0_cond20 k0_t2 arg29_r3 = 1#1), ∀ a, (k0_off66 arg27_r3) a + S1.size a ≤ S2.size a := fun k0_t2 arg21_r3 arg22_r3 arg23_r3 arg24_r3 arg25_r3 arg26_r3 arg27_r3 arg28_r3 arg29_r3 k0_hw7 k0_h20 => k0_hw7.2.2.2.2.2.2.2.2.2.2.2.2.2.2.2.2.2.2.2.2.2.2.1 k0_h20
theorem k0_off67_inb : ∀ (k0_t2 : Fin k0_t2_loop.trips) (arg21_r3 : BitVec 32) (arg22_r3 : BitVec 32) (arg23_r3 : BitVec 32) (arg24_r3 : BitVec 32) (arg25_r3 : BitVec 32) (arg26_r3 : BitVec 32) (arg27_r3 : BitVec 32) (arg28_r3 : BitVec 32) (arg29_r3 : BitVec 32) (k0_hw7 : k0_chk7 k0_t2 arg21_r3 arg22_r3 arg23_r3 arg24_r3 arg25_r3 arg26_r3 arg27_r3 arg28_r3 arg29_r3), ∀ (k0_h20 : k0_cond20 k0_t2 arg29_r3 = 1#1), ∀ a, (k0_off67 arg29_r3) a + S2x512x1024.size a ≤ S2x8192x1024.size a := fun k0_t2 arg21_r3 arg22_r3 arg23_r3 arg24_r3 arg25_r3 arg26_r3 arg27_r3 arg28_r3 arg29_r3 k0_hw7 k0_h20 => k0_hw7.2.2.2.2.2.2.2.2.2.2.2.2.2.2.2.2.2.2.2.2.2.2.2.1 k0_h20
theorem k0_off68_inb : ∀ (k0_t2 : Fin k0_t2_loop.trips) (arg21_r3 : BitVec 32) (arg22_r3 : BitVec 32) (arg23_r3 : BitVec 32) (arg24_r3 : BitVec 32) (arg25_r3 : BitVec 32) (arg26_r3 : BitVec 32) (arg27_r3 : BitVec 32) (arg28_r3 : BitVec 32) (arg29_r3 : BitVec 32) (k0_hw7 : k0_chk7 k0_t2 arg21_r3 arg22_r3 arg23_r3 arg24_r3 arg25_r3 arg26_r3 arg27_r3 arg28_r3 arg29_r3), ∀ (k0_h20 : k0_cond20 k0_t2 arg29_r3 = 1#1), ∀ a, (k0_off68 arg27_r3) a + S1x2x512x1024.size a ≤ S2x2x512x1024.size a := fun k0_t2 arg21_r3 arg22_r3 arg23_r3 arg24_r3 arg25_r3 arg26_r3 arg27_r3 arg28_r3 arg29_r3 k0_hw7 k0_h20 => k0_hw7.2.2.2.2.2.2.2.2.2.2.2.2.2.2.2.2.2.2.2.2.2.2.2.2.1 k0_h20
theorem k0_off69_inb : ∀ (k0_t2 : Fin k0_t2_loop.trips) (arg21_r3 : BitVec 32) (arg22_r3 : BitVec 32) (arg23_r3 : BitVec 32) (arg24_r3 : BitVec 32) (arg25_r3 : BitVec 32) (arg26_r3 : BitVec 32) (arg27_r3 : BitVec 32) (arg28_r3 : BitVec 32) (arg29_r3 : BitVec 32) (k0_hw7 : k0_chk7 k0_t2 arg21_r3 arg22_r3 arg23_r3 arg24_r3 arg25_r3 arg26_r3 arg27_r3 arg28_r3 arg29_r3), ∀ (k0_h24 : k0_cond24 k0_t2 arg29_r3 = 1#1), ∀ a, (k0_off69 arg28_r3) a + S1.size a ≤ S2.size a := fun k0_t2 arg21_r3 arg22_r3 arg23_r3 arg24_r3 arg25_r3 arg26_r3 arg27_r3 arg28_r3 arg29_r3 k0_hw7 k0_h24 => k0_hw7.2.2.2.2.2.2.2.2.2.2.2.2.2.2.2.2.2.2.2.2.2.2.2.2.2.1 k0_h24
theorem k0_off70_inb : ∀ (k0_t2 : Fin k0_t2_loop.trips) (arg21_r3 : BitVec 32) (arg22_r3 : BitVec 32) (arg23_r3 : BitVec 32) (arg24_r3 : BitVec 32) (arg25_r3 : BitVec 32) (arg26_r3 : BitVec 32) (arg27_r3 : BitVec 32) (arg28_r3 : BitVec 32) (arg29_r3 : BitVec 32) (k0_hw7 : k0_chk7 k0_t2 arg21_r3 arg22_r3 arg23_r3 arg24_r3 arg25_r3 arg26_r3 arg27_r3 arg28_r3 arg29_r3), ∀ (k0_h24 : k0_cond24 k0_t2 arg29_r3 = 1#1), ∀ a, (k0_off70 arg29_r3) a + S2x512x1024.size a ≤ S2x8192x1024.size a := fun k0_t2 arg21_r3 arg22_r3 arg23_r3 arg24_r3 arg25_r3 arg26_r3 arg27_r3 arg28_r3 arg29_r3 k0_hw7 k0_h24 => k0_hw7.2.2.2.2.2.2.2.2.2.2.2.2.2.2.2.2.2.2.2.2.2.2.2.2.2.2.1 k0_h24
theorem k0_off71_inb : ∀ (k0_t2 : Fin k0_t2_loop.trips) (arg21_r3 : BitVec 32) (arg22_r3 : BitVec 32) (arg23_r3 : BitVec 32) (arg24_r3 : BitVec 32) (arg25_r3 : BitVec 32) (arg26_r3 : BitVec 32) (arg27_r3 : BitVec 32) (arg28_r3 : BitVec 32) (arg29_r3 : BitVec 32) (k0_hw7 : k0_chk7 k0_t2 arg21_r3 arg22_r3 arg23_r3 arg24_r3 arg25_r3 arg26_r3 arg27_r3 arg28_r3 arg29_r3), ∀ (k0_h24 : k0_cond24 k0_t2 arg29_r3 = 1#1), ∀ a, (k0_off71 arg28_r3) a + S1x2x512x1024.size a ≤ S2x2x512x1024.size a := fun k0_t2 arg21_r3 arg22_r3 arg23_r3 arg24_r3 arg25_r3 arg26_r3 arg27_r3 arg28_r3 arg29_r3 k0_hw7 k0_h24 => k0_hw7.2.2.2.2.2.2.2.2.2.2.2.2.2.2.2.2.2.2.2.2.2.2.2.2.2.2.2 k0_h24

def k0_off72 (v41_7_r3 : BitVec 32) : Fin 1 → Nat :=
  let c2_i32_80_r3 : BitVec 32 := 2#32
  let v62_r3 : BitVec 32 := Scalar.remui v41_7_r3 c2_i32_80_r3
  ![v62_r3.toNat]

def k0_off73 (v41_8_r3 : BitVec 32) : Fin 3 → Nat :=
  let c0_i32_81_r3 : BitVec 32 := 0#32
  let c512_i32_r3 : BitVec 32 := 512#32
  let true_61_r3 : BitVec 1 := 1#1
  let c1_i32_60_r3 : BitVec 32 := 1#32
  let v42_r3 : BitVec 32 := Scalar.subi v41_8_r3 c1_i32_60_r3
  let v43_r3 : BitVec 32 := Scalar.select true_61_r3 v42_r3 v41_8_r3
  let c_m1_i32_62_r3 : BitVec 32 := 4294967295#32
  let v44_r3 : BitVec 1 := Scalar.cmpi .eq v43_r3 c_m1_i32_62_r3
  let c15_i32_63_r3 : BitVec 32 := 15#32
  let v45_r3 : BitVec 32 := Scalar.select v44_r3 c15_i32_63_r3 v43_r3
  let c0_i32_64_r3 : BitVec 32 := 0#32
  let v46_r3 : BitVec 32 := Scalar.addi v45_r3 c0_i32_64_r3
  let v63_r3 : BitVec 32 := Scalar.muli c512_i32_r3 v46_r3
  let c0_i32_82_r3 : BitVec 32 := 0#32
  ![0, v63_r3.toNat, 0]

def k0_chk13 (v41_8_r3 : BitVec 32) : Prop :=
  (∀ a, (k0_off73 v41_8_r3) a + S2x512x1024.size a ≤ S2x8192x1024.size a)
theorem k0_off73_inb : ∀ (v41_8_r3 : BitVec 32) (k0_hw13 : k0_chk13 v41_8_r3), ∀ a, (k0_off73 v41_8_r3) a + S2x512x1024.size a ≤ S2x8192x1024.size a := fun v41_8_r3 k0_hw13 => k0_hw13

def k0_off74 (v41_7_r3 : BitVec 32) : Fin 4 → Nat :=
  let c2_i32_80_r3 : BitVec 32 := 2#32
  let v62_r3 : BitVec 32 := Scalar.remui v41_7_r3 c2_i32_80_r3
  let c0_i32_83_r3 : BitVec 32 := 0#32
  let c0_i32_84_r3 : BitVec 32 := 0#32
  let c0_i32_85_r3 : BitVec 32 := 0#32
  ![v62_r3.toNat, 0, 0, 0]

def k0_chk12 (v41_7_r3 : BitVec 32) : Prop :=
  (∀ a, (k0_off72 v41_7_r3) a + S1.size a ≤ S2.size a) ∧
  (∀ a, (k0_off74 v41_7_r3) a + S1x2x512x1024.size a ≤ S2x2x512x1024.size a)
theorem k0_off72_inb : ∀ (v41_7_r3 : BitVec 32) (k0_hw12 : k0_chk12 v41_7_r3), ∀ a, (k0_off72 v41_7_r3) a + S1.size a ≤ S2.size a := fun v41_7_r3 k0_hw12 => k0_hw12.1
theorem k0_off74_inb : ∀ (v41_7_r3 : BitVec 32) (k0_hw12 : k0_chk12 v41_7_r3), ∀ a, (k0_off74 v41_7_r3) a + S1x2x512x1024.size a ≤ S2x2x512x1024.size a := fun v41_7_r3 k0_hw12 => k0_hw12.2

abbrev stage0_0 : Fin 1 → Memref sig .tc .vmem S1x3x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S2x8192x1024 : Shape := ⟨3, ![2, 8192, 1024]⟩
abbrev S2x2x8192x256 : Shape := ⟨4, ![2, 2, 8192, 256]⟩
abbrev S1x1024x3072 : Shape := ⟨3, ![1, 1024, 3072]⟩
abbrev S1x3x1024 : Shape := ⟨3, ![1, 3, 1024]⟩
abbrev S1x1024x1024 : Shape := ⟨3, ![1, 1024, 1024]⟩
abbrev S2x1024 : Shape := ⟨2, ![2, 1024]⟩
abbrev S2x1024x4096 : Shape := ⟨3, ![2, 1024, 4096]⟩
abbrev S2x4096x1024 : Shape := ⟨3, ![2, 4096, 1024]⟩
abbrev S2x1024x1024 : Shape := ⟨3, ![2, 1024, 1024]⟩
abbrev S2x256x1024 : Shape := ⟨3, ![2, 256, 1024]⟩
abbrev S1024x3072 : Shape := ⟨2, ![1024, 3072]⟩
abbrev S3x1024 : Shape := ⟨2, ![3, 1024]⟩
abbrev S1024x1024 : Shape := ⟨2, ![1024, 1024]⟩
abbrev S2x8192x3072 : Shape := ⟨3, ![2, 8192, 3072]⟩
abbrev S_ : Shape := ⟨0, ![]⟩
abbrev S2x8194x1024 : Shape := ⟨3, ![2, 8194, 1024]⟩
abbrev S1x1024 : Shape := ⟨2, ![1, 1024]⟩
abbrev S1024 : Shape := ⟨1, ![1024]⟩
abbrev S1x1x1024 : Shape := ⟨3, ![1, 1, 1024]⟩
abbrev S2x8192 : Shape := ⟨2, ![2, 8192]⟩
abbrev S2x8192x1 : Shape := ⟨3, ![2, 8192, 1]⟩
abbrev S1x1024x4096 : Shape := ⟨3, ![1, 1024, 4096]⟩
abbrev S1024x4096 : Shape := ⟨2, ![1024, 4096]⟩
abbrev S2x8192x4096 : Shape := ⟨3, ![2, 8192, 4096]⟩
abbrev S1x4096x1024 : Shape := ⟨3, ![1, 4096, 1024]⟩
abbrev S4096x1024 : Shape := ⟨2, ![4096, 1024]⟩
abbrev S1x2x8192x256 : Shape := ⟨4, ![1, 2, 8192, 256]⟩
abbrev S2x8192x256 : Shape := ⟨3, ![2, 8192, 256]⟩
abbrev S1x256x1024 : Shape := ⟨3, ![1, 256, 1024]⟩
abbrev S256x1024 : Shape := ⟨2, ![256, 1024]⟩

abbrev nBuf : Space → Nat
  | .hbm => 151
  | .vmem => 0
  | .smem => 0
  | _ => 0

abbrev hbmTy0_0 (i : Nat) : BufTy := match i % 128 with
  | 0 => ⟨S2x8192x1024, .f32⟩
  | 1 => ⟨S2x2x8192x256, .f32⟩
  | 2 => ⟨S1x1024x3072, .f32⟩
  | 3 => ⟨S1x3x1024, .f32⟩
  | 4 => ⟨S1x1024x1024, .f32⟩
  | 5 => ⟨S2x1024, .f32⟩
  | 6 => ⟨S2x1024, .f32⟩
  | 7 => ⟨S2x1024x4096, .f32⟩
  | 8 => ⟨S2x4096x1024, .f32⟩
  | 9 => ⟨S2x1024, .f32⟩
  | 10 => ⟨S2x1024, .f32⟩
  | 11 => ⟨S2x1024x1024, .f32⟩
  | 12 => ⟨S2x256x1024, .f32⟩
  | 13 => ⟨S1024x3072, .f32⟩
  | 14 => ⟨S3x1024, .f32⟩
  | 15 => ⟨S1024x1024, .f32⟩
  | 16 => ⟨S2x8192x3072, .f32⟩
  | 17 => ⟨S2x8192x1024, .f32⟩
  | 18 => ⟨S2x8192x1024, .f32⟩
  | 19 => ⟨S2x8192x1024, .f32⟩
  | 20 => ⟨S2x8192x1024, .f32⟩
  | 21 => ⟨S_, .i32⟩
  | 22 => ⟨S_, .f32⟩
  | 23 => ⟨S2x8194x1024, .f32⟩
  | 24 => ⟨S1x1024, .f32⟩
  | 25 => ⟨S1024, .f32⟩
  | 26 => ⟨S2x8192x1024, .f32⟩
  | 27 => ⟨S1x1x1024, .f32⟩
  | 28 => ⟨S2x8192x1024, .f32⟩
  | 29 => ⟨S2x8192x1024, .f32⟩
  | 30 => ⟨S_, .f32⟩
  | 31 => ⟨S2x8192x1024, .f32⟩
  | 32 => ⟨S2x8192x1024, .f32⟩
  | 33 => ⟨S1x1024, .f32⟩
  | 34 => ⟨S1024, .f32⟩
  | 35 => ⟨S2x8192x1024, .f32⟩
  | 36 => ⟨S1x1x1024, .f32⟩
  | 37 => ⟨S2x8192x1024, .f32⟩
  | 38 => ⟨S2x8192x1024, .f32⟩
  | 39 => ⟨S2x8192x1024, .f32⟩
  | 40 => ⟨S1x1024, .f32⟩
  | 41 => ⟨S1024, .f32⟩
  | 42 => ⟨S2x8192x1024, .f32⟩
  | 43 => ⟨S1x1x1024, .f32⟩
  | 44 => ⟨S2x8192x1024, .f32⟩
  | 45 => ⟨S2x8192x1024, .f32⟩
  | 46 => ⟨S2x8192x1024, .f32⟩
  | 47 => ⟨S2x8192x1024, .f32⟩
  | 48 => ⟨S2x8192x1024, .f32⟩
  | 49 => ⟨S_, .f32⟩
  | 50 => ⟨S2x8192x1024, .f32⟩
  | 51 => ⟨S2x8192x1024, .f32⟩
  | 52 => ⟨S2x8192x1024, .f32⟩
  | 53 => ⟨S1x1024, .f32⟩
  | 54 => ⟨S1024, .f32⟩
  | 55 => ⟨S1x1024, .f32⟩
  | 56 => ⟨S1024, .f32⟩
  | 57 => ⟨S_, .f32⟩
  | 58 => ⟨S2x8192, .f32⟩
  | 59 => ⟨S2x8192x1, .f32⟩
  | 60 => ⟨S_, .f32⟩
  | 61 => ⟨S2x8192x1, .f32⟩
  | 62 => ⟨S2x8192x1, .f32⟩
  | 63 => ⟨S2x8192x1024, .f32⟩
  | 64 => ⟨S2x8192x1024, .f32⟩
  | 65 => ⟨S2x8192x1024, .f32⟩
  | 66 => ⟨S_, .f32⟩
  | 67 => ⟨S2x8192, .f32⟩
  | 68 => ⟨S2x8192x1, .f32⟩
  | 69 => ⟨S_, .f32⟩
  | 70 => ⟨S2x8192x1, .f32⟩
  | 71 => ⟨S2x8192x1, .f32⟩
  | 72 => ⟨S2x8192x1024, .f32⟩
  | 73 => ⟨S2x8192x1024, .f32⟩
  | 74 => ⟨S_, .f32⟩
  | 75 => ⟨S2x8192x1, .f32⟩
  | 76 => ⟨S2x8192x1, .f32⟩
  | 77 => ⟨S2x8192x1, .f32⟩
  | 78 => ⟨S2x8192x1024, .f32⟩
  | 79 => ⟨S2x8192x1024, .f32⟩
  | 80 => ⟨S1x1x1024, .f32⟩
  | 81 => ⟨S2x8192x1024, .f32⟩
  | 82 => ⟨S2x8192x1024, .f32⟩
  | 83 => ⟨S1x1x1024, .f32⟩
  | 84 => ⟨S2x8192x1024, .f32⟩
  | 85 => ⟨S2x8192x1024, .f32⟩
  | 86 => ⟨S1x1024x4096, .f32⟩
  | 87 => ⟨S1024x4096, .f32⟩
  | 88 => ⟨S2x8192x4096, .f32⟩
  | 89 => ⟨S_, .f32⟩
  | 90 => ⟨S2x8192x4096, .f32⟩
  | 91 => ⟨S2x8192x4096, .f32⟩
  | 92 => ⟨S2x8192x4096, .f32⟩
  | 93 => ⟨S_, .f32⟩
  | 94 => ⟨S2x8192x1024, .f32⟩
  | 95 => ⟨S2x8192x1024, .f32⟩
  | 96 => ⟨S1x4096x1024, .f32⟩
  | 97 => ⟨S4096x1024, .f32⟩
  | 98 => ⟨S2x8192x1024, .f32⟩
  | 99 => ⟨S2x8192x1024, .f32⟩
  | 100 => ⟨S1x1024, .f32⟩
  | 101 => ⟨S1024, .f32⟩
  | 102 => ⟨S1x1024, .f32⟩
  | 103 => ⟨S1024, .f32⟩
  | 104 => ⟨S_, .f32⟩
  | 105 => ⟨S2x8192, .f32⟩
  | 106 => ⟨S2x8192x1, .f32⟩
  | 107 => ⟨S_, .f32⟩
  | 108 => ⟨S2x8192x1, .f32⟩
  | 109 => ⟨S2x8192x1, .f32⟩
  | 110 => ⟨S2x8192x1024, .f32⟩
  | 111 => ⟨S2x8192x1024, .f32⟩
  | 112 => ⟨S2x8192x1024, .f32⟩
  | 113 => ⟨S_, .f32⟩
  | 114 => ⟨S2x8192, .f32⟩
  | 115 => ⟨S2x8192x1, .f32⟩
  | 116 => ⟨S_, .f32⟩
  | 117 => ⟨S2x8192x1, .f32⟩
  | 118 => ⟨S2x8192x1, .f32⟩
  | 119 => ⟨S2x8192x1024, .f32⟩
  | 120 => ⟨S2x8192x1024, .f32⟩
  | 121 => ⟨S_, .f32⟩
  | 122 => ⟨S2x8192x1, .f32⟩
  | 123 => ⟨S2x8192x1, .f32⟩
  | 124 => ⟨S2x8192x1, .f32⟩
  | 125 => ⟨S2x8192x1024, .f32⟩
  | 126 => ⟨S2x8192x1024, .f32⟩
  | 127 => ⟨S1x1x1024, .f32⟩
  | _ => ⟨S2x8192x1024, .f32⟩

abbrev hbmTy0_1 (i : Nat) : BufTy := match i % 128 with
  | 0 => ⟨S2x8192x1024, .f32⟩
  | 1 => ⟨S2x8192x1024, .f32⟩
  | 2 => ⟨S1x1x1024, .f32⟩
  | 3 => ⟨S2x8192x1024, .f32⟩
  | 4 => ⟨S2x8192x1024, .f32⟩
  | 5 => ⟨S1x1024x1024, .f32⟩
  | 6 => ⟨S1024x1024, .f32⟩
  | 7 => ⟨S2x8192x1024, .f32⟩
  | 8 => ⟨S2x8192x1024, .f32⟩
  | 9 => ⟨S2x8192x1024, .f32⟩
  | 10 => ⟨S_, .f32⟩
  | 11 => ⟨S2x8192x1024, .f32⟩
  | 12 => ⟨S2x8192x1024, .f32⟩
  | 13 => ⟨S_, .f32⟩
  | 14 => ⟨S2x8192x1024, .f32⟩
  | 15 => ⟨S2x8192x1024, .f32⟩
  | 16 => ⟨S1x2x8192x256, .f32⟩
  | 17 => ⟨S2x8192x256, .f32⟩
  | 18 => ⟨S1x256x1024, .f32⟩
  | 19 => ⟨S256x1024, .f32⟩
  | 20 => ⟨S2x8192x1024, .f32⟩
  | 21 => ⟨S2x8192x1024, .f32⟩
  | 22 => ⟨S2x8192x1024, .f32⟩
  | _ => ⟨S2x8192x1024, .f32⟩

abbrev hbmTy (i : Nat) : BufTy := match i / 128 with
  | 0 => hbmTy0_0 i
  | 1 => hbmTy0_1 i
  | _ => ⟨S2x8192x1024, .f32⟩

abbrev bufTy : (tb : Table) → Fin (tcTables nBuf tb) → BufTy
  | .hbm, ⟨i, _⟩ => hbmTy i
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_c : Ref sig .tc := ⟨.hbm, 21, rfl⟩
abbrev main_call0_v0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_0 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_1 : Ref sig .tc := ⟨.hbm, 57, rfl⟩
abbrev main_v40 : Ref sig .tc := ⟨.hbm, 58, rfl⟩
abbrev main_v41 : Ref sig .tc := ⟨.hbm, 59, rfl⟩
abbrev main_cst_2 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_3 : Ref sig .tc := ⟨.hbm, 66, rfl⟩
abbrev main_v47 : Ref sig .tc := ⟨.hbm, 67, rfl⟩
abbrev main_v48 : Ref sig .tc := ⟨.hbm, 68, rfl⟩
abbrev main_cst_4 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_cst_5 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_call1_cst : Ref sig .tc := ⟨.hbm, 89, rfl⟩
abbrev main_call1_v0 : Ref sig .tc := ⟨.hbm, 90, rfl⟩
abbrev main_v67 : Ref sig .tc := ⟨.hbm, 91, rfl⟩
abbrev main_v68 : Ref sig .tc := ⟨.hbm, 92, rfl⟩
abbrev main_cst_6 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_cst_7 : Ref sig .tc := ⟨.hbm, 104, rfl⟩
abbrev main_v79 : Ref sig .tc := ⟨.hbm, 105, rfl⟩
abbrev main_v80 : Ref sig .tc := ⟨.hbm, 106, rfl⟩
abbrev main_cst_8 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_cst_9 : Ref sig .tc := ⟨.hbm, 113, rfl⟩
abbrev main_v86 : Ref sig .tc := ⟨.hbm, 114, rfl⟩
abbrev main_v87 : Ref sig .tc := ⟨.hbm, 115, rfl⟩
abbrev main_cst_10 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_cst_11 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_cst_12 : Ref sig .tc := ⟨.hbm, 138, rfl⟩
abbrev main_v108 : Ref sig .tc := ⟨.hbm, 139, rfl⟩
abbrev main_v109 : Ref sig .tc := ⟨.hbm, 140, rfl⟩
abbrev main_cst_13 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩
abbrev main_v116 : Ref sig .tc := ⟨.hbm, 148, rfl⟩
abbrev main_v117 : Ref sig .tc := ⟨.hbm, 149, rfl⟩
abbrev main_v118 : Ref sig .tc := ⟨.hbm, 150, rfl⟩

abbrev nD : Nat := 1
abbrev τ : Topo := Topo.v7x

variable {F : FTy → Type} [FloatOps F]
-- ==== Proof.Names.lean ====
/-
  Names for the pieces of memory the kernel's two pipelines move, and the arithmetic of the words they carry.

  Each pipeline walks 16 blocks of 512 rows. Block `b` of an HBM array, slot `s` (of two) of a VMEM double buffer and
  slot `s`'s DMA semaphore each get one name here; the offsets the kernel computes from its carried counters are shown
  to be those of the name (`@[sl_canon]` equations), trip by trip.
-/
module

public import proofs.«01_k».proof.Defs
public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import Idealize.ShloMosaic.Lib.Pipeline.KitQuiescent
public import Idealize.ShloMosaic.Lib.Ring
public import Idealize.ShloMosaic.Lib.Affine
public import Idealize.ShloMosaic.Lib.Tactic

@[expose] public section

set_option maxRecDepth 8192

noncomputable section

namespace Cert.Proof.Layer

open Cert.KernelIdeal Cert.KernelIdeal.Gen
open Idealize.ShloMosaic
open Idealize.ShloMosaic.TcCoe Idealize.ShloMosaic.Tactic
open Idealize.SL Idealize.SL.RA Idealize.SL.BI

variable {F : FTy → Type} [FloatOps F]

/-! ## The words a pipeline carries before trip `k` -/

/-- How many blocks have been fetched: one ahead of the trip, at most 16. -/
def wF (k : ℕ) : BitVec 32 := BitVec.ofNat 32 (min (k + 1) 16)
/-- The trip itself. -/
def wN (k : ℕ) : BitVec 32 := BitVec.ofNat 32 k
/-- How many blocks have been waited for on the way out: one behind the trip. -/
def wP (k : ℕ) : BitVec 32 := BitVec.ofNat 32 (k - 1)
/-- The block index: the trip, back at 0 after the last. -/
def wI (k : ℕ) : BitVec 32 := BitVec.ofNat 32 (k % 16)

/-! ## Offsets -/

abbrev semOff (s : Fin 2) : Fin 1 → Nat := ![s.val]
theorem semOff_inb (s : Fin 2) : ∀ a, semOff s a + S1.size a ≤ S2.size a := by
  have := s.isLt; intro a; fin_cases a; show s.val + 1 ≤ 2; omega
abbrev slotOff (s : Fin 2) : Fin 4 → Nat := ![s.val, 0, 0, 0]
theorem slotOff_inb (s : Fin 2) : ∀ a, slotOff s a + S1x2x512x1024.size a ≤ S2x2x512x1024.size a := by
  have := s.isLt; intro a; fin_cases a
  · show s.val + 1 ≤ 2; omega
  · show 0 + 2 ≤ 2; omega
  · show 0 + 512 ≤ 512; omega
  · show 0 + 1024 ≤ 1024; omega
theorem pslotOff_inb (s : Fin 2) : ∀ a, slotOff s a + S1x2x512x256.size a ≤ S2x2x512x256.size a := by
  have := s.isLt; intro a; fin_cases a
  · show s.val + 1 ≤ 2; omega
  · show 0 + 2 ≤ 2; omega
  · show 0 + 512 ≤ 512; omega
  · show 0 + 256 ≤ 256; omega
abbrev blkOff (b : Fin 16) : Fin 3 → Nat := ![0, 512 * b.val, 0]
theorem blkOff_inb (b : Fin 16) : ∀ a, blkOff b a + S2x512x1024.size a ≤ S2x8192x1024.size a := by
  have := b.isLt; intro a; fin_cases a
  · show 0 + 2 ≤ 2; omega
  · show 512 * b.val + 512 ≤ 8192; omega
  · show 0 + 1024 ≤ 1024; omega
theorem pblkOff_inb (b : Fin 16) : ∀ a, blkOff b a + S2x512x256.size a ≤ S2x8192x256.size a := by
  have := b.isLt; intro a; fin_cases a
  · show 0 + 2 ≤ 2; omega
  · show 512 * b.val + 512 ≤ 8192; omega
  · show 0 + 256 ≤ 256; omega

abbrev slabOff8 (k : Fin 16) : Fin 3 → Nat := ![0, 64 * k.val, 0]
theorem slabOff8_inb (k : Fin 16) : ∀ a, slabOff8 k a + S1x64x1024.size a ≤ S1x1024x1024.size a := by
  have := k.isLt; intro a; fin_cases a
  · show 0 + 1 ≤ 1; omega
  · show 64 * k.val + 64 ≤ 1024; omega
  · show 0 + 1024 ≤ 1024; omega
abbrev slabOff9 (k : Fin 16) : Fin 3 → Nat := ![1, 64 * k.val, 0]
theorem slabOff9_inb (k : Fin 16) : ∀ a, slabOff9 k a + S1x64x4096.size a ≤ S2x1024x4096.size a := by
  have := k.isLt; intro a; fin_cases a
  · show 1 + 1 ≤ 2; omega
  · show 64 * k.val + 64 ≤ 1024; omega
  · show 0 + 4096 ≤ 4096; omega
abbrev slabOff10 (k : Fin 16) : Fin 3 → Nat := ![1, 256 * k.val, 0]
theorem slabOff10_inb (k : Fin 16) : ∀ a, slabOff10 k a + S1x256x1024.size a ≤ S2x4096x1024.size a := by
  have := k.isLt; intro a; fin_cases a
  · show 1 + 1 ≤ 2; omega
  · show 256 * k.val + 256 ≤ 4096; omega
  · show 0 + 1024 ≤ 1024; omega
abbrev slabOff11 (k : Fin 16) : Fin 3 → Nat := ![1, 64 * k.val, 0]
theorem slabOff11_inb (k : Fin 16) : ∀ a, slabOff11 k a + S1x64x1024.size a ≤ S2x1024x1024.size a := by
  have := k.isLt; intro a; fin_cases a
  · show 1 + 1 ≤ 2; omega
  · show 64 * k.val + 64 ≤ 1024; omega
  · show 0 + 1024 ≤ 1024; omega
abbrev slabOff12 (k : Fin 16) : Fin 3 → Nat := ![1, 16 * k.val, 0]
theorem slabOff12_inb (k : Fin 16) : ∀ a, slabOff12 k a + S1x16x1024.size a ≤ S2x256x1024.size a := by
  have := k.isLt; intro a; fin_cases a
  · show 1 + 1 ≤ 2; omega
  · show 16 * k.val + 16 ≤ 256; omega
  · show 0 + 1024 ≤ 1024; omega
abbrev cellOff (i : Fin 5) : Fin 1 → Nat := ![i.val]
theorem cellOff_inb (i : Fin 5) : ∀ a, cellOff i a + S1.size a ≤ S5.size a := by
  have := i.isLt; intro a; fin_cases a; show i.val + 1 ≤ 5; omega
abbrev rowOff (r : ℕ) (k : Fin 16) : Fin 2 → Nat := ![r * k.val, 0]

/-! ## The names -/

abbrev xM : Memref sig .tc .hbm S2x8192x1024 .f32 := Memref.whole main_arg0
abbrev pM : Memref sig .tc .hbm S2x2x8192x256 .f32 := Memref.whole main_arg1
abbrev oM : Memref sig .tc .hbm S2x8192x1024 .f32 := Memref.whole main_v2_0
abbrev yM : Memref sig .tc .hbm S2x8192x1024 .bf16 := Memref.whole main_v2_1
/-! The other operands and the kernel's own buffers: weights in HBM (`…M`), their on-chip copies (`…S`), scratch. -/
abbrev wiM : Memref sig .tc .hbm S1024x3072 .bf16 := Memref.whole main_v1
abbrev woM : Memref sig .tc .hbm S1x1024x1024 .f32 := Memref.whole main_arg4
abbrev w1M : Memref sig .tc .hbm S2x1024x4096 .f32 := Memref.whole main_arg7
abbrev w2M : Memref sig .tc .hbm S2x4096x1024 .f32 := Memref.whole main_arg8
abbrev wgM : Memref sig .tc .hbm S2x1024x1024 .f32 := Memref.whole main_arg11
abbrev wpM : Memref sig .tc .hbm S2x256x1024 .f32 := Memref.whole main_arg12
abbrev woS : Memref sig .tc .vmem S1024x1024 .bf16 := Memref.whole cc0_scratch0
abbrev w1S : Memref sig .tc .vmem S1024x4096 .bf16 := Memref.whole cc0_scratch1
abbrev w2S : Memref sig .tc .vmem S4096x1024 .bf16 := Memref.whole cc0_scratch2
abbrev wgS : Memref sig .tc .vmem S1024x1024 .bf16 := Memref.whole cc0_scratch3
abbrev wpS : Memref sig .tc .vmem S256x1024 .bf16 := Memref.whole cc0_scratch4
abbrev cntM : Memref sig .tc .smem S1 .i32 := Memref.whole cc0_scoped0
abbrev sl0M : Memref sig .tc .vmem S64x1024 .f32 := Memref.whole cc0_scoped2
abbrev sl1M : Memref sig .tc .vmem S64x4096 .f32 := Memref.whole cc0_scoped3
abbrev sl2M : Memref sig .tc .vmem S256x1024 .f32 := Memref.whole cc0_scoped4
abbrev sl3M : Memref sig .tc .vmem S64x1024 .f32 := Memref.whole cc0_scoped5
abbrev sl4M : Memref sig .tc .vmem S16x1024 .f32 := Memref.whole cc0_scoped6
abbrev wiS : Memref sig .tc .vmem S1024x3072 .bf16 := Memref.whole cc0_scoped7
abbrev zM : Memref sig .tc .vmem S2x520x1024 .f32 := Memref.whole cc0_scoped8
abbrev xb1M : Memref sig .tc .vmem S2x2x512x1024 .f32 := Memref.whole cc0_scoped10
abbrev yb1M : Memref sig .tc .vmem S2x2x512x1024 .bf16 := Memref.whole cc0_scoped12
abbrev xbM : Memref sig .tc .vmem S2x256x1024 .bf16 := Memref.whole cc0_scoped14
abbrev hidM : Memref sig .tc .vmem S2x256x4096 .bf16 := Memref.whole cc0_scoped15
abbrev x2bM : Memref sig .tc .vmem S2x256x1024 .bf16 := Memref.whole cc0_scoped16
abbrev xb2M : Memref sig .tc .vmem S2x2x512x1024 .f32 := Memref.whole cc0_scoped17
abbrev yb2M : Memref sig .tc .vmem S2x2x512x1024 .bf16 := Memref.whole cc0_scoped19
abbrev pb2M : Memref sig .tc .vmem S2x2x512x256 .f32 := Memref.whole cc0_scoped21
abbrev ob2M : Memref sig .tc .vmem S2x2x512x1024 .f32 := Memref.whole cc0_scoped23

/-- Block `b` of `x`: 512 rows of both batches. -/
def xblk (b : Fin 16) : Memref sig .tc .hbm S2x512x1024 .f32 :=
  xM.slice (Rect.unit (s := S2x8192x1024) (blkOff b) S2x512x1024.size (blkOff_inb b)) (fun _ => rfl)
/-- Block `b` of the mixed rows `y`: 512 rows of both batches. -/
def yblk (b : Fin 16) : Memref sig .tc .hbm S2x512x1024 .bf16 :=
  yM.slice (Rect.unit (s := S2x8192x1024) (blkOff b) S2x512x1024.size (blkOff_inb b)) (fun _ => rfl)
/-- Block `b` of the result: 512 rows of both batches. -/
def oblk (b : Fin 16) : Memref sig .tc .hbm S2x512x1024 .f32 :=
  oM.slice (Rect.unit (s := S2x8192x1024) (blkOff b) S2x512x1024.size (blkOff_inb b)) (fun _ => rfl)
/-- The layer's plane of `p`, which the channel phase reads. -/
abbrev pL : Memref sig .tc .hbm S2x8192x256 .f32 :=
  (pM.slice (Rect.unit (s := S2x2x8192x256) ![1, 0, 0, 0] S1x2x8192x256.size inb_S2x2x8192x256_S1x2x8192x256_1_0_0_0) (fun _ => rfl)).squeeze S2x8192x256 squeezes_S1x2x8192x256_S2x8192x256
/-- Block `b` of the layer's plane of `p`. -/
def pblk (b : Fin 16) : Memref sig .tc .hbm S2x512x256 .f32 :=
  pL.slice (Rect.unit (s := S2x8192x256) (blkOff b) S2x512x256.size (pblkOff_inb b)) (fun _ => rfl)
/-- Slot `s` of the mixer pipeline's `x` buffer. -/
def xs1 (s : Fin 2) : Memref sig .tc .vmem S2x512x1024 .f32 :=
  ((Memref.whole cc0_scoped10 : Memref sig .tc .vmem S2x2x512x1024 .f32).slice (Rect.unit (s := S2x2x512x1024) (slotOff s) S1x2x512x1024.size (slotOff_inb s)) (fun _ => rfl)).squeeze S2x512x1024 squeezes_S1x2x512x1024_S2x512x1024
/-- Slot `s` of the mixer pipeline's `y` buffer. -/
def ys1 (s : Fin 2) : Memref sig .tc .vmem S2x512x1024 .bf16 :=
  ((Memref.whole cc0_scoped12 : Memref sig .tc .vmem S2x2x512x1024 .bf16).slice (Rect.unit (s := S2x2x512x1024) (slotOff s) S1x2x512x1024.size (slotOff_inb s)) (fun _ => rfl)).squeeze S2x512x1024 squeezes_S1x2x512x1024_S2x512x1024
/-- Slot `s` of the channel pipeline's `x` buffer. -/
def xs2 (s : Fin 2) : Memref sig .tc .vmem S2x512x1024 .f32 :=
  ((Memref.whole cc0_scoped17 : Memref sig .tc .vmem S2x2x512x1024 .f32).slice (Rect.unit (s := S2x2x512x1024) (slotOff s) S1x2x512x1024.size (slotOff_inb s)) (fun _ => rfl)).squeeze S2x512x1024 squeezes_S1x2x512x1024_S2x512x1024
/-- Slot `s` of the channel pipeline's `y` buffer. -/
def ys2 (s : Fin 2) : Memref sig .tc .vmem S2x512x1024 .bf16 :=
  ((Memref.whole cc0_scoped19 : Memref sig .tc .vmem S2x2x512x1024 .bf16).slice (Rect.unit (s := S2x2x512x1024) (slotOff s) S1x2x512x1024.size (slotOff_inb s)) (fun _ => rfl)).squeeze S2x512x1024 squeezes_S1x2x512x1024_S2x512x1024
/-- Slot `s` of the channel pipeline's `p` buffer. -/
def ps2 (s : Fin 2) : Memref sig .tc .vmem S2x512x256 .f32 :=
  ((Memref.whole cc0_scoped21 : Memref sig .tc .vmem S2x2x512x256 .f32).slice (Rect.unit (s := S2x2x512x256) (slotOff s) S1x2x512x256.size (pslotOff_inb s)) (fun _ => rfl)).squeeze S2x512x256 squeezes_S1x2x512x256_S2x512x256
/-- Slot `s` of the channel pipeline's result buffer. -/
def os2 (s : Fin 2) : Memref sig .tc .vmem S2x512x1024 .f32 :=
  ((Memref.whole cc0_scoped23 : Memref sig .tc .vmem S2x2x512x1024 .f32).slice (Rect.unit (s := S2x2x512x1024) (slotOff s) S1x2x512x1024.size (slotOff_inb s)) (fun _ => rfl)).squeeze S2x512x1024 squeezes_S1x2x512x1024_S2x512x1024
/-- Slot `s`'s DMA semaphore (`x`, pipeline 1). -/
def xc1 (s : Fin 2) : DmaSems sig S_ := (cc0_scoped11.slice (Rect.unit (s := S2) (semOff s) S1.size (semOff_inb s))).squeeze S_ squeezes_S1_S_
/-- Slot `s`'s DMA semaphore (`y`, pipeline 1). -/
def yc1 (s : Fin 2) : DmaSems sig S_ := (cc0_scoped13.slice (Rect.unit (s := S2) (semOff s) S1.size (semOff_inb s))).squeeze S_ squeezes_S1_S_
/-- Slot `s`'s DMA semaphore (`x`, pipeline 2). -/
def xc2 (s : Fin 2) : DmaSems sig S_ := (cc0_scoped18.slice (Rect.unit (s := S2) (semOff s) S1.size (semOff_inb s))).squeeze S_ squeezes_S1_S_
/-- Slot `s`'s DMA semaphore (`y`, pipeline 2). -/
def yc2 (s : Fin 2) : DmaSems sig S_ := (cc0_scoped20.slice (Rect.unit (s := S2) (semOff s) S1.size (semOff_inb s))).squeeze S_ squeezes_S1_S_
/-- Slot `s`'s DMA semaphore (`p`, pipeline 2). -/
def pc2 (s : Fin 2) : DmaSems sig S_ := (cc0_scoped22.slice (Rect.unit (s := S2) (semOff s) S1.size (semOff_inb s))).squeeze S_ squeezes_S1_S_
/-- Slot `s`'s DMA semaphore (`o`, pipeline 2). -/
def oc2 (s : Fin 2) : DmaSems sig S_ := (cc0_scoped24.slice (Rect.unit (s := S2) (semOff s) S1.size (semOff_inb s))).squeeze S_ squeezes_S1_S_
/-- The DMA semaphore of weight `i`'s slabs. -/
def wc (i : Fin 5) : DmaSems sig S_ := (cc0_scoped1.slice (Rect.unit (s := S5) (cellOff i) S1.size (cellOff_inb i))).squeeze S_ squeezes_S1_S_
/-- Slab `k` of `main_arg4`. -/
def slab8 (k : Fin 16) : Memref sig .tc .hbm S64x1024 .f32 :=
  ((Memref.whole main_arg4 : Memref sig .tc .hbm S1x1024x1024 .f32).slice (Rect.unit (s := S1x1024x1024) (slabOff8 k) S1x64x1024.size (slabOff8_inb k)) (fun _ => rfl)).squeeze S64x1024 squeezes_S1x64x1024_S64x1024
/-- Slab `k` of `main_arg7`. -/
def slab9 (k : Fin 16) : Memref sig .tc .hbm S64x4096 .f32 :=
  ((Memref.whole main_arg7 : Memref sig .tc .hbm S2x1024x4096 .f32).slice (Rect.unit (s := S2x1024x4096) (slabOff9 k) S1x64x4096.size (slabOff9_inb k)) (fun _ => rfl)).squeeze S64x4096 squeezes_S1x64x4096_S64x4096
/-- Slab `k` of `main_arg8`. -/
def slab10 (k : Fin 16) : Memref sig .tc .hbm S256x1024 .f32 :=
  ((Memref.whole main_arg8 : Memref sig .tc .hbm S2x4096x1024 .f32).slice (Rect.unit (s := S2x4096x1024) (slabOff10 k) S1x256x1024.size (slabOff10_inb k)) (fun _ => rfl)).squeeze S256x1024 squeezes_S1x256x1024_S256x1024
/-- Slab `k` of `main_arg11`. -/
def slab11 (k : Fin 16) : Memref sig .tc .hbm S64x1024 .f32 :=
  ((Memref.whole main_arg11 : Memref sig .tc .hbm S2x1024x1024 .f32).slice (Rect.unit (s := S2x1024x1024) (slabOff11 k) S1x64x1024.size (slabOff11_inb k)) (fun _ => rfl)).squeeze S64x1024 squeezes_S1x64x1024_S64x1024
/-- Slab `k` of `main_arg12`. -/
def slab12 (k : Fin 16) : Memref sig .tc .hbm S16x1024 .f32 :=
  ((Memref.whole main_arg12 : Memref sig .tc .hbm S2x256x1024 .f32).slice (Rect.unit (s := S2x256x1024) (slabOff12 k) S1x16x1024.size (slabOff12_inb k)) (fun _ => rfl)).squeeze S16x1024 squeezes_S1x16x1024_S16x1024

instance (s : Fin 2) : ClosedOff (slotOff s) := ⟨slotOff s, rfl⟩
instance (b : Fin 16) : ClosedOff (blkOff b) := ⟨blkOff b, rfl⟩

/-! ## Congruences: equal offsets, equal names -/

theorem xblk_congr {off : Fin 3 → Nat} {b : Fin 16} (e : off = blkOff b) (hh hs) :
    xM.slice (Rect.unit (s := S2x8192x1024) off S2x512x1024.size hh) hs = xblk b := Memref.slice_unit_congr _ e _ _ _ (fun _ => rfl)
theorem yblk_congr {off : Fin 3 → Nat} {b : Fin 16} (e : off = blkOff b) (hh hs) :
    yM.slice (Rect.unit (s := S2x8192x1024) off S2x512x1024.size hh) hs = yblk b := Memref.slice_unit_congr _ e _ _ _ (fun _ => rfl)
theorem oblk_congr {off : Fin 3 → Nat} {b : Fin 16} (e : off = blkOff b) (hh hs) :
    oM.slice (Rect.unit (s := S2x8192x1024) off S2x512x1024.size hh) hs = oblk b := Memref.slice_unit_congr _ e _ _ _ (fun _ => rfl)
theorem pblk_congr {off : Fin 3 → Nat} {b : Fin 16} (e : off = blkOff b) (hh hs) :
    pL.slice (Rect.unit (s := S2x8192x256) off S2x512x256.size hh) hs = pblk b := Memref.slice_unit_congr _ e _ _ _ (fun _ => rfl)
theorem xs1_congr {off : Fin 4 → Nat} {s : Fin 2} (e : off = slotOff s) (hh hs) :
    ((Memref.whole cc0_scoped10 : Memref sig .tc .vmem S2x2x512x1024 .f32).slice (Rect.unit (s := S2x2x512x1024) off S1x2x512x1024.size hh) hs).squeeze S2x512x1024 squeezes_S1x2x512x1024_S2x512x1024 = xs1 s :=
  congrArg (fun M : Memref sig .tc .vmem S1x2x512x1024 .f32 => M.squeeze S2x512x1024 squeezes_S1x2x512x1024_S2x512x1024) (Memref.slice_unit_congr _ e _ _ _ _)
theorem ys1_congr {off : Fin 4 → Nat} {s : Fin 2} (e : off = slotOff s) (hh hs) :
    ((Memref.whole cc0_scoped12 : Memref sig .tc .vmem S2x2x512x1024 .bf16).slice (Rect.unit (s := S2x2x512x1024) off S1x2x512x1024.size hh) hs).squeeze S2x512x1024 squeezes_S1x2x512x1024_S2x512x1024 = ys1 s :=
  congrArg (fun M : Memref sig .tc .vmem S1x2x512x1024 .bf16 => M.squeeze S2x512x1024 squeezes_S1x2x512x1024_S2x512x1024) (Memref.slice_unit_congr _ e _ _ _ _)
theorem xs2_congr {off : Fin 4 → Nat} {s : Fin 2} (e : off = slotOff s) (hh hs) :
    ((Memref.whole cc0_scoped17 : Memref sig .tc .vmem S2x2x512x1024 .f32).slice (Rect.unit (s := S2x2x512x1024) off S1x2x512x1024.size hh) hs).squeeze S2x512x1024 squeezes_S1x2x512x1024_S2x512x1024 = xs2 s :=
  congrArg (fun M : Memref sig .tc .vmem S1x2x512x1024 .f32 => M.squeeze S2x512x1024 squeezes_S1x2x512x1024_S2x512x1024) (Memref.slice_unit_congr _ e _ _ _ _)
theorem ys2_congr {off : Fin 4 → Nat} {s : Fin 2} (e : off = slotOff s) (hh hs) :
    ((Memref.whole cc0_scoped19 : Memref sig .tc .vmem S2x2x512x1024 .bf16).slice (Rect.unit (s := S2x2x512x1024) off S1x2x512x1024.size hh) hs).squeeze S2x512x1024 squeezes_S1x2x512x1024_S2x512x1024 = ys2 s :=
  congrArg (fun M : Memref sig .tc .vmem S1x2x512x1024 .bf16 => M.squeeze S2x512x1024 squeezes_S1x2x512x1024_S2x512x1024) (Memref.slice_unit_congr _ e _ _ _ _)
theorem ps2_congr {off : Fin 4 → Nat} {s : Fin 2} (e : off = slotOff s) (hh hs) :
    ((Memref.whole cc0_scoped21 : Memref sig .tc .vmem S2x2x512x256 .f32).slice (Rect.unit (s := S2x2x512x256) off S1x2x512x256.size hh) hs).squeeze S2x512x256 squeezes_S1x2x512x256_S2x512x256 = ps2 s :=
  congrArg (fun M : Memref sig .tc .vmem S1x2x512x256 .f32 => M.squeeze S2x512x256 squeezes_S1x2x512x256_S2x512x256) (Memref.slice_unit_congr _ e _ _ _ _)
theorem os2_congr {off : Fin 4 → Nat} {s : Fin 2} (e : off = slotOff s) (hh hs) :
    ((Memref.whole cc0_scoped23 : Memref sig .tc .vmem S2x2x512x1024 .f32).slice (Rect.unit (s := S2x2x512x1024) off S1x2x512x1024.size hh) hs).squeeze S2x512x1024 squeezes_S1x2x512x1024_S2x512x1024 = os2 s :=
  congrArg (fun M : Memref sig .tc .vmem S1x2x512x1024 .f32 => M.squeeze S2x512x1024 squeezes_S1x2x512x1024_S2x512x1024) (Memref.slice_unit_congr _ e _ _ _ _)
theorem xc1_congr {off : Fin 1 → Nat} {s : Fin 2} (e : off = semOff s) (hh) :
    (cc0_scoped11.slice (Rect.unit (s := S2) off S1.size hh)).squeeze S_ squeezes_S1_S_ = xc1 s :=
  congrArg (fun A : DmaSems sig S1 => A.squeeze S_ squeezes_S1_S_) (SemArray.slice_unit_congr _ e _ _)
theorem yc1_congr {off : Fin 1 → Nat} {s : Fin 2} (e : off = semOff s) (hh) :
    (cc0_scoped13.slice (Rect.unit (s := S2) off S1.size hh)).squeeze S_ squeezes_S1_S_ = yc1 s :=
  congrArg (fun A : DmaSems sig S1 => A.squeeze S_ squeezes_S1_S_) (SemArray.slice_unit_congr _ e _ _)
theorem xc2_congr {off : Fin 1 → Nat} {s : Fin 2} (e : off = semOff s) (hh) :
    (cc0_scoped18.slice (Rect.unit (s := S2) off S1.size hh)).squeeze S_ squeezes_S1_S_ = xc2 s :=
  congrArg (fun A : DmaSems sig S1 => A.squeeze S_ squeezes_S1_S_) (SemArray.slice_unit_congr _ e _ _)
theorem yc2_congr {off : Fin 1 → Nat} {s : Fin 2} (e : off = semOff s) (hh) :
    (cc0_scoped20.slice (Rect.unit (s := S2) off S1.size hh)).squeeze S_ squeezes_S1_S_ = yc2 s :=
  congrArg (fun A : DmaSems sig S1 => A.squeeze S_ squeezes_S1_S_) (SemArray.slice_unit_congr _ e _ _)
theorem pc2_congr {off : Fin 1 → Nat} {s : Fin 2} (e : off = semOff s) (hh) :
    (cc0_scoped22.slice (Rect.unit (s := S2) off S1.size hh)).squeeze S_ squeezes_S1_S_ = pc2 s :=
  congrArg (fun A : DmaSems sig S1 => A.squeeze S_ squeezes_S1_S_) (SemArray.slice_unit_congr _ e _ _)
theorem oc2_congr {off : Fin 1 → Nat} {s : Fin 2} (e : off = semOff s) (hh) :
    (cc0_scoped24.slice (Rect.unit (s := S2) off S1.size hh)).squeeze S_ squeezes_S1_S_ = oc2 s :=
  congrArg (fun A : DmaSems sig S1 => A.squeeze S_ squeezes_S1_S_) (SemArray.slice_unit_congr _ e _ _)
theorem wc_congr {off : Fin 1 → Nat} {s : Fin 5} (e : off = cellOff s) (hh) :
    (cc0_scoped1.slice (Rect.unit (s := S5) off S1.size hh)).squeeze S_ squeezes_S1_S_ = wc s :=
  congrArg (fun A : DmaSems sig S1 => A.squeeze S_ squeezes_S1_S_) (SemArray.slice_unit_congr _ e _ _)
theorem slab8_congr {off : Fin 3 → Nat} {k : Fin 16} (e : off = slabOff8 k) (hh hs) :
    ((Memref.whole main_arg4 : Memref sig .tc .hbm S1x1024x1024 .f32).slice (Rect.unit (s := S1x1024x1024) off S1x64x1024.size hh) hs).squeeze S64x1024 squeezes_S1x64x1024_S64x1024 = slab8 k :=
  congrArg (fun M : Memref sig .tc .hbm S1x64x1024 .f32 => M.squeeze S64x1024 squeezes_S1x64x1024_S64x1024) (Memref.slice_unit_congr _ e _ _ _ _)
theorem slab9_congr {off : Fin 3 → Nat} {k : Fin 16} (e : off = slabOff9 k) (hh hs) :
    ((Memref.whole main_arg7 : Memref sig .tc .hbm S2x1024x4096 .f32).slice (Rect.unit (s := S2x1024x4096) off S1x64x4096.size hh) hs).squeeze S64x4096 squeezes_S1x64x4096_S64x4096 = slab9 k :=
  congrArg (fun M : Memref sig .tc .hbm S1x64x4096 .f32 => M.squeeze S64x4096 squeezes_S1x64x4096_S64x4096) (Memref.slice_unit_congr _ e _ _ _ _)
theorem slab10_congr {off : Fin 3 → Nat} {k : Fin 16} (e : off = slabOff10 k) (hh hs) :
    ((Memref.whole main_arg8 : Memref sig .tc .hbm S2x4096x1024 .f32).slice (Rect.unit (s := S2x4096x1024) off S1x256x1024.size hh) hs).squeeze S256x1024 squeezes_S1x256x1024_S256x1024 = slab10 k :=
  congrArg (fun M : Memref sig .tc .hbm S1x256x1024 .f32 => M.squeeze S256x1024 squeezes_S1x256x1024_S256x1024) (Memref.slice_unit_congr _ e _ _ _ _)
theorem slab11_congr {off : Fin 3 → Nat} {k : Fin 16} (e : off = slabOff11 k) (hh hs) :
    ((Memref.whole main_arg11 : Memref sig .tc .hbm S2x1024x1024 .f32).slice (Rect.unit (s := S2x1024x1024) off S1x64x1024.size hh) hs).squeeze S64x1024 squeezes_S1x64x1024_S64x1024 = slab11 k :=
  congrArg (fun M : Memref sig .tc .hbm S1x64x1024 .f32 => M.squeeze S64x1024 squeezes_S1x64x1024_S64x1024) (Memref.slice_unit_congr _ e _ _ _ _)
theorem slab12_congr {off : Fin 3 → Nat} {k : Fin 16} (e : off = slabOff12 k) (hh hs) :
    ((Memref.whole main_arg12 : Memref sig .tc .hbm S2x256x1024 .f32).slice (Rect.unit (s := S2x256x1024) off S1x16x1024.size hh) hs).squeeze S16x1024 squeezes_S1x16x1024_S16x1024 = slab12 k :=
  congrArg (fun M : Memref sig .tc .hbm S1x16x1024 .f32 => M.squeeze S16x1024 squeezes_S1x16x1024_S16x1024) (Memref.slice_unit_congr _ e _ _ _ _)

theorem trips1 : k0_t1_loop.trips = 16 := by decide +kernel
theorem trips2 : k0_t2_loop.trips = 16 := by decide +kernel

/-! ## The mixer pipeline -/

theorem off3_eq : ∀ t : Fin k0_t1_loop.trips, k0_off3 (wF t.val) = semOff (Ring.sl 2 (t.val + 1)) := by decide +kernel
@[sl_canon] theorem canon3_xc1 (t : Fin k0_t1_loop.trips) (hh) :
    (cc0_scoped11.slice (Rect.unit (s := S2) (k0_off3 (wF t.val)) S1.size hh)).squeeze S_ squeezes_S1_S_ = xc1 (Ring.sl 2 (t.val + 1)) := xc1_congr (off3_eq t ) _
theorem off4_eq : ∀ t : Fin k0_t1_loop.trips, k0_off4 (wF t.val) = slotOff (Ring.sl 2 (t.val + 1)) := by decide +kernel
@[sl_canon] theorem canon4_xs1 (t : Fin k0_t1_loop.trips) (hh hs) :
    ((Memref.whole cc0_scoped10 : Memref sig .tc .vmem S2x2x512x1024 .f32).slice (Rect.unit (s := S2x2x512x1024) (k0_off4 (wF t.val)) S1x2x512x1024.size hh) hs).squeeze S2x512x1024 squeezes_S1x2x512x1024_S2x512x1024 = xs1 (Ring.sl 2 (t.val + 1)) := xs1_congr (off4_eq t ) _ _
theorem off5_eq : ∀ t : Fin k0_t1_loop.trips, k0_off5 (wI t.val) = blkOff (Ring.bk 16 (t.val + 1)) := by decide +kernel
@[sl_canon] theorem canon5_xblk (t : Fin k0_t1_loop.trips) (hh hs) :
    xM.slice (Rect.unit (s := S2x8192x1024) (k0_off5 (wI t.val)) S2x512x1024.size hh) hs = xblk (Ring.bk 16 (t.val + 1)) := xblk_congr (off5_eq t ) _ _
theorem off6_eq : ∀ t : Fin k0_t1_loop.trips, k0_off6 (wN t.val) = semOff (Ring.sl 2 (t.val)) := by decide +kernel
@[sl_canon] theorem canon6_xc1 (t : Fin k0_t1_loop.trips) (hh) :
    (cc0_scoped11.slice (Rect.unit (s := S2) (k0_off6 (wN t.val)) S1.size hh)).squeeze S_ squeezes_S1_S_ = xc1 (Ring.sl 2 (t.val)) := xc1_congr (off6_eq t ) _
theorem off7_eq : ∀ t : Fin k0_t1_loop.trips, k0_off7 (wN t.val) = slotOff (Ring.sl 2 (t.val)) := by decide +kernel
@[sl_canon] theorem canon7_xs1 (t : Fin k0_t1_loop.trips) (hh hs) :
    ((Memref.whole cc0_scoped10 : Memref sig .tc .vmem S2x2x512x1024 .f32).slice (Rect.unit (s := S2x2x512x1024) (k0_off7 (wN t.val)) S1x2x512x1024.size hh) hs).squeeze S2x512x1024 squeezes_S1x2x512x1024_S2x512x1024 = xs1 (Ring.sl 2 (t.val)) := xs1_congr (off7_eq t ) _ _
theorem off8_eq : ∀ t : Fin k0_t1_loop.trips, k0_off8 (wI t.val) = blkOff (Ring.bk 16 (t.val)) := by decide +kernel
@[sl_canon] theorem canon8_xblk (t : Fin k0_t1_loop.trips) (hh hs) :
    xM.slice (Rect.unit (s := S2x8192x1024) (k0_off8 (wI t.val)) S2x512x1024.size hh) hs = xblk (Ring.bk 16 (t.val)) := xblk_congr (off8_eq t ) _ _
theorem off9_eq : ∀ t : Fin k0_t1_loop.trips, k0_off9 (wN t.val) = slabOff8 (Ring.bk 16 (t.val)) := by decide +kernel
@[sl_canon] theorem canon9_slab8 (t : Fin k0_t1_loop.trips) (hh hs) :
    ((Memref.whole main_arg4 : Memref sig .tc .hbm S1x1024x1024 .f32).slice (Rect.unit (s := S1x1024x1024) (k0_off9 (wN t.val)) S1x64x1024.size hh) hs).squeeze S64x1024 squeezes_S1x64x1024_S64x1024 = slab8 (Ring.bk 16 (t.val)) := slab8_congr (off9_eq t ) _ _
theorem off20_eq : ∀ t : Fin k0_t1_loop.trips, k0_off20 (wN t.val) = slabOff8 (Ring.bk 16 (t.val)) := by decide +kernel
@[sl_canon] theorem canon20_slab8 (t : Fin k0_t1_loop.trips) (hh hs) :
    ((Memref.whole main_arg4 : Memref sig .tc .hbm S1x1024x1024 .f32).slice (Rect.unit (s := S1x1024x1024) (k0_off20 (wN t.val)) S1x64x1024.size hh) hs).squeeze S64x1024 squeezes_S1x64x1024_S64x1024 = slab8 (Ring.bk 16 (t.val)) := slab8_congr (off20_eq t ) _ _
theorem off10_eq : ∀ t : Fin k0_t1_loop.trips, k0_off10 (wN t.val) = slabOff9 (Ring.bk 16 (t.val)) := by decide +kernel
@[sl_canon] theorem canon10_slab9 (t : Fin k0_t1_loop.trips) (hh hs) :
    ((Memref.whole main_arg7 : Memref sig .tc .hbm S2x1024x4096 .f32).slice (Rect.unit (s := S2x1024x4096) (k0_off10 (wN t.val)) S1x64x4096.size hh) hs).squeeze S64x4096 squeezes_S1x64x4096_S64x4096 = slab9 (Ring.bk 16 (t.val)) := slab9_congr (off10_eq t ) _ _
theorem off22_eq : ∀ t : Fin k0_t1_loop.trips, k0_off22 (wN t.val) = slabOff9 (Ring.bk 16 (t.val)) := by decide +kernel
@[sl_canon] theorem canon22_slab9 (t : Fin k0_t1_loop.trips) (hh hs) :
    ((Memref.whole main_arg7 : Memref sig .tc .hbm S2x1024x4096 .f32).slice (Rect.unit (s := S2x1024x4096) (k0_off22 (wN t.val)) S1x64x4096.size hh) hs).squeeze S64x4096 squeezes_S1x64x4096_S64x4096 = slab9 (Ring.bk 16 (t.val)) := slab9_congr (off22_eq t ) _ _
theorem off11_eq : ∀ t : Fin k0_t1_loop.trips, k0_off11 (wN t.val) = slabOff10 (Ring.bk 16 (t.val)) := by decide +kernel
@[sl_canon] theorem canon11_slab10 (t : Fin k0_t1_loop.trips) (hh hs) :
    ((Memref.whole main_arg8 : Memref sig .tc .hbm S2x4096x1024 .f32).slice (Rect.unit (s := S2x4096x1024) (k0_off11 (wN t.val)) S1x256x1024.size hh) hs).squeeze S256x1024 squeezes_S1x256x1024_S256x1024 = slab10 (Ring.bk 16 (t.val)) := slab10_congr (off11_eq t ) _ _
theorem off24_eq : ∀ t : Fin k0_t1_loop.trips, k0_off24 (wN t.val) = slabOff10 (Ring.bk 16 (t.val)) := by decide +kernel
@[sl_canon] theorem canon24_slab10 (t : Fin k0_t1_loop.trips) (hh hs) :
    ((Memref.whole main_arg8 : Memref sig .tc .hbm S2x4096x1024 .f32).slice (Rect.unit (s := S2x4096x1024) (k0_off24 (wN t.val)) S1x256x1024.size hh) hs).squeeze S256x1024 squeezes_S1x256x1024_S256x1024 = slab10 (Ring.bk 16 (t.val)) := slab10_congr (off24_eq t ) _ _
theorem off12_eq : ∀ t : Fin k0_t1_loop.trips, k0_off12 (wN t.val) = slabOff11 (Ring.bk 16 (t.val)) := by decide +kernel
@[sl_canon] theorem canon12_slab11 (t : Fin k0_t1_loop.trips) (hh hs) :
    ((Memref.whole main_arg11 : Memref sig .tc .hbm S2x1024x1024 .f32).slice (Rect.unit (s := S2x1024x1024) (k0_off12 (wN t.val)) S1x64x1024.size hh) hs).squeeze S64x1024 squeezes_S1x64x1024_S64x1024 = slab11 (Ring.bk 16 (t.val)) := slab11_congr (off12_eq t ) _ _
theorem off26_eq : ∀ t : Fin k0_t1_loop.trips, k0_off26 (wN t.val) = slabOff11 (Ring.bk 16 (t.val)) := by decide +kernel
@[sl_canon] theorem canon26_slab11 (t : Fin k0_t1_loop.trips) (hh hs) :
    ((Memref.whole main_arg11 : Memref sig .tc .hbm S2x1024x1024 .f32).slice (Rect.unit (s := S2x1024x1024) (k0_off26 (wN t.val)) S1x64x1024.size hh) hs).squeeze S64x1024 squeezes_S1x64x1024_S64x1024 = slab11 (Ring.bk 16 (t.val)) := slab11_congr (off26_eq t ) _ _
theorem off13_eq : ∀ t : Fin k0_t1_loop.trips, k0_off13 (wN t.val) = slabOff12 (Ring.bk 16 (t.val)) := by decide +kernel
@[sl_canon] theorem canon13_slab12 (t : Fin k0_t1_loop.trips) (hh hs) :
    ((Memref.whole main_arg12 : Memref sig .tc .hbm S2x256x1024 .f32).slice (Rect.unit (s := S2x256x1024) (k0_off13 (wN t.val)) S1x16x1024.size hh) hs).squeeze S16x1024 squeezes_S1x16x1024_S16x1024 = slab12 (Ring.bk 16 (t.val)) := slab12_congr (off13_eq t ) _ _
theorem off27_eq : ∀ t : Fin k0_t1_loop.trips, k0_off27 (wN t.val) = slabOff12 (Ring.bk 16 (t.val)) := by decide +kernel
@[sl_canon] theorem canon27_slab12 (t : Fin k0_t1_loop.trips) (hh hs) :
    ((Memref.whole main_arg12 : Memref sig .tc .hbm S2x256x1024 .f32).slice (Rect.unit (s := S2x256x1024) (k0_off27 (wN t.val)) S1x16x1024.size hh) hs).squeeze S16x1024 squeezes_S1x16x1024_S16x1024 = slab12 (Ring.bk 16 (t.val)) := slab12_congr (off27_eq t ) _ _
theorem off14_eq : ∀ t : Fin k0_t1_loop.trips, k0_off14 (wN t.val) = slotOff (Ring.sl 2 (t.val)) := by decide +kernel
@[sl_canon] theorem canon14_xs1 (t : Fin k0_t1_loop.trips) (hh hs) :
    ((Memref.whole cc0_scoped10 : Memref sig .tc .vmem S2x2x512x1024 .f32).slice (Rect.unit (s := S2x2x512x1024) (k0_off14 (wN t.val)) S1x2x512x1024.size hh) hs).squeeze S2x512x1024 squeezes_S1x2x512x1024_S2x512x1024 = xs1 (Ring.sl 2 (t.val)) := xs1_congr (off14_eq t ) _ _
theorem off15_eq : ∀ t : Fin k0_t1_loop.trips, k0_off15 (wN t.val) = slotOff (Ring.sl 2 (t.val)) := by decide +kernel
@[sl_canon] theorem canon15_ys1 (t : Fin k0_t1_loop.trips) (hh hs) :
    ((Memref.whole cc0_scoped12 : Memref sig .tc .vmem S2x2x512x1024 .bf16).slice (Rect.unit (s := S2x2x512x1024) (k0_off15 (wN t.val)) S1x2x512x1024.size hh) hs).squeeze S2x512x1024 squeezes_S1x2x512x1024_S2x512x1024 = ys1 (Ring.sl 2 (t.val)) := ys1_congr (off15_eq t ) _ _
theorem off16_eq : ∀ t : Fin k0_t1_loop.trips, k0_off16 (wN t.val) = ![(Ring.sl 2 t.val).val, 0, 0, 0] := by decide +kernel
instance (t : Fin k0_t1_loop.trips) : ClosedOff (k0_off16 (wN t.val)) := ⟨![(Ring.sl 2 t.val).val, 0, 0, 0], off16_eq t⟩
theorem off17_eq : ∀ t : Fin k0_t1_loop.trips, k0_off17 (wN t.val) = ![(Ring.sl 2 t.val).val, 0, 256, 0] := by decide +kernel
instance (t : Fin k0_t1_loop.trips) : ClosedOff (k0_off17 (wN t.val)) := ⟨![(Ring.sl 2 t.val).val, 0, 256, 0], off17_eq t⟩
theorem off18_eq : ∀ t : Fin k0_t1_loop.trips, k0_off18 (wN t.val) = ![(Ring.sl 2 t.val).val, 1, 0, 0] := by decide +kernel
instance (t : Fin k0_t1_loop.trips) : ClosedOff (k0_off18 (wN t.val)) := ⟨![(Ring.sl 2 t.val).val, 1, 0, 0], off18_eq t⟩
theorem off19_eq : ∀ t : Fin k0_t1_loop.trips, k0_off19 (wN t.val) = ![(Ring.sl 2 t.val).val, 1, 256, 0] := by decide +kernel
instance (t : Fin k0_t1_loop.trips) : ClosedOff (k0_off19 (wN t.val)) := ⟨![(Ring.sl 2 t.val).val, 1, 256, 0], off19_eq t⟩
theorem off21_eq : ∀ t : Fin k0_t1_loop.trips, k0_off21 (wN t.val) = rowOff 64 (Ring.bk 16 t.val) := by decide +kernel
instance (t : Fin k0_t1_loop.trips) : ClosedOff (k0_off21 (wN t.val)) := ⟨rowOff 64 (Ring.bk 16 t.val), off21_eq t⟩
theorem off23_eq : ∀ t : Fin k0_t1_loop.trips, k0_off23 (wN t.val) = rowOff 64 (Ring.bk 16 t.val) := by decide +kernel
instance (t : Fin k0_t1_loop.trips) : ClosedOff (k0_off23 (wN t.val)) := ⟨rowOff 64 (Ring.bk 16 t.val), off23_eq t⟩
theorem off25_eq : ∀ t : Fin k0_t1_loop.trips, k0_off25 (wN t.val) = rowOff 256 (Ring.bk 16 t.val) := by decide +kernel
instance (t : Fin k0_t1_loop.trips) : ClosedOff (k0_off25 (wN t.val)) := ⟨rowOff 256 (Ring.bk 16 t.val), off25_eq t⟩
theorem off28_eq : ∀ t : Fin k0_t1_loop.trips, k0_off28 (wN t.val) = rowOff 16 (Ring.bk 16 t.val) := by decide +kernel
instance (t : Fin k0_t1_loop.trips) : ClosedOff (k0_off28 (wN t.val)) := ⟨rowOff 16 (Ring.bk 16 t.val), off28_eq t⟩
theorem off29_eq : ∀ t : Fin k0_t1_loop.trips, k0_off29 (wN t.val) = semOff (Ring.sl 2 (t.val)) := by decide +kernel
@[sl_canon] theorem canon29_yc1 (t : Fin k0_t1_loop.trips) (hh) :
    (cc0_scoped13.slice (Rect.unit (s := S2) (k0_off29 (wN t.val)) S1.size hh)).squeeze S_ squeezes_S1_S_ = yc1 (Ring.sl 2 (t.val)) := yc1_congr (off29_eq t ) _
theorem off30_eq : ∀ t : Fin k0_t1_loop.trips, k0_off30 (wI t.val) = blkOff (Ring.bk 16 (t.val)) := by decide +kernel
@[sl_canon] theorem canon30_yblk (t : Fin k0_t1_loop.trips) (hh hs) :
    yM.slice (Rect.unit (s := S2x8192x1024) (k0_off30 (wI t.val)) S2x512x1024.size hh) hs = yblk (Ring.bk 16 (t.val)) := yblk_congr (off30_eq t ) _ _
theorem off31_eq : ∀ t : Fin k0_t1_loop.trips, k0_off31 (wN t.val) = slotOff (Ring.sl 2 (t.val)) := by decide +kernel
@[sl_canon] theorem canon31_ys1 (t : Fin k0_t1_loop.trips) (hh hs) :
    ((Memref.whole cc0_scoped12 : Memref sig .tc .vmem S2x2x512x1024 .bf16).slice (Rect.unit (s := S2x2x512x1024) (k0_off31 (wN t.val)) S1x2x512x1024.size hh) hs).squeeze S2x512x1024 squeezes_S1x2x512x1024_S2x512x1024 = ys1 (Ring.sl 2 (t.val)) := ys1_congr (off31_eq t ) _ _
theorem off32_eq : ∀ t : Fin k0_t1_loop.trips, k0_off32 (wP t.val) = semOff (Ring.sl 2 (t.val - 1)) := by decide +kernel
@[sl_canon] theorem canon32_yc1 (t : Fin k0_t1_loop.trips) (hh) :
    (cc0_scoped13.slice (Rect.unit (s := S2) (k0_off32 (wP t.val)) S1.size hh)).squeeze S_ squeezes_S1_S_ = yc1 (Ring.sl 2 (t.val - 1)) := yc1_congr (off32_eq t ) _
theorem off33_eq : ∀ t : Fin k0_t1_loop.trips, 1 ≤ t.val → k0_off33 (wI t.val) = blkOff (Ring.bk 16 (t.val - 1)) := by decide +kernel
@[sl_canon] theorem canon33_yblk (t : Fin k0_t1_loop.trips) (h : 1 ≤ t.val) (hh hs) :
    yM.slice (Rect.unit (s := S2x8192x1024) (k0_off33 (wI t.val)) S2x512x1024.size hh) hs = yblk (Ring.bk 16 (t.val - 1)) := yblk_congr (off33_eq t h) _ _
theorem off34_eq : ∀ t : Fin k0_t1_loop.trips, k0_off34 (wP t.val) = slotOff (Ring.sl 2 (t.val - 1)) := by decide +kernel
@[sl_canon] theorem canon34_ys1 (t : Fin k0_t1_loop.trips) (hh hs) :
    ((Memref.whole cc0_scoped12 : Memref sig .tc .vmem S2x2x512x1024 .bf16).slice (Rect.unit (s := S2x2x512x1024) (k0_off34 (wP t.val)) S1x2x512x1024.size hh) hs).squeeze S2x512x1024 squeezes_S1x2x512x1024_S2x512x1024 = ys1 (Ring.sl 2 (t.val - 1)) := ys1_congr (off34_eq t ) _ _
theorem off1_eq : k0_off1  = semOff (Ring.sl 2 0) := by decide +kernel
@[sl_canon] theorem canon1_xc1 (hh) :
    (cc0_scoped11.slice (Rect.unit (s := S2) (k0_off1 ) S1.size hh)).squeeze S_ squeezes_S1_S_ = xc1 (Ring.sl 2 0) := xc1_congr (off1_eq ) _
theorem off2_eq : k0_off2  = slotOff (Ring.sl 2 0) := by decide +kernel
@[sl_canon] theorem canon2_xs1 (hh hs) :
    ((Memref.whole cc0_scoped10 : Memref sig .tc .vmem S2x2x512x1024 .f32).slice (Rect.unit (s := S2x2x512x1024) (k0_off2 ) S1x2x512x1024.size hh) hs).squeeze S2x512x1024 squeezes_S1x2x512x1024_S2x512x1024 = xs1 (Ring.sl 2 0) := xs1_congr (off2_eq ) _ _
theorem off35_eq : k0_off35 (wP 16) = semOff (Ring.sl 2 15) := by decide +kernel
@[sl_canon] theorem canon35_yc1 (hh) :
    (cc0_scoped13.slice (Rect.unit (s := S2) (k0_off35 (wP 16)) S1.size hh)).squeeze S_ squeezes_S1_S_ = yc1 (Ring.sl 2 15) := yc1_congr (off35_eq ) _
theorem off36_eq : k0_off36 (wI 16) = blkOff (Ring.bk 16 15) := by decide +kernel
@[sl_canon] theorem canon36_yblk (hh hs) :
    yM.slice (Rect.unit (s := S2x8192x1024) (k0_off36 (wI 16)) S2x512x1024.size hh) hs = yblk (Ring.bk 16 15) := yblk_congr (off36_eq ) _ _
theorem off37_eq : k0_off37 (wP 16) = slotOff (Ring.sl 2 15) := by decide +kernel
@[sl_canon] theorem canon37_ys1 (hh hs) :
    ((Memref.whole cc0_scoped12 : Memref sig .tc .vmem S2x2x512x1024 .bf16).slice (Rect.unit (s := S2x2x512x1024) (k0_off37 (wP 16)) S1x2x512x1024.size hh) hs).squeeze S2x512x1024 squeezes_S1x2x512x1024_S2x512x1024 = ys1 (Ring.sl 2 15) := ys1_congr (off37_eq ) _ _
@[sl_canon] theorem canonL_xblk (hh hs) : xM.slice (Rect.unit (s := S2x8192x1024) ![0, 0, 0] S2x512x1024.size hh) hs = xblk (Ring.bk 16 0) := xblk_congr (by decide +kernel) _ _
@[sl_canon] theorem canonL_yblk (hh hs) : yM.slice (Rect.unit (s := S2x8192x1024) ![0, 0, 0] S2x512x1024.size hh) hs = yblk (Ring.bk 16 0) := yblk_congr (by decide +kernel) _ _
@[sl_canon] theorem canonL_pblk (hh hs) : pL.slice (Rect.unit (s := S2x8192x256) ![0, 0, 0] S2x512x256.size hh) hs = pblk (Ring.bk 16 0) := pblk_congr (by decide +kernel) _ _
@[sl_canon] theorem canonL_wc0 (hh) : (cc0_scoped1.slice (Rect.unit (s := S5) ![0] S1.size hh)).squeeze S_ squeezes_S1_S_ = wc 0 := wc_congr (by decide +kernel) _
@[sl_canon] theorem canonL_wc1 (hh) : (cc0_scoped1.slice (Rect.unit (s := S5) ![1] S1.size hh)).squeeze S_ squeezes_S1_S_ = wc 1 := wc_congr (by decide +kernel) _
@[sl_canon] theorem canonL_wc2 (hh) : (cc0_scoped1.slice (Rect.unit (s := S5) ![2] S1.size hh)).squeeze S_ squeezes_S1_S_ = wc 2 := wc_congr (by decide +kernel) _
@[sl_canon] theorem canonL_wc3 (hh) : (cc0_scoped1.slice (Rect.unit (s := S5) ![3] S1.size hh)).squeeze S_ squeezes_S1_S_ = wc 3 := wc_congr (by decide +kernel) _
@[sl_canon] theorem canonL_wc4 (hh) : (cc0_scoped1.slice (Rect.unit (s := S5) ![4] S1.size hh)).squeeze S_ squeezes_S1_S_ = wc 4 := wc_congr (by decide +kernel) _

/-- The side conditions the body assumes of its words hold at every trip's. -/
theorem chk1 : ∀ t : Fin k0_t1_loop.trips, k0_chk1 t (wF t.val) (wN t.val) (wN t.val) (wP t.val) (wI t.val) := by decide +kernel
theorem chk2 : ∀ t : Fin k0_t1_loop.trips, k0_chk2 (wN t.val) := by decide +kernel
theorem chk3 : ∀ t : Fin k0_t1_loop.trips, k0_chk3 (wN t.val) := by decide +kernel
theorem chk4 : ∀ t : Fin k0_t1_loop.trips, k0_chk4 (wN t.val) := by decide +kernel
theorem chk5 : k0_chk5 (wP 16) := by decide +kernel
theorem chk6 : k0_chk6 (wI 16) := by decide +kernel
/-- The fetch of the next block happens at every trip but the last; -/
theorem cond1_pos : ∀ t : Fin k0_t1_loop.trips, t.val + 1 < 16 → k0_cond1 t (wI t.val) = 1#1 := by decide +kernel
theorem cond1_neg : ∀ t : Fin k0_t1_loop.trips, ¬ t.val + 1 < 16 → ¬ k0_cond1 t (wI t.val) = 1#1 := by decide +kernel
/-- each trip waits for its own block and sends its own rows out; -/
theorem cond2_pos : ∀ t : Fin k0_t1_loop.trips, k0_cond2 t (wI t.val) = 1#1 := by decide +kernel
theorem cond7_pos : ∀ t : Fin k0_t1_loop.trips, k0_cond7 t (wI t.val) = 1#1 := by decide +kernel
/-- every trip but the first waits for the previous trip's rows. -/
theorem cond9_pos : ∀ t : Fin k0_t1_loop.trips, 1 ≤ t.val → k0_cond9 t (wI t.val) = 1#1 := by decide +kernel
theorem cond9_neg : ∀ t : Fin k0_t1_loop.trips, ¬ 1 ≤ t.val → ¬ k0_cond9 t (wI t.val) = 1#1 := by decide +kernel

/-! ## The channel pipeline -/

theorem off38_eq : k0_off38  = semOff (Ring.sl 2 0) := by decide +kernel
@[sl_canon] theorem canon38_xc2 (hh) :
    (cc0_scoped18.slice (Rect.unit (s := S2) (k0_off38 ) S1.size hh)).squeeze S_ squeezes_S1_S_ = xc2 (Ring.sl 2 0) := xc2_congr (off38_eq ) _
@[sl_canon] theorem canon38_yc2 (hh) :
    (cc0_scoped20.slice (Rect.unit (s := S2) (k0_off38 ) S1.size hh)).squeeze S_ squeezes_S1_S_ = yc2 (Ring.sl 2 0) := yc2_congr (off38_eq ) _
@[sl_canon] theorem canon38_pc2 (hh) :
    (cc0_scoped22.slice (Rect.unit (s := S2) (k0_off38 ) S1.size hh)).squeeze S_ squeezes_S1_S_ = pc2 (Ring.sl 2 0) := pc2_congr (off38_eq ) _
theorem off39_eq : k0_off39  = slotOff (Ring.sl 2 0) := by decide +kernel
@[sl_canon] theorem canon39_xs2 (hh hs) :
    ((Memref.whole cc0_scoped17 : Memref sig .tc .vmem S2x2x512x1024 .f32).slice (Rect.unit (s := S2x2x512x1024) (k0_off39 ) S1x2x512x1024.size hh) hs).squeeze S2x512x1024 squeezes_S1x2x512x1024_S2x512x1024 = xs2 (Ring.sl 2 0) := xs2_congr (off39_eq ) _ _
@[sl_canon] theorem canon39_ys2 (hh hs) :
    ((Memref.whole cc0_scoped19 : Memref sig .tc .vmem S2x2x512x1024 .bf16).slice (Rect.unit (s := S2x2x512x1024) (k0_off39 ) S1x2x512x1024.size hh) hs).squeeze S2x512x1024 squeezes_S1x2x512x1024_S2x512x1024 = ys2 (Ring.sl 2 0) := ys2_congr (off39_eq ) _ _
theorem off40_eq : k0_off40  = slotOff (Ring.sl 2 0) := by decide +kernel
@[sl_canon] theorem canon40_ps2 (hh hs) :
    ((Memref.whole cc0_scoped21 : Memref sig .tc .vmem S2x2x512x256 .f32).slice (Rect.unit (s := S2x2x512x256) (k0_off40 ) S1x2x512x256.size hh) hs).squeeze S2x512x256 squeezes_S1x2x512x256_S2x512x256 = ps2 (Ring.sl 2 0) := ps2_congr (off40_eq ) _ _
theorem off41_eq : ∀ t : Fin k0_t2_loop.trips, k0_off41 (wF t.val) = semOff (Ring.sl 2 (t.val + 1)) := by decide +kernel
@[sl_canon] theorem canon41_xc2 (t : Fin k0_t2_loop.trips) (hh) :
    (cc0_scoped18.slice (Rect.unit (s := S2) (k0_off41 (wF t.val)) S1.size hh)).squeeze S_ squeezes_S1_S_ = xc2 (Ring.sl 2 (t.val + 1)) := xc2_congr (off41_eq t ) _
theorem off42_eq : ∀ t : Fin k0_t2_loop.trips, k0_off42 (wF t.val) = slotOff (Ring.sl 2 (t.val + 1)) := by decide +kernel
@[sl_canon] theorem canon42_xs2 (t : Fin k0_t2_loop.trips) (hh hs) :
    ((Memref.whole cc0_scoped17 : Memref sig .tc .vmem S2x2x512x1024 .f32).slice (Rect.unit (s := S2x2x512x1024) (k0_off42 (wF t.val)) S1x2x512x1024.size hh) hs).squeeze S2x512x1024 squeezes_S1x2x512x1024_S2x512x1024 = xs2 (Ring.sl 2 (t.val + 1)) := xs2_congr (off42_eq t ) _ _
theorem off43_eq : ∀ t : Fin k0_t2_loop.trips, k0_off43 (wI t.val) = blkOff (Ring.bk 16 (t.val + 1)) := by decide +kernel
@[sl_canon] theorem canon43_xblk (t : Fin k0_t2_loop.trips) (hh hs) :
    xM.slice (Rect.unit (s := S2x8192x1024) (k0_off43 (wI t.val)) S2x512x1024.size hh) hs = xblk (Ring.bk 16 (t.val + 1)) := xblk_congr (off43_eq t ) _ _
theorem off50_eq : ∀ t : Fin k0_t2_loop.trips, k0_off50 (wN t.val) = semOff (Ring.sl 2 (t.val)) := by decide +kernel
@[sl_canon] theorem canon50_xc2 (t : Fin k0_t2_loop.trips) (hh) :
    (cc0_scoped18.slice (Rect.unit (s := S2) (k0_off50 (wN t.val)) S1.size hh)).squeeze S_ squeezes_S1_S_ = xc2 (Ring.sl 2 (t.val)) := xc2_congr (off50_eq t ) _
theorem off51_eq : ∀ t : Fin k0_t2_loop.trips, k0_off51 (wN t.val) = slotOff (Ring.sl 2 (t.val)) := by decide +kernel
@[sl_canon] theorem canon51_xs2 (t : Fin k0_t2_loop.trips) (hh hs) :
    ((Memref.whole cc0_scoped17 : Memref sig .tc .vmem S2x2x512x1024 .f32).slice (Rect.unit (s := S2x2x512x1024) (k0_off51 (wN t.val)) S1x2x512x1024.size hh) hs).squeeze S2x512x1024 squeezes_S1x2x512x1024_S2x512x1024 = xs2 (Ring.sl 2 (t.val)) := xs2_congr (off51_eq t ) _ _
theorem off52_eq : ∀ t : Fin k0_t2_loop.trips, k0_off52 (wI t.val) = blkOff (Ring.bk 16 (t.val)) := by decide +kernel
@[sl_canon] theorem canon52_xblk (t : Fin k0_t2_loop.trips) (hh hs) :
    xM.slice (Rect.unit (s := S2x8192x1024) (k0_off52 (wI t.val)) S2x512x1024.size hh) hs = xblk (Ring.bk 16 (t.val)) := xblk_congr (off52_eq t ) _ _
theorem off44_eq : ∀ t : Fin k0_t2_loop.trips, k0_off44 (wF t.val) = semOff (Ring.sl 2 (t.val + 1)) := by decide +kernel
@[sl_canon] theorem canon44_yc2 (t : Fin k0_t2_loop.trips) (hh) :
    (cc0_scoped20.slice (Rect.unit (s := S2) (k0_off44 (wF t.val)) S1.size hh)).squeeze S_ squeezes_S1_S_ = yc2 (Ring.sl 2 (t.val + 1)) := yc2_congr (off44_eq t ) _
theorem off45_eq : ∀ t : Fin k0_t2_loop.trips, k0_off45 (wF t.val) = slotOff (Ring.sl 2 (t.val + 1)) := by decide +kernel
@[sl_canon] theorem canon45_ys2 (t : Fin k0_t2_loop.trips) (hh hs) :
    ((Memref.whole cc0_scoped19 : Memref sig .tc .vmem S2x2x512x1024 .bf16).slice (Rect.unit (s := S2x2x512x1024) (k0_off45 (wF t.val)) S1x2x512x1024.size hh) hs).squeeze S2x512x1024 squeezes_S1x2x512x1024_S2x512x1024 = ys2 (Ring.sl 2 (t.val + 1)) := ys2_congr (off45_eq t ) _ _
theorem off46_eq : ∀ t : Fin k0_t2_loop.trips, k0_off46 (wI t.val) = blkOff (Ring.bk 16 (t.val + 1)) := by decide +kernel
@[sl_canon] theorem canon46_yblk (t : Fin k0_t2_loop.trips) (hh hs) :
    yM.slice (Rect.unit (s := S2x8192x1024) (k0_off46 (wI t.val)) S2x512x1024.size hh) hs = yblk (Ring.bk 16 (t.val + 1)) := yblk_congr (off46_eq t ) _ _
theorem off53_eq : ∀ t : Fin k0_t2_loop.trips, k0_off53 (wN t.val) = semOff (Ring.sl 2 (t.val)) := by decide +kernel
@[sl_canon] theorem canon53_yc2 (t : Fin k0_t2_loop.trips) (hh) :
    (cc0_scoped20.slice (Rect.unit (s := S2) (k0_off53 (wN t.val)) S1.size hh)).squeeze S_ squeezes_S1_S_ = yc2 (Ring.sl 2 (t.val)) := yc2_congr (off53_eq t ) _
theorem off54_eq : ∀ t : Fin k0_t2_loop.trips, k0_off54 (wN t.val) = slotOff (Ring.sl 2 (t.val)) := by decide +kernel
@[sl_canon] theorem canon54_ys2 (t : Fin k0_t2_loop.trips) (hh hs) :
    ((Memref.whole cc0_scoped19 : Memref sig .tc .vmem S2x2x512x1024 .bf16).slice (Rect.unit (s := S2x2x512x1024) (k0_off54 (wN t.val)) S1x2x512x1024.size hh) hs).squeeze S2x512x1024 squeezes_S1x2x512x1024_S2x512x1024 = ys2 (Ring.sl 2 (t.val)) := ys2_congr (off54_eq t ) _ _
theorem off55_eq : ∀ t : Fin k0_t2_loop.trips, k0_off55 (wI t.val) = blkOff (Ring.bk 16 (t.val)) := by decide +kernel
@[sl_canon] theorem canon55_yblk (t : Fin k0_t2_loop.trips) (hh hs) :
    yM.slice (Rect.unit (s := S2x8192x1024) (k0_off55 (wI t.val)) S2x512x1024.size hh) hs = yblk (Ring.bk 16 (t.val)) := yblk_congr (off55_eq t ) _ _
theorem off47_eq : ∀ t : Fin k0_t2_loop.trips, k0_off47 (wF t.val) = semOff (Ring.sl 2 (t.val + 1)) := by decide +kernel
@[sl_canon] theorem canon47_pc2 (t : Fin k0_t2_loop.trips) (hh) :
    (cc0_scoped22.slice (Rect.unit (s := S2) (k0_off47 (wF t.val)) S1.size hh)).squeeze S_ squeezes_S1_S_ = pc2 (Ring.sl 2 (t.val + 1)) := pc2_congr (off47_eq t ) _
theorem off48_eq : ∀ t : Fin k0_t2_loop.trips, k0_off48 (wF t.val) = slotOff (Ring.sl 2 (t.val + 1)) := by decide +kernel
@[sl_canon] theorem canon48_ps2 (t : Fin k0_t2_loop.trips) (hh hs) :
    ((Memref.whole cc0_scoped21 : Memref sig .tc .vmem S2x2x512x256 .f32).slice (Rect.unit (s := S2x2x512x256) (k0_off48 (wF t.val)) S1x2x512x256.size hh) hs).squeeze S2x512x256 squeezes_S1x2x512x256_S2x512x256 = ps2 (Ring.sl 2 (t.val + 1)) := ps2_congr (off48_eq t ) _ _
theorem off49_eq : ∀ t : Fin k0_t2_loop.trips, k0_off49 (wI t.val) = blkOff (Ring.bk 16 (t.val + 1)) := by decide +kernel
@[sl_canon] theorem canon49_pblk (t : Fin k0_t2_loop.trips) (hh hs) :
    pL.slice (Rect.unit (s := S2x8192x256) (k0_off49 (wI t.val)) S2x512x256.size hh) hs = pblk (Ring.bk 16 (t.val + 1)) := pblk_congr (off49_eq t ) _ _
theorem off56_eq : ∀ t : Fin k0_t2_loop.trips, k0_off56 (wN t.val) = semOff (Ring.sl 2 (t.val)) := by decide +kernel
@[sl_canon] theorem canon56_pc2 (t : Fin k0_t2_loop.trips) (hh) :
    (cc0_scoped22.slice (Rect.unit (s := S2) (k0_off56 (wN t.val)) S1.size hh)).squeeze S_ squeezes_S1_S_ = pc2 (Ring.sl 2 (t.val)) := pc2_congr (off56_eq t ) _
theorem off57_eq : ∀ t : Fin k0_t2_loop.trips, k0_off57 (wN t.val) = slotOff (Ring.sl 2 (t.val)) := by decide +kernel
@[sl_canon] theorem canon57_ps2 (t : Fin k0_t2_loop.trips) (hh hs) :
    ((Memref.whole cc0_scoped21 : Memref sig .tc .vmem S2x2x512x256 .f32).slice (Rect.unit (s := S2x2x512x256) (k0_off57 (wN t.val)) S1x2x512x256.size hh) hs).squeeze S2x512x256 squeezes_S1x2x512x256_S2x512x256 = ps2 (Ring.sl 2 (t.val)) := ps2_congr (off57_eq t ) _ _
theorem off58_eq : ∀ t : Fin k0_t2_loop.trips, k0_off58 (wI t.val) = blkOff (Ring.bk 16 (t.val)) := by decide +kernel
@[sl_canon] theorem canon58_pblk (t : Fin k0_t2_loop.trips) (hh hs) :
    pL.slice (Rect.unit (s := S2x8192x256) (k0_off58 (wI t.val)) S2x512x256.size hh) hs = pblk (Ring.bk 16 (t.val)) := pblk_congr (off58_eq t ) _ _
theorem off59_eq : ∀ t : Fin k0_t2_loop.trips, k0_off59 (wN t.val) = slotOff (Ring.sl 2 (t.val)) := by decide +kernel
@[sl_canon] theorem canon59_ys2 (t : Fin k0_t2_loop.trips) (hh hs) :
    ((Memref.whole cc0_scoped19 : Memref sig .tc .vmem S2x2x512x1024 .bf16).slice (Rect.unit (s := S2x2x512x1024) (k0_off59 (wN t.val)) S1x2x512x1024.size hh) hs).squeeze S2x512x1024 squeezes_S1x2x512x1024_S2x512x1024 = ys2 (Ring.sl 2 (t.val)) := ys2_congr (off59_eq t ) _ _
theorem off63_eq : ∀ t : Fin k0_t2_loop.trips, k0_off63 (wN t.val) = slotOff (Ring.sl 2 (t.val)) := by decide +kernel
@[sl_canon] theorem canon63_ys2 (t : Fin k0_t2_loop.trips) (hh hs) :
    ((Memref.whole cc0_scoped19 : Memref sig .tc .vmem S2x2x512x1024 .bf16).slice (Rect.unit (s := S2x2x512x1024) (k0_off63 (wN t.val)) S1x2x512x1024.size hh) hs).squeeze S2x512x1024 squeezes_S1x2x512x1024_S2x512x1024 = ys2 (Ring.sl 2 (t.val)) := ys2_congr (off63_eq t ) _ _
theorem off60_eq : ∀ t : Fin k0_t2_loop.trips, k0_off60 (wN t.val) = slotOff (Ring.sl 2 (t.val)) := by decide +kernel
@[sl_canon] theorem canon60_xs2 (t : Fin k0_t2_loop.trips) (hh hs) :
    ((Memref.whole cc0_scoped17 : Memref sig .tc .vmem S2x2x512x1024 .f32).slice (Rect.unit (s := S2x2x512x1024) (k0_off60 (wN t.val)) S1x2x512x1024.size hh) hs).squeeze S2x512x1024 squeezes_S1x2x512x1024_S2x512x1024 = xs2 (Ring.sl 2 (t.val)) := xs2_congr (off60_eq t ) _ _
theorem off64_eq : ∀ t : Fin k0_t2_loop.trips, k0_off64 (wN t.val) = slotOff (Ring.sl 2 (t.val)) := by decide +kernel
@[sl_canon] theorem canon64_xs2 (t : Fin k0_t2_loop.trips) (hh hs) :
    ((Memref.whole cc0_scoped17 : Memref sig .tc .vmem S2x2x512x1024 .f32).slice (Rect.unit (s := S2x2x512x1024) (k0_off64 (wN t.val)) S1x2x512x1024.size hh) hs).squeeze S2x512x1024 squeezes_S1x2x512x1024_S2x512x1024 = xs2 (Ring.sl 2 (t.val)) := xs2_congr (off64_eq t ) _ _
theorem off61_eq : ∀ t : Fin k0_t2_loop.trips, k0_off61 (wN t.val) = slotOff (Ring.sl 2 (t.val)) := by decide +kernel
@[sl_canon] theorem canon61_ps2 (t : Fin k0_t2_loop.trips) (hh hs) :
    ((Memref.whole cc0_scoped21 : Memref sig .tc .vmem S2x2x512x256 .f32).slice (Rect.unit (s := S2x2x512x256) (k0_off61 (wN t.val)) S1x2x512x256.size hh) hs).squeeze S2x512x256 squeezes_S1x2x512x256_S2x512x256 = ps2 (Ring.sl 2 (t.val)) := ps2_congr (off61_eq t ) _ _
theorem off65_eq : ∀ t : Fin k0_t2_loop.trips, k0_off65 (wN t.val) = slotOff (Ring.sl 2 (t.val)) := by decide +kernel
@[sl_canon] theorem canon65_ps2 (t : Fin k0_t2_loop.trips) (hh hs) :
    ((Memref.whole cc0_scoped21 : Memref sig .tc .vmem S2x2x512x256 .f32).slice (Rect.unit (s := S2x2x512x256) (k0_off65 (wN t.val)) S1x2x512x256.size hh) hs).squeeze S2x512x256 squeezes_S1x2x512x256_S2x512x256 = ps2 (Ring.sl 2 (t.val)) := ps2_congr (off65_eq t ) _ _
theorem off62_eq : ∀ t : Fin k0_t2_loop.trips, k0_off62 (wN t.val) = slotOff (Ring.sl 2 (t.val)) := by decide +kernel
@[sl_canon] theorem canon62_os2 (t : Fin k0_t2_loop.trips) (hh hs) :
    ((Memref.whole cc0_scoped23 : Memref sig .tc .vmem S2x2x512x1024 .f32).slice (Rect.unit (s := S2x2x512x1024) (k0_off62 (wN t.val)) S1x2x512x1024.size hh) hs).squeeze S2x512x1024 squeezes_S1x2x512x1024_S2x512x1024 = os2 (Ring.sl 2 (t.val)) := os2_congr (off62_eq t ) _ _
theorem off66_eq : ∀ t : Fin k0_t2_loop.trips, k0_off66 (wN t.val) = semOff (Ring.sl 2 (t.val)) := by decide +kernel
@[sl_canon] theorem canon66_oc2 (t : Fin k0_t2_loop.trips) (hh) :
    (cc0_scoped24.slice (Rect.unit (s := S2) (k0_off66 (wN t.val)) S1.size hh)).squeeze S_ squeezes_S1_S_ = oc2 (Ring.sl 2 (t.val)) := oc2_congr (off66_eq t ) _
theorem off67_eq : ∀ t : Fin k0_t2_loop.trips, k0_off67 (wI t.val) = blkOff (Ring.bk 16 (t.val)) := by decide +kernel
@[sl_canon] theorem canon67_oblk (t : Fin k0_t2_loop.trips) (hh hs) :
    oM.slice (Rect.unit (s := S2x8192x1024) (k0_off67 (wI t.val)) S2x512x1024.size hh) hs = oblk (Ring.bk 16 (t.val)) := oblk_congr (off67_eq t ) _ _
theorem off68_eq : ∀ t : Fin k0_t2_loop.trips, k0_off68 (wN t.val) = slotOff (Ring.sl 2 (t.val)) := by decide +kernel
@[sl_canon] theorem canon68_os2 (t : Fin k0_t2_loop.trips) (hh hs) :
    ((Memref.whole cc0_scoped23 : Memref sig .tc .vmem S2x2x512x1024 .f32).slice (Rect.unit (s := S2x2x512x1024) (k0_off68 (wN t.val)) S1x2x512x1024.size hh) hs).squeeze S2x512x1024 squeezes_S1x2x512x1024_S2x512x1024 = os2 (Ring.sl 2 (t.val)) := os2_congr (off68_eq t ) _ _
theorem off69_eq : ∀ t : Fin k0_t2_loop.trips, k0_off69 (wP t.val) = semOff (Ring.sl 2 (t.val - 1)) := by decide +kernel
@[sl_canon] theorem canon69_oc2 (t : Fin k0_t2_loop.trips) (hh) :
    (cc0_scoped24.slice (Rect.unit (s := S2) (k0_off69 (wP t.val)) S1.size hh)).squeeze S_ squeezes_S1_S_ = oc2 (Ring.sl 2 (t.val - 1)) := oc2_congr (off69_eq t ) _
theorem off70_eq : ∀ t : Fin k0_t2_loop.trips, 1 ≤ t.val → k0_off70 (wI t.val) = blkOff (Ring.bk 16 (t.val - 1)) := by decide +kernel
@[sl_canon] theorem canon70_oblk (t : Fin k0_t2_loop.trips) (h : 1 ≤ t.val) (hh hs) :
    oM.slice (Rect.unit (s := S2x8192x1024) (k0_off70 (wI t.val)) S2x512x1024.size hh) hs = oblk (Ring.bk 16 (t.val - 1)) := oblk_congr (off70_eq t h) _ _
theorem off71_eq : ∀ t : Fin k0_t2_loop.trips, k0_off71 (wP t.val) = slotOff (Ring.sl 2 (t.val - 1)) := by decide +kernel
@[sl_canon] theorem canon71_os2 (t : Fin k0_t2_loop.trips) (hh hs) :
    ((Memref.whole cc0_scoped23 : Memref sig .tc .vmem S2x2x512x1024 .f32).slice (Rect.unit (s := S2x2x512x1024) (k0_off71 (wP t.val)) S1x2x512x1024.size hh) hs).squeeze S2x512x1024 squeezes_S1x2x512x1024_S2x512x1024 = os2 (Ring.sl 2 (t.val - 1)) := os2_congr (off71_eq t ) _ _
theorem off72_eq : k0_off72 (wP 16) = semOff (Ring.sl 2 15) := by decide +kernel
@[sl_canon] theorem canon72_oc2 (hh) :
    (cc0_scoped24.slice (Rect.unit (s := S2) (k0_off72 (wP 16)) S1.size hh)).squeeze S_ squeezes_S1_S_ = oc2 (Ring.sl 2 15) := oc2_congr (off72_eq ) _
theorem off73_eq : k0_off73 (wI 16) = blkOff (Ring.bk 16 15) := by decide +kernel
@[sl_canon] theorem canon73_oblk (hh hs) :
    oM.slice (Rect.unit (s := S2x8192x1024) (k0_off73 (wI 16)) S2x512x1024.size hh) hs = oblk (Ring.bk 16 15) := oblk_congr (off73_eq ) _ _
theorem off74_eq : k0_off74 (wP 16) = slotOff (Ring.sl 2 15) := by decide +kernel
@[sl_canon] theorem canon74_os2 (hh hs) :
    ((Memref.whole cc0_scoped23 : Memref sig .tc .vmem S2x2x512x1024 .f32).slice (Rect.unit (s := S2x2x512x1024) (k0_off74 (wP 16)) S1x2x512x1024.size hh) hs).squeeze S2x512x1024 squeezes_S1x2x512x1024_S2x512x1024 = os2 (Ring.sl 2 15) := os2_congr (off74_eq ) _ _

/-- The side conditions the body assumes of its words hold at every trip's. -/
theorem chk7 : ∀ t : Fin k0_t2_loop.trips, k0_chk7 t (wF t.val) (wN t.val) (wF t.val) (wN t.val) (wF t.val) (wN t.val) (wN t.val) (wP t.val) (wI t.val) := by decide +kernel
theorem chk8 : ∀ t : Fin k0_t2_loop.trips, k0_chk8 (wN t.val) := by decide +kernel
theorem chk9 : ∀ t : Fin k0_t2_loop.trips, k0_chk9 (wN t.val) := by decide +kernel
theorem chk10 : ∀ t : Fin k0_t2_loop.trips, k0_chk10 (wN t.val) := by decide +kernel
theorem chk11 : ∀ t : Fin k0_t2_loop.trips, k0_chk11 (wN t.val) := by decide +kernel
theorem chk12 : k0_chk12 (wP 16) := by decide +kernel
theorem chk13 : k0_chk13 (wI 16) := by decide +kernel

theorem cond10_pos : ∀ t : Fin k0_t2_loop.trips, t.val + 1 < 16 → k0_cond10 t (wI t.val) = 1#1 := by decide +kernel
theorem cond10_neg : ∀ t : Fin k0_t2_loop.trips, ¬ t.val + 1 < 16 → ¬ k0_cond10 t (wI t.val) = 1#1 := by decide +kernel
theorem cond11_pos : ∀ t : Fin k0_t2_loop.trips, t.val + 1 < 16 → k0_cond11 t (wI t.val) = 1#1 := by decide +kernel
theorem cond11_neg : ∀ t : Fin k0_t2_loop.trips, ¬ t.val + 1 < 16 → ¬ k0_cond11 t (wI t.val) = 1#1 := by decide +kernel
theorem cond12_pos : ∀ t : Fin k0_t2_loop.trips, t.val + 1 < 16 → k0_cond12 t (wI t.val) = 1#1 := by decide +kernel
theorem cond12_neg : ∀ t : Fin k0_t2_loop.trips, ¬ t.val + 1 < 16 → ¬ k0_cond12 t (wI t.val) = 1#1 := by decide +kernel
theorem cond13_pos : ∀ t : Fin k0_t2_loop.trips, k0_cond13 t (wI t.val) = 1#1 := by decide +kernel
theorem cond14_pos : ∀ t : Fin k0_t2_loop.trips, k0_cond14 t (wI t.val) = 1#1 := by decide +kernel
theorem cond15_pos : ∀ t : Fin k0_t2_loop.trips, k0_cond15 t (wI t.val) = 1#1 := by decide +kernel
theorem cond20_pos : ∀ t : Fin k0_t2_loop.trips, k0_cond20 t (wI t.val) = 1#1 := by decide +kernel
theorem cond24_pos : ∀ t : Fin k0_t2_loop.trips, 1 ≤ t.val → k0_cond24 t (wI t.val) = 1#1 := by decide +kernel
theorem cond24_neg : ∀ t : Fin k0_t2_loop.trips, ¬ 1 ≤ t.val → ¬ k0_cond24 t (wI t.val) = 1#1 := by decide +kernel

end Cert.Proof.Layer
-- ==== Proof.Spec.lean ====
module

public import proofs.«01_k».proof.Proof.Names
public import Idealize.ShloMosaic.Lib.Pointwise
public import Idealize.ShloMosaic.Lib.Pipeline.Value

@[expose] public section

set_option maxRecDepth 8192

noncomputable section

namespace Cert.Proof.Layer

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UU (nD : Nat) (τ : Topo) : Type := UR sig nD τ × Counters
local notation "𝕄" => MT nD τ sig Unit (Elt F) ℕ (UU nD τ) ℕ
abbrev EP : Emb (UR sig nD τ) (MT nD τ sig Unit (Elt F) ℕ (UU nD τ) ℕ) := embL
abbrev 𝒱₀ : Variants := Variants.none

/-- The buffer behind `M` on device `c`. -/
abbrev BufOf (F : FTy → Type) (c : Dev nD) {sp : Space} {S : Shape} {e : EltTy} (M : Memref sig .tc sp S e) : Type := Buf (Elt F) (M.view.loc (c : Thread nD τ))
/-- `M`'s elements held at `f`. -/
abbrev ptM (c : Dev nD) {sp : Space} {S : Shape} {e : EltTy} (M : Memref sig .tc sp S e) (f : BufOf F c M) : sProp 𝕄 :=
  M.view.loc (c : Thread nD τ) ↦[M.view.set]{fullShare} f
/-- A DMA semaphore at rest. -/
abbrev cellP (c : Dev nD) (s : DmaSems sig S_) : sProp 𝕄 := semVal ((c : Thread nD τ), SemLoc.dma s.sem) 0

/-! ## What the two pipelines compute, tile by tile

A tile is 256 rows of one batch entry: tile `q` of batch entry `b` holds rows `256·q … 256·q + 255`. The functions here
spell the value of each tile through the program's own payloads, over any float semantics. -/

/-- Row `n` of an array of 8192 rows. -/
def rowIx (n : Nat) : Fin 8192 := ⟨n % 8192, Nat.mod_lt _ (by decide)⟩
/-- Row `n` inside a tile of 256 rows. -/
def tileRow (n : Nat) : Fin 256 := ⟨n % 256, Nat.mod_lt _ (by decide)⟩
/-- Column `n` inside a block of 1024 columns. -/
def colIx (n : Nat) : Fin 1024 := ⟨n % 1024, Nat.mod_lt _ (by decide)⟩
/-- Column `n` of an array of 4096 columns. -/
def col4Ix (n : Nat) : Fin 4096 := ⟨n % 4096, Nat.mod_lt _ (by decide)⟩

/-- Tile `q` of batch entry `b`. -/
def rows {α : Type} {C : Nat} (X : (⟨3, ![2, 8192, C]⟩ : Shape).Idx → α) (b : Fin 2) (q : Nat) :
    (⟨3, ![1, 256, C]⟩ : Shape).Idx → α :=
  fun j => X (ix3 b (rowIx (256 * q + (j 1).val)) (j 2))

/-- The three column blocks of the mixer's input weights. -/
def wiB (WI : Vec F S1024x3072 .bf16) : Vec F S1024x1024 .bf16 := View.ld (Val := Elt F) WI (Rect.unit (s := S1024x3072) ![0, 0] S1024x1024.size inb_S1024x3072_S1024x1024_0_0)
def wiC (WI : Vec F S1024x3072 .bf16) : Vec F S1024x1024 .bf16 := View.ld (Val := Elt F) WI (Rect.unit (s := S1024x3072) ![0, 1024] S1024x1024.size inb_S1024x3072_S1024x1024_0_1024)
def wiH (WI : Vec F S1024x3072 .bf16) : Vec F S1024x1024 .bf16 := View.ld (Val := Elt F) WI (Rect.unit (s := S1024x3072) ![0, 2048] S1024x1024.size inb_S1024x3072_S1024x1024_0_2048)

/-- The mixer's `z` on one tile. -/
def zT (X : Vec F S2x8192x1024 .f32) (WI : Vec F S1024x3072 .bf16) (b : Fin 2) (q : Nat) : FVec F S256x1024 .f32 :=
  k0_pay4 (rows X b q) (wiC WI) (wiH WI)
/-- The mixer's gate on one tile. -/
def gT (X : Vec F S2x8192x1024 .f32) (WI : Vec F S1024x3072 .bf16) (b : Fin 2) (q : Nat) : FVec F S256x1024 .f32 :=
  k0_pay6 (k0_pay3 (rows X b q)) (wiB WI)
/-- The mixer's `z` at every row. -/
def ZS (X : Vec F S2x8192x1024 .f32) (WI : Vec F S1024x3072 .bf16) : Vec F S2x8192x1024 .f32 :=
  fun i => zT X WI (i 0) ((i 1).val / 256) (ix2 (tileRow (i 1).val) (i 2))
/-- The zero that stands before row 0. -/
def zZero : F .f32 := Scalar.ofBits .f32 0x00000000#32
/-- `z` at row `n`, `d` rows late: zero before row `d`. -/
def zLate (X : Vec F S2x8192x1024 .f32) (WI : Vec F S1024x3072 .bf16) (b : Fin 2) (n d : Nat) (ch : Fin 1024) : F .f32 :=
  if n < d then zZero else ZS X WI (ix3 b (rowIx (n - d)) ch)
/-- Tile `q` of `z`, `d` rows late. -/
def zWin (X : Vec F S2x8192x1024 .f32) (WI : Vec F S1024x3072 .bf16) (b : Fin 2) (q d : Nat) : Vec F S1x256x1024 .f32 :=
  fun j => zLate X WI b (256 * q + (j 1).val) d (j 2)
/-- What the `z` buffer holds while block `n` is computed: 8 rows of the block before, then the block's 512 rows. -/
def zBuf (X : Vec F S2x8192x1024 .f32) (WI : Vec F S1024x3072 .bf16) (n : Nat) : Vec F S2x520x1024 .f32 :=
  fun i => zLate X WI (i 0) (512 * n + (i 1).val) 8 (i 2)
/-- The mixer's result on one tile. -/
def yT (X : Vec F S2x8192x1024 .f32) (WI : Vec F S1024x3072 .bf16) (CW : Vec F S1x3x1024 .f32) (b : Fin 2) (q : Nat) : FVec F S256x1024 .bf16 :=
  k0_pay24 (zT X WI b q) (gT X WI b q) (k0_pay20 CW) (zWin X WI b q 2) (zWin X WI b q 1)
/-- The mixer's result at every row. -/
def YS (X : Vec F S2x8192x1024 .f32) (WI : Vec F S1024x3072 .bf16) (CW : Vec F S1x3x1024 .f32) : Vec F S2x8192x1024 .bf16 :=
  fun i => yT X WI CW (i 0) ((i 1).val / 256) (ix2 (tileRow (i 1).val) (i 2))

/-- The layer's row of a two-row parameter. -/
def row1 (G : Vec F S2x1024 .f32) : Vec F S1x1024 .f32 := View.ld (Val := Elt F) G (Rect.unit (s := S2x1024) ![1, 0] S1x1024.size inb_S2x1024_S1x1024_1_0)
/-- Column block `j` of the first feed-forward weights. -/
def w1Col (W1 : Vec F S1024x4096 .bf16) (j : Nat) : Vec F S1024x1024 .bf16 := fun i => W1 (ix2 (i 0) (col4Ix (1024 * j + (i 1).val)))

/-- The weights and parameters of the second pipeline. -/
structure FfnW (F : FTy → Type) where
  /-- the output projection -/
  WO : Vec F S1024x1024 .bf16
  /-- the feed-forward weights -/
  W1 : Vec F S1024x4096 .bf16
  W2 : Vec F S4096x1024 .bf16
  /-- the gate's weights -/
  WG : Vec F S1024x1024 .bf16
  /-- the projection of `p` -/
  WP : Vec F S256x1024 .bf16
  /-- the two normalisations' gains and offsets -/
  G1 : Vec F S2x1024 .f32
  B1 : Vec F S2x1024 .f32
  G2 : Vec F S2x1024 .f32
  B2 : Vec F S2x1024 .f32

/-- After the mixer: the first normalised residual on one tile. -/
def x1T (w : FfnW F) (X : Vec F S2x8192x1024 .f32) (Y : Vec F S2x8192x1024 .bf16) (b : Fin 2) (q : Nat) : FVec F S256x1024 .f32 :=
  k0_pay40 (row1 w.G1) (row1 w.B1) (k0_pay37 (rows Y b q) w.WO) (rows X b q)
/-- The same rounded, as the feed-forward network reads it. -/
def xbT (w : FfnW F) (X : Vec F S2x8192x1024 .f32) (Y : Vec F S2x8192x1024 .bf16) (b : Fin 2) (q : Nat) : FVec F S1x256x1024 .bf16 :=
  k0_pay41 (row1 w.G1) (row1 w.B1) (k0_pay37 (rows Y b q) w.WO) (rows X b q)
/-- The hidden units on one tile, column block by column block. -/
def hidT (w : FfnW F) (X : Vec F S2x8192x1024 .f32) (Y : Vec F S2x8192x1024 .bf16) (b : Fin 2) (q : Nat) : Vec F S1x256x4096 .bf16 :=
  fun i => k0_pay44 (xbT w X Y b q) (w1Col w.W1 ((i 2).val / 1024)) (ix3 0 (i 1) (colIx (i 2).val))
/-- The second normalised residual on one tile. -/
def x2T (w : FfnW F) (X : Vec F S2x8192x1024 .f32) (Y : Vec F S2x8192x1024 .bf16) (b : Fin 2) (q : Nat) : FVec F S256x1024 .f32 :=
  k0_pay47 (row1 w.G2) (row1 w.B2) (x1T w X Y b q) (hidT w X Y b q) w.W2
/-- The layer's result on one tile. -/
def oT (w : FfnW F) (X : Vec F S2x8192x1024 .f32) (Y : Vec F S2x8192x1024 .bf16) (P : Vec F S2x8192x256 .f32) (b : Fin 2) (q : Nat) : FVec F S1x256x1024 .f32 :=
  k0_pay61 (x2T w X Y b q) (k0_pay60 (x2T w X Y b q)) w.WG (rows P b q) w.WP
/-- The layer's result at every row. -/
def OS (w : FfnW F) (X : Vec F S2x8192x1024 .f32) (Y : Vec F S2x8192x1024 .bf16) (P : Vec F S2x8192x256 .f32) : Vec F S2x8192x1024 .f32 :=
  fun i => oT w X Y P (i 0) ((i 1).val / 256) (ix3 0 (tileRow (i 1).val) (i 2))

/-! ## The repeated spellings of one payload -/

theorem pay8_eq (a : Vec F S1x256x1024 .f32) (b d : Vec F S1024x1024 .bf16) : k0_pay8 a b d = k0_pay4 a b d := rfl
theorem pay13_eq (a : Vec F S1x256x1024 .f32) (b d : Vec F S1024x1024 .bf16) : k0_pay13 (k0_pay11 a) (k0_pay12 a b) d = k0_pay4 a b d := rfl
theorem pay17_eq (a : Vec F S1x256x1024 .f32) (b d : Vec F S1024x1024 .bf16) : k0_pay17 a b d = k0_pay4 a b d := rfl
theorem pay10_eq (a : Vec F S1x256x1024 .f32) (b : Vec F S1024x1024 .bf16) : k0_pay10 a b = k0_pay6 (k0_pay3 a) b := rfl
theorem pay15_eq (a : Vec F S1x256x1024 .f32) (b : Vec F S1024x1024 .bf16) : k0_pay15 (k0_pay11 a) b = k0_pay6 (k0_pay3 a) b := rfl
theorem pay19_eq (a : Vec F S1x256x1024 .f32) (b : Vec F S1024x1024 .bf16) : k0_pay19 a b = k0_pay6 (k0_pay3 a) b := rfl
theorem pay9_eq (a : Vec F S1x256x1024 .f32) (b d : Vec F S1024x1024 .bf16) : k0_pay9 a b d = k0_pay5 (k0_pay4 a b d) := rfl
theorem pay14_eq (a : Vec F S1x256x1024 .f32) (b d : Vec F S1024x1024 .bf16) : k0_pay14 (k0_pay11 a) (k0_pay12 a b) d = k0_pay5 (k0_pay4 a b d) := rfl
theorem pay18_eq (a : Vec F S1x256x1024 .f32) (b d : Vec F S1024x1024 .bf16) : k0_pay18 a b d = k0_pay5 (k0_pay4 a b d) := rfl
theorem pay31_eq (a : FVec F S256x1024 .f32) : k0_pay31 a = k0_pay30 a := rfl
theorem pay2_eq : k0_pay2 (F := F) = k0_pay1 := rfl
theorem pay23_eq (g z : FVec F S256x1024 .f32) (cw : Vec F S1x3x1024 .f32) (u v : Vec F S1x256x1024 .f32) :
    k0_pay23 g (k0_pay20 cw) (k0_pay21 z cw) (k0_pay22 cw) u v = k0_pay25 (k0_pay24 z g (k0_pay20 cw) u v) := rfl
theorem pay26_eq (z g : FVec F S256x1024 .f32) (cw : FVec F S3x1024 .f32) (u v : Vec F S1x256x1024 .f32) :
    k0_pay26 z g cw u v = k0_pay25 (k0_pay24 z g cw u v) := rfl
theorem pay29_eq (z g : FVec F S256x1024 .f32) (cw : FVec F S3x1024 .f32) (u v : Vec F S1x256x1024 .f32) :
    k0_pay29 g (k0_pay27 z cw u) (k0_pay28 cw) v = k0_pay25 (k0_pay24 z g cw u v) := rfl

theorem pay39_eq (y : Vec F S1x256x1024 .bf16) (b : Vec F S1024x1024 .bf16) : k0_pay39 (k0_pay38 y) b = k0_pay37 y b := rfl
theorem pay48_eq (y : Vec F S1x256x1024 .bf16) (b : Vec F S1024x1024 .bf16) : k0_pay48 y b = k0_pay37 y b := rfl
theorem pay62_eq (y : Vec F S1x256x1024 .bf16) (b : Vec F S1024x1024 .bf16) : k0_pay62 y b = k0_pay37 y b := rfl
theorem pay49_eq (g b : Vec F S1x1024 .f32) (u : FVec F S256x1024 .f32) (x : Vec F S1x256x1024 .f32) : k0_pay49 g b u x = k0_pay40 g b u x := rfl
theorem pay63_eq (g b : Vec F S1x1024 .f32) (u : FVec F S256x1024 .f32) (x : Vec F S1x256x1024 .f32) : k0_pay63 g b u x = k0_pay40 g b u x := rfl
theorem pay75_eq (g b : Vec F S1x1024 .f32) (u : FVec F S256x1024 .f32) (x : Vec F S1x256x1024 .f32) : k0_pay75 g b u x = k0_pay40 g b u x := rfl
theorem pay50_eq (g b : Vec F S1x1024 .f32) (u : FVec F S256x1024 .f32) (x : Vec F S1x256x1024 .f32) : k0_pay50 g b u x = k0_pay41 g b u x := rfl
theorem pay64_eq (g b : Vec F S1x1024 .f32) (u : FVec F S256x1024 .f32) (x : Vec F S1x256x1024 .f32) : k0_pay64 g b u x = k0_pay41 g b u x := rfl
theorem pay76_eq (g b : Vec F S1x1024 .f32) (u : FVec F S256x1024 .f32) (x : Vec F S1x256x1024 .f32) : k0_pay76 g b u x = k0_pay41 g b u x := rfl
section Hidden
variable (x : Vec F S1x256x1024 .bf16) (w : Vec F S1024x1024 .bf16)
theorem pay43_eq : k0_pay43 (k0_pay42 x) w = k0_pay44 x w := rfl
theorem pay45_eq : k0_pay45 x w = k0_pay44 x w := rfl
theorem pay46_eq : k0_pay46 x w = k0_pay44 x w := rfl
theorem pay51_eq : k0_pay51 x w = k0_pay44 x w := rfl
theorem pay52_eq : k0_pay52 x w = k0_pay44 x w := rfl
theorem pay55_eq : k0_pay55 x w = k0_pay44 x w := rfl
theorem pay65_eq : k0_pay65 x w = k0_pay44 x w := rfl
theorem pay66_eq : k0_pay66 x w = k0_pay44 x w := rfl
theorem pay69_eq : k0_pay69 x w = k0_pay44 x w := rfl
theorem pay79_eq : k0_pay79 x w = k0_pay44 x w := rfl
theorem pay80_eq : k0_pay80 x w = k0_pay44 x w := rfl
theorem pay54_eq : k0_pay54 (k0_pay53 x w) = k0_pay44 x w := rfl
theorem pay68_eq : k0_pay68 (k0_pay67 x w) = k0_pay44 x w := rfl
theorem pay78_eq : k0_pay78 (k0_pay77 x w) = k0_pay44 x w := rfl
theorem pay83_eq : k0_pay83 (k0_pay81 x w) k0_pay82 = k0_pay44 x w := rfl
end Hidden
section Second
variable (g b : Vec F S1x1024 .f32) (x : FVec F S256x1024 .f32) (h : Vec F S1x256x4096 .bf16) (w : Vec F S4096x1024 .bf16)
theorem pay59_eq : k0_pay59 g b (k0_pay56 x h w) (k0_pay57 x h w) k0_pay58 = k0_pay47 g b x h w := rfl
theorem pay72_eq : k0_pay72 g b (k0_pay70 x h w) (k0_pay71 x h w) = k0_pay47 g b x h w := rfl
theorem pay84_eq : k0_pay84 g b x h w = k0_pay47 g b x h w := rfl
theorem pay73_eq : k0_pay73 x = k0_pay60 x := rfl
theorem pay85_eq : k0_pay85 x = k0_pay60 x := rfl
theorem pay87_eq : k0_pay87 x = k0_pay60 x := rfl
end Second
section Out
variable (x : FVec F S256x1024 .f32) (xb : Vec F S1x256x1024 .bf16) (wg : Vec F S1024x1024 .bf16) (p : Vec F S1x256x256 .f32) (wp : Vec F S256x1024 .bf16)
theorem pay74_eq : k0_pay74 x xb wg p wp = k0_pay61 x xb wg p wp := rfl
theorem pay86_eq : k0_pay86 x xb wg p wp = k0_pay61 x xb wg p wp := rfl
theorem pay89_eq : k0_pay89 x (k0_pay88 xb wg) p wp = k0_pay61 x xb wg p wp := rfl
end Out

end Cert.Proof.Layer
-- ==== Proof.Sides.lean ====
module

public import proofs.«01_k».proof.Proof.Spec
public import proofs.«01_k».proof.Proof.Names
public import Idealize.ShloMosaic.Lib.Pointwise
public import Idealize.ShloMosaic.Lib.Pipeline.Value

@[expose] public section

set_option maxRecDepth 8192

noncomputable section

namespace Cert.Proof.Layer

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

/-! # The two sides of a double-buffered pipeline over 16 blocks -/

/-- The blocks before `n`. -/
def lowSet (n : Nat) : Finset (Fin 16) := Finset.univ.filter fun b => b.val < n
/-- The blocks from `n` on. -/
def highSet (n : Nat) : Finset (Fin 16) := Finset.univ.filter fun b => n ≤ b.val

theorem highSet_out (k : Nat) (hk : k < 16) : highSet k = insert (Ring.bk 16 k) (highSet (k + 1)) := by
  have hb := Ring.bk_val (NB := 16) hk
  ext b
  simp only [highSet, Finset.mem_insert, Finset.mem_filter, Finset.mem_univ, true_and, Fin.ext_iff]
  omega
theorem bk_not_mem_highSet (k : Nat) (hk : k < 16) : Ring.bk 16 k ∉ highSet (k + 1) := by
  have hb := Ring.bk_val (NB := 16) hk
  simp only [highSet, Finset.mem_filter, Finset.mem_univ, true_and]
  omega
theorem lowSet_succ (k : Nat) (hk : k < 16) : lowSet (k + 1) = insert (Ring.bk 16 k) (lowSet k) := by
  have hb := Ring.bk_val (NB := 16) hk
  ext b
  simp only [lowSet, Finset.mem_insert, Finset.mem_filter, Finset.mem_univ, true_and, Fin.ext_iff]
  omega
theorem bk_not_mem_lowSet (k : Nat) (hk : k < 16) : Ring.bk 16 k ∉ lowSet k := by
  have hb := Ring.bk_val (NB := 16) hk
  simp only [lowSet, Finset.mem_filter, Finset.mem_univ, true_and]
  omega
theorem lowSet_all : lowSet 16 = Finset.univ := by
  ext b
  have := b.isLt
  simp only [lowSet, Finset.mem_filter, Finset.mem_univ, true_and, iff_true]
  omega
theorem highSet_all : highSet 0 = Finset.univ := by
  ext b
  simp only [highSet, Finset.mem_filter, Finset.mem_univ, true_and, iff_true]
  omega
theorem homeSet_all : Ring.homeSet (NB := 16) 1 16 = Finset.univ := by decide
theorem homeSet_zero : (Finset.univ : Finset (Fin 16)) = insert (Ring.bk 16 0) (Ring.homeSet 1 0) := by decide
theorem bk0_not_mem : Ring.bk 16 0 ∉ Ring.homeSet (NB := 16) 1 0 := by decide

/-- A side that fetches, before trip `k`: block `k` on its way, the other slot free, the other blocks home. -/
def InSide (home : Fin 16 → sProp 𝕄) (fl free : Nat → sProp 𝕄) (k : Nat) : sProp 𝕄 :=
  iprop(bigSep (Ring.homeSet (NB := 16) 1 k) home ∗ (if k < 16 then iprop(fl k ∗ free (k + 1)) else iprop(free 0 ∗ free 1)))

/-- A side that sends, before trip `k`: the block before on its way, this trip's slot free. -/
def OutSide (start done : Fin 16 → sProp 𝕄) (fl free : Nat → sProp 𝕄) (k : Nat) : sProp 𝕄 :=
  iprop(bigSep (lowSet (k - 1)) done ∗ bigSep (highSet k) start ∗ free k ∗ (if k = 0 then free 1 else fl (k - 1)))

section Side
variable (home start done : Fin 16 → sProp (MT nD τ sig Unit (Elt F) ℕ (UU nD τ) ℕ)) (fl free : Nat → sProp (MT nD τ sig Unit (Elt F) ℕ (UU nD τ) ℕ)) (hf : ∀ k, free (k + 2) = free k)

include hf in
theorem in_open (k : Nat) (hk : k + 1 < 16) :
    InSide home fl free k ⊢ iprop(fl k ∗ free (k + 1) ∗ home (Ring.bk 16 (k + 1)) ∗ ((fl (k + 1) ∗ free k ∗ home (Ring.bk 16 k)) -∗ InSide home fl free (k + 1))) := by
  have e1 : bigSep (Ring.homeSet (NB := 16) 1 k) home = iprop(home (Ring.bk 16 (k + 1)) ∗ bigSep ((Ring.homeSet 1 k).erase (Ring.bk 16 (k + 1))) home) := by
    conv_lhs => rw [Ring.homeSet_out 1 k hk, bigSep_insert (Ring.bkL_not_mem_erase 1 k)]
    rfl
  have e2 : bigSep (Ring.homeSet (NB := 16) 1 (k + 1)) home = iprop(home (Ring.bk 16 k) ∗ bigSep ((Ring.homeSet 1 k).erase (Ring.bk 16 (k + 1))) home) := by
    conv_lhs => rw [Ring.homeSet_succ 1 k hk, bigSep_insert (Ring.bk_not_mem_erase 1 k (by omega) (by decide))]
    rfl
  unfold InSide
  rw [e1, e2, if_pos (by omega), if_pos hk, hf]
  iintro ⟨⟨Hh, Hr⟩, Hf, Hg⟩
  isplitl [Hf]; · iexact Hf
  isplitl [Hg]; · iexact Hg
  isplitl [Hh]; · iexact Hh
  iintro ⟨H1, H2, H3⟩
  isplitl [H3 Hr]
  · isplitl [H3]; · iexact H3
    iexact Hr
  isplitl [H1]; · iexact H1
  iexact H2

include hf in
theorem in_last : InSide home fl free 15 ⊢ iprop(fl 15 ∗ ((free 15 ∗ home (Ring.bk 16 15)) -∗ InSide home fl free 16)) := by
  have e2 : bigSep (Ring.homeSet (NB := 16) 1 16) home = iprop(home (Ring.bk 16 15) ∗ bigSep (Ring.homeSet 1 15) home) := by
    rw [show Ring.homeSet (NB := 16) 1 16 = insert (Ring.bk 16 15) (Ring.homeSet 1 15) from by decide, bigSep_insert (by decide)]
    rfl
  have f0 : free 16 = free 0 := (hf 14).trans ((hf 12).trans ((hf 10).trans ((hf 8).trans ((hf 6).trans ((hf 4).trans ((hf 2).trans (hf 0)))))))
  have f1 : free 15 = free 1 := (hf 13).trans ((hf 11).trans ((hf 9).trans ((hf 7).trans ((hf 5).trans ((hf 3).trans (hf 1))))))
  unfold InSide
  rw [e2, if_pos (by decide), if_neg (by decide), show (15 + 1 : Nat) = 16 from rfl, f0, f1]
  iintro ⟨Hr, Hf, Hg⟩
  isplitl [Hf]; · iexact Hf
  iintro ⟨H2, H3⟩
  isplitl [H3 Hr]
  · isplitl [H3]; · iexact H3
    iexact Hr
  isplitl [Hg]; · iexact Hg
  iexact H2

/-- The fetching side at the loop's entry. -/
theorem in_start : iprop(bigSep (Ring.homeSet (NB := 16) 1 0) home ∗ fl 0 ∗ free 1) ⊢ InSide home fl free 0 := by
  unfold InSide
  rw [if_pos (by decide)]
/-- The fetching side at the loop's exit. -/
theorem in_end : InSide home fl free 16 ⊢ iprop(bigSep Finset.univ home ∗ free 0 ∗ free 1) := by
  unfold InSide
  rw [if_neg (by decide), homeSet_all]

theorem high_out (k : Nat) (hk : k < 16) : bigSep (highSet k) start = iprop(start (Ring.bk 16 k) ∗ bigSep (highSet (k + 1)) start) := by
  rw [highSet_out k hk, bigSep_insert (bk_not_mem_highSet k hk)]
  rfl
theorem low_in (k : Nat) (hk : k < 16) : bigSep (lowSet (k + 1)) done = iprop(done (Ring.bk 16 k) ∗ bigSep (lowSet k) done) := by
  rw [lowSet_succ k hk, bigSep_insert (bk_not_mem_lowSet k hk)]
  rfl

theorem out_first : OutSide start done fl free 0 ⊢ iprop(free 0 ∗ start (Ring.bk 16 0) ∗ (fl 0 -∗ OutSide start done fl free 1)) := by
  unfold OutSide
  rw [if_pos rfl, if_neg (by decide), high_out start 0 (by decide)]
  iintro ⟨Hl, ⟨Hb, Hh⟩, Hf, Hg⟩
  isplitl [Hf]; · iexact Hf
  isplitl [Hb]; · iexact Hb
  iintro H
  isplitl [Hl]; · iexact Hl
  isplitl [Hh]; · iexact Hh
  isplitl [Hg]; · iexact Hg
  iexact H

include hf in
theorem out_open (k : Nat) (h1 : 1 ≤ k) (hk : k < 16) :
    OutSide start done fl free k ⊢ iprop(free k ∗ start (Ring.bk 16 k) ∗ fl (k - 1) ∗ ((fl k ∗ done (Ring.bk 16 (k - 1)) ∗ free (k - 1)) -∗ OutSide start done fl free (k + 1))) := by
  obtain ⟨j, rfl⟩ : ∃ j, k = j + 1 := ⟨k - 1, by omega⟩
  unfold OutSide
  rw [if_neg (by omega), if_neg (by omega), high_out start (j + 1) hk]
  simp only [Nat.add_sub_cancel]
  rw [low_in done j (by omega), show j + 1 + 1 = j + 2 from rfl, hf]
  iintro ⟨Hl, ⟨Hb, Hh⟩, Hf, Hg⟩
  isplitl [Hf]; · iexact Hf
  isplitl [Hb]; · iexact Hb
  isplitl [Hg]; · iexact Hg
  iintro ⟨H1, H2, H3⟩
  isplitl [Hl H2]
  · isplitl [H2]; · iexact H2
    iexact Hl
  isplitl [Hh]; · iexact Hh
  isplitl [H3]; · iexact H3
  iexact H1

/-- The sending side at the loop's entry. -/
theorem out_start : iprop(bigSep Finset.univ start ∗ free 0 ∗ free 1) ⊢ OutSide start done fl free 0 := by
  unfold OutSide
  rw [if_pos rfl, highSet_all, show lowSet (0 - 1) = ∅ from by decide, bigSep_empty]
  iintro ⟨H1, H2, H3⟩
  isplitr; · iempintro
  isplitl [H1]; · iexact H1
  isplitl [H2]; · iexact H2
  iexact H3
include hf in
/-- The sending side at the loop's exit: the last block is still on its way. -/
theorem out_end : OutSide start done fl free 16 ⊢ iprop(free 0 ∗ fl 15 ∗ (done (Ring.bk 16 15) -∗ bigSep Finset.univ done)) := by
  have f0 : free 16 = free 0 := (hf 14).trans ((hf 12).trans ((hf 10).trans ((hf 8).trans ((hf 6).trans ((hf 4).trans ((hf 2).trans (hf 0)))))))
  unfold OutSide
  rw [if_neg (by decide), f0, ← lowSet_all, show lowSet 16 = lowSet (15 + 1) from rfl, low_in done 15 (by decide), show lowSet (16 - 1) = lowSet 15 from rfl, show (16 - 1 : Nat) = 15 from rfl]
  iintro ⟨Hl, -, Hf, Hg⟩
  isplitl [Hf]; · iexact Hf
  isplitl [Hg]; · iexact Hg
  iintro H
  isplitl [H]; · iexact H
  iexact Hl
include hf in
/-- The same with block 0 apart. -/
theorem out_end_apart : OutSide start done fl free 16 ⊢ iprop(free 0 ∗ fl 15 ∗ done (Ring.bk 16 0) ∗ (done (Ring.bk 16 15) -∗ bigSep (Ring.homeSet (NB := 16) 1 0) done)) := by
  have f0 : free 16 = free 0 := (hf 14).trans ((hf 12).trans ((hf 10).trans ((hf 8).trans ((hf 6).trans ((hf 4).trans ((hf 2).trans (hf 0)))))))
  have e1 : bigSep (lowSet 15) done = iprop(done (Ring.bk 16 0) ∗ bigSep ((lowSet 15).erase (Ring.bk 16 0)) done) := by
    conv_lhs => rw [show lowSet 15 = insert (Ring.bk 16 0) ((lowSet 15).erase (Ring.bk 16 0)) from by decide, bigSep_insert (by decide)]
    rfl
  have e2 : bigSep (Ring.homeSet (NB := 16) 1 0) done = iprop(done (Ring.bk 16 15) ∗ bigSep ((lowSet 15).erase (Ring.bk 16 0)) done) := by
    rw [show Ring.homeSet (NB := 16) 1 0 = insert (Ring.bk 16 15) ((lowSet 15).erase (Ring.bk 16 0)) from by decide, bigSep_insert (by decide)]
    rfl
  unfold OutSide
  rw [if_neg (by decide), f0, e2, show lowSet (16 - 1) = lowSet 15 from rfl, e1, show (16 - 1 : Nat) = 15 from rfl]
  iintro ⟨⟨H0, Hl⟩, -, Hf, Hg⟩
  isplitl [Hf]; · iexact Hf
  isplitl [Hg]; · iexact Hg
  isplitl [H0]; · iexact H0
  iintro H
  isplitl [H]; · iexact H
  iexact Hl
end Side
end Cert.Proof.Layer
-- ==== Proof.Tiles.lean ====
module

public import proofs.«01_k».proof.Proof.Spec
public import Idealize.ShloMosaic.Lib.Pointwise
public import Idealize.ShloMosaic.Lib.Pipeline.Value

@[expose] public section

set_option maxRecDepth 8192

noncomputable section

namespace Cert.Proof.Layer

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

/-! ## Reading back what was written -/

/-- Two contents that read the same through a memref are the same assertion about its elements. -/
theorem ptM_congr_read (c : Dev nD) {sp : Space} {S : Shape} {e : EltTy} (M : Memref sig .tc sp S e) (f g : BufOf F c M)
    (h : M.view.read (Elt F) f = M.view.read (Elt F) g) : ptM c M f = ptM c M g := by
  refine pointsTo_congr fun i hi => ?_
  obtain ⟨x, -, rfl⟩ := Finset.mem_map.mp hi
  have := congrFun h x
  rw [View.read_apply, View.read_apply] at this
  exact (cast_inj _).mp this

/-- A load after a write of the whole buffer reads what was written. -/
theorem readCov_whole {sp : Space} {S : Shape} {e : EltTy} (v : View sig .tc sp S e) (w : S.Idx → Elt F e) (B : LoadRect S) :
    v.readCov (Val := Elt F) [⟨Rect.whole S, w⟩] B = fun j => w (B.idx j) := by
  funext j
  exact congrFun (View.read_writes_whole v v.junk w) (B.idx j)

/-- A read at an index: pieces that agree with `G`, over contents that agree with `G` where no piece lies. -/
theorem read_pieces_base {sp : Space} {S : Shape} {e : EltTy} (v : View sig .tc sp S e) (f : v.ty.Contents (Elt F)) (G : S.Idx → Elt F e) :
    ∀ L : List (View.Piece (Elt F) S e), (∀ p ∈ L, ∀ x : p.1.shape.Idx, p.2 x = G (p.1.emb x)) →
      ∀ y : S.Idx, ((∃ p ∈ L, y ∈ p.1.set) ∨ v.read (Elt F) f y = G y) → v.read (Elt F) (v.writes (Elt F) f L) y = G y
  | [], _, _, h => by
    rcases h with ⟨_, hm, _⟩ | h
    · exact absurd hm List.not_mem_nil
    · exact h
  | p :: L, hG, y, h => by
    by_cases hy : y ∈ p.1.set
    · exact View.read_writes_apply_of_pieces v f G (p :: L) hG y ⟨p, List.mem_cons_self, hy⟩
    · have hy' : y ∉ Finset.univ.map p.1.emb := by rwa [Rect.map_emb_univ]
      rw [View.writes_cons, View.read_slice_write_of_not_mem p.1 _ _ _ hy']
      refine read_pieces_base v f G L (fun p' hp' => hG p' (List.mem_cons_of_mem _ hp')) y ?_
      rcases h with ⟨p', hm, hy''⟩ | h
      · rcases List.mem_cons.mp hm with rfl | hm
        · exact absurd hy'' hy
        · exact Or.inl ⟨p', hm, hy''⟩
      · exact Or.inr h

/-- An entry of an array as an entry of its tile. -/
theorem rows_at {α : Type} {C : Nat} (X : (⟨3, ![2, 8192, C]⟩ : Shape).Idx → α) (b : Fin 2) (q : Nat) (hq : q < 32)
    (j : (⟨3, ![1, 256, C]⟩ : Shape).Idx) (i : (⟨3, ![2, 8192, C]⟩ : Shape).Idx)
    (h0 : (i 0).val = b.val) (h1 : (i 1).val = 256 * q + (j 1).val) (h2 : (i 2).val = (j 2).val) : X i = rows X b q j := by
  have hj : (j 1).val < 256 := (j 1).isLt
  refine congrArg X (funext fun a => Fin.ext ?_)
  match a with
  | ⟨0, _⟩ => exact h0
  | ⟨1, _⟩ => exact h1.trans (by show _ = (256 * q + (j 1).val) % 8192; omega)
  | ⟨2, _⟩ => exact h2

/-! Each load of a fetched block reads one tile. -/

theorem xs1_tile_00 (c : Dev nD) (s : Fin 2) (n : Nat) (hn : n < 16) (XA : BufOf F c xM) :
    (xs1 s).view.readCov (Val := Elt F) [⟨Rect.whole S2x512x1024, ReadAs.same.apply (View.read (Elt F) (xblk (Ring.bk 16 n)).view XA)⟩]
      (Rect.unit (s := S2x512x1024) ![0, 0, 0] S1x256x1024.size inb_S2x512x1024_S1x256x1024_0_0_0).toLoadRect
    = rows (xM.view.read (Elt F) XA) 0 (2 * n + 0) := by
  rw [readCov_whole]
  funext j
  have hb := Ring.bk_val (NB := 16) hn
  have h0 : (j 0).val < 1 := (j 0).isLt
  have h1 : (j 1).val < 256 := (j 1).isLt
  refine rows_at (C := 1024) (xM.view.read (Elt F) XA) 0 (2 * n + 0) (by omega) j
    ((Rect.unit (s := S2x8192x1024) (blkOff (Ring.bk 16 n)) S2x512x1024.size (blkOff_inb _)).idx
      ((Rect.unit (s := S2x512x1024) ![0, 0, 0] S1x256x1024.size inb_S2x512x1024_S1x256x1024_0_0_0).idx j)) ?_ ?_ ?_
  · show 0 + 1 * (0 + 1 * (j 0).val) = 0
    omega
  · show 512 * (Ring.bk 16 n).val + 1 * (0 + 1 * (j 1).val) = 256 * (2 * n + 0) + (j 1).val
    omega
  · show 0 + 1 * (0 + 1 * (j 2).val) = (j 2).val
    omega

theorem xs1_tile_01 (c : Dev nD) (s : Fin 2) (n : Nat) (hn : n < 16) (XA : BufOf F c xM) :
    (xs1 s).view.readCov (Val := Elt F) [⟨Rect.whole S2x512x1024, ReadAs.same.apply (View.read (Elt F) (xblk (Ring.bk 16 n)).view XA)⟩]
      (Rect.unit (s := S2x512x1024) ![0, 256, 0] S1x256x1024.size inb_S2x512x1024_S1x256x1024_0_256_0).toLoadRect
    = rows (xM.view.read (Elt F) XA) 0 (2 * n + 1) := by
  rw [readCov_whole]
  funext j
  have hb := Ring.bk_val (NB := 16) hn
  have h0 : (j 0).val < 1 := (j 0).isLt
  have h1 : (j 1).val < 256 := (j 1).isLt
  refine rows_at (C := 1024) (xM.view.read (Elt F) XA) 0 (2 * n + 1) (by omega) j
    ((Rect.unit (s := S2x8192x1024) (blkOff (Ring.bk 16 n)) S2x512x1024.size (blkOff_inb _)).idx
      ((Rect.unit (s := S2x512x1024) ![0, 256, 0] S1x256x1024.size inb_S2x512x1024_S1x256x1024_0_256_0).idx j)) ?_ ?_ ?_
  · show 0 + 1 * (0 + 1 * (j 0).val) = 0
    omega
  · show 512 * (Ring.bk 16 n).val + 1 * (256 + 1 * (j 1).val) = 256 * (2 * n + 1) + (j 1).val
    omega
  · show 0 + 1 * (0 + 1 * (j 2).val) = (j 2).val
    omega

theorem xs1_tile_10 (c : Dev nD) (s : Fin 2) (n : Nat) (hn : n < 16) (XA : BufOf F c xM) :
    (xs1 s).view.readCov (Val := Elt F) [⟨Rect.whole S2x512x1024, ReadAs.same.apply (View.read (Elt F) (xblk (Ring.bk 16 n)).view XA)⟩]
      (Rect.unit (s := S2x512x1024) ![1, 0, 0] S1x256x1024.size inb_S2x512x1024_S1x256x1024_1_0_0).toLoadRect
    = rows (xM.view.read (Elt F) XA) 1 (2 * n + 0) := by
  rw [readCov_whole]
  funext j
  have hb := Ring.bk_val (NB := 16) hn
  have h0 : (j 0).val < 1 := (j 0).isLt
  have h1 : (j 1).val < 256 := (j 1).isLt
  refine rows_at (C := 1024) (xM.view.read (Elt F) XA) 1 (2 * n + 0) (by omega) j
    ((Rect.unit (s := S2x8192x1024) (blkOff (Ring.bk 16 n)) S2x512x1024.size (blkOff_inb _)).idx
      ((Rect.unit (s := S2x512x1024) ![1, 0, 0] S1x256x1024.size inb_S2x512x1024_S1x256x1024_1_0_0).idx j)) ?_ ?_ ?_
  · show 0 + 1 * (1 + 1 * (j 0).val) = 1
    omega
  · show 512 * (Ring.bk 16 n).val + 1 * (0 + 1 * (j 1).val) = 256 * (2 * n + 0) + (j 1).val
    omega
  · show 0 + 1 * (0 + 1 * (j 2).val) = (j 2).val
    omega

theorem xs1_tile_11 (c : Dev nD) (s : Fin 2) (n : Nat) (hn : n < 16) (XA : BufOf F c xM) :
    (xs1 s).view.readCov (Val := Elt F) [⟨Rect.whole S2x512x1024, ReadAs.same.apply (View.read (Elt F) (xblk (Ring.bk 16 n)).view XA)⟩]
      (Rect.unit (s := S2x512x1024) ![1, 256, 0] S1x256x1024.size inb_S2x512x1024_S1x256x1024_1_256_0).toLoadRect
    = rows (xM.view.read (Elt F) XA) 1 (2 * n + 1) := by
  rw [readCov_whole]
  funext j
  have hb := Ring.bk_val (NB := 16) hn
  have h0 : (j 0).val < 1 := (j 0).isLt
  have h1 : (j 1).val < 256 := (j 1).isLt
  refine rows_at (C := 1024) (xM.view.read (Elt F) XA) 1 (2 * n + 1) (by omega) j
    ((Rect.unit (s := S2x8192x1024) (blkOff (Ring.bk 16 n)) S2x512x1024.size (blkOff_inb _)).idx
      ((Rect.unit (s := S2x512x1024) ![1, 256, 0] S1x256x1024.size inb_S2x512x1024_S1x256x1024_1_256_0).idx j)) ?_ ?_ ?_
  · show 0 + 1 * (1 + 1 * (j 0).val) = 1
    omega
  · show 512 * (Ring.bk 16 n).val + 1 * (256 + 1 * (j 1).val) = 256 * (2 * n + 1) + (j 1).val
    omega
  · show 0 + 1 * (0 + 1 * (j 2).val) = (j 2).val
    omega

theorem xs2_tile_00 (c : Dev nD) (s : Fin 2) (n : Nat) (hn : n < 16) (XA : BufOf F c xM) :
    (xs2 s).view.readCov (Val := Elt F) [⟨Rect.whole S2x512x1024, ReadAs.same.apply (View.read (Elt F) (xblk (Ring.bk 16 n)).view XA)⟩]
      (Rect.unit (s := S2x512x1024) ![0, 0, 0] S1x256x1024.size inb_S2x512x1024_S1x256x1024_0_0_0).toLoadRect
    = rows (xM.view.read (Elt F) XA) 0 (2 * n + 0) := by
  rw [readCov_whole]
  funext j
  have hb := Ring.bk_val (NB := 16) hn
  have h0 : (j 0).val < 1 := (j 0).isLt
  have h1 : (j 1).val < 256 := (j 1).isLt
  refine rows_at (C := 1024) (xM.view.read (Elt F) XA) 0 (2 * n + 0) (by omega) j
    ((Rect.unit (s := S2x8192x1024) (blkOff (Ring.bk 16 n)) S2x512x1024.size (blkOff_inb _)).idx
      ((Rect.unit (s := S2x512x1024) ![0, 0, 0] S1x256x1024.size inb_S2x512x1024_S1x256x1024_0_0_0).idx j)) ?_ ?_ ?_
  · show 0 + 1 * (0 + 1 * (j 0).val) = 0
    omega
  · show 512 * (Ring.bk 16 n).val + 1 * (0 + 1 * (j 1).val) = 256 * (2 * n + 0) + (j 1).val
    omega
  · show 0 + 1 * (0 + 1 * (j 2).val) = (j 2).val
    omega

theorem xs2_tile_01 (c : Dev nD) (s : Fin 2) (n : Nat) (hn : n < 16) (XA : BufOf F c xM) :
    (xs2 s).view.readCov (Val := Elt F) [⟨Rect.whole S2x512x1024, ReadAs.same.apply (View.read (Elt F) (xblk (Ring.bk 16 n)).view XA)⟩]
      (Rect.unit (s := S2x512x1024) ![0, 256, 0] S1x256x1024.size inb_S2x512x1024_S1x256x1024_0_256_0).toLoadRect
    = rows (xM.view.read (Elt F) XA) 0 (2 * n + 1) := by
  rw [readCov_whole]
  funext j
  have hb := Ring.bk_val (NB := 16) hn
  have h0 : (j 0).val < 1 := (j 0).isLt
  have h1 : (j 1).val < 256 := (j 1).isLt
  refine rows_at (C := 1024) (xM.view.read (Elt F) XA) 0 (2 * n + 1) (by omega) j
    ((Rect.unit (s := S2x8192x1024) (blkOff (Ring.bk 16 n)) S2x512x1024.size (blkOff_inb _)).idx
      ((Rect.unit (s := S2x512x1024) ![0, 256, 0] S1x256x1024.size inb_S2x512x1024_S1x256x1024_0_256_0).idx j)) ?_ ?_ ?_
  · show 0 + 1 * (0 + 1 * (j 0).val) = 0
    omega
  · show 512 * (Ring.bk 16 n).val + 1 * (256 + 1 * (j 1).val) = 256 * (2 * n + 1) + (j 1).val
    omega
  · show 0 + 1 * (0 + 1 * (j 2).val) = (j 2).val
    omega

theorem xs2_tile_10 (c : Dev nD) (s : Fin 2) (n : Nat) (hn : n < 16) (XA : BufOf F c xM) :
    (xs2 s).view.readCov (Val := Elt F) [⟨Rect.whole S2x512x1024, ReadAs.same.apply (View.read (Elt F) (xblk (Ring.bk 16 n)).view XA)⟩]
      (Rect.unit (s := S2x512x1024) ![1, 0, 0] S1x256x1024.size inb_S2x512x1024_S1x256x1024_1_0_0).toLoadRect
    = rows (xM.view.read (Elt F) XA) 1 (2 * n + 0) := by
  rw [readCov_whole]
  funext j
  have hb := Ring.bk_val (NB := 16) hn
  have h0 : (j 0).val < 1 := (j 0).isLt
  have h1 : (j 1).val < 256 := (j 1).isLt
  refine rows_at (C := 1024) (xM.view.read (Elt F) XA) 1 (2 * n + 0) (by omega) j
    ((Rect.unit (s := S2x8192x1024) (blkOff (Ring.bk 16 n)) S2x512x1024.size (blkOff_inb _)).idx
      ((Rect.unit (s := S2x512x1024) ![1, 0, 0] S1x256x1024.size inb_S2x512x1024_S1x256x1024_1_0_0).idx j)) ?_ ?_ ?_
  · show 0 + 1 * (1 + 1 * (j 0).val) = 1
    omega
  · show 512 * (Ring.bk 16 n).val + 1 * (0 + 1 * (j 1).val) = 256 * (2 * n + 0) + (j 1).val
    omega
  · show 0 + 1 * (0 + 1 * (j 2).val) = (j 2).val
    omega

theorem xs2_tile_11 (c : Dev nD) (s : Fin 2) (n : Nat) (hn : n < 16) (XA : BufOf F c xM) :
    (xs2 s).view.readCov (Val := Elt F) [⟨Rect.whole S2x512x1024, ReadAs.same.apply (View.read (Elt F) (xblk (Ring.bk 16 n)).view XA)⟩]
      (Rect.unit (s := S2x512x1024) ![1, 256, 0] S1x256x1024.size inb_S2x512x1024_S1x256x1024_1_256_0).toLoadRect
    = rows (xM.view.read (Elt F) XA) 1 (2 * n + 1) := by
  rw [readCov_whole]
  funext j
  have hb := Ring.bk_val (NB := 16) hn
  have h0 : (j 0).val < 1 := (j 0).isLt
  have h1 : (j 1).val < 256 := (j 1).isLt
  refine rows_at (C := 1024) (xM.view.read (Elt F) XA) 1 (2 * n + 1) (by omega) j
    ((Rect.unit (s := S2x8192x1024) (blkOff (Ring.bk 16 n)) S2x512x1024.size (blkOff_inb _)).idx
      ((Rect.unit (s := S2x512x1024) ![1, 256, 0] S1x256x1024.size inb_S2x512x1024_S1x256x1024_1_256_0).idx j)) ?_ ?_ ?_
  · show 0 + 1 * (1 + 1 * (j 0).val) = 1
    omega
  · show 512 * (Ring.bk 16 n).val + 1 * (256 + 1 * (j 1).val) = 256 * (2 * n + 1) + (j 1).val
    omega
  · show 0 + 1 * (0 + 1 * (j 2).val) = (j 2).val
    omega

theorem ys2_tile_00 (c : Dev nD) (s : Fin 2) (n : Nat) (hn : n < 16) (XA : BufOf F c yM) :
    (ys2 s).view.readCov (Val := Elt F) [⟨Rect.whole S2x512x1024, ReadAs.same.apply (View.read (Elt F) (yblk (Ring.bk 16 n)).view XA)⟩]
      (Rect.unit (s := S2x512x1024) ![0, 0, 0] S1x256x1024.size inb_S2x512x1024_S1x256x1024_0_0_0).toLoadRect
    = rows (yM.view.read (Elt F) XA) 0 (2 * n + 0) := by
  rw [readCov_whole]
  funext j
  have hb := Ring.bk_val (NB := 16) hn
  have h0 : (j 0).val < 1 := (j 0).isLt
  have h1 : (j 1).val < 256 := (j 1).isLt
  refine rows_at (C := 1024) (yM.view.read (Elt F) XA) 0 (2 * n + 0) (by omega) j
    ((Rect.unit (s := S2x8192x1024) (blkOff (Ring.bk 16 n)) S2x512x1024.size (blkOff_inb _)).idx
      ((Rect.unit (s := S2x512x1024) ![0, 0, 0] S1x256x1024.size inb_S2x512x1024_S1x256x1024_0_0_0).idx j)) ?_ ?_ ?_
  · show 0 + 1 * (0 + 1 * (j 0).val) = 0
    omega
  · show 512 * (Ring.bk 16 n).val + 1 * (0 + 1 * (j 1).val) = 256 * (2 * n + 0) + (j 1).val
    omega
  · show 0 + 1 * (0 + 1 * (j 2).val) = (j 2).val
    omega

theorem ys2_tile_01 (c : Dev nD) (s : Fin 2) (n : Nat) (hn : n < 16) (XA : BufOf F c yM) :
    (ys2 s).view.readCov (Val := Elt F) [⟨Rect.whole S2x512x1024, ReadAs.same.apply (View.read (Elt F) (yblk (Ring.bk 16 n)).view XA)⟩]
      (Rect.unit (s := S2x512x1024) ![0, 256, 0] S1x256x1024.size inb_S2x512x1024_S1x256x1024_0_256_0).toLoadRect
    = rows (yM.view.read (Elt F) XA) 0 (2 * n + 1) := by
  rw [readCov_whole]
  funext j
  have hb := Ring.bk_val (NB := 16) hn
  have h0 : (j 0).val < 1 := (j 0).isLt
  have h1 : (j 1).val < 256 := (j 1).isLt
  refine rows_at (C := 1024) (yM.view.read (Elt F) XA) 0 (2 * n + 1) (by omega) j
    ((Rect.unit (s := S2x8192x1024) (blkOff (Ring.bk 16 n)) S2x512x1024.size (blkOff_inb _)).idx
      ((Rect.unit (s := S2x512x1024) ![0, 256, 0] S1x256x1024.size inb_S2x512x1024_S1x256x1024_0_256_0).idx j)) ?_ ?_ ?_
  · show 0 + 1 * (0 + 1 * (j 0).val) = 0
    omega
  · show 512 * (Ring.bk 16 n).val + 1 * (256 + 1 * (j 1).val) = 256 * (2 * n + 1) + (j 1).val
    omega
  · show 0 + 1 * (0 + 1 * (j 2).val) = (j 2).val
    omega

theorem ys2_tile_10 (c : Dev nD) (s : Fin 2) (n : Nat) (hn : n < 16) (XA : BufOf F c yM) :
    (ys2 s).view.readCov (Val := Elt F) [⟨Rect.whole S2x512x1024, ReadAs.same.apply (View.read (Elt F) (yblk (Ring.bk 16 n)).view XA)⟩]
      (Rect.unit (s := S2x512x1024) ![1, 0, 0] S1x256x1024.size inb_S2x512x1024_S1x256x1024_1_0_0).toLoadRect
    = rows (yM.view.read (Elt F) XA) 1 (2 * n + 0) := by
  rw [readCov_whole]
  funext j
  have hb := Ring.bk_val (NB := 16) hn
  have h0 : (j 0).val < 1 := (j 0).isLt
  have h1 : (j 1).val < 256 := (j 1).isLt
  refine rows_at (C := 1024) (yM.view.read (Elt F) XA) 1 (2 * n + 0) (by omega) j
    ((Rect.unit (s := S2x8192x1024) (blkOff (Ring.bk 16 n)) S2x512x1024.size (blkOff_inb _)).idx
      ((Rect.unit (s := S2x512x1024) ![1, 0, 0] S1x256x1024.size inb_S2x512x1024_S1x256x1024_1_0_0).idx j)) ?_ ?_ ?_
  · show 0 + 1 * (1 + 1 * (j 0).val) = 1
    omega
  · show 512 * (Ring.bk 16 n).val + 1 * (0 + 1 * (j 1).val) = 256 * (2 * n + 0) + (j 1).val
    omega
  · show 0 + 1 * (0 + 1 * (j 2).val) = (j 2).val
    omega

theorem ys2_tile_11 (c : Dev nD) (s : Fin 2) (n : Nat) (hn : n < 16) (XA : BufOf F c yM) :
    (ys2 s).view.readCov (Val := Elt F) [⟨Rect.whole S2x512x1024, ReadAs.same.apply (View.read (Elt F) (yblk (Ring.bk 16 n)).view XA)⟩]
      (Rect.unit (s := S2x512x1024) ![1, 256, 0] S1x256x1024.size inb_S2x512x1024_S1x256x1024_1_256_0).toLoadRect
    = rows (yM.view.read (Elt F) XA) 1 (2 * n + 1) := by
  rw [readCov_whole]
  funext j
  have hb := Ring.bk_val (NB := 16) hn
  have h0 : (j 0).val < 1 := (j 0).isLt
  have h1 : (j 1).val < 256 := (j 1).isLt
  refine rows_at (C := 1024) (yM.view.read (Elt F) XA) 1 (2 * n + 1) (by omega) j
    ((Rect.unit (s := S2x8192x1024) (blkOff (Ring.bk 16 n)) S2x512x1024.size (blkOff_inb _)).idx
      ((Rect.unit (s := S2x512x1024) ![1, 256, 0] S1x256x1024.size inb_S2x512x1024_S1x256x1024_1_256_0).idx j)) ?_ ?_ ?_
  · show 0 + 1 * (1 + 1 * (j 0).val) = 1
    omega
  · show 512 * (Ring.bk 16 n).val + 1 * (256 + 1 * (j 1).val) = 256 * (2 * n + 1) + (j 1).val
    omega
  · show 0 + 1 * (0 + 1 * (j 2).val) = (j 2).val
    omega

theorem ps2_tile_00 (c : Dev nD) (s : Fin 2) (n : Nat) (hn : n < 16) (XA : BufOf F c pM) :
    (ps2 s).view.readCov (Val := Elt F) [⟨Rect.whole S2x512x256, ReadAs.same.apply (View.read (Elt F) (pblk (Ring.bk 16 n)).view XA)⟩]
      (Rect.unit (s := S2x512x256) ![0, 0, 0] S1x256x256.size inb_S2x512x256_S1x256x256_0_0_0).toLoadRect
    = rows (pL.view.read (Elt F) XA) 0 (2 * n + 0) := by
  rw [readCov_whole]
  funext j
  have hb := Ring.bk_val (NB := 16) hn
  have h0 : (j 0).val < 1 := (j 0).isLt
  have h1 : (j 1).val < 256 := (j 1).isLt
  refine rows_at (C := 256) (pL.view.read (Elt F) XA) 0 (2 * n + 0) (by omega) j
    ((Rect.unit (s := S2x8192x256) (blkOff (Ring.bk 16 n)) S2x512x256.size (pblkOff_inb _)).idx
      ((Rect.unit (s := S2x512x256) ![0, 0, 0] S1x256x256.size inb_S2x512x256_S1x256x256_0_0_0).idx j)) ?_ ?_ ?_
  · show 0 + 1 * (0 + 1 * (j 0).val) = 0
    omega
  · show 512 * (Ring.bk 16 n).val + 1 * (0 + 1 * (j 1).val) = 256 * (2 * n + 0) + (j 1).val
    omega
  · show 0 + 1 * (0 + 1 * (j 2).val) = (j 2).val
    omega

theorem ps2_tile_01 (c : Dev nD) (s : Fin 2) (n : Nat) (hn : n < 16) (XA : BufOf F c pM) :
    (ps2 s).view.readCov (Val := Elt F) [⟨Rect.whole S2x512x256, ReadAs.same.apply (View.read (Elt F) (pblk (Ring.bk 16 n)).view XA)⟩]
      (Rect.unit (s := S2x512x256) ![0, 256, 0] S1x256x256.size inb_S2x512x256_S1x256x256_0_256_0).toLoadRect
    = rows (pL.view.read (Elt F) XA) 0 (2 * n + 1) := by
  rw [readCov_whole]
  funext j
  have hb := Ring.bk_val (NB := 16) hn
  have h0 : (j 0).val < 1 := (j 0).isLt
  have h1 : (j 1).val < 256 := (j 1).isLt
  refine rows_at (C := 256) (pL.view.read (Elt F) XA) 0 (2 * n + 1) (by omega) j
    ((Rect.unit (s := S2x8192x256) (blkOff (Ring.bk 16 n)) S2x512x256.size (pblkOff_inb _)).idx
      ((Rect.unit (s := S2x512x256) ![0, 256, 0] S1x256x256.size inb_S2x512x256_S1x256x256_0_256_0).idx j)) ?_ ?_ ?_
  · show 0 + 1 * (0 + 1 * (j 0).val) = 0
    omega
  · show 512 * (Ring.bk 16 n).val + 1 * (256 + 1 * (j 1).val) = 256 * (2 * n + 1) + (j 1).val
    omega
  · show 0 + 1 * (0 + 1 * (j 2).val) = (j 2).val
    omega

theorem ps2_tile_10 (c : Dev nD) (s : Fin 2) (n : Nat) (hn : n < 16) (XA : BufOf F c pM) :
    (ps2 s).view.readCov (Val := Elt F) [⟨Rect.whole S2x512x256, ReadAs.same.apply (View.read (Elt F) (pblk (Ring.bk 16 n)).view XA)⟩]
      (Rect.unit (s := S2x512x256) ![1, 0, 0] S1x256x256.size inb_S2x512x256_S1x256x256_1_0_0).toLoadRect
    = rows (pL.view.read (Elt F) XA) 1 (2 * n + 0) := by
  rw [readCov_whole]
  funext j
  have hb := Ring.bk_val (NB := 16) hn
  have h0 : (j 0).val < 1 := (j 0).isLt
  have h1 : (j 1).val < 256 := (j 1).isLt
  refine rows_at (C := 256) (pL.view.read (Elt F) XA) 1 (2 * n + 0) (by omega) j
    ((Rect.unit (s := S2x8192x256) (blkOff (Ring.bk 16 n)) S2x512x256.size (pblkOff_inb _)).idx
      ((Rect.unit (s := S2x512x256) ![1, 0, 0] S1x256x256.size inb_S2x512x256_S1x256x256_1_0_0).idx j)) ?_ ?_ ?_
  · show 0 + 1 * (1 + 1 * (j 0).val) = 1
    omega
  · show 512 * (Ring.bk 16 n).val + 1 * (0 + 1 * (j 1).val) = 256 * (2 * n + 0) + (j 1).val
    omega
  · show 0 + 1 * (0 + 1 * (j 2).val) = (j 2).val
    omega

theorem ps2_tile_11 (c : Dev nD) (s : Fin 2) (n : Nat) (hn : n < 16) (XA : BufOf F c pM) :
    (ps2 s).view.readCov (Val := Elt F) [⟨Rect.whole S2x512x256, ReadAs.same.apply (View.read (Elt F) (pblk (Ring.bk 16 n)).view XA)⟩]
      (Rect.unit (s := S2x512x256) ![1, 256, 0] S1x256x256.size inb_S2x512x256_S1x256x256_1_256_0).toLoadRect
    = rows (pL.view.read (Elt F) XA) 1 (2 * n + 1) := by
  rw [readCov_whole]
  funext j
  have hb := Ring.bk_val (NB := 16) hn
  have h0 : (j 0).val < 1 := (j 0).isLt
  have h1 : (j 1).val < 256 := (j 1).isLt
  refine rows_at (C := 256) (pL.view.read (Elt F) XA) 1 (2 * n + 1) (by omega) j
    ((Rect.unit (s := S2x8192x256) (blkOff (Ring.bk 16 n)) S2x512x256.size (pblkOff_inb _)).idx
      ((Rect.unit (s := S2x512x256) ![1, 256, 0] S1x256x256.size inb_S2x512x256_S1x256x256_1_256_0).idx j)) ?_ ?_ ?_
  · show 0 + 1 * (1 + 1 * (j 0).val) = 1
    omega
  · show 512 * (Ring.bk 16 n).val + 1 * (256 + 1 * (j 1).val) = 256 * (2 * n + 1) + (j 1).val
    omega
  · show 0 + 1 * (0 + 1 * (j 2).val) = (j 2).val
    omega

end Cert.Proof.Layer
-- ==== Proof.Mixer.lean ====
module

public import proofs.«01_k».proof.Proof.Tiles
public import Idealize.ShloMosaic.Lib.Pointwise
public import Idealize.ShloMosaic.Lib.Pipeline.Value

@[expose] public section

set_option maxRecDepth 8192

noncomputable section

namespace Cert.Proof.Layer

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

/-! ## The mixer's buffers -/

/-- Block `n` of an array: its rows `512·n … 512·n + 511`. -/
def blockOf {α : Type} {C : Nat} (A : (⟨3, ![2, 8192, C]⟩ : Shape).Idx → α) (n : Nat) : (⟨3, ![2, 512, C]⟩ : Shape).Idx → α :=
  fun i => A (ix3 (i 0) (rowIx (512 * n + (i 1).val)) (i 2))

theorem blockOf_at {α : Type} {C : Nat} (X : (⟨3, ![2, 8192, C]⟩ : Shape).Idx → α) (n : Nat) (hn : n < 16)
    (j : (⟨3, ![2, 512, C]⟩ : Shape).Idx) (i : (⟨3, ![2, 8192, C]⟩ : Shape).Idx)
    (h0 : (i 0).val = (j 0).val) (h1 : (i 1).val = 512 * n + (j 1).val) (h2 : (i 2).val = (j 2).val) : X i = blockOf X n j := by
  have hj : (j 1).val < 512 := (j 1).isLt
  refine congrArg X (funext fun a => Fin.ext ?_)
  match a with
  | ⟨0, _⟩ => exact h0
  | ⟨1, _⟩ => exact h1.trans (by show _ = (512 * n + (j 1).val) % 8192; omega)
  | ⟨2, _⟩ => exact h2

/-- `y`'s block, read through the window the pipeline writes it by. -/
theorem yblk_read (c : Dev nD) (n : Nat) (hn : n < 16) (A : BufOf F c yM) :
    (yblk (Ring.bk 16 n)).view.read (Elt F) A = blockOf (yM.view.read (Elt F) A) n := by
  funext j
  have hb := Ring.bk_val (NB := 16) hn
  refine blockOf_at (C := 1024) (yM.view.read (Elt F) A) n hn j
    ((Rect.unit (s := S2x8192x1024) (blkOff (Ring.bk 16 n)) S2x512x1024.size (blkOff_inb _)).idx j) ?_ ?_ ?_
  · show 0 + 1 * (j 0).val = (j 0).val
    omega
  · show 512 * (Ring.bk 16 n).val + 1 * (j 1).val = 512 * n + (j 1).val
    omega
  · show 0 + 1 * (j 2).val = (j 2).val
    omega

/-- The result's block, likewise. -/
theorem oblk_read (c : Dev nD) (n : Nat) (hn : n < 16) (A : BufOf F c oM) :
    (oblk (Ring.bk 16 n)).view.read (Elt F) A = blockOf (oM.view.read (Elt F) A) n := by
  funext j
  have hb := Ring.bk_val (NB := 16) hn
  refine blockOf_at (C := 1024) (oM.view.read (Elt F) A) n hn j
    ((Rect.unit (s := S2x8192x1024) (blkOff (Ring.bk 16 n)) S2x512x1024.size (blkOff_inb _)).idx j) ?_ ?_ ?_
  · show 0 + 1 * (j 0).val = (j 0).val
    omega
  · show 512 * (Ring.bk 16 n).val + 1 * (j 1).val = 512 * n + (j 1).val
    omega
  · show 0 + 1 * (j 2).val = (j 2).val
    omega

section Z
variable (X : Vec F S2x8192x1024 .f32) (WI : Vec F S1024x3072 .bf16) (CW : Vec F S1x3x1024 .f32)

/-- `z` at a row, by the tile it lies in. -/
theorem ZS_at (b : Fin 2) (q p r : Nat) (hq : q < 32) (hp : p < 256) (hr : r = 256 * q + p) (ch : Fin 1024) :
    ZS X WI (ix3 b (rowIx r) ch) = zT X WI b q (ix2 ⟨p, hp⟩ ch) := by
  show zT X WI b ((r % 8192) / 256) (ix2 (tileRow (r % 8192)) ch) = _
  have e1 : (r % 8192) / 256 = q := by omega
  have e2 : tileRow (r % 8192) = ⟨p, hp⟩ := Fin.ext (by show (r % 8192) % 256 = p; omega)
  rw [e1, e2]

/-- The mixer's result at a row, by the tile it lies in. -/
theorem YS_at (b : Fin 2) (q p r : Nat) (hq : q < 32) (hp : p < 256) (hr : r = 256 * q + p) (ch : Fin 1024) :
    YS X WI CW (ix3 b (rowIx r) ch) = yT X WI CW b q (ix2 ⟨p, hp⟩ ch) := by
  show yT X WI CW b ((r % 8192) / 256) (ix2 (tileRow (r % 8192)) ch) = _
  have e1 : (r % 8192) / 256 = q := by omega
  have e2 : tileRow (r % 8192) = ⟨p, hp⟩ := Fin.ext (by show (r % 8192) % 256 = p; omega)
  rw [e1, e2]

/-- The `z` buffer at a row of a tile computed so far. -/
theorem zBuf_at (n : Nat) (i : S2x520x1024.Idx) (b : Fin 2) (q p : Nat) (hq : q < 32) (hp : p < 256) (ch : Fin 1024)
    (h0 : (i 0).val = b.val) (h1 : 512 * n + (i 1).val = 256 * q + p + 8) (h2 : (i 2).val = ch.val) :
    zBuf X WI n i = zT X WI b q (ix2 ⟨p, hp⟩ ch) := by
  have e0 : (i 0 : Fin 2) = b := Fin.ext h0
  have e2 : (i 2 : Fin 1024) = ch := Fin.ext h2
  show (if 512 * n + (i 1).val < 8 then zZero else ZS X WI (ix3 (i 0) (rowIx (512 * n + (i 1).val - 8)) (i 2))) = _
  rw [if_neg (by omega), e0, e2]
  exact ZS_at X WI b q p _ hq hp (by omega) ch

/-- The `z` buffer at a row, `d` rows before a row of tile `q`. -/
theorem zBuf_win (n : Nat) (i : S2x520x1024.Idx) (j : S1x256x1024.Idx) (b : Fin 2) (q d : Nat) (hd : d ≤ 8)
    (h0 : (i 0).val = b.val) (h1 : 512 * n + (i 1).val + d = 256 * q + (j 1).val + 8) (h2 : (i 2).val = (j 2).val) :
    zBuf X WI n i = zWin X WI b q d j := by
  have e0 : (i 0 : Fin 2) = b := Fin.ext h0
  have e2 : (i 2 : Fin 1024) = j 2 := Fin.ext h2
  show (if 512 * n + (i 1).val < 8 then zZero else ZS X WI (ix3 (i 0) (rowIx (512 * n + (i 1).val - 8)) (i 2)))
    = (if 256 * q + (j 1).val < d then zZero else ZS X WI (ix3 b (rowIx (256 * q + (j 1).val - d)) (j 2)))
  rw [e0, e2]
  by_cases h : 512 * n + (i 1).val < 8
  · rw [if_pos h, if_pos (by omega)]
  · rw [if_neg h, if_neg (by omega), show 512 * n + (i 1).val - 8 = 256 * q + (j 1).val - d by omega]

/-- The four tiles of `z` a block's trip stores. -/
def zPieces (n : Nat) : List (View.Piece (Elt F) S2x520x1024 .f32) :=
  [⟨Rect.unit (s := S2x520x1024) ![1, 264, 0] S1x256x1024.size inb_S2x520x1024_S1x256x1024_1_264_0, k0_pay5 (zT X WI 1 (2 * n + 1))⟩,
   ⟨Rect.unit (s := S2x520x1024) ![1, 8, 0] S1x256x1024.size inb_S2x520x1024_S1x256x1024_1_8_0, k0_pay5 (zT X WI 1 (2 * n))⟩,
   ⟨Rect.unit (s := S2x520x1024) ![0, 264, 0] S1x256x1024.size inb_S2x520x1024_S1x256x1024_0_264_0, k0_pay5 (zT X WI 0 (2 * n + 1))⟩,
   ⟨Rect.unit (s := S2x520x1024) ![0, 8, 0] S1x256x1024.size inb_S2x520x1024_S1x256x1024_0_8_0, k0_pay5 (zT X WI 0 (2 * n))⟩]

/-- The two zero rows' pieces the first trip stores. -/
def zZeros : List (View.Piece (Elt F) S2x520x1024 .f32) :=
  [⟨Rect.unit (s := S2x520x1024) ![1, 0, 0] S1x8x1024.size inb_S2x520x1024_S1x8x1024_1_0_0, k0_pay1⟩,
   ⟨Rect.unit (s := S2x520x1024) ![0, 0, 0] S1x8x1024.size inb_S2x520x1024_S1x8x1024_0_0_0, k0_pay1⟩]

/-- The last eight rows of the block, moved in front. -/
def zHalos (n : Nat) : List (View.Piece (Elt F) S2x520x1024 .f32) :=
  [⟨Rect.unit (s := S2x520x1024) ![1, 0, 0] S1x8x1024.size inb_S2x520x1024_S1x8x1024_1_0_0, k0_pay30 (zT X WI 1 (2 * n + 1))⟩,
   ⟨Rect.unit (s := S2x520x1024) ![0, 0, 0] S1x8x1024.size inb_S2x520x1024_S1x8x1024_0_0_0, k0_pay30 (zT X WI 0 (2 * n + 1))⟩]

theorem pay5_at (v : FVec F S256x1024 .f32) (x : S1x256x1024.Idx) : k0_pay5 v x = v (ix2 (x 1) (x 2)) := by
  refine (shapeCast_addUnit_apply ![256, 1024] v _ x).trans (congrArg v (funext fun a => ?_))
  match a with
  | ⟨0, _⟩ => rfl
  | ⟨1, _⟩ => rfl

theorem pay30_at (v : FVec F S256x1024 .f32) (x : S1x8x1024.Idx) :
    k0_pay30 v x = v (ix2 (⟨248 + (x 1).val, by have := (x 1).isLt; simp at this; omega⟩ : Fin 256) (x 2)) := by
  refine (shapeCast_addUnit_apply ![8, 1024] (extractStridedSlice S8x1024 ![248, 0] v slices_S256x1024_o248_0_S8x1024) shapeCasts_S8x1024_S1x8x1024 x).trans ?_
  refine extractStridedSlice_apply ![248, 0] v slices_S256x1024_o248_0_S8x1024 _ _ fun a => ?_
  match a with
  | ⟨0, _⟩ => rfl
  | ⟨1, _⟩ => show (x 2).val = 0 + (x 2).val; omega

theorem pay25_at (v : FVec F S256x1024 .bf16) (x : S1x1x256x1024.Idx) : k0_pay25 v x = v (ix2 (x 2) (x 3)) := by
  refine (shapeCast_addUnit_apply ![1, 256, 1024] (shapeCast S1x256x1024 v shapeCasts_S256x1024_S1x256x1024) shapeCasts_S1x256x1024_S1x1x256x1024 x).trans ?_
  refine (shapeCast_addUnit_apply ![256, 1024] v shapeCasts_S256x1024_S1x256x1024 _).trans (congrArg v (funext fun a => ?_))
  match a with
  | ⟨0, _⟩ => rfl
  | ⟨1, _⟩ => rfl

theorem zPiece_00 (n : Nat) (hn : n < 16) (x : S1x256x1024.Idx) :
    k0_pay5 (zT X WI 0 (2 * n)) x = zBuf X WI n ((Rect.unit (s := S2x520x1024) ![0, 8, 0] S1x256x1024.size inb_S2x520x1024_S1x256x1024_0_8_0).emb x) := by
  have h0 : (x 0).val < 1 := (x 0).isLt
  have h1 : (x 1).val < 256 := (x 1).isLt
  rw [pay5_at]
  refine (zBuf_at X WI n _ 0 (2 * n) (x 1).val (by omega) h1 (x 2) ?_ ?_ ?_).symm
  · show 0 + 1 * (x 0).val = 0
    omega
  · show 512 * n + (8 + 1 * (x 1).val) = 256 * (2 * n) + (x 1).val + 8
    omega
  · show 0 + 1 * (x 2).val = (x 2).val
    omega

theorem zPiece_01 (n : Nat) (hn : n < 16) (x : S1x256x1024.Idx) :
    k0_pay5 (zT X WI 0 (2 * n + 1)) x = zBuf X WI n ((Rect.unit (s := S2x520x1024) ![0, 264, 0] S1x256x1024.size inb_S2x520x1024_S1x256x1024_0_264_0).emb x) := by
  have h0 : (x 0).val < 1 := (x 0).isLt
  have h1 : (x 1).val < 256 := (x 1).isLt
  rw [pay5_at]
  refine (zBuf_at X WI n _ 0 (2 * n + 1) (x 1).val (by omega) h1 (x 2) ?_ ?_ ?_).symm
  · show 0 + 1 * (x 0).val = 0
    omega
  · show 512 * n + (264 + 1 * (x 1).val) = 256 * (2 * n + 1) + (x 1).val + 8
    omega
  · show 0 + 1 * (x 2).val = (x 2).val
    omega

theorem zPiece_10 (n : Nat) (hn : n < 16) (x : S1x256x1024.Idx) :
    k0_pay5 (zT X WI 1 (2 * n)) x = zBuf X WI n ((Rect.unit (s := S2x520x1024) ![1, 8, 0] S1x256x1024.size inb_S2x520x1024_S1x256x1024_1_8_0).emb x) := by
  have h0 : (x 0).val < 1 := (x 0).isLt
  have h1 : (x 1).val < 256 := (x 1).isLt
  rw [pay5_at]
  refine (zBuf_at X WI n _ 1 (2 * n) (x 1).val (by omega) h1 (x 2) ?_ ?_ ?_).symm
  · show 1 + 1 * (x 0).val = 1
    omega
  · show 512 * n + (8 + 1 * (x 1).val) = 256 * (2 * n) + (x 1).val + 8
    omega
  · show 0 + 1 * (x 2).val = (x 2).val
    omega

theorem zPiece_11 (n : Nat) (hn : n < 16) (x : S1x256x1024.Idx) :
    k0_pay5 (zT X WI 1 (2 * n + 1)) x = zBuf X WI n ((Rect.unit (s := S2x520x1024) ![1, 264, 0] S1x256x1024.size inb_S2x520x1024_S1x256x1024_1_264_0).emb x) := by
  have h0 : (x 0).val < 1 := (x 0).isLt
  have h1 : (x 1).val < 256 := (x 1).isLt
  rw [pay5_at]
  refine (zBuf_at X WI n _ 1 (2 * n + 1) (x 1).val (by omega) h1 (x 2) ?_ ?_ ?_).symm
  · show 1 + 1 * (x 0).val = 1
    omega
  · show 512 * n + (264 + 1 * (x 1).val) = 256 * (2 * n + 1) + (x 1).val + 8
    omega
  · show 0 + 1 * (x 2).val = (x 2).val
    omega

theorem zZero_0 (x : S1x8x1024.Idx) :
    k0_pay1 x = zBuf X WI 0 ((Rect.unit (s := S2x520x1024) ![0, 0, 0] S1x8x1024.size inb_S2x520x1024_S1x8x1024_0_0_0).emb x) := by
  have h1 : (x 1).val < 8 := (x 1).isLt
  exact (if_pos (show 512 * 0 + (0 + 1 * (x 1).val) < 8 by omega)).symm

theorem zHalo_0 (n : Nat) (hn : n + 1 < 16) (x : S1x8x1024.Idx) :
    k0_pay30 (zT X WI 0 (2 * n + 1)) x = zBuf X WI (n + 1) ((Rect.unit (s := S2x520x1024) ![0, 0, 0] S1x8x1024.size inb_S2x520x1024_S1x8x1024_0_0_0).emb x) := by
  have h0 : (x 0).val < 1 := (x 0).isLt
  have h1 : (x 1).val < 8 := (x 1).isLt
  rw [pay30_at]
  refine (zBuf_at X WI (n + 1) _ 0 (2 * n + 1) (248 + (x 1).val) (by omega) (by omega) (x 2) ?_ ?_ ?_).symm
  · show 0 + 1 * (x 0).val = 0
    omega
  · show 512 * (n + 1) + (0 + 1 * (x 1).val) = 256 * (2 * n + 1) + (248 + (x 1).val) + 8
    omega
  · show 0 + 1 * (x 2).val = (x 2).val
    omega

theorem zZero_1 (x : S1x8x1024.Idx) :
    k0_pay1 x = zBuf X WI 0 ((Rect.unit (s := S2x520x1024) ![1, 0, 0] S1x8x1024.size inb_S2x520x1024_S1x8x1024_1_0_0).emb x) := by
  have h1 : (x 1).val < 8 := (x 1).isLt
  exact (if_pos (show 512 * 0 + (0 + 1 * (x 1).val) < 8 by omega)).symm

theorem zHalo_1 (n : Nat) (hn : n + 1 < 16) (x : S1x8x1024.Idx) :
    k0_pay30 (zT X WI 1 (2 * n + 1)) x = zBuf X WI (n + 1) ((Rect.unit (s := S2x520x1024) ![1, 0, 0] S1x8x1024.size inb_S2x520x1024_S1x8x1024_1_0_0).emb x) := by
  have h0 : (x 0).val < 1 := (x 0).isLt
  have h1 : (x 1).val < 8 := (x 1).isLt
  rw [pay30_at]
  refine (zBuf_at X WI (n + 1) _ 1 (2 * n + 1) (248 + (x 1).val) (by omega) (by omega) (x 2) ?_ ?_ ?_).symm
  · show 1 + 1 * (x 0).val = 1
    omega
  · show 512 * (n + 1) + (0 + 1 * (x 1).val) = 256 * (2 * n + 1) + (248 + (x 1).val) + 8
    omega
  · show 0 + 1 * (x 2).val = (x 2).val
    omega

theorem zPieces_agree (n : Nat) (hn : n < 16) : ∀ p ∈ zPieces X WI n, ∀ x : p.1.shape.Idx, p.2 x = zBuf X WI n (p.1.emb x) := by
  intro p hp
  rcases List.mem_cons.mp hp with rfl | hp
  · exact zPiece_11 X WI n hn
  rcases List.mem_cons.mp hp with rfl | hp
  · exact zPiece_10 X WI n hn
  rcases List.mem_cons.mp hp with rfl | hp
  · exact zPiece_01 X WI n hn
  rcases List.mem_cons.mp hp with rfl | hp
  · exact zPiece_00 X WI n hn
  · exact absurd hp List.not_mem_nil

theorem zZeros_agree : ∀ p ∈ (zZeros (F := F)), ∀ x : p.1.shape.Idx, p.2 x = zBuf X WI 0 (p.1.emb x) := by
  intro p hp
  rcases List.mem_cons.mp hp with rfl | hp
  · exact zZero_1 X WI
  rcases List.mem_cons.mp hp with rfl | hp
  · exact zZero_0 X WI
  · exact absurd hp List.not_mem_nil

theorem zHalos_agree (n : Nat) (hn : n + 1 < 16) : ∀ p ∈ zHalos X WI n, ∀ x : p.1.shape.Idx, p.2 x = zBuf X WI (n + 1) (p.1.emb x) := by
  intro p hp
  rcases List.mem_cons.mp hp with rfl | hp
  · exact zHalo_1 X WI n hn
  rcases List.mem_cons.mp hp with rfl | hp
  · exact zHalo_0 X WI n hn
  · exact absurd hp List.not_mem_nil

/-- Every row from 8 on lies in one of the four tiles. -/
theorem zPieces_cover (n : Nat) (i : S2x520x1024.Idx) (h : 8 ≤ (i 1).val) : ∃ p ∈ zPieces X WI n, i ∈ p.1.set := by
  have h0 : (i 0).val < 2 := (i 0).isLt
  have h1 : (i 1).val < 520 := (i 1).isLt
  have h2 : (i 2).val < 1024 := (i 2).isLt
  rcases Nat.lt_or_ge (i 0).val 1 with a | a <;> rcases Nat.lt_or_ge (i 1).val 264 with b | b
  · refine ⟨_, List.mem_cons_of_mem _ (List.mem_cons_of_mem _ (List.mem_cons_of_mem _ List.mem_cons_self)), ?_⟩
    refine (Rect.mem_set_unit (inb := inb_S2x520x1024_S1x256x1024_0_8_0)).mpr fun x => ?_
    match x with
    | ⟨0, _⟩ => show 0 ≤ (i 0).val ∧ (i 0).val < 0 + 1; omega
    | ⟨1, _⟩ => show 8 ≤ (i 1).val ∧ (i 1).val < 8 + 256; omega
    | ⟨2, _⟩ => show 0 ≤ (i 2).val ∧ (i 2).val < 0 + 1024; omega
  · refine ⟨_, List.mem_cons_of_mem _ (List.mem_cons_of_mem _ List.mem_cons_self), ?_⟩
    refine (Rect.mem_set_unit (inb := inb_S2x520x1024_S1x256x1024_0_264_0)).mpr fun x => ?_
    match x with
    | ⟨0, _⟩ => show 0 ≤ (i 0).val ∧ (i 0).val < 0 + 1; omega
    | ⟨1, _⟩ => show 264 ≤ (i 1).val ∧ (i 1).val < 264 + 256; omega
    | ⟨2, _⟩ => show 0 ≤ (i 2).val ∧ (i 2).val < 0 + 1024; omega
  · refine ⟨_, List.mem_cons_of_mem _ List.mem_cons_self, ?_⟩
    refine (Rect.mem_set_unit (inb := inb_S2x520x1024_S1x256x1024_1_8_0)).mpr fun x => ?_
    match x with
    | ⟨0, _⟩ => show 1 ≤ (i 0).val ∧ (i 0).val < 1 + 1; omega
    | ⟨1, _⟩ => show 8 ≤ (i 1).val ∧ (i 1).val < 8 + 256; omega
    | ⟨2, _⟩ => show 0 ≤ (i 2).val ∧ (i 2).val < 0 + 1024; omega
  · refine ⟨_, List.mem_cons_self, ?_⟩
    refine (Rect.mem_set_unit (inb := inb_S2x520x1024_S1x256x1024_1_264_0)).mpr fun x => ?_
    match x with
    | ⟨0, _⟩ => show 1 ≤ (i 0).val ∧ (i 0).val < 1 + 1; omega
    | ⟨1, _⟩ => show 264 ≤ (i 1).val ∧ (i 1).val < 264 + 256; omega
    | ⟨2, _⟩ => show 0 ≤ (i 2).val ∧ (i 2).val < 0 + 1024; omega

theorem cover8 (p1 p0 : S1x8x1024.Idx → Elt F .f32) (i : S2x520x1024.Idx) (h : (i 1).val < 8) :
    ∃ p ∈ ([⟨Rect.unit (s := S2x520x1024) ![1, 0, 0] S1x8x1024.size inb_S2x520x1024_S1x8x1024_1_0_0, p1⟩,
      ⟨Rect.unit (s := S2x520x1024) ![0, 0, 0] S1x8x1024.size inb_S2x520x1024_S1x8x1024_0_0_0, p0⟩] : List (View.Piece (Elt F) S2x520x1024 .f32)), i ∈ p.1.set := by
  have h0 : (i 0).val < 2 := (i 0).isLt
  have h2 : (i 2).val < 1024 := (i 2).isLt
  rcases Nat.lt_or_ge (i 0).val 1 with a | a
  · refine ⟨_, List.mem_cons_of_mem _ List.mem_cons_self, ?_⟩
    refine (Rect.mem_set_unit (inb := inb_S2x520x1024_S1x8x1024_0_0_0)).mpr fun x => ?_
    match x with
    | ⟨0, _⟩ => show 0 ≤ (i 0).val ∧ (i 0).val < 0 + 1; omega
    | ⟨1, _⟩ => show 0 ≤ (i 1).val ∧ (i 1).val < 0 + 8; omega
    | ⟨2, _⟩ => show 0 ≤ (i 2).val ∧ (i 2).val < 0 + 1024; omega
  · refine ⟨_, List.mem_cons_self, ?_⟩
    refine (Rect.mem_set_unit (inb := inb_S2x520x1024_S1x8x1024_1_0_0)).mpr fun x => ?_
    match x with
    | ⟨0, _⟩ => show 1 ≤ (i 0).val ∧ (i 0).val < 1 + 1; omega
    | ⟨1, _⟩ => show 0 ≤ (i 1).val ∧ (i 1).val < 0 + 8; omega
    | ⟨2, _⟩ => show 0 ≤ (i 2).val ∧ (i 2).val < 0 + 1024; omega

/-- The first eight rows of the `z` buffer hold what block `n` needs of the block before. -/
def HaloOk (c : Dev nD) (n : Nat) (z0 : BufOf F c zM) : Prop := ∀ i : S2x520x1024.Idx, (i 1).val < 8 → zM.view.read (Elt F) z0 i = zBuf X WI n i

/-- After the four tiles are stored over such contents, the whole buffer is as wanted. -/
theorem z_read (c : Dev nD) (n : Nat) (hn : n < 16) (z0 : BufOf F c zM) (hz : HaloOk X WI c n z0) (i : S2x520x1024.Idx) :
    zM.view.read (Elt F) (zM.view.writes (Elt F) z0 (zPieces X WI n)) i = zBuf X WI n i := by
  refine read_pieces_base zM.view z0 (zBuf X WI n) (zPieces X WI n) (zPieces_agree X WI n hn) i ?_
  rcases Nat.lt_or_ge (i 1).val 8 with h | h
  · exact Or.inr (hz i h)
  · exact Or.inl (zPieces_cover X WI n i h)

theorem zeros_ok (c : Dev nD) (z0 : BufOf F c zM) : HaloOk X WI c 0 (zM.view.writes (Elt F) z0 zZeros) := fun i h =>
  View.read_writes_apply_of_pieces zM.view z0 (zBuf X WI 0) zZeros (zZeros_agree X WI) i (cover8 _ _ i h)

theorem halos_ok (c : Dev nD) (n : Nat) (hn : n + 1 < 16) (z0 : BufOf F c zM) : HaloOk X WI c (n + 1) (zM.view.writes (Elt F) z0 (zHalos X WI n)) := fun i h =>
  View.read_writes_apply_of_pieces zM.view z0 (zBuf X WI (n + 1)) (zHalos X WI n) (zHalos_agree X WI n hn) i (cover8 _ _ i h)

/-! Each load of the `z` buffer reads one tile, one or two rows late. -/

theorem z_load_00_2 (c : Dev nD) (n : Nat) (hn : n < 16) (f : BufOf F c zM) (hf : ∀ i, zM.view.read (Elt F) f i = zBuf X WI n i) :
    View.readAt (Elt F) zM.view (Rect.unit (s := S2x520x1024) ![0, 6, 0] S1x256x1024.size inb_S2x520x1024_S1x256x1024_0_6_0).toLoadRect f = zWin X WI 0 (2 * n) 2 := by
  funext j
  have h0 : (j 0).val < 1 := (j 0).isLt
  refine (hf _).trans (zBuf_win X WI n _ j 0 (2 * n) 2 (by omega) ?_ ?_ ?_)
  · show 0 + 1 * (j 0).val = 0
    omega
  · show 512 * n + (6 + 1 * (j 1).val) + 2 = 256 * (2 * n) + (j 1).val + 8
    omega
  · show 0 + 1 * (j 2).val = (j 2).val
    omega

theorem z_load_01_2 (n : Nat) (hn : n < 16) (L : List (View.Piece (Elt F) S2x520x1024 .f32))
    (hL : ∀ p ∈ L, ∀ x : p.1.shape.Idx, p.2 x = zBuf X WI n (p.1.emb x)) (hc : ∀ i : S2x520x1024.Idx, 8 ≤ (i 1).val → ∃ p ∈ L, i ∈ p.1.set) :
    zM.view.readCov (Val := Elt F) L (Rect.unit (s := S2x520x1024) ![0, 262, 0] S1x256x1024.size inb_S2x520x1024_S1x256x1024_0_262_0).toLoadRect = zWin X WI 0 (2 * n + 1) 2 := by
  rw [View.readCov_eq_canon']
  funext j
  have h0 : (j 0).val < 1 := (j 0).isLt
  refine (View.canon_apply_of_pieces (zBuf X WI n) L hL _ (hc _ ?_)).trans (zBuf_win X WI n _ j 0 (2 * n + 1) 2 (by omega) ?_ ?_ ?_)
  · show 8 ≤ 262 + 1 * (j 1).val
    omega
  · show 0 + 1 * (j 0).val = 0
    omega
  · show 512 * n + (262 + 1 * (j 1).val) + 2 = 256 * (2 * n + 1) + (j 1).val + 8
    omega
  · show 0 + 1 * (j 2).val = (j 2).val
    omega

theorem z_load_00_1 (c : Dev nD) (n : Nat) (hn : n < 16) (f : BufOf F c zM) (hf : ∀ i, zM.view.read (Elt F) f i = zBuf X WI n i) :
    View.readAt (Elt F) zM.view (Rect.unit (s := S2x520x1024) ![0, 7, 0] S1x256x1024.size inb_S2x520x1024_S1x256x1024_0_7_0).toLoadRect f = zWin X WI 0 (2 * n) 1 := by
  funext j
  have h0 : (j 0).val < 1 := (j 0).isLt
  refine (hf _).trans (zBuf_win X WI n _ j 0 (2 * n) 1 (by omega) ?_ ?_ ?_)
  · show 0 + 1 * (j 0).val = 0
    omega
  · show 512 * n + (7 + 1 * (j 1).val) + 1 = 256 * (2 * n) + (j 1).val + 8
    omega
  · show 0 + 1 * (j 2).val = (j 2).val
    omega

theorem z_load_01_1 (n : Nat) (hn : n < 16) (L : List (View.Piece (Elt F) S2x520x1024 .f32))
    (hL : ∀ p ∈ L, ∀ x : p.1.shape.Idx, p.2 x = zBuf X WI n (p.1.emb x)) (hc : ∀ i : S2x520x1024.Idx, 8 ≤ (i 1).val → ∃ p ∈ L, i ∈ p.1.set) :
    zM.view.readCov (Val := Elt F) L (Rect.unit (s := S2x520x1024) ![0, 263, 0] S1x256x1024.size inb_S2x520x1024_S1x256x1024_0_263_0).toLoadRect = zWin X WI 0 (2 * n + 1) 1 := by
  rw [View.readCov_eq_canon']
  funext j
  have h0 : (j 0).val < 1 := (j 0).isLt
  refine (View.canon_apply_of_pieces (zBuf X WI n) L hL _ (hc _ ?_)).trans (zBuf_win X WI n _ j 0 (2 * n + 1) 1 (by omega) ?_ ?_ ?_)
  · show 8 ≤ 263 + 1 * (j 1).val
    omega
  · show 0 + 1 * (j 0).val = 0
    omega
  · show 512 * n + (263 + 1 * (j 1).val) + 1 = 256 * (2 * n + 1) + (j 1).val + 8
    omega
  · show 0 + 1 * (j 2).val = (j 2).val
    omega

theorem z_load_10_2 (c : Dev nD) (n : Nat) (hn : n < 16) (f : BufOf F c zM) (hf : ∀ i, zM.view.read (Elt F) f i = zBuf X WI n i) :
    View.readAt (Elt F) zM.view (Rect.unit (s := S2x520x1024) ![1, 6, 0] S1x256x1024.size inb_S2x520x1024_S1x256x1024_1_6_0).toLoadRect f = zWin X WI 1 (2 * n) 2 := by
  funext j
  have h0 : (j 0).val < 1 := (j 0).isLt
  refine (hf _).trans (zBuf_win X WI n _ j 1 (2 * n) 2 (by omega) ?_ ?_ ?_)
  · show 1 + 1 * (j 0).val = 1
    omega
  · show 512 * n + (6 + 1 * (j 1).val) + 2 = 256 * (2 * n) + (j 1).val + 8
    omega
  · show 0 + 1 * (j 2).val = (j 2).val
    omega

theorem z_load_11_2 (n : Nat) (hn : n < 16) (L : List (View.Piece (Elt F) S2x520x1024 .f32))
    (hL : ∀ p ∈ L, ∀ x : p.1.shape.Idx, p.2 x = zBuf X WI n (p.1.emb x)) (hc : ∀ i : S2x520x1024.Idx, 8 ≤ (i 1).val → ∃ p ∈ L, i ∈ p.1.set) :
    zM.view.readCov (Val := Elt F) L (Rect.unit (s := S2x520x1024) ![1, 262, 0] S1x256x1024.size inb_S2x520x1024_S1x256x1024_1_262_0).toLoadRect = zWin X WI 1 (2 * n + 1) 2 := by
  rw [View.readCov_eq_canon']
  funext j
  have h0 : (j 0).val < 1 := (j 0).isLt
  refine (View.canon_apply_of_pieces (zBuf X WI n) L hL _ (hc _ ?_)).trans (zBuf_win X WI n _ j 1 (2 * n + 1) 2 (by omega) ?_ ?_ ?_)
  · show 8 ≤ 262 + 1 * (j 1).val
    omega
  · show 1 + 1 * (j 0).val = 1
    omega
  · show 512 * n + (262 + 1 * (j 1).val) + 2 = 256 * (2 * n + 1) + (j 1).val + 8
    omega
  · show 0 + 1 * (j 2).val = (j 2).val
    omega

theorem z_load_10_1 (c : Dev nD) (n : Nat) (hn : n < 16) (f : BufOf F c zM) (hf : ∀ i, zM.view.read (Elt F) f i = zBuf X WI n i) :
    View.readAt (Elt F) zM.view (Rect.unit (s := S2x520x1024) ![1, 7, 0] S1x256x1024.size inb_S2x520x1024_S1x256x1024_1_7_0).toLoadRect f = zWin X WI 1 (2 * n) 1 := by
  funext j
  have h0 : (j 0).val < 1 := (j 0).isLt
  refine (hf _).trans (zBuf_win X WI n _ j 1 (2 * n) 1 (by omega) ?_ ?_ ?_)
  · show 1 + 1 * (j 0).val = 1
    omega
  · show 512 * n + (7 + 1 * (j 1).val) + 1 = 256 * (2 * n) + (j 1).val + 8
    omega
  · show 0 + 1 * (j 2).val = (j 2).val
    omega

theorem z_load_11_1 (n : Nat) (hn : n < 16) (L : List (View.Piece (Elt F) S2x520x1024 .f32))
    (hL : ∀ p ∈ L, ∀ x : p.1.shape.Idx, p.2 x = zBuf X WI n (p.1.emb x)) (hc : ∀ i : S2x520x1024.Idx, 8 ≤ (i 1).val → ∃ p ∈ L, i ∈ p.1.set) :
    zM.view.readCov (Val := Elt F) L (Rect.unit (s := S2x520x1024) ![1, 263, 0] S1x256x1024.size inb_S2x520x1024_S1x256x1024_1_263_0).toLoadRect = zWin X WI 1 (2 * n + 1) 1 := by
  rw [View.readCov_eq_canon']
  funext j
  have h0 : (j 0).val < 1 := (j 0).isLt
  refine (View.canon_apply_of_pieces (zBuf X WI n) L hL _ (hc _ ?_)).trans (zBuf_win X WI n _ j 1 (2 * n + 1) 1 (by omega) ?_ ?_ ?_)
  · show 8 ≤ 263 + 1 * (j 1).val
    omega
  · show 1 + 1 * (j 0).val = 1
    omega
  · show 512 * n + (263 + 1 * (j 1).val) + 1 = 256 * (2 * n + 1) + (j 1).val + 8
    omega
  · show 0 + 1 * (j 2).val = (j 2).val
    omega

/-! ## The mixer's result in its slot -/

/-- An entry of slot `s` of the mixer's output buffer. -/
theorem ys1_read (c : Dev nD) (s : Fin 2) (f : BufOf F c yb1M) (i : S2x512x1024.Idx) :
    (ys1 s).view.read (Elt F) f i = yb1M.view.read (Elt F) f (ix4 s (i 0) (i 1) (i 2)) := by
  have e : Shape.reshapeEquiv (s := S1x2x512x1024) (s' := S2x512x1024) (by decide) i = (ix4 (0 : Fin 1) (i 0) (i 1) (i 2) : S1x2x512x1024.Idx) := by
    apply Shape.reshapeEquiv_eq_of_rowMajor
    refine (Shape.rowMajor_val_four (d := ![1, 2, 512, 1024]) _).trans (Eq.trans ?_ (Shape.rowMajor_val_three (d := ![2, 512, 1024]) _).symm)
    show ((0 * 2 + (i 0).val) * 512 + (i 1).val) * 1024 + (i 2).val = ((i 0).val * 512 + (i 1).val) * 1024 + (i 2).val
    omega
  have e2 : (Rect.unit (s := S2x2x512x1024) (slotOff s) S1x2x512x1024.size (slotOff_inb s)).emb (ix4 (0 : Fin 1) (i 0) (i 1) (i 2) : S1x2x512x1024.Idx) = (ix4 s (i 0) (i 1) (i 2) : S2x2x512x1024.Idx) := by
    funext a
    apply Fin.ext
    match a with
    | ⟨0, _⟩ => show s.val + 1 * 0 = s.val; omega
    | ⟨1, _⟩ => show 0 + 1 * (i 0).val = (i 0).val; omega
    | ⟨2, _⟩ => show 0 + 1 * (i 1).val = (i 1).val; omega
    | ⟨3, _⟩ => show 0 + 1 * (i 2).val = (i 2).val; omega
  exact congrArg (yb1M.view.read (Elt F) f) ((congrArg (Rect.unit (s := S2x2x512x1024) (slotOff s) S1x2x512x1024.size (slotOff_inb s)).emb e).trans e2)

theorem yPiece (n : Nat) (hn : n < 16) (o : Fin 4 → Nat) (hb : ∀ a, o a + S1x1x256x1024.size a ≤ S2x2x512x1024.size a) (b k : Fin 2)
    (x : S1x1x256x1024.Idx) (h1 : o 1 = b.val) (h2 : o 2 = 256 * k.val) (h3 : o 3 = 0) :
    k0_pay25 (yT X WI CW b (2 * n + k.val)) x
      = YS X WI CW (ix3 ((Rect.unit (s := S2x2x512x1024) o S1x1x256x1024.size hb).emb x 1)
          (rowIx (512 * n + ((Rect.unit (s := S2x2x512x1024) o S1x1x256x1024.size hb).emb x 2).val)) ((Rect.unit (s := S2x2x512x1024) o S1x1x256x1024.size hb).emb x 3)) := by
  have hx1 : (x 1).val < 1 := (x 1).isLt
  have hx2 : (x 2).val < 256 := (x 2).isLt
  have hk' := k.isLt
  have e1 : ((Rect.unit (s := S2x2x512x1024) o S1x1x256x1024.size hb).emb x 1 : Fin 2) = b := Fin.ext (by
    show o 1 + 1 * (x 1).val = b.val
    omega)
  have e3 : ((Rect.unit (s := S2x2x512x1024) o S1x1x256x1024.size hb).emb x 3 : Fin 1024) = x 3 := Fin.ext (by
    show o 3 + 1 * (x 3).val = (x 3).val
    omega)
  have e2 : ((Rect.unit (s := S2x2x512x1024) o S1x1x256x1024.size hb).emb x 2).val = 256 * k.val + (x 2).val := by
    show o 2 + 1 * (x 2).val = _
    omega
  rw [pay25_at, e1, e2, e3]
  exact (YS_at X WI CW b (2 * n + k.val) (x 2).val _ (by omega) hx2 (by omega) (x 3)).symm

/-- The four tiles of a block of the mixer's result, stored one after the other in slot `s`: the slot holds the block. -/
theorem y_slot (c : Dev nD) (s : Fin 2) (n : Nat) (hn : n < 16) (f : BufOf F c yb1M) (o1 o2 o3 o4 : Fin 4 → Nat)
    (e1 : o1 = ![s.val, 0, 0, 0]) (e2 : o2 = ![s.val, 0, 256, 0]) (e3 : o3 = ![s.val, 1, 0, 0]) (e4 : o4 = ![s.val, 1, 256, 0])
    (b1 : ∀ a, o1 a + S1x1x256x1024.size a ≤ S2x2x512x1024.size a) (b2 : ∀ a, o2 a + S1x1x256x1024.size a ≤ S2x2x512x1024.size a)
    (b3 : ∀ a, o3 a + S1x1x256x1024.size a ≤ S2x2x512x1024.size a) (b4 : ∀ a, o4 a + S1x1x256x1024.size a ≤ S2x2x512x1024.size a) :
    (ys1 s).view.read (Elt F) (View.write (Elt F) (yb1M.access (Rect.unit o4 S1x1x256x1024.size b4))
      (View.write (Elt F) (yb1M.access (Rect.unit o3 S1x1x256x1024.size b3))
        (View.write (Elt F) (yb1M.access (Rect.unit o2 S1x1x256x1024.size b2))
          (View.write (Elt F) (yb1M.access (Rect.unit o1 S1x1x256x1024.size b1)) f (k0_pay25 (yT X WI CW 0 (2 * n))) Finset.univ)
          (k0_pay25 (yT X WI CW 0 (2 * n + 1))) Finset.univ)
        (k0_pay25 (yT X WI CW 1 (2 * n))) Finset.univ)
      (k0_pay25 (yT X WI CW 1 (2 * n + 1))) Finset.univ) = blockOf (YS X WI CW) n := by
  subst e1 e2 e3 e4
  funext i
  rw [ys1_read c]
  have h0 : (i 0).val < 2 := (i 0).isLt
  have h1 : (i 1).val < 512 := (i 1).isLt
  have h2 : (i 2).val < 1024 := (i 2).isLt
  have hs := s.isLt
  refine View.read_writes_apply_of_pieces yb1M.view f (fun j : S2x2x512x1024.Idx => YS X WI CW (ix3 (j 1) (rowIx (512 * n + (j 2).val)) (j 3)))
    [⟨Rect.unit (s := S2x2x512x1024) ![s.val, 1, 256, 0] S1x1x256x1024.size b4, k0_pay25 (yT X WI CW 1 (2 * n + 1))⟩,
     ⟨Rect.unit (s := S2x2x512x1024) ![s.val, 1, 0, 0] S1x1x256x1024.size b3, k0_pay25 (yT X WI CW 1 (2 * n))⟩,
     ⟨Rect.unit (s := S2x2x512x1024) ![s.val, 0, 256, 0] S1x1x256x1024.size b2, k0_pay25 (yT X WI CW 0 (2 * n + 1))⟩,
     ⟨Rect.unit (s := S2x2x512x1024) ![s.val, 0, 0, 0] S1x1x256x1024.size b1, k0_pay25 (yT X WI CW 0 (2 * n))⟩] ?_ (ix4 s (i 0) (i 1) (i 2)) ?_
  · intro p hp
    rcases List.mem_cons.mp hp with rfl | hp
    · intro x
      exact yPiece X WI CW n hn ![s.val, 1, 256, 0] b4 1 1 x rfl rfl rfl
    rcases List.mem_cons.mp hp with rfl | hp
    · intro x
      exact yPiece X WI CW n hn ![s.val, 1, 0, 0] b3 1 0 x rfl rfl rfl
    rcases List.mem_cons.mp hp with rfl | hp
    · intro x
      exact yPiece X WI CW n hn ![s.val, 0, 256, 0] b2 0 1 x rfl rfl rfl
    rcases List.mem_cons.mp hp with rfl | hp
    · intro x
      exact yPiece X WI CW n hn ![s.val, 0, 0, 0] b1 0 0 x rfl rfl rfl
    · exact absurd hp List.not_mem_nil
  · rcases Nat.lt_or_ge (i 0).val 1 with a | a <;> rcases Nat.lt_or_ge (i 1).val 256 with b | b
    · refine ⟨_, List.mem_cons_of_mem _ (List.mem_cons_of_mem _ (List.mem_cons_of_mem _ List.mem_cons_self)), ?_⟩
      refine (Rect.mem_set_unit (inb := b1)).mpr fun x => ?_
      match x with
      | ⟨0, _⟩ => show s.val ≤ s.val ∧ s.val < s.val + 1; omega
      | ⟨1, _⟩ => show 0 ≤ (i 0).val ∧ (i 0).val < 0 + 1; omega
      | ⟨2, _⟩ => show 0 ≤ (i 1).val ∧ (i 1).val < 0 + 256; omega
      | ⟨3, _⟩ => show 0 ≤ (i 2).val ∧ (i 2).val < 0 + 1024; omega
    · refine ⟨_, List.mem_cons_of_mem _ (List.mem_cons_of_mem _ List.mem_cons_self), ?_⟩
      refine (Rect.mem_set_unit (inb := b2)).mpr fun x => ?_
      match x with
      | ⟨0, _⟩ => show s.val ≤ s.val ∧ s.val < s.val + 1; omega
      | ⟨1, _⟩ => show 0 ≤ (i 0).val ∧ (i 0).val < 0 + 1; omega
      | ⟨2, _⟩ => show 256 ≤ (i 1).val ∧ (i 1).val < 256 + 256; omega
      | ⟨3, _⟩ => show 0 ≤ (i 2).val ∧ (i 2).val < 0 + 1024; omega
    · refine ⟨_, List.mem_cons_of_mem _ List.mem_cons_self, ?_⟩
      refine (Rect.mem_set_unit (inb := b3)).mpr fun x => ?_
      match x with
      | ⟨0, _⟩ => show s.val ≤ s.val ∧ s.val < s.val + 1; omega
      | ⟨1, _⟩ => show 1 ≤ (i 0).val ∧ (i 0).val < 1 + 1; omega
      | ⟨2, _⟩ => show 0 ≤ (i 1).val ∧ (i 1).val < 0 + 256; omega
      | ⟨3, _⟩ => show 0 ≤ (i 2).val ∧ (i 2).val < 0 + 1024; omega
    · refine ⟨_, List.mem_cons_self, ?_⟩
      refine (Rect.mem_set_unit (inb := b4)).mpr fun x => ?_
      match x with
      | ⟨0, _⟩ => show s.val ≤ s.val ∧ s.val < s.val + 1; omega
      | ⟨1, _⟩ => show 1 ≤ (i 0).val ∧ (i 0).val < 1 + 1; omega
      | ⟨2, _⟩ => show 256 ≤ (i 1).val ∧ (i 1).val < 256 + 256; omega
      | ⟨3, _⟩ => show 0 ≤ (i 2).val ∧ (i 2).val < 0 + 1024; omega

end Z

end Cert.Proof.Layer
-- ==== Proof.Stores.lean ====
module

public import proofs.«01_k».proof.Proof.Mixer
public import Idealize.ShloMosaic.Lib.Pointwise
public import Idealize.ShloMosaic.Lib.Pipeline.Value

@[expose] public section

set_option maxRecDepth 8192

noncomputable section

namespace Cert.Proof.Layer

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

/-! ## What a trip stores, as it is computed -/

section Raw
variable (X : Vec F S2x8192x1024 .f32) (WI : Vec F S1024x3072 .bf16) (CW : Vec F S1x3x1024 .f32) (c : Dev nD) (n : Nat) (hn : n < 16)
  (v00 v01 v10 v11 : Vec F S1x256x1024 .f32) (wb wc wh : Vec F S1024x1024 .bf16) (cw : Vec F S1x3x1024 .f32)
  (h00 : v00 = rows X 0 (2 * n)) (h01 : v01 = rows X 0 (2 * n + 1)) (h10 : v10 = rows X 1 (2 * n)) (h11 : v11 = rows X 1 (2 * n + 1))
  (hb : wb = wiB WI) (hc : wc = wiC WI) (hh : wh = wiH WI) (hcw : cw = CW)

/-- The four stores of `z`, as the kernel computes them. -/
def zRaw (v00 v01 v10 v11 : Vec F S1x256x1024 .f32) (wc wh : Vec F S1024x1024 .bf16) (L : List (View.Piece (Elt F) S2x520x1024 .f32)) : List (View.Piece (Elt F) S2x520x1024 .f32) :=
  ⟨(Rect.unit (s := S2x520x1024) ![1, 264, 0] S1x256x1024.size inb_S2x520x1024_S1x256x1024_1_264_0), k0_pay18 v11 wc wh⟩ :: ⟨(Rect.unit (s := S2x520x1024) ![1, 8, 0] S1x256x1024.size inb_S2x520x1024_S1x256x1024_1_8_0), k0_pay14 (k0_pay11 v10) (k0_pay12 v10 wc) wh⟩ ::
    ⟨(Rect.unit (s := S2x520x1024) ![0, 264, 0] S1x256x1024.size inb_S2x520x1024_S1x256x1024_0_264_0), k0_pay9 v01 wc wh⟩ :: ⟨(Rect.unit (s := S2x520x1024) ![0, 8, 0] S1x256x1024.size inb_S2x520x1024_S1x256x1024_0_8_0), k0_pay5 (k0_pay4 v00 wc wh)⟩ :: L

include h00 h01 h10 h11 hc hh in
theorem zRaw_eq (L) : zRaw v00 v01 v10 v11 wc wh L = zPieces X WI n ++ L := by
  subst h00 h01 h10 h11 hc hh
  rfl

include h00 h01 h10 h11 hb hc hh hcw hn in
/-- The four stores of the mixer's result: slot `s` holds the block. -/
theorem y_raw (s : Fin 2) (f : BufOf F c yb1M) (o1 o2 o3 o4 : Fin 4 → Nat)
    (e1 : o1 = ![s.val, 0, 0, 0]) (e2 : o2 = ![s.val, 0, 256, 0]) (e3 : o3 = ![s.val, 1, 0, 0]) (e4 : o4 = ![s.val, 1, 256, 0])
    (b1 : ∀ a, o1 a + S1x1x256x1024.size a ≤ S2x2x512x1024.size a) (b2 : ∀ a, o2 a + S1x1x256x1024.size a ≤ S2x2x512x1024.size a)
    (b3 : ∀ a, o3 a + S1x1x256x1024.size a ≤ S2x2x512x1024.size a) (b4 : ∀ a, o4 a + S1x1x256x1024.size a ≤ S2x2x512x1024.size a)
    (u002 u001 u012 u011 u102 u101 u112 u111 : Vec F S1x256x1024 .f32)
    (k002 : u002 = zWin X WI 0 (2 * n) 2) (k001 : u001 = zWin X WI 0 (2 * n) 1) (k012 : u012 = zWin X WI 0 (2 * n + 1) 2) (k011 : u011 = zWin X WI 0 (2 * n + 1) 1)
    (k102 : u102 = zWin X WI 1 (2 * n) 2) (k101 : u101 = zWin X WI 1 (2 * n) 1) (k112 : u112 = zWin X WI 1 (2 * n + 1) 2) (k111 : u111 = zWin X WI 1 (2 * n + 1) 1) :
    (ys1 s).view.read (Elt F) (View.write (Elt F) (yb1M.access (Rect.unit o4 S1x1x256x1024.size b4))
      (View.write (Elt F) (yb1M.access (Rect.unit o3 S1x1x256x1024.size b3))
        (View.write (Elt F) (yb1M.access (Rect.unit o2 S1x1x256x1024.size b2))
          (View.write (Elt F) (yb1M.access (Rect.unit o1 S1x1x256x1024.size b1)) f
            (k0_pay23 (k0_pay6 (k0_pay3 v00) wb) (k0_pay20 cw) (k0_pay21 (k0_pay4 v00 wc wh) cw) (k0_pay22 cw) u002 u001) Finset.univ)
          (k0_pay25 (k0_pay24 (k0_pay8 v01 wc wh) (k0_pay10 v01 wb) (k0_pay20 cw) u012 u011)) Finset.univ)
        (k0_pay26 (k0_pay13 (k0_pay11 v10) (k0_pay12 v10 wc) wh) (k0_pay15 (k0_pay11 v10) wb) (k0_pay20 cw) u102 u101) Finset.univ)
      (k0_pay29 (k0_pay19 v11 wb) (k0_pay27 (k0_pay17 v11 wc wh) (k0_pay20 cw) u112) (k0_pay28 (k0_pay20 cw)) u111) Finset.univ)
    = blockOf (YS X WI CW) n := by
  have p1 : k0_pay23 (k0_pay6 (k0_pay3 v00) wb) (k0_pay20 cw) (k0_pay21 (k0_pay4 v00 wc wh) cw) (k0_pay22 cw) u002 u001 = k0_pay25 (yT X WI CW 0 (2 * n)) := by
    rw [pay23_eq, h00, hb, hc, hh, hcw, k002, k001]; rfl
  have p2 : k0_pay25 (k0_pay24 (k0_pay8 v01 wc wh) (k0_pay10 v01 wb) (k0_pay20 cw) u012 u011) = k0_pay25 (yT X WI CW 0 (2 * n + 1)) := by
    rw [pay8_eq, pay10_eq, h01, hb, hc, hh, hcw, k012, k011]; rfl
  have p3 : k0_pay26 (k0_pay13 (k0_pay11 v10) (k0_pay12 v10 wc) wh) (k0_pay15 (k0_pay11 v10) wb) (k0_pay20 cw) u102 u101 = k0_pay25 (yT X WI CW 1 (2 * n)) := by
    rw [pay26_eq, pay13_eq, pay15_eq, h10, hb, hc, hh, hcw, k102, k101]; rfl
  have p4 : k0_pay29 (k0_pay19 v11 wb) (k0_pay27 (k0_pay17 v11 wc wh) (k0_pay20 cw) u112) (k0_pay28 (k0_pay20 cw)) u111 = k0_pay25 (yT X WI CW 1 (2 * n + 1)) := by
    rw [pay29_eq, pay17_eq, pay19_eq, h11, hb, hc, hh, hcw, k112, k111]; rfl
  rw [p1, p2, p3, p4]
  exact y_slot X WI CW c s n hn f o1 o2 o3 o4 e1 e2 e3 e4 b1 b2 b3 b4

include hn h00 h01 h10 h11 hc hh in
/-- The rows moved in front serve the next block. -/
theorem halo_raw (hn1 : n + 1 < 16) (z0 : BufOf F c zM) (L) :
    HaloOk X WI c (n + 1) (zM.view.writes (Elt F) z0 (⟨Rect.unit (s := S2x520x1024) ![1, 0, 0] S1x8x1024.size inb_S2x520x1024_S1x8x1024_1_0_0, k0_pay31 (k0_pay17 v11 wc wh)⟩ ::
      ⟨Rect.unit (s := S2x520x1024) ![0, 0, 0] S1x8x1024.size inb_S2x520x1024_S1x8x1024_0_0_0, k0_pay30 (k0_pay8 v01 wc wh)⟩ :: zRaw v00 v01 v10 v11 wc wh L)) := by
  have p1 : k0_pay31 (k0_pay17 v11 wc wh) = k0_pay30 (zT X WI 1 (2 * n + 1)) := by rw [pay31_eq, pay17_eq, h11, hc, hh]; rfl
  have p0 : k0_pay30 (k0_pay8 v01 wc wh) = k0_pay30 (zT X WI 0 (2 * n + 1)) := by rw [pay8_eq, h01, hc, hh]; rfl
  rw [p1, p0, View.writes_cons, View.writes_cons]
  have h := halos_ok X WI c n hn1 (zM.view.writes (Elt F) z0 (zRaw v00 v01 v10 v11 wc wh L))
  rw [zHalos, View.writes_cons, View.writes_cons, View.writes_nil] at h
  exact h

include hn h00 h01 h10 h11 hc hh in
theorem z_early_0_2 (z0 : BufOf F c zM) (hz : HaloOk X WI c n z0) :
    View.readAt (Elt F) zM.view (Rect.unit (s := S2x520x1024) ![0, 6, 0] S1x256x1024.size inb_S2x520x1024_S1x256x1024_0_6_0).toLoadRect (zM.view.writes (Elt F) z0 (zRaw v00 v01 v10 v11 wc wh [])) = zWin X WI 0 (2 * n) 2 := by
  rw [zRaw_eq X WI n v00 v01 v10 v11 wc wh h00 h01 h10 h11 hc hh, List.append_nil]
  exact z_load_00_2 X WI c n hn _ (z_read X WI c n hn z0 hz)

include hn h00 h01 h10 h11 hc hh in
theorem z_late_0_2 :
    zM.view.readCov (Val := Elt F) (zRaw v00 v01 v10 v11 wc wh []) (Rect.unit (s := S2x520x1024) ![0, 262, 0] S1x256x1024.size inb_S2x520x1024_S1x256x1024_0_262_0).toLoadRect = zWin X WI 0 (2 * n + 1) 2 := by
  rw [zRaw_eq X WI n v00 v01 v10 v11 wc wh h00 h01 h10 h11 hc hh, List.append_nil]
  exact z_load_01_2 X WI n hn _ (zPieces_agree X WI n hn) (zPieces_cover X WI n)

include hn h00 h01 h10 h11 hc hh in
theorem z_late0_0_2 (h0 : n = 0) :
    zM.view.readCov (Val := Elt F) (zRaw v00 v01 v10 v11 wc wh zZeros) (Rect.unit (s := S2x520x1024) ![0, 262, 0] S1x256x1024.size inb_S2x520x1024_S1x256x1024_0_262_0).toLoadRect = zWin X WI 0 (2 * n + 1) 2 := by
  rw [zRaw_eq X WI n v00 v01 v10 v11 wc wh h00 h01 h10 h11 hc hh]
  subst h0
  exact z_load_01_2 X WI 0 hn _ (fun p hp => (List.mem_append.mp hp).elim (zPieces_agree X WI 0 hn p) (zZeros_agree X WI p))
    (fun i h => (zPieces_cover X WI 0 i h).imp fun p hp => ⟨List.mem_append_left _ hp.1, hp.2⟩)

include c hn h00 h01 h10 h11 hc hh in
theorem z_early0_0_2 (h0 : n = 0) :
    zM.view.readCov (Val := Elt F) (zRaw v00 v01 v10 v11 wc wh zZeros) (Rect.unit (s := S2x520x1024) ![0, 6, 0] S1x256x1024.size inb_S2x520x1024_S1x256x1024_0_6_0).toLoadRect = zWin X WI 0 (2 * n) 2 := by
  rw [zRaw_eq X WI n v00 v01 v10 v11 wc wh h00 h01 h10 h11 hc hh]
  subst h0
  refine z_load_00_2 X WI c 0 hn (zM.view.writes (Elt F) zM.view.junk (zPieces X WI 0 ++ zZeros)) fun i => ?_
  refine View.read_writes_apply_of_pieces zM.view _ (zBuf X WI 0) _ (fun p hp => (List.mem_append.mp hp).elim (zPieces_agree X WI 0 hn p) (zZeros_agree X WI p)) i ?_
  rcases Nat.lt_or_ge (i 1).val 8 with h | h
  · exact (cover8 k0_pay1 k0_pay1 i h).imp fun p hp => ⟨List.mem_append_right _ hp.1, hp.2⟩
  · exact (zPieces_cover X WI 0 i h).imp fun p hp => ⟨List.mem_append_left _ hp.1, hp.2⟩

include hn h00 h01 h10 h11 hc hh in
theorem z_early_0_1 (z0 : BufOf F c zM) (hz : HaloOk X WI c n z0) :
    View.readAt (Elt F) zM.view (Rect.unit (s := S2x520x1024) ![0, 7, 0] S1x256x1024.size inb_S2x520x1024_S1x256x1024_0_7_0).toLoadRect (zM.view.writes (Elt F) z0 (zRaw v00 v01 v10 v11 wc wh [])) = zWin X WI 0 (2 * n) 1 := by
  rw [zRaw_eq X WI n v00 v01 v10 v11 wc wh h00 h01 h10 h11 hc hh, List.append_nil]
  exact z_load_00_1 X WI c n hn _ (z_read X WI c n hn z0 hz)

include hn h00 h01 h10 h11 hc hh in
theorem z_late_0_1 :
    zM.view.readCov (Val := Elt F) (zRaw v00 v01 v10 v11 wc wh []) (Rect.unit (s := S2x520x1024) ![0, 263, 0] S1x256x1024.size inb_S2x520x1024_S1x256x1024_0_263_0).toLoadRect = zWin X WI 0 (2 * n + 1) 1 := by
  rw [zRaw_eq X WI n v00 v01 v10 v11 wc wh h00 h01 h10 h11 hc hh, List.append_nil]
  exact z_load_01_1 X WI n hn _ (zPieces_agree X WI n hn) (zPieces_cover X WI n)

include hn h00 h01 h10 h11 hc hh in
theorem z_late0_0_1 (h0 : n = 0) :
    zM.view.readCov (Val := Elt F) (zRaw v00 v01 v10 v11 wc wh zZeros) (Rect.unit (s := S2x520x1024) ![0, 263, 0] S1x256x1024.size inb_S2x520x1024_S1x256x1024_0_263_0).toLoadRect = zWin X WI 0 (2 * n + 1) 1 := by
  rw [zRaw_eq X WI n v00 v01 v10 v11 wc wh h00 h01 h10 h11 hc hh]
  subst h0
  exact z_load_01_1 X WI 0 hn _ (fun p hp => (List.mem_append.mp hp).elim (zPieces_agree X WI 0 hn p) (zZeros_agree X WI p))
    (fun i h => (zPieces_cover X WI 0 i h).imp fun p hp => ⟨List.mem_append_left _ hp.1, hp.2⟩)

include c hn h00 h01 h10 h11 hc hh in
theorem z_early0_0_1 (h0 : n = 0) :
    zM.view.readCov (Val := Elt F) (zRaw v00 v01 v10 v11 wc wh zZeros) (Rect.unit (s := S2x520x1024) ![0, 7, 0] S1x256x1024.size inb_S2x520x1024_S1x256x1024_0_7_0).toLoadRect = zWin X WI 0 (2 * n) 1 := by
  rw [zRaw_eq X WI n v00 v01 v10 v11 wc wh h00 h01 h10 h11 hc hh]
  subst h0
  refine z_load_00_1 X WI c 0 hn (zM.view.writes (Elt F) zM.view.junk (zPieces X WI 0 ++ zZeros)) fun i => ?_
  refine View.read_writes_apply_of_pieces zM.view _ (zBuf X WI 0) _ (fun p hp => (List.mem_append.mp hp).elim (zPieces_agree X WI 0 hn p) (zZeros_agree X WI p)) i ?_
  rcases Nat.lt_or_ge (i 1).val 8 with h | h
  · exact (cover8 k0_pay1 k0_pay1 i h).imp fun p hp => ⟨List.mem_append_right _ hp.1, hp.2⟩
  · exact (zPieces_cover X WI 0 i h).imp fun p hp => ⟨List.mem_append_left _ hp.1, hp.2⟩

include hn h00 h01 h10 h11 hc hh in
theorem z_early_1_2 (z0 : BufOf F c zM) (hz : HaloOk X WI c n z0) :
    View.readAt (Elt F) zM.view (Rect.unit (s := S2x520x1024) ![1, 6, 0] S1x256x1024.size inb_S2x520x1024_S1x256x1024_1_6_0).toLoadRect (zM.view.writes (Elt F) z0 (zRaw v00 v01 v10 v11 wc wh [])) = zWin X WI 1 (2 * n) 2 := by
  rw [zRaw_eq X WI n v00 v01 v10 v11 wc wh h00 h01 h10 h11 hc hh, List.append_nil]
  exact z_load_10_2 X WI c n hn _ (z_read X WI c n hn z0 hz)

include hn h00 h01 h10 h11 hc hh in
theorem z_late_1_2 :
    zM.view.readCov (Val := Elt F) (zRaw v00 v01 v10 v11 wc wh []) (Rect.unit (s := S2x520x1024) ![1, 262, 0] S1x256x1024.size inb_S2x520x1024_S1x256x1024_1_262_0).toLoadRect = zWin X WI 1 (2 * n + 1) 2 := by
  rw [zRaw_eq X WI n v00 v01 v10 v11 wc wh h00 h01 h10 h11 hc hh, List.append_nil]
  exact z_load_11_2 X WI n hn _ (zPieces_agree X WI n hn) (zPieces_cover X WI n)

include hn h00 h01 h10 h11 hc hh in
theorem z_late0_1_2 (h0 : n = 0) :
    zM.view.readCov (Val := Elt F) (zRaw v00 v01 v10 v11 wc wh zZeros) (Rect.unit (s := S2x520x1024) ![1, 262, 0] S1x256x1024.size inb_S2x520x1024_S1x256x1024_1_262_0).toLoadRect = zWin X WI 1 (2 * n + 1) 2 := by
  rw [zRaw_eq X WI n v00 v01 v10 v11 wc wh h00 h01 h10 h11 hc hh]
  subst h0
  exact z_load_11_2 X WI 0 hn _ (fun p hp => (List.mem_append.mp hp).elim (zPieces_agree X WI 0 hn p) (zZeros_agree X WI p))
    (fun i h => (zPieces_cover X WI 0 i h).imp fun p hp => ⟨List.mem_append_left _ hp.1, hp.2⟩)

include c hn h00 h01 h10 h11 hc hh in
theorem z_early0_1_2 (h0 : n = 0) :
    zM.view.readCov (Val := Elt F) (zRaw v00 v01 v10 v11 wc wh zZeros) (Rect.unit (s := S2x520x1024) ![1, 6, 0] S1x256x1024.size inb_S2x520x1024_S1x256x1024_1_6_0).toLoadRect = zWin X WI 1 (2 * n) 2 := by
  rw [zRaw_eq X WI n v00 v01 v10 v11 wc wh h00 h01 h10 h11 hc hh]
  subst h0
  refine z_load_10_2 X WI c 0 hn (zM.view.writes (Elt F) zM.view.junk (zPieces X WI 0 ++ zZeros)) fun i => ?_
  refine View.read_writes_apply_of_pieces zM.view _ (zBuf X WI 0) _ (fun p hp => (List.mem_append.mp hp).elim (zPieces_agree X WI 0 hn p) (zZeros_agree X WI p)) i ?_
  rcases Nat.lt_or_ge (i 1).val 8 with h | h
  · exact (cover8 k0_pay1 k0_pay1 i h).imp fun p hp => ⟨List.mem_append_right _ hp.1, hp.2⟩
  · exact (zPieces_cover X WI 0 i h).imp fun p hp => ⟨List.mem_append_left _ hp.1, hp.2⟩

include hn h00 h01 h10 h11 hc hh in
theorem z_early_1_1 (z0 : BufOf F c zM) (hz : HaloOk X WI c n z0) :
    View.readAt (Elt F) zM.view (Rect.unit (s := S2x520x1024) ![1, 7, 0] S1x256x1024.size inb_S2x520x1024_S1x256x1024_1_7_0).toLoadRect (zM.view.writes (Elt F) z0 (zRaw v00 v01 v10 v11 wc wh [])) = zWin X WI 1 (2 * n) 1 := by
  rw [zRaw_eq X WI n v00 v01 v10 v11 wc wh h00 h01 h10 h11 hc hh, List.append_nil]
  exact z_load_10_1 X WI c n hn _ (z_read X WI c n hn z0 hz)

include hn h00 h01 h10 h11 hc hh in
theorem z_late_1_1 :
    zM.view.readCov (Val := Elt F) (zRaw v00 v01 v10 v11 wc wh []) (Rect.unit (s := S2x520x1024) ![1, 263, 0] S1x256x1024.size inb_S2x520x1024_S1x256x1024_1_263_0).toLoadRect = zWin X WI 1 (2 * n + 1) 1 := by
  rw [zRaw_eq X WI n v00 v01 v10 v11 wc wh h00 h01 h10 h11 hc hh, List.append_nil]
  exact z_load_11_1 X WI n hn _ (zPieces_agree X WI n hn) (zPieces_cover X WI n)

include hn h00 h01 h10 h11 hc hh in
theorem z_late0_1_1 (h0 : n = 0) :
    zM.view.readCov (Val := Elt F) (zRaw v00 v01 v10 v11 wc wh zZeros) (Rect.unit (s := S2x520x1024) ![1, 263, 0] S1x256x1024.size inb_S2x520x1024_S1x256x1024_1_263_0).toLoadRect = zWin X WI 1 (2 * n + 1) 1 := by
  rw [zRaw_eq X WI n v00 v01 v10 v11 wc wh h00 h01 h10 h11 hc hh]
  subst h0
  exact z_load_11_1 X WI 0 hn _ (fun p hp => (List.mem_append.mp hp).elim (zPieces_agree X WI 0 hn p) (zZeros_agree X WI p))
    (fun i h => (zPieces_cover X WI 0 i h).imp fun p hp => ⟨List.mem_append_left _ hp.1, hp.2⟩)

include c hn h00 h01 h10 h11 hc hh in
theorem z_early0_1_1 (h0 : n = 0) :
    zM.view.readCov (Val := Elt F) (zRaw v00 v01 v10 v11 wc wh zZeros) (Rect.unit (s := S2x520x1024) ![1, 7, 0] S1x256x1024.size inb_S2x520x1024_S1x256x1024_1_7_0).toLoadRect = zWin X WI 1 (2 * n) 1 := by
  rw [zRaw_eq X WI n v00 v01 v10 v11 wc wh h00 h01 h10 h11 hc hh]
  subst h0
  refine z_load_10_1 X WI c 0 hn (zM.view.writes (Elt F) zM.view.junk (zPieces X WI 0 ++ zZeros)) fun i => ?_
  refine View.read_writes_apply_of_pieces zM.view _ (zBuf X WI 0) _ (fun p hp => (List.mem_append.mp hp).elim (zPieces_agree X WI 0 hn p) (zZeros_agree X WI p)) i ?_
  rcases Nat.lt_or_ge (i 1).val 8 with h | h
  · exact (cover8 k0_pay1 k0_pay1 i h).imp fun p hp => ⟨List.mem_append_right _ hp.1, hp.2⟩
  · exact (zPieces_cover X WI 0 i h).imp fun p hp => ⟨List.mem_append_left _ hp.1, hp.2⟩

end Raw

/-- The three column blocks of `w_in`, loaded from a buffer just filled. -/
theorem wiB_cov (w : Vec F S1024x3072 .bf16) : wiS.view.readCov (Val := Elt F) [⟨Rect.whole S1024x3072, w⟩] (Rect.unit (s := S1024x3072) ![0, 0] S1024x1024.size inb_S1024x3072_S1024x1024_0_0).toLoadRect = wiB w := readCov_whole _ _ _
theorem wiC_cov (w : Vec F S1024x3072 .bf16) : wiS.view.readCov (Val := Elt F) [⟨Rect.whole S1024x3072, w⟩] (Rect.unit (s := S1024x3072) ![0, 1024] S1024x1024.size inb_S1024x3072_S1024x1024_0_1024).toLoadRect = wiC w := readCov_whole _ _ _
theorem wiH_cov (w : Vec F S1024x3072 .bf16) : wiS.view.readCov (Val := Elt F) [⟨Rect.whole S1024x3072, w⟩] (Rect.unit (s := S1024x3072) ![0, 2048] S1024x1024.size inb_S1024x3072_S1024x1024_0_2048).toLoadRect = wiH w := readCov_whole _ _ _

end Cert.Proof.Layer
-- ==== Proof.Weights.lean ====
module

public import proofs.«01_k».proof.Proof.Mixer
public import Idealize.ShloMosaic.Lib.Pointwise
public import Idealize.ShloMosaic.Lib.Pipeline.Value

@[expose] public section

set_option maxRecDepth 8192

noncomputable section

namespace Cert.Proof.Layer

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

/-! ## The weights, cast slab by slab

Before trip `k` the first rows of each on-chip copy hold the layer's weight, cast; the trip casts the next slab. -/

/-- The layer's plane of `wo`, cast. -/
def plane8 (A : Vec F S1x1024x1024 .f32) : Vec F S1024x1024 .bf16 := truncf .bf16 (fun i : S1024x1024.Idx => A (ix3 0 (i 0) (i 1))) bitsLt_bf16_f32

/-- The first `64·k` rows of the copy are cast. -/
def RowsOk8 (c : Dev nD) (A : Vec F S1x1024x1024 .f32) (k : Nat) (g : BufOf F c woS) : Prop := ∀ i : S1024x1024.Idx, (i 0).val < 64 * k → woS.view.read (Elt F) g i = plane8 A i

theorem slab8_read (c : Dev nD) (k : Nat) (hk : k < 16) (f : BufOf F c woM) (x : S64x1024.Idx) (i : S1024x1024.Idx)
    (h0 : (i 0).val = 64 * k + (x 0).val) (h1 : (i 1).val = (x 1).val) :
    (slab8 (Ring.bk 16 k)).view.read (Elt F) f x = woM.view.read (Elt F) f (ix3 0 (i 0) (i 1)) := by
  have hb := Ring.bk_val (NB := 16) hk
  have e : Shape.reshapeEquiv (s := S1x64x1024) (s' := S64x1024) (by decide) x = (ix3 (0 : Fin 1) (x 0) (x 1) : S1x64x1024.Idx) := by
    apply Shape.reshapeEquiv_eq_of_rowMajor
    refine (Shape.rowMajor_val_three (d := ![1, 64, 1024]) _).trans (Eq.trans ?_ (Shape.rowMajor_val_two (d := ![64, 1024]) _).symm)
    show (0 * 64 + (x 0).val) * 1024 + (x 1).val = (x 0).val * 1024 + (x 1).val
    omega
  have e2 : (Rect.unit (s := S1x1024x1024) (slabOff8 (Ring.bk 16 k)) S1x64x1024.size (slabOff8_inb _)).emb (ix3 (0 : Fin 1) (x 0) (x 1) : S1x64x1024.Idx) = (ix3 0 (i 0) (i 1) : S1x1024x1024.Idx) := by
    funext a
    apply Fin.ext
    match a with
    | ⟨0, _⟩ => show 0 + 1 * 0 = 0; omega
    | ⟨1, _⟩ => show 64 * (Ring.bk 16 k).val + 1 * (x 0).val = (i 0).val; omega
    | ⟨2, _⟩ => show 0 + 1 * (x 1).val = (i 1).val; omega
  exact congrArg (woM.view.read (Elt F) f) ((congrArg (Rect.unit (s := S1x1024x1024) (slabOff8 (Ring.bk 16 k)) S1x64x1024.size (slabOff8_inb _)).emb e).trans e2)

theorem pay32_at (v : Vec F S64x1024 .f32) (A : Vec F S1x1024x1024 .f32) (x : S64x1024.Idx) (i : S1024x1024.Idx) (h : v x = A (ix3 0 (i 0) (i 1))) : k0_pay32 v x = plane8 A i := by
  refine (shapeCast_apply (truncf .bf16 v bitsLt_bf16_f32) shapeCasts_S64x1024_S64x1024 x x rfl).trans ?_
  exact congrArg (fun e : Elt F .f32 => truncf (s := S64x1024) .bf16 (fun _ => e) bitsLt_bf16_f32 x) h

/-- One trip's slab extends the cast rows. -/
theorem rows8_step (c : Dev nD) (k : Nat) (hk : k < 16) (f : BufOf F c woM) (g : BufOf F c woS) (hg : RowsOk8 c (woM.view.read (Elt F) f) k g)
    (o : Fin 2 → Nat) (eo : o = rowOff 64 (Ring.bk 16 k)) (ho : ∀ a, o a + S64x1024.size a ≤ S1024x1024.size a)
    (o9 : Fin 3 → Nat) (e9 : o9 = slabOff8 (Ring.bk 16 k)) (hh hs sq) :
    RowsOk8 c (woM.view.read (Elt F) f) (k + 1) (woS.view.writes (Elt F) g [⟨Rect.unit (s := S1024x1024) o S64x1024.size ho,
      k0_pay32 (sl0M.view.readCov (Val := Elt F) [⟨Rect.whole S64x1024, ReadAs.same.apply (View.read (Elt F) ((woM.slice (Rect.unit (s := S1x1024x1024) o9 S1x64x1024.size hh) hs).squeeze S64x1024 sq).view f)⟩]
        (Rect.unit (s := S64x1024) ![0, 0] S64x1024.size inb_S64x1024_S64x1024_0_0).toLoadRect)⟩]) := by
  subst eo e9
  have hb := Ring.bk_val (NB := 16) hk
  intro i hi
  refine read_pieces_base woS.view g (plane8 (woM.view.read (Elt F) f)) _ ?_ i ?_
  · intro p hp
    rcases List.mem_cons.mp hp with rfl | hp
    · intro x
      refine pay32_at _ _ _ _ ?_
      rw [readCov_whole]
      refine slab8_read c k hk f _ _ ?_ ?_
      · show 64 * (Ring.bk 16 k).val + 1 * (x 0).val = 64 * k + (0 + 1 * (x 0).val)
        omega
      · show 0 + 1 * (x 1).val = 0 + 1 * (x 1).val
        omega
    · exact absurd hp List.not_mem_nil
  · rcases Nat.lt_or_ge (i 0).val (64 * k) with h | h
    · exact Or.inr (hg i h)
    · refine Or.inl ⟨_, List.mem_cons_self, ?_⟩
      refine (Rect.mem_set_unit (inb := ho)).mpr fun a => ?_
      have h1 : (i 1).val < 1024 := (i 1).isLt
      match a with
      | ⟨0, _⟩ => show 64 * (Ring.bk 16 k).val ≤ (i 0).val ∧ (i 0).val < 64 * (Ring.bk 16 k).val + 64; omega
      | ⟨1, _⟩ => show 0 ≤ (i 1).val ∧ (i 1).val < 0 + 1024; omega

theorem rows8_all (c : Dev nD) (A : Vec F S1x1024x1024 .f32) (g : BufOf F c woS) (hg : RowsOk8 c A 16 g) : woS.view.read (Elt F) g = plane8 A :=
  funext fun i => hg i (by have h : (i 0).val < 1024 := (i 0).isLt; omega)

/-- The layer's plane of `w1`, cast. -/
def plane9 (A : Vec F S2x1024x4096 .f32) : Vec F S1024x4096 .bf16 := truncf .bf16 (fun i : S1024x4096.Idx => A (ix3 1 (i 0) (i 1))) bitsLt_bf16_f32

/-- The first `64·k` rows of the copy are cast. -/
def RowsOk9 (c : Dev nD) (A : Vec F S2x1024x4096 .f32) (k : Nat) (g : BufOf F c w1S) : Prop := ∀ i : S1024x4096.Idx, (i 0).val < 64 * k → w1S.view.read (Elt F) g i = plane9 A i

theorem slab9_read (c : Dev nD) (k : Nat) (hk : k < 16) (f : BufOf F c w1M) (x : S64x4096.Idx) (i : S1024x4096.Idx)
    (h0 : (i 0).val = 64 * k + (x 0).val) (h1 : (i 1).val = (x 1).val) :
    (slab9 (Ring.bk 16 k)).view.read (Elt F) f x = w1M.view.read (Elt F) f (ix3 1 (i 0) (i 1)) := by
  have hb := Ring.bk_val (NB := 16) hk
  have e : Shape.reshapeEquiv (s := S1x64x4096) (s' := S64x4096) (by decide) x = (ix3 (0 : Fin 1) (x 0) (x 1) : S1x64x4096.Idx) := by
    apply Shape.reshapeEquiv_eq_of_rowMajor
    refine (Shape.rowMajor_val_three (d := ![1, 64, 4096]) _).trans (Eq.trans ?_ (Shape.rowMajor_val_two (d := ![64, 4096]) _).symm)
    show (0 * 64 + (x 0).val) * 4096 + (x 1).val = (x 0).val * 4096 + (x 1).val
    omega
  have e2 : (Rect.unit (s := S2x1024x4096) (slabOff9 (Ring.bk 16 k)) S1x64x4096.size (slabOff9_inb _)).emb (ix3 (0 : Fin 1) (x 0) (x 1) : S1x64x4096.Idx) = (ix3 1 (i 0) (i 1) : S2x1024x4096.Idx) := by
    funext a
    apply Fin.ext
    match a with
    | ⟨0, _⟩ => show 1 + 1 * 0 = 1; omega
    | ⟨1, _⟩ => show 64 * (Ring.bk 16 k).val + 1 * (x 0).val = (i 0).val; omega
    | ⟨2, _⟩ => show 0 + 1 * (x 1).val = (i 1).val; omega
  exact congrArg (w1M.view.read (Elt F) f) ((congrArg (Rect.unit (s := S2x1024x4096) (slabOff9 (Ring.bk 16 k)) S1x64x4096.size (slabOff9_inb _)).emb e).trans e2)

theorem pay33_at (v : Vec F S64x4096 .f32) (A : Vec F S2x1024x4096 .f32) (x : S64x4096.Idx) (i : S1024x4096.Idx) (h : v x = A (ix3 1 (i 0) (i 1))) : k0_pay33 v x = plane9 A i := by
  refine (shapeCast_apply (truncf .bf16 v bitsLt_bf16_f32) shapeCasts_S64x4096_S64x4096 x x rfl).trans ?_
  exact congrArg (fun e : Elt F .f32 => truncf (s := S64x4096) .bf16 (fun _ => e) bitsLt_bf16_f32 x) h

/-- One trip's slab extends the cast rows. -/
theorem rows9_step (c : Dev nD) (k : Nat) (hk : k < 16) (f : BufOf F c w1M) (g : BufOf F c w1S) (hg : RowsOk9 c (w1M.view.read (Elt F) f) k g)
    (o : Fin 2 → Nat) (eo : o = rowOff 64 (Ring.bk 16 k)) (ho : ∀ a, o a + S64x4096.size a ≤ S1024x4096.size a)
    (o9 : Fin 3 → Nat) (e9 : o9 = slabOff9 (Ring.bk 16 k)) (hh hs sq) :
    RowsOk9 c (w1M.view.read (Elt F) f) (k + 1) (w1S.view.writes (Elt F) g [⟨Rect.unit (s := S1024x4096) o S64x4096.size ho,
      k0_pay33 (sl1M.view.readCov (Val := Elt F) [⟨Rect.whole S64x4096, ReadAs.same.apply (View.read (Elt F) ((w1M.slice (Rect.unit (s := S2x1024x4096) o9 S1x64x4096.size hh) hs).squeeze S64x4096 sq).view f)⟩]
        (Rect.unit (s := S64x4096) ![0, 0] S64x4096.size inb_S64x4096_S64x4096_0_0).toLoadRect)⟩]) := by
  subst eo e9
  have hb := Ring.bk_val (NB := 16) hk
  intro i hi
  refine read_pieces_base w1S.view g (plane9 (w1M.view.read (Elt F) f)) _ ?_ i ?_
  · intro p hp
    rcases List.mem_cons.mp hp with rfl | hp
    · intro x
      refine pay33_at _ _ _ _ ?_
      rw [readCov_whole]
      refine slab9_read c k hk f _ _ ?_ ?_
      · show 64 * (Ring.bk 16 k).val + 1 * (x 0).val = 64 * k + (0 + 1 * (x 0).val)
        omega
      · show 0 + 1 * (x 1).val = 0 + 1 * (x 1).val
        omega
    · exact absurd hp List.not_mem_nil
  · rcases Nat.lt_or_ge (i 0).val (64 * k) with h | h
    · exact Or.inr (hg i h)
    · refine Or.inl ⟨_, List.mem_cons_self, ?_⟩
      refine (Rect.mem_set_unit (inb := ho)).mpr fun a => ?_
      have h1 : (i 1).val < 4096 := (i 1).isLt
      match a with
      | ⟨0, _⟩ => show 64 * (Ring.bk 16 k).val ≤ (i 0).val ∧ (i 0).val < 64 * (Ring.bk 16 k).val + 64; omega
      | ⟨1, _⟩ => show 0 ≤ (i 1).val ∧ (i 1).val < 0 + 4096; omega

theorem rows9_all (c : Dev nD) (A : Vec F S2x1024x4096 .f32) (g : BufOf F c w1S) (hg : RowsOk9 c A 16 g) : w1S.view.read (Elt F) g = plane9 A :=
  funext fun i => hg i (by have h : (i 0).val < 1024 := (i 0).isLt; omega)

/-- The layer's plane of `w2`, cast. -/
def plane10 (A : Vec F S2x4096x1024 .f32) : Vec F S4096x1024 .bf16 := truncf .bf16 (fun i : S4096x1024.Idx => A (ix3 1 (i 0) (i 1))) bitsLt_bf16_f32

/-- The first `256·k` rows of the copy are cast. -/
def RowsOk10 (c : Dev nD) (A : Vec F S2x4096x1024 .f32) (k : Nat) (g : BufOf F c w2S) : Prop := ∀ i : S4096x1024.Idx, (i 0).val < 256 * k → w2S.view.read (Elt F) g i = plane10 A i

theorem slab10_read (c : Dev nD) (k : Nat) (hk : k < 16) (f : BufOf F c w2M) (x : S256x1024.Idx) (i : S4096x1024.Idx)
    (h0 : (i 0).val = 256 * k + (x 0).val) (h1 : (i 1).val = (x 1).val) :
    (slab10 (Ring.bk 16 k)).view.read (Elt F) f x = w2M.view.read (Elt F) f (ix3 1 (i 0) (i 1)) := by
  have hb := Ring.bk_val (NB := 16) hk
  have e : Shape.reshapeEquiv (s := S1x256x1024) (s' := S256x1024) (by decide) x = (ix3 (0 : Fin 1) (x 0) (x 1) : S1x256x1024.Idx) := by
    apply Shape.reshapeEquiv_eq_of_rowMajor
    refine (Shape.rowMajor_val_three (d := ![1, 256, 1024]) _).trans (Eq.trans ?_ (Shape.rowMajor_val_two (d := ![256, 1024]) _).symm)
    show (0 * 256 + (x 0).val) * 1024 + (x 1).val = (x 0).val * 1024 + (x 1).val
    omega
  have e2 : (Rect.unit (s := S2x4096x1024) (slabOff10 (Ring.bk 16 k)) S1x256x1024.size (slabOff10_inb _)).emb (ix3 (0 : Fin 1) (x 0) (x 1) : S1x256x1024.Idx) = (ix3 1 (i 0) (i 1) : S2x4096x1024.Idx) := by
    funext a
    apply Fin.ext
    match a with
    | ⟨0, _⟩ => show 1 + 1 * 0 = 1; omega
    | ⟨1, _⟩ => show 256 * (Ring.bk 16 k).val + 1 * (x 0).val = (i 0).val; omega
    | ⟨2, _⟩ => show 0 + 1 * (x 1).val = (i 1).val; omega
  exact congrArg (w2M.view.read (Elt F) f) ((congrArg (Rect.unit (s := S2x4096x1024) (slabOff10 (Ring.bk 16 k)) S1x256x1024.size (slabOff10_inb _)).emb e).trans e2)

theorem pay34_at (v : Vec F S256x1024 .f32) (A : Vec F S2x4096x1024 .f32) (x : S256x1024.Idx) (i : S4096x1024.Idx) (h : v x = A (ix3 1 (i 0) (i 1))) : k0_pay34 v x = plane10 A i := by
  refine (shapeCast_apply (truncf .bf16 v bitsLt_bf16_f32) shapeCasts_S256x1024_S256x1024 x x rfl).trans ?_
  exact congrArg (fun e : Elt F .f32 => truncf (s := S256x1024) .bf16 (fun _ => e) bitsLt_bf16_f32 x) h

/-- One trip's slab extends the cast rows. -/
theorem rows10_step (c : Dev nD) (k : Nat) (hk : k < 16) (f : BufOf F c w2M) (g : BufOf F c w2S) (hg : RowsOk10 c (w2M.view.read (Elt F) f) k g)
    (o : Fin 2 → Nat) (eo : o = rowOff 256 (Ring.bk 16 k)) (ho : ∀ a, o a + S256x1024.size a ≤ S4096x1024.size a)
    (o9 : Fin 3 → Nat) (e9 : o9 = slabOff10 (Ring.bk 16 k)) (hh hs sq) :
    RowsOk10 c (w2M.view.read (Elt F) f) (k + 1) (w2S.view.writes (Elt F) g [⟨Rect.unit (s := S4096x1024) o S256x1024.size ho,
      k0_pay34 (sl2M.view.readCov (Val := Elt F) [⟨Rect.whole S256x1024, ReadAs.same.apply (View.read (Elt F) ((w2M.slice (Rect.unit (s := S2x4096x1024) o9 S1x256x1024.size hh) hs).squeeze S256x1024 sq).view f)⟩]
        (Rect.unit (s := S256x1024) ![0, 0] S256x1024.size inb_S256x1024_S256x1024_0_0).toLoadRect)⟩]) := by
  subst eo e9
  have hb := Ring.bk_val (NB := 16) hk
  intro i hi
  refine read_pieces_base w2S.view g (plane10 (w2M.view.read (Elt F) f)) _ ?_ i ?_
  · intro p hp
    rcases List.mem_cons.mp hp with rfl | hp
    · intro x
      refine pay34_at _ _ _ _ ?_
      rw [readCov_whole]
      refine slab10_read c k hk f _ _ ?_ ?_
      · show 256 * (Ring.bk 16 k).val + 1 * (x 0).val = 256 * k + (0 + 1 * (x 0).val)
        omega
      · show 0 + 1 * (x 1).val = 0 + 1 * (x 1).val
        omega
    · exact absurd hp List.not_mem_nil
  · rcases Nat.lt_or_ge (i 0).val (256 * k) with h | h
    · exact Or.inr (hg i h)
    · refine Or.inl ⟨_, List.mem_cons_self, ?_⟩
      refine (Rect.mem_set_unit (inb := ho)).mpr fun a => ?_
      have h1 : (i 1).val < 1024 := (i 1).isLt
      match a with
      | ⟨0, _⟩ => show 256 * (Ring.bk 16 k).val ≤ (i 0).val ∧ (i 0).val < 256 * (Ring.bk 16 k).val + 256; omega
      | ⟨1, _⟩ => show 0 ≤ (i 1).val ∧ (i 1).val < 0 + 1024; omega

theorem rows10_all (c : Dev nD) (A : Vec F S2x4096x1024 .f32) (g : BufOf F c w2S) (hg : RowsOk10 c A 16 g) : w2S.view.read (Elt F) g = plane10 A :=
  funext fun i => hg i (by have h : (i 0).val < 4096 := (i 0).isLt; omega)

/-- The layer's plane of `wg`, cast. -/
def plane11 (A : Vec F S2x1024x1024 .f32) : Vec F S1024x1024 .bf16 := truncf .bf16 (fun i : S1024x1024.Idx => A (ix3 1 (i 0) (i 1))) bitsLt_bf16_f32

/-- The first `64·k` rows of the copy are cast. -/
def RowsOk11 (c : Dev nD) (A : Vec F S2x1024x1024 .f32) (k : Nat) (g : BufOf F c wgS) : Prop := ∀ i : S1024x1024.Idx, (i 0).val < 64 * k → wgS.view.read (Elt F) g i = plane11 A i

theorem slab11_read (c : Dev nD) (k : Nat) (hk : k < 16) (f : BufOf F c wgM) (x : S64x1024.Idx) (i : S1024x1024.Idx)
    (h0 : (i 0).val = 64 * k + (x 0).val) (h1 : (i 1).val = (x 1).val) :
    (slab11 (Ring.bk 16 k)).view.read (Elt F) f x = wgM.view.read (Elt F) f (ix3 1 (i 0) (i 1)) := by
  have hb := Ring.bk_val (NB := 16) hk
  have e : Shape.reshapeEquiv (s := S1x64x1024) (s' := S64x1024) (by decide) x = (ix3 (0 : Fin 1) (x 0) (x 1) : S1x64x1024.Idx) := by
    apply Shape.reshapeEquiv_eq_of_rowMajor
    refine (Shape.rowMajor_val_three (d := ![1, 64, 1024]) _).trans (Eq.trans ?_ (Shape.rowMajor_val_two (d := ![64, 1024]) _).symm)
    show (0 * 64 + (x 0).val) * 1024 + (x 1).val = (x 0).val * 1024 + (x 1).val
    omega
  have e2 : (Rect.unit (s := S2x1024x1024) (slabOff11 (Ring.bk 16 k)) S1x64x1024.size (slabOff11_inb _)).emb (ix3 (0 : Fin 1) (x 0) (x 1) : S1x64x1024.Idx) = (ix3 1 (i 0) (i 1) : S2x1024x1024.Idx) := by
    funext a
    apply Fin.ext
    match a with
    | ⟨0, _⟩ => show 1 + 1 * 0 = 1; omega
    | ⟨1, _⟩ => show 64 * (Ring.bk 16 k).val + 1 * (x 0).val = (i 0).val; omega
    | ⟨2, _⟩ => show 0 + 1 * (x 1).val = (i 1).val; omega
  exact congrArg (wgM.view.read (Elt F) f) ((congrArg (Rect.unit (s := S2x1024x1024) (slabOff11 (Ring.bk 16 k)) S1x64x1024.size (slabOff11_inb _)).emb e).trans e2)

theorem pay35_at (v : Vec F S64x1024 .f32) (A : Vec F S2x1024x1024 .f32) (x : S64x1024.Idx) (i : S1024x1024.Idx) (h : v x = A (ix3 1 (i 0) (i 1))) : k0_pay35 v x = plane11 A i := by
  refine (shapeCast_apply (truncf .bf16 v bitsLt_bf16_f32) shapeCasts_S64x1024_S64x1024 x x rfl).trans ?_
  exact congrArg (fun e : Elt F .f32 => truncf (s := S64x1024) .bf16 (fun _ => e) bitsLt_bf16_f32 x) h

/-- One trip's slab extends the cast rows. -/
theorem rows11_step (c : Dev nD) (k : Nat) (hk : k < 16) (f : BufOf F c wgM) (g : BufOf F c wgS) (hg : RowsOk11 c (wgM.view.read (Elt F) f) k g)
    (o : Fin 2 → Nat) (eo : o = rowOff 64 (Ring.bk 16 k)) (ho : ∀ a, o a + S64x1024.size a ≤ S1024x1024.size a)
    (o9 : Fin 3 → Nat) (e9 : o9 = slabOff11 (Ring.bk 16 k)) (hh hs sq) :
    RowsOk11 c (wgM.view.read (Elt F) f) (k + 1) (wgS.view.writes (Elt F) g [⟨Rect.unit (s := S1024x1024) o S64x1024.size ho,
      k0_pay35 (sl3M.view.readCov (Val := Elt F) [⟨Rect.whole S64x1024, ReadAs.same.apply (View.read (Elt F) ((wgM.slice (Rect.unit (s := S2x1024x1024) o9 S1x64x1024.size hh) hs).squeeze S64x1024 sq).view f)⟩]
        (Rect.unit (s := S64x1024) ![0, 0] S64x1024.size inb_S64x1024_S64x1024_0_0).toLoadRect)⟩]) := by
  subst eo e9
  have hb := Ring.bk_val (NB := 16) hk
  intro i hi
  refine read_pieces_base wgS.view g (plane11 (wgM.view.read (Elt F) f)) _ ?_ i ?_
  · intro p hp
    rcases List.mem_cons.mp hp with rfl | hp
    · intro x
      refine pay35_at _ _ _ _ ?_
      rw [readCov_whole]
      refine slab11_read c k hk f _ _ ?_ ?_
      · show 64 * (Ring.bk 16 k).val + 1 * (x 0).val = 64 * k + (0 + 1 * (x 0).val)
        omega
      · show 0 + 1 * (x 1).val = 0 + 1 * (x 1).val
        omega
    · exact absurd hp List.not_mem_nil
  · rcases Nat.lt_or_ge (i 0).val (64 * k) with h | h
    · exact Or.inr (hg i h)
    · refine Or.inl ⟨_, List.mem_cons_self, ?_⟩
      refine (Rect.mem_set_unit (inb := ho)).mpr fun a => ?_
      have h1 : (i 1).val < 1024 := (i 1).isLt
      match a with
      | ⟨0, _⟩ => show 64 * (Ring.bk 16 k).val ≤ (i 0).val ∧ (i 0).val < 64 * (Ring.bk 16 k).val + 64; omega
      | ⟨1, _⟩ => show 0 ≤ (i 1).val ∧ (i 1).val < 0 + 1024; omega

theorem rows11_all (c : Dev nD) (A : Vec F S2x1024x1024 .f32) (g : BufOf F c wgS) (hg : RowsOk11 c A 16 g) : wgS.view.read (Elt F) g = plane11 A :=
  funext fun i => hg i (by have h : (i 0).val < 1024 := (i 0).isLt; omega)

/-- The layer's plane of `wp`, cast. -/
def plane12 (A : Vec F S2x256x1024 .f32) : Vec F S256x1024 .bf16 := truncf .bf16 (fun i : S256x1024.Idx => A (ix3 1 (i 0) (i 1))) bitsLt_bf16_f32

/-- The first `16·k` rows of the copy are cast. -/
def RowsOk12 (c : Dev nD) (A : Vec F S2x256x1024 .f32) (k : Nat) (g : BufOf F c wpS) : Prop := ∀ i : S256x1024.Idx, (i 0).val < 16 * k → wpS.view.read (Elt F) g i = plane12 A i

theorem slab12_read (c : Dev nD) (k : Nat) (hk : k < 16) (f : BufOf F c wpM) (x : S16x1024.Idx) (i : S256x1024.Idx)
    (h0 : (i 0).val = 16 * k + (x 0).val) (h1 : (i 1).val = (x 1).val) :
    (slab12 (Ring.bk 16 k)).view.read (Elt F) f x = wpM.view.read (Elt F) f (ix3 1 (i 0) (i 1)) := by
  have hb := Ring.bk_val (NB := 16) hk
  have e : Shape.reshapeEquiv (s := S1x16x1024) (s' := S16x1024) (by decide) x = (ix3 (0 : Fin 1) (x 0) (x 1) : S1x16x1024.Idx) := by
    apply Shape.reshapeEquiv_eq_of_rowMajor
    refine (Shape.rowMajor_val_three (d := ![1, 16, 1024]) _).trans (Eq.trans ?_ (Shape.rowMajor_val_two (d := ![16, 1024]) _).symm)
    show (0 * 16 + (x 0).val) * 1024 + (x 1).val = (x 0).val * 1024 + (x 1).val
    omega
  have e2 : (Rect.unit (s := S2x256x1024) (slabOff12 (Ring.bk 16 k)) S1x16x1024.size (slabOff12_inb _)).emb (ix3 (0 : Fin 1) (x 0) (x 1) : S1x16x1024.Idx) = (ix3 1 (i 0) (i 1) : S2x256x1024.Idx) := by
    funext a
    apply Fin.ext
    match a with
    | ⟨0, _⟩ => show 1 + 1 * 0 = 1; omega
    | ⟨1, _⟩ => show 16 * (Ring.bk 16 k).val + 1 * (x 0).val = (i 0).val; omega
    | ⟨2, _⟩ => show 0 + 1 * (x 1).val = (i 1).val; omega
  exact congrArg (wpM.view.read (Elt F) f) ((congrArg (Rect.unit (s := S2x256x1024) (slabOff12 (Ring.bk 16 k)) S1x16x1024.size (slabOff12_inb _)).emb e).trans e2)

theorem pay36_at (v : Vec F S16x1024 .f32) (A : Vec F S2x256x1024 .f32) (x : S16x1024.Idx) (i : S256x1024.Idx) (h : v x = A (ix3 1 (i 0) (i 1))) : k0_pay36 v x = plane12 A i := by
  refine (shapeCast_apply (truncf .bf16 v bitsLt_bf16_f32) shapeCasts_S16x1024_S16x1024 x x rfl).trans ?_
  exact congrArg (fun e : Elt F .f32 => truncf (s := S16x1024) .bf16 (fun _ => e) bitsLt_bf16_f32 x) h

/-- One trip's slab extends the cast rows. -/
theorem rows12_step (c : Dev nD) (k : Nat) (hk : k < 16) (f : BufOf F c wpM) (g : BufOf F c wpS) (hg : RowsOk12 c (wpM.view.read (Elt F) f) k g)
    (o : Fin 2 → Nat) (eo : o = rowOff 16 (Ring.bk 16 k)) (ho : ∀ a, o a + S16x1024.size a ≤ S256x1024.size a)
    (o9 : Fin 3 → Nat) (e9 : o9 = slabOff12 (Ring.bk 16 k)) (hh hs sq) :
    RowsOk12 c (wpM.view.read (Elt F) f) (k + 1) (wpS.view.writes (Elt F) g [⟨Rect.unit (s := S256x1024) o S16x1024.size ho,
      k0_pay36 (sl4M.view.readCov (Val := Elt F) [⟨Rect.whole S16x1024, ReadAs.same.apply (View.read (Elt F) ((wpM.slice (Rect.unit (s := S2x256x1024) o9 S1x16x1024.size hh) hs).squeeze S16x1024 sq).view f)⟩]
        (Rect.unit (s := S16x1024) ![0, 0] S16x1024.size inb_S16x1024_S16x1024_0_0).toLoadRect)⟩]) := by
  subst eo e9
  have hb := Ring.bk_val (NB := 16) hk
  intro i hi
  refine read_pieces_base wpS.view g (plane12 (wpM.view.read (Elt F) f)) _ ?_ i ?_
  · intro p hp
    rcases List.mem_cons.mp hp with rfl | hp
    · intro x
      refine pay36_at _ _ _ _ ?_
      rw [readCov_whole]
      refine slab12_read c k hk f _ _ ?_ ?_
      · show 16 * (Ring.bk 16 k).val + 1 * (x 0).val = 16 * k + (0 + 1 * (x 0).val)
        omega
      · show 0 + 1 * (x 1).val = 0 + 1 * (x 1).val
        omega
    · exact absurd hp List.not_mem_nil
  · rcases Nat.lt_or_ge (i 0).val (16 * k) with h | h
    · exact Or.inr (hg i h)
    · refine Or.inl ⟨_, List.mem_cons_self, ?_⟩
      refine (Rect.mem_set_unit (inb := ho)).mpr fun a => ?_
      have h1 : (i 1).val < 1024 := (i 1).isLt
      match a with
      | ⟨0, _⟩ => show 16 * (Ring.bk 16 k).val ≤ (i 0).val ∧ (i 0).val < 16 * (Ring.bk 16 k).val + 16; omega
      | ⟨1, _⟩ => show 0 ≤ (i 1).val ∧ (i 1).val < 0 + 1024; omega

theorem rows12_all (c : Dev nD) (A : Vec F S2x256x1024 .f32) (g : BufOf F c wpS) (hg : RowsOk12 c A 16 g) : wpS.view.read (Elt F) g = plane12 A :=
  funext fun i => hg i (by have h : (i 0).val < 256 := (i 0).isLt; omega)

end Cert.Proof.Layer
-- ==== Proof.Trip1.lean ====
module

public import proofs.«01_k».proof.Proof.Stores
public import proofs.«01_k».proof.Proof.Weights
public import Idealize.ShloMosaic.Lib.Pointwise
public import Idealize.ShloMosaic.Lib.Pipeline.Value

@[expose] public section

set_option maxRecDepth 8192

noncomputable section

namespace Cert.Proof.Layer

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

/-! # One trip of the mixer's pipeline -/

/-- Block `b` of `x`, at home. -/
abbrev xHome (c : Dev nD) (XA : BufOf F c xM) (b : Fin 16) : sProp 𝕄 := ptM c (xblk b) XA
/-- Block `b` of the mixer's result, at home. -/
abbrev yHome (c : Dev nD) (YA : BufOf F c yM) (b : Fin 16) : sProp 𝕄 := ptM c (yblk b) YA
/-- Block `k` of `x` on its way into its slot. -/
abbrev xFlight (c : Dev nD) (XA : BufOf F c xM) (k : Nat) : sProp 𝕄 :=
  iprop(∃ xf : BufOf F c (xs1 (Ring.sl 2 k)), Transfers.Flight countersEmb (c : Thread nD τ) (SemLoc.dma (xc1 (Ring.sl 2 k)).sem) () 131072
       iprop(ptM c (xs1 (Ring.sl 2 k)) ((xs1 (Ring.sl 2 k)).view.writes (Elt F) xf [⟨Rect.whole S2x512x1024, ReadAs.same.apply ((xblk (Ring.bk 16 k)).view.read (Elt F) XA)⟩]) ∗ xHome c XA (Ring.bk 16 k)))
/-- Slot `k` of `x` and its semaphore, at rest. -/
abbrev xFree (c : Dev nD) (k : Nat) : sProp 𝕄 := iprop((∃ g : BufOf F c (xs1 (Ring.sl 2 k)), ptM c (xs1 (Ring.sl 2 k)) g) ∗ cellP c (xc1 (Ring.sl 2 k)))
/-- Block `k` of the mixer's result on its way home. -/
abbrev yFlight (c : Dev nD) (YA : BufOf F c yM) (k : Nat) : sProp 𝕄 :=
  iprop(∃ yf : BufOf F c (ys1 (Ring.sl 2 k)), Transfers.Flight countersEmb (c : Thread nD τ) (SemLoc.dma (yc1 (Ring.sl 2 k)).sem) () 65536
       iprop(yHome c YA (Ring.bk 16 k) ∗ ptM c (ys1 (Ring.sl 2 k)) yf))
/-- Slot `k` of the result and its semaphore, at rest. -/
abbrev yFree (c : Dev nD) (k : Nat) : sProp 𝕄 := iprop((∃ g : BufOf F c (ys1 (Ring.sl 2 k)), ptM c (ys1 (Ring.sl 2 k)) g) ∗ cellP c (yc1 (Ring.sl 2 k)))
/-- The mixer's weights, still on their way. -/
abbrev wiPend (c : Dev nD) (fwi : BufOf F c wiM) : sProp 𝕄 :=
  iprop(∃ wi : BufOf F c wiS, Transfers.Flight countersEmb (c : Thread nD τ) (SemLoc.dma cc0_scoped9.sem) () 196608
       iprop(ptM c wiS (wiS.view.writes (Elt F) wi [⟨Rect.whole S1024x3072, ReadAs.same.apply (wiM.view.read (Elt F) fwi)⟩]) ∗ ptM c wiM fwi))
/-- The mixer's weights, arrived. -/
abbrev wiHeld (c : Dev nD) (fwi : BufOf F c wiM) : sProp 𝕄 :=
  iprop(∃ wi : BufOf F c wiS, ⌜wiS.view.read (Elt F) wi = wiM.view.read (Elt F) fwi⌝ ∗ ptM c wiS wi)

theorem cond9_neg0 : ∀ t : Fin k0_t1_loop.trips, t.val = 0 → ¬ k0_cond9 t (wI t.val) = 1#1 := by decide +kernel
theorem zero_pos : ∀ t : Fin k0_t1_loop.trips, t.val = 0 → Scalar.cmpi .ne (Scalar.extui (Scalar.cmpi .eq (BitVec.ofNat 32 t.val) 0#32) : BitVec 32) 0#32 = 1#1 := by decide +kernel
theorem zero_neg : ∀ t : Fin k0_t1_loop.trips, 1 ≤ t.val → ¬ Scalar.cmpi .ne (Scalar.extui (Scalar.cmpi .eq (BitVec.ofNat 32 t.val) 0#32) : BitVec 32) 0#32 = 1#1 := by decide +kernel
theorem add_one (t : Fin k0_t1_loop.trips) : Scalar.addi (BitVec.ofNat 32 t.val) 1#32 = wN (t.val + 1) := (by decide +kernel : ∀ t : Fin k0_t1_loop.trips, Scalar.addi (BitVec.ofNat 32 t.val) 1#32 = wN (t.val + 1)) t

theorem entails_of_eq {P Q : sProp 𝕄} (h : P = Q) : P ⊢ Q := h ▸ BIBase.Entails.rfl

/-- The counter after a trip. -/
theorem cnt_next (c : Dev nD) (t : Fin k0_t1_loop.trips) (cnt : BufOf F c cntM) :
    cntM.view.readAt (Elt F) (Rect.unit (s := S1) ![0] S1.size inb_S1_S1_0).toLoadRect (cntM.view.writes (Elt F) cnt [⟨Rect.unit (s := S1) ![0] S1.size inb_S1_S1_0, fun _ => Scalar.addi (BitVec.ofNat 32 t.val) 1#32⟩])
      = fun _ => wN (t.val + 1) := by
  rw [add_one t]
  funext j
  refine View.read_writes_apply_of_pieces cntM.view cnt (fun _ => wN (t.val + 1)) _ ?_ _ ?_
  · intro p hp x
    rcases List.mem_cons.mp hp with rfl | hp
    · rfl
    · exact absurd hp List.not_mem_nil
  · refine ⟨_, List.mem_cons_self, (Rect.mem_set_unit (inb := inb_S1_S1_0)).mpr fun a => ?_⟩
    match a with
    | ⟨0, _⟩ => exact ⟨Nat.zero_le _, (Nat.zero_add _).symm ▸ (show 0 + 1 * (j 0).val < 0 + 1 by have := (j 0).isLt; change (j 0).val < 1 at this; omega)⟩

section Trip
variable (c : Dev nD)
  (arg3 : Memref sig .tc .vmem S1x3x1024 .f32) (harg3 : arg3.IsWhole)
  (arg4 arg5 arg6 arg7 : Memref sig .tc .vmem S2x1024 .f32) (harg4 : arg4.IsWhole) (harg5 : arg5.IsWhole) (harg6 : arg6.IsWhole) (harg7 : arg7.IsWhole)

/-- The convolution's taps, as loaded. -/
abbrev cwOf (CW : BufOf F c arg3) : Vec F S1x3x1024 .f32 := View.readAt (Elt F) arg3.view (Rect.unit (s := S1x3x1024) ![0, 0, 0] S1x3x1024.size inb_S1x3x1024_S1x3x1024_0_0_0).toLoadRect CW

/-- The body of the mixer's loop. -/
abbrev trip1 (t : Fin k0_t1_loop.trips) (acc : BitVec 32 × BitVec 32 × BitVec 32 × BitVec 32 × BitVec 32) :=
  k0_t1_body (F := F) xM (Memref.isWhole_whole _) pM (Memref.isWhole_whole _) wiM (Memref.isWhole_whole _) arg3 harg3 arg4 harg4 arg5 harg5 arg6 harg6 arg7 harg7 woM (Memref.isWhole_whole _) w1M (Memref.isWhole_whole _) w2M (Memref.isWhole_whole _) wgM (Memref.isWhole_whole _) wpM (Memref.isWhole_whole _) oM (Memref.isWhole_whole _) yM (Memref.isWhole_whole _) woS (Memref.isWhole_whole _) w1S (Memref.isWhole_whole _) w2S (Memref.isWhole_whole _) wgS (Memref.isWhole_whole _) wpS (Memref.isWhole_whole _) cntM (Memref.isWhole_whole _) cc0_scoped1 sl0M (Memref.isWhole_whole _) sl1M (Memref.isWhole_whole _) sl2M (Memref.isWhole_whole _) sl3M (Memref.isWhole_whole _) sl4M (Memref.isWhole_whole _) wiS (Memref.isWhole_whole _) zM (Memref.isWhole_whole _) cc0_scoped9 xb1M (Memref.isWhole_whole _) cc0_scoped11 yb1M (Memref.isWhole_whole _) cc0_scoped13 xbM (Memref.isWhole_whole _) hidM (Memref.isWhole_whole _) x2bM (Memref.isWhole_whole _) xb2M (Memref.isWhole_whole _) cc0_scoped18 yb2M (Memref.isWhole_whole _) cc0_scoped20 pb2M (Memref.isWhole_whole _) cc0_scoped22 ob2M (Memref.isWhole_whole _) cc0_scoped24 (Scalar.addi 0#32 1#32) 0#32 0#32 0#32 0#32 0#32 t acc

variable (CW : BufOf F c arg3) (XA : BufOf F c xM) (Y0 YA : BufOf F c yM)
   (f8 : BufOf F c woM) (f9 : BufOf F c w1M) (f10 : BufOf F c w2M) (f11 : BufOf F c wgM) (f12 : BufOf F c wpM) (fwi : BufOf F c wiM)
   (hYA : yM.view.read (Elt F) YA = YS (xM.view.read (Elt F) XA) (wiM.view.read (Elt F) fwi) (cwOf c arg3 CW))

/-- What the mixer's loop keeps throughout: the parameters, the cast weights so far, the working buffers. -/
abbrev Keep1 (k : Nat) : sProp 𝕄 := iprop(ptM c arg3 CW
    ∗ ptM c woM f8
    ∗ ptM c w1M f9
    ∗ ptM c w2M f10
    ∗ ptM c wgM f11
    ∗ ptM c wpM f12
    ∗ (∃ g, ⌜RowsOk8 c (woM.view.read (Elt F) f8) k g⌝ ∗ ptM c woS g)
    ∗ (∃ g, ⌜RowsOk9 c (w1M.view.read (Elt F) f9) k g⌝ ∗ ptM c w1S g)
    ∗ (∃ g, ⌜RowsOk10 c (w2M.view.read (Elt F) f10) k g⌝ ∗ ptM c w2S g)
    ∗ (∃ g, ⌜RowsOk11 c (wgM.view.read (Elt F) f11) k g⌝ ∗ ptM c wgS g)
    ∗ (∃ g, ⌜RowsOk12 c (wpM.view.read (Elt F) f12) k g⌝ ∗ ptM c wpS g)
    ∗ (∃ g, ptM c sl0M g)
    ∗ (∃ g, ptM c sl1M g)
    ∗ (∃ g, ptM c sl2M g)
    ∗ (∃ g, ptM c sl3M g)
    ∗ (∃ g, ptM c sl4M g)
    ∗ cellP c (wc 0)
    ∗ cellP c (wc 1)
    ∗ cellP c (wc 2)
    ∗ cellP c (wc 3)
    ∗ cellP c (wc 4)
    ∗ (∃ z, ⌜1 ≤ k → k < 16 → HaloOk (xM.view.read (Elt F) XA) (wiM.view.read (Elt F) fwi) c k z⌝ ∗ ptM c zM z)
    ∗ (∃ cnt, ⌜cntM.view.readAt (Elt F) (Rect.unit (s := S1) ![0] S1.size inb_S1_S1_0).toLoadRect cnt = fun _ => wN k⌝ ∗ ptM c cntM cnt)
    ∗ (∃ W, owes (c : Thread nD τ) 0 W))

include hYA in
/-- A block of the result that leaves its slot is the wanted one. -/
theorem yFlight_done (k : Nat) (hk : k < 16) (yk : BufOf F c yM) (w : BufOf F c (ys1 (Ring.sl 2 k)))
    (h : (ys1 (Ring.sl 2 k)).view.read (Elt F) w = blockOf (YS (xM.view.read (Elt F) XA) (wiM.view.read (Elt F) fwi) (cwOf c arg3 CW)) k) :
    Transfers.Flight countersEmb (c : Thread nD τ) (SemLoc.dma (yc1 (Ring.sl 2 k)).sem) () 65536
       iprop(ptM c (yblk (Ring.bk 16 k)) ((yblk (Ring.bk 16 k)).view.writes (Elt F) yk [⟨Rect.whole S2x512x1024, ReadAs.same.apply ((ys1 (Ring.sl 2 k)).view.read (Elt F) w)⟩]) ∗ ptM c (ys1 (Ring.sl 2 k)) w)
     ⊢ yFlight c YA k := by
  have e : ptM c (yblk (Ring.bk 16 k)) ((yblk (Ring.bk 16 k)).view.writes (Elt F) yk [⟨Rect.whole S2x512x1024, ReadAs.same.apply ((ys1 (Ring.sl 2 k)).view.read (Elt F) w)⟩]) = yHome c YA (Ring.bk 16 k) := by
    refine ptM_congr_read c _ _ _ ?_
    rw [yblk_read c k hk YA, hYA, ← h]
    exact View.read_writes_whole _ _ _
  rw [e]
  iintro H
  iexists _
  iexact H

set_option maxHeartbeats 400000

include hYA in
/-- A trip that is neither the first nor the last. -/
theorem tripMid (t : Fin k0_t1_loop.trips) (h1 : 1 ≤ t.val) (h2 : t.val + 1 < 16) (Φ) :
  iprop(xFlight c XA t.val
    ∗ xFree c (t.val + 1)
    ∗ xHome c XA (Ring.bk 16 (t.val + 1))
    ∗ yFree c t.val
    ∗ ptM c (yblk (Ring.bk 16 t.val)) Y0
    ∗ yFlight c YA (t.val - 1)
    ∗ wiHeld c fwi
    ∗ Keep1 c arg3 CW XA f8 f9 f10 f11 f12 fwi t.val
    ∗ ((xFlight c XA (t.val + 1)
    ∗ xFree c t.val
    ∗ xHome c XA (Ring.bk 16 t.val)
    ∗ yFlight c YA t.val
    ∗ yHome c YA (Ring.bk 16 (t.val - 1))
    ∗ yFree c (t.val - 1)
    ∗ wiHeld c fwi
    ∗ Keep1 c arg3 CW XA f8 f9 f10 f11 f12 fwi (t.val + 1)) -∗ Φ (wF (t.val + 1), wN (t.val + 1), wN (t.val + 1), wP (t.val + 1), wI (t.val + 1))))
   ⊢ wp frame (wpE (defs₀ (F := F)) 𝒱₀ (c : Thread nD τ) none) Set.univ (trip1 (F := F) arg3 harg3 arg4 arg5 arg6 arg7 harg4 harg5 harg6 harg7 t (wF t.val, wN t.val, wN t.val, wP t.val, wI t.val)) Φ := by
  have h16 : t.val < 16 := t.isLt
  have c1 := chk1 t
  have c2 := chk2 t
  have c3 := chk3 t
  have c4 := chk4 t
  have d1 := cond1_pos t h2
  have d2 := cond2_pos t
  have d7 := cond7_pos t
  have d9 := cond9_pos t h1
  have e0 : ¬ Scalar.cmpi .ne (Scalar.extui (Scalar.cmpi .eq (BitVec.ofNat 32 t.val) 0#32) : BitVec 32) 0#32 = 1#1 := zero_neg t h1
  iintro ⟨⟨%xf, HX⟩, ⟨⟨%xg, HXs⟩, HXc⟩, HXb, ⟨⟨%yf, HYs⟩, HYc⟩, HYb, ⟨%yg, HY⟩, ⟨%wi, %hwi, HWi⟩, ⟨H3, H8, H9, H10, H11, H12, ⟨%g15, %hg15, G15⟩, ⟨%g16, %hg16, G16⟩, ⟨%g17, %hg17, G17⟩, ⟨%g18, %hg18, G18⟩, ⟨%g19, %hg19, G19⟩, ⟨%s0, S0⟩, ⟨%s1, S1⟩, ⟨%s2, S2⟩, ⟨%s3, S3⟩, ⟨%s4, S4⟩, C0, C1, C2, C3, C4, ⟨%z0, %hz, HZ⟩, ⟨%cnt, %hcnt, HC⟩, ⟨%W, HW⟩⟩, Hk⟩
  dsimp only [trip1]
  sl_unfold [k0_t1_body]
  sl_exec
  let X := xM.view.read (Elt F) XA
  let WI := wiM.view.read (Elt F) fwi
  have t00 := xs1_tile_00 c (Ring.sl 2 t.val) t.val h16 XA
  have t01 := xs1_tile_01 c (Ring.sl 2 t.val) t.val h16 XA
  have t10 := xs1_tile_10 c (Ring.sl 2 t.val) t.val h16 XA
  have t11 := xs1_tile_11 c (Ring.sl 2 t.val) t.val h16 XA
  have tb : View.readAt (Elt F) wiS.view (Rect.unit (s := S1024x3072) ![0, 0] S1024x1024.size inb_S1024x3072_S1024x1024_0_0).toLoadRect wi = wiB (wiM.view.read (Elt F) fwi) := congrArg wiB hwi
  have tc : View.readAt (Elt F) wiS.view (Rect.unit (s := S1024x3072) ![0, 1024] S1024x1024.size inb_S1024x3072_S1024x1024_0_1024).toLoadRect wi = wiC (wiM.view.read (Elt F) fwi) := congrArg wiC hwi
  have th : View.readAt (Elt F) wiS.view (Rect.unit (s := S1024x3072) ![0, 2048] S1024x1024.size inb_S1024x3072_S1024x1024_0_2048).toLoadRect wi = wiH (wiM.view.read (Elt F) fwi) := congrArg wiH hwi
  have hy : (ys1 (Ring.sl 2 t.val)).view.read (Elt F) (tripMid.sl.HYs_w4 c arg3 CW XA t c4 yf wi z0) = blockOf (YS X WI (cwOf c arg3 CW)) t.val :=
    y_raw X WI (cwOf c arg3 CW) c t.val h16 _ _ _ _ _ _ _ _ t00 t01 t10 t11 tb tc th rfl (Ring.sl 2 t.val) yf _ _ _ _ (off16_eq t) (off17_eq t) (off18_eq t) (off19_eq t) _ _ _ _
      _ _ _ _ _ _ _ _
      (z_early_0_2 X WI c t.val h16 _ _ _ _ _ _ t00 t01 t10 t11 tc th z0 (hz h1 h16)) (z_early_0_1 X WI c t.val h16 _ _ _ _ _ _ t00 t01 t10 t11 tc th z0 (hz h1 h16)) (z_late_0_2 X WI t.val h16 _ _ _ _ _ _ t00 t01 t10 t11 tc th) (z_late_0_1 X WI t.val h16 _ _ _ _ _ _ t00 t01 t10 t11 tc th)
      (z_early_1_2 X WI c t.val h16 _ _ _ _ _ _ t00 t01 t10 t11 tc th z0 (hz h1 h16)) (z_early_1_1 X WI c t.val h16 _ _ _ _ _ _ t00 t01 t10 t11 tc th z0 (hz h1 h16)) (z_late_1_2 X WI t.val h16 _ _ _ _ _ _ t00 t01 t10 t11 tc th) (z_late_1_1 X WI t.val h16 _ _ _ _ _ _ t00 t01 t10 t11 tc th)
  have rwF : tripMid.sl.v81_r1 t = wF (t.val + 1) := (by decide +kernel : ∀ t, 1 ≤ t.val → t.val + 1 < 16 → tripMid.sl.v81_r1 t = wF (t.val + 1)) t h1 h2
  have rwN : tripMid.sl.v378_r1 t = wN (t.val + 1) := (by decide +kernel : ∀ t, 1 ≤ t.val → t.val + 1 < 16 → tripMid.sl.v378_r1 t = wN (t.val + 1)) t h1 h2
  have rwP : tripMid.sl.v392_r1 t = wP (t.val + 1) := (by decide +kernel : ∀ t, 1 ≤ t.val → t.val + 1 < 16 → tripMid.sl.v392_r1 t = wP (t.val + 1)) t h1 h2
  have rwI : tripMid.sl.v65_r1 t = wI (t.val + 1) := (by decide +kernel : ∀ t, 1 ≤ t.val → t.val + 1 < 16 → tripMid.sl.v65_r1 t = wI (t.val + 1)) t h1 h2
  rw [rwF, rwN, rwP, rwI]
  sl_step
  iapply Hk
  isplitl [HXc]; · iexists _; iexact HXc
  isplitl [HX HX_dst]
  · isplitl [HX_dst]; · iexists _; iexact HX_dst
    iexact HX
  isplitl [HX_src]; · iexact HX_src
  isplitl [HYc]; · iapply (yFlight_done c arg3 CW XA YA fwi hYA t.val h16 Y0 _ hy); iexact HYc
  isplitl [HY_dst]; · iexact HY_dst
  isplitl [HY HY_src]
  · isplitl [HY_src]; · iexists _; iexact HY_src
    iexact HY
  isplitl [HWi]
  · iexists _
    isplitr
    rotate_left
    · iexact HWi
    ipureintro
    exact hwi
  isplitl [H3]; · iexact H3
  isplitl [H8]; · iexact H8
  isplitl [H9]; · iexact H9
  isplitl [H10]; · iexact H10
  isplitl [H11]; · iexact H11
  isplitl [H12]; · iexact H12
  isplitl [G15]
  · iexists _
    isplitr
    rotate_left
    · iexact G15
    ipureintro
    exact rows8_step c t.val h16 f8 g15 hg15 _ (off21_eq t) _ _ (off9_eq t) _ _ _
  isplitl [G16]
  · iexists _
    isplitr
    rotate_left
    · iexact G16
    ipureintro
    exact rows9_step c t.val h16 f9 g16 hg16 _ (off23_eq t) _ _ (off10_eq t) _ _ _
  isplitl [G17]
  · iexists _
    isplitr
    rotate_left
    · iexact G17
    ipureintro
    exact rows10_step c t.val h16 f10 g17 hg17 _ (off25_eq t) _ _ (off11_eq t) _ _ _
  isplitl [G18]
  · iexists _
    isplitr
    rotate_left
    · iexact G18
    ipureintro
    exact rows11_step c t.val h16 f11 g18 hg18 _ (off21_eq t) _ _ (off12_eq t) _ _ _
  isplitl [G19]
  · iexists _
    isplitr
    rotate_left
    · iexact G19
    ipureintro
    exact rows12_step c t.val h16 f12 g19 hg19 _ (off28_eq t) _ _ (off13_eq t) _ _ _
  isplitl [S0]; · iexists _; iexact S0
  isplitl [S1]; · iexists _; iexact S1
  isplitl [S2]; · iexists _; iexact S2
  isplitl [S3]; · iexists _; iexact S3
  isplitl [S4]; · iexists _; iexact S4
  isplitl [C0]; · iexact C0
  isplitl [C1]; · iexact C1
  isplitl [C2]; · iexact C2
  isplitl [C3]; · iexact C3
  isplitl [C4]; · iexact C4
  isplitl [HZ]
  · iexists _
    isplitr
    rotate_left
    · iexact HZ
    ipureintro
    intro _ hk; exact halo_raw X WI c t.val h16 _ _ _ _ _ _ t00 t01 t10 t11 tc th hk z0 []
  isplitl [HC]
  · iexists _
    isplitr
    rotate_left
    · iexact HC
    ipureintro
    exact cnt_next c t cnt
  iexists _; iexact HW

include hYA in
/-- The first trip: it waits for the mixer's weights and clears the rows above the sequence's start. -/
theorem tripFirst (t : Fin k0_t1_loop.trips) (h0 : t.val = 0) (h2 : t.val + 1 < 16) (Φ) :
  iprop(xFlight c XA t.val
    ∗ xFree c (t.val + 1)
    ∗ xHome c XA (Ring.bk 16 (t.val + 1))
    ∗ yFree c t.val
    ∗ ptM c (yblk (Ring.bk 16 t.val)) Y0
    ∗ wiPend c fwi
    ∗ Keep1 c arg3 CW XA f8 f9 f10 f11 f12 fwi t.val
    ∗ ((xFlight c XA (t.val + 1)
    ∗ xFree c t.val
    ∗ xHome c XA (Ring.bk 16 t.val)
    ∗ yFlight c YA t.val
    ∗ wiHeld c fwi
    ∗ ptM c wiM fwi
    ∗ cellP c cc0_scoped9
    ∗ Keep1 c arg3 CW XA f8 f9 f10 f11 f12 fwi (t.val + 1)) -∗ Φ (wF (t.val + 1), wN (t.val + 1), wN (t.val + 1), wP (t.val + 1), wI (t.val + 1))))
   ⊢ wp frame (wpE (defs₀ (F := F)) 𝒱₀ (c : Thread nD τ) none) Set.univ (trip1 (F := F) arg3 harg3 arg4 arg5 arg6 arg7 harg4 harg5 harg6 harg7 t (wF t.val, wN t.val, wN t.val, wP t.val, wI t.val)) Φ := by
  have h16 : t.val < 16 := t.isLt
  have c1 := chk1 t
  have c2 := chk2 t
  have c3 := chk3 t
  have c4 := chk4 t
  have d1 := cond1_pos t h2
  have d2 := cond2_pos t
  have d7 := cond7_pos t
  have d9 := cond9_neg0 t h0
  have e0 : Scalar.cmpi .ne (Scalar.extui (Scalar.cmpi .eq (BitVec.ofNat 32 t.val) 0#32) : BitVec 32) 0#32 = 1#1 := zero_pos t h0
  iintro ⟨⟨%xf, HX⟩, ⟨⟨%xg, HXs⟩, HXc⟩, HXb, ⟨⟨%yf, HYs⟩, HYc⟩, HYb, ⟨%wi, HWi⟩, ⟨H3, H8, H9, H10, H11, H12, ⟨%g15, %hg15, G15⟩, ⟨%g16, %hg16, G16⟩, ⟨%g17, %hg17, G17⟩, ⟨%g18, %hg18, G18⟩, ⟨%g19, %hg19, G19⟩, ⟨%s0, S0⟩, ⟨%s1, S1⟩, ⟨%s2, S2⟩, ⟨%s3, S3⟩, ⟨%s4, S4⟩, C0, C1, C2, C3, C4, ⟨%z0, %hz, HZ⟩, ⟨%cnt, %hcnt, HC⟩, ⟨%W, HW⟩⟩, Hk⟩
  dsimp only [trip1]
  sl_unfold [k0_t1_body]
  sl_exec
  let X := xM.view.read (Elt F) XA
  let WI := wiM.view.read (Elt F) fwi
  have t00 := xs1_tile_00 c (Ring.sl 2 t.val) t.val h16 XA
  have t01 := xs1_tile_01 c (Ring.sl 2 t.val) t.val h16 XA
  have t10 := xs1_tile_10 c (Ring.sl 2 t.val) t.val h16 XA
  have t11 := xs1_tile_11 c (Ring.sl 2 t.val) t.val h16 XA
  have tb := wiB_cov (F := F) (ReadAs.same.apply (wiM.view.read (Elt F) fwi))
  have tc := wiC_cov (F := F) (ReadAs.same.apply (wiM.view.read (Elt F) fwi))
  have th := wiH_cov (F := F) (ReadAs.same.apply (wiM.view.read (Elt F) fwi))
  have hwi' : wiS.view.read (Elt F) (wiS.view.writes (Elt F) wi [⟨Rect.whole S1024x3072, ReadAs.same.apply (wiM.view.read (Elt F) fwi)⟩]) = wiM.view.read (Elt F) fwi := View.read_writes_whole wiS.view wi _
  have hy : (ys1 (Ring.sl 2 t.val)).view.read (Elt F) (tripFirst.sl.HYs_w4 c arg3 CW XA fwi t c4 yf) = blockOf (YS X WI (cwOf c arg3 CW)) t.val :=
    y_raw X WI (cwOf c arg3 CW) c t.val h16 _ _ _ _ _ _ _ _ t00 t01 t10 t11 tb tc th rfl (Ring.sl 2 t.val) yf _ _ _ _ (off16_eq t) (off17_eq t) (off18_eq t) (off19_eq t) _ _ _ _
      _ _ _ _ _ _ _ _
      (z_early0_0_2 X WI c t.val h16 _ _ _ _ _ _ t00 t01 t10 t11 tc th h0) (z_early0_0_1 X WI c t.val h16 _ _ _ _ _ _ t00 t01 t10 t11 tc th h0) (z_late0_0_2 X WI t.val h16 _ _ _ _ _ _ t00 t01 t10 t11 tc th h0) (z_late0_0_1 X WI t.val h16 _ _ _ _ _ _ t00 t01 t10 t11 tc th h0)
      (z_early0_1_2 X WI c t.val h16 _ _ _ _ _ _ t00 t01 t10 t11 tc th h0) (z_early0_1_1 X WI c t.val h16 _ _ _ _ _ _ t00 t01 t10 t11 tc th h0) (z_late0_1_2 X WI t.val h16 _ _ _ _ _ _ t00 t01 t10 t11 tc th h0) (z_late0_1_1 X WI t.val h16 _ _ _ _ _ _ t00 t01 t10 t11 tc th h0)
  have rwF : tripFirst.sl.v81_r1 t = wF (t.val + 1) := (by decide +kernel : ∀ t, t.val = 0 → t.val + 1 < 16 → tripFirst.sl.v81_r1 t = wF (t.val + 1)) t h0 h2
  have rwN : tripFirst.sl.v378_r1 t = wN (t.val + 1) := (by decide +kernel : ∀ t, t.val = 0 → t.val + 1 < 16 → tripFirst.sl.v378_r1 t = wN (t.val + 1)) t h0 h2
  have rwP : tripFirst.sl.v392_r1 t = wP (t.val + 1) := (by decide +kernel : ∀ t, t.val = 0 → t.val + 1 < 16 → tripFirst.sl.v392_r1 t = wP (t.val + 1)) t h0 h2
  have rwI : tripFirst.sl.v65_r1 t = wI (t.val + 1) := (by decide +kernel : ∀ t, t.val = 0 → t.val + 1 < 16 → tripFirst.sl.v65_r1 t = wI (t.val + 1)) t h0 h2
  rw [rwF, rwN, rwP, rwI]
  sl_step
  iapply Hk
  isplitl [HXc]; · iexists _; iexact HXc
  isplitl [HX HX_dst]
  · isplitl [HX_dst]; · iexists _; iexact HX_dst
    iexact HX
  isplitl [HX_src]; · iexact HX_src
  isplitl [HYc]; · iapply (yFlight_done c arg3 CW XA YA fwi hYA t.val h16 Y0 _ hy); iexact HYc
  isplitl [HWi_dst]
  · iexists _
    isplitr
    rotate_left
    · iexact HWi_dst
    ipureintro
    exact hwi'
  isplitl [HWi_src]; · iexact HWi_src
  isplitl [HWi]; · iexact HWi
  isplitl [H3]; · iexact H3
  isplitl [H8]; · iexact H8
  isplitl [H9]; · iexact H9
  isplitl [H10]; · iexact H10
  isplitl [H11]; · iexact H11
  isplitl [H12]; · iexact H12
  isplitl [G15]
  · iexists _
    isplitr
    rotate_left
    · iexact G15
    ipureintro
    exact rows8_step c t.val h16 f8 g15 hg15 _ (off21_eq t) _ _ (off9_eq t) _ _ _
  isplitl [G16]
  · iexists _
    isplitr
    rotate_left
    · iexact G16
    ipureintro
    exact rows9_step c t.val h16 f9 g16 hg16 _ (off23_eq t) _ _ (off10_eq t) _ _ _
  isplitl [G17]
  · iexists _
    isplitr
    rotate_left
    · iexact G17
    ipureintro
    exact rows10_step c t.val h16 f10 g17 hg17 _ (off25_eq t) _ _ (off11_eq t) _ _ _
  isplitl [G18]
  · iexists _
    isplitr
    rotate_left
    · iexact G18
    ipureintro
    exact rows11_step c t.val h16 f11 g18 hg18 _ (off21_eq t) _ _ (off12_eq t) _ _ _
  isplitl [G19]
  · iexists _
    isplitr
    rotate_left
    · iexact G19
    ipureintro
    exact rows12_step c t.val h16 f12 g19 hg19 _ (off28_eq t) _ _ (off13_eq t) _ _ _
  isplitl [S0]; · iexists _; iexact S0
  isplitl [S1]; · iexists _; iexact S1
  isplitl [S2]; · iexists _; iexact S2
  isplitl [S3]; · iexists _; iexact S3
  isplitl [S4]; · iexists _; iexact S4
  isplitl [C0]; · iexact C0
  isplitl [C1]; · iexact C1
  isplitl [C2]; · iexact C2
  isplitl [C3]; · iexact C3
  isplitl [C4]; · iexact C4
  isplitl [HZ]
  · iexists _
    isplitr
    rotate_left
    · iexact HZ
    ipureintro
    intro _ hk; exact halo_raw X WI c t.val h16 _ _ _ _ _ _ t00 t01 t10 t11 tc th hk z0 zZeros
  isplitl [HC]
  · iexists _
    isplitr
    rotate_left
    · iexact HC
    ipureintro
    exact cnt_next c t cnt
  iexists _; iexact HW

include hYA in
/-- The last trip: no block is left to fetch. -/
theorem tripLast (t : Fin k0_t1_loop.trips) (h1 : 1 ≤ t.val) (h2 : ¬ t.val + 1 < 16) (Φ) :
  iprop(xFlight c XA t.val
    ∗ yFree c t.val
    ∗ ptM c (yblk (Ring.bk 16 t.val)) Y0
    ∗ yFlight c YA (t.val - 1)
    ∗ wiHeld c fwi
    ∗ Keep1 c arg3 CW XA f8 f9 f10 f11 f12 fwi t.val
    ∗ ((xFree c t.val
    ∗ xHome c XA (Ring.bk 16 t.val)
    ∗ yFlight c YA t.val
    ∗ yHome c YA (Ring.bk 16 (t.val - 1))
    ∗ yFree c (t.val - 1)
    ∗ wiHeld c fwi
    ∗ Keep1 c arg3 CW XA f8 f9 f10 f11 f12 fwi (t.val + 1)) -∗ Φ (wF (t.val + 1), wN (t.val + 1), wN (t.val + 1), wP (t.val + 1), wI (t.val + 1))))
   ⊢ wp frame (wpE (defs₀ (F := F)) 𝒱₀ (c : Thread nD τ) none) Set.univ (trip1 (F := F) arg3 harg3 arg4 arg5 arg6 arg7 harg4 harg5 harg6 harg7 t (wF t.val, wN t.val, wN t.val, wP t.val, wI t.val)) Φ := by
  have h16 : t.val < 16 := t.isLt
  have c1 := chk1 t
  have c2 := chk2 t
  have c3 := chk3 t
  have c4 := chk4 t
  have d1 := cond1_neg t h2
  have d2 := cond2_pos t
  have d7 := cond7_pos t
  have d9 := cond9_pos t h1
  have e0 : ¬ Scalar.cmpi .ne (Scalar.extui (Scalar.cmpi .eq (BitVec.ofNat 32 t.val) 0#32) : BitVec 32) 0#32 = 1#1 := zero_neg t h1
  iintro ⟨⟨%xf, HX⟩, ⟨⟨%yf, HYs⟩, HYc⟩, HYb, ⟨%yg, HY⟩, ⟨%wi, %hwi, HWi⟩, ⟨H3, H8, H9, H10, H11, H12, ⟨%g15, %hg15, G15⟩, ⟨%g16, %hg16, G16⟩, ⟨%g17, %hg17, G17⟩, ⟨%g18, %hg18, G18⟩, ⟨%g19, %hg19, G19⟩, ⟨%s0, S0⟩, ⟨%s1, S1⟩, ⟨%s2, S2⟩, ⟨%s3, S3⟩, ⟨%s4, S4⟩, C0, C1, C2, C3, C4, ⟨%z0, %hz, HZ⟩, ⟨%cnt, %hcnt, HC⟩, ⟨%W, HW⟩⟩, Hk⟩
  dsimp only [trip1]
  sl_unfold [k0_t1_body]
  sl_exec
  let X := xM.view.read (Elt F) XA
  let WI := wiM.view.read (Elt F) fwi
  have t00 := xs1_tile_00 c (Ring.sl 2 t.val) t.val h16 XA
  have t01 := xs1_tile_01 c (Ring.sl 2 t.val) t.val h16 XA
  have t10 := xs1_tile_10 c (Ring.sl 2 t.val) t.val h16 XA
  have t11 := xs1_tile_11 c (Ring.sl 2 t.val) t.val h16 XA
  have tb : View.readAt (Elt F) wiS.view (Rect.unit (s := S1024x3072) ![0, 0] S1024x1024.size inb_S1024x3072_S1024x1024_0_0).toLoadRect wi = wiB (wiM.view.read (Elt F) fwi) := congrArg wiB hwi
  have tc : View.readAt (Elt F) wiS.view (Rect.unit (s := S1024x3072) ![0, 1024] S1024x1024.size inb_S1024x3072_S1024x1024_0_1024).toLoadRect wi = wiC (wiM.view.read (Elt F) fwi) := congrArg wiC hwi
  have th : View.readAt (Elt F) wiS.view (Rect.unit (s := S1024x3072) ![0, 2048] S1024x1024.size inb_S1024x3072_S1024x1024_0_2048).toLoadRect wi = wiH (wiM.view.read (Elt F) fwi) := congrArg wiH hwi
  have hy : (ys1 (Ring.sl 2 t.val)).view.read (Elt F) (tripLast.sl.HYs_w4 c arg3 CW XA t c4 yf wi z0) = blockOf (YS X WI (cwOf c arg3 CW)) t.val :=
    y_raw X WI (cwOf c arg3 CW) c t.val h16 _ _ _ _ _ _ _ _ t00 t01 t10 t11 tb tc th rfl (Ring.sl 2 t.val) yf _ _ _ _ (off16_eq t) (off17_eq t) (off18_eq t) (off19_eq t) _ _ _ _
      _ _ _ _ _ _ _ _
      (z_early_0_2 X WI c t.val h16 _ _ _ _ _ _ t00 t01 t10 t11 tc th z0 (hz h1 h16)) (z_early_0_1 X WI c t.val h16 _ _ _ _ _ _ t00 t01 t10 t11 tc th z0 (hz h1 h16)) (z_late_0_2 X WI t.val h16 _ _ _ _ _ _ t00 t01 t10 t11 tc th) (z_late_0_1 X WI t.val h16 _ _ _ _ _ _ t00 t01 t10 t11 tc th)
      (z_early_1_2 X WI c t.val h16 _ _ _ _ _ _ t00 t01 t10 t11 tc th z0 (hz h1 h16)) (z_early_1_1 X WI c t.val h16 _ _ _ _ _ _ t00 t01 t10 t11 tc th z0 (hz h1 h16)) (z_late_1_2 X WI t.val h16 _ _ _ _ _ _ t00 t01 t10 t11 tc th) (z_late_1_1 X WI t.val h16 _ _ _ _ _ _ t00 t01 t10 t11 tc th)
  have rwF : tripLast.sl.v81_r1 t = wF (t.val + 1) := (by decide +kernel : ∀ t, 1 ≤ t.val → ¬ t.val + 1 < 16 → tripLast.sl.v81_r1 t = wF (t.val + 1)) t h1 h2
  have rwN : tripLast.sl.v378_r1 t = wN (t.val + 1) := (by decide +kernel : ∀ t, 1 ≤ t.val → ¬ t.val + 1 < 16 → tripLast.sl.v378_r1 t = wN (t.val + 1)) t h1 h2
  have rwP : tripLast.sl.v392_r1 t = wP (t.val + 1) := (by decide +kernel : ∀ t, 1 ≤ t.val → ¬ t.val + 1 < 16 → tripLast.sl.v392_r1 t = wP (t.val + 1)) t h1 h2
  have rwI : tripLast.sl.v65_r1 t = wI (t.val + 1) := (by decide +kernel : ∀ t, 1 ≤ t.val → ¬ t.val + 1 < 16 → tripLast.sl.v65_r1 t = wI (t.val + 1)) t h1 h2
  rw [rwF, rwN, rwP, rwI]
  sl_step
  iapply Hk
  isplitl [HX HX_dst]
  · isplitl [HX_dst]; · iexists _; iexact HX_dst
    iexact HX
  isplitl [HX_src]; · iexact HX_src
  isplitl [HYc]; · iapply (yFlight_done c arg3 CW XA YA fwi hYA t.val h16 Y0 _ hy); iexact HYc
  isplitl [HY_dst]; · iexact HY_dst
  isplitl [HY HY_src]
  · isplitl [HY_src]; · iexists _; iexact HY_src
    iexact HY
  isplitl [HWi]
  · iexists _
    isplitr
    rotate_left
    · iexact HWi
    ipureintro
    exact hwi
  isplitl [H3]; · iexact H3
  isplitl [H8]; · iexact H8
  isplitl [H9]; · iexact H9
  isplitl [H10]; · iexact H10
  isplitl [H11]; · iexact H11
  isplitl [H12]; · iexact H12
  isplitl [G15]
  · iexists _
    isplitr
    rotate_left
    · iexact G15
    ipureintro
    exact rows8_step c t.val h16 f8 g15 hg15 _ (off21_eq t) _ _ (off9_eq t) _ _ _
  isplitl [G16]
  · iexists _
    isplitr
    rotate_left
    · iexact G16
    ipureintro
    exact rows9_step c t.val h16 f9 g16 hg16 _ (off23_eq t) _ _ (off10_eq t) _ _ _
  isplitl [G17]
  · iexists _
    isplitr
    rotate_left
    · iexact G17
    ipureintro
    exact rows10_step c t.val h16 f10 g17 hg17 _ (off25_eq t) _ _ (off11_eq t) _ _ _
  isplitl [G18]
  · iexists _
    isplitr
    rotate_left
    · iexact G18
    ipureintro
    exact rows11_step c t.val h16 f11 g18 hg18 _ (off21_eq t) _ _ (off12_eq t) _ _ _
  isplitl [G19]
  · iexists _
    isplitr
    rotate_left
    · iexact G19
    ipureintro
    exact rows12_step c t.val h16 f12 g19 hg19 _ (off28_eq t) _ _ (off13_eq t) _ _ _
  isplitl [S0]; · iexists _; iexact S0
  isplitl [S1]; · iexists _; iexact S1
  isplitl [S2]; · iexists _; iexact S2
  isplitl [S3]; · iexists _; iexact S3
  isplitl [S4]; · iexists _; iexact S4
  isplitl [C0]; · iexact C0
  isplitl [C1]; · iexact C1
  isplitl [C2]; · iexact C2
  isplitl [C3]; · iexact C3
  isplitl [C4]; · iexact C4
  isplitl [HZ]
  · iexists _
    isplitr
    rotate_left
    · iexact HZ
    ipureintro
    intro _ hk; exact halo_raw X WI c t.val h16 _ _ _ _ _ _ t00 t01 t10 t11 tc th hk z0 []
  isplitl [HC]
  · iexists _
    isplitr
    rotate_left
    · iexact HC
    ipureintro
    exact cnt_next c t cnt
  iexists _; iexact HW

end Trip
end Cert.Proof.Layer
-- ==== Proof.Inv1.lean ====
module

public import proofs.«01_k».proof.Proof.Sides
public import proofs.«01_k».proof.Proof.Trip1
public import Idealize.ShloMosaic.Lib.Pointwise
public import Idealize.ShloMosaic.Lib.Pipeline.Value

@[expose] public section

set_option maxRecDepth 8192

noncomputable section

namespace Cert.Proof.Layer

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

/-! # The mixer loop's invariant -/

theorem sl_free (P : Fin 2 → sProp (MT nD τ sig Unit (Elt F) ℕ (UU nD τ) ℕ)) (k : Nat) : P (Ring.sl 2 (k + 2)) = P (Ring.sl 2 k) :=
  congrArg P (Ring.sl_add 2 k)

section
variable (c : Dev nD)
  (arg3 : Memref sig .tc .vmem S1x3x1024 .f32) (harg3 : arg3.IsWhole) (arg4 arg5 arg6 arg7 : Memref sig .tc .vmem S2x1024 .f32)
  (harg4 : arg4.IsWhole) (harg5 : arg5.IsWhole) (harg6 : arg6.IsWhole) (harg7 : arg7.IsWhole)
variable (CW : BufOf F c arg3) (XA : BufOf F c xM) (Y0 YA : BufOf F c yM)
   (f8 : BufOf F c woM) (f9 : BufOf F c w1M) (f10 : BufOf F c w2M) (f11 : BufOf F c wgM) (f12 : BufOf F c wpM) (fwi : BufOf F c wiM)
  (hYA : yM.view.read (Elt F) YA = YS (xM.view.read (Elt F) XA) (wiM.view.read (Elt F) fwi) (cwOf c arg3 CW))

/-- The mixer's weights: on their way into the scratch before the first trip, held there from then on. -/
def WiSide (k : Nat) : sProp 𝕄 := if k = 0 then wiPend c fwi else iprop(wiHeld c fwi ∗ ptM c wiM fwi ∗ cellP c cc0_scoped9)

theorem xFree_add (k : Nat) : (xFree (F := F) c (k + 2) : sProp 𝕄) = xFree c k := sl_free (fun s => iprop((∃ g : BufOf F c (xs1 s), ptM c (xs1 s) g) ∗ cellP c (xc1 s))) k
theorem yFree_add (k : Nat) : (yFree (F := F) c (k + 2) : sProp 𝕄) = yFree c k := sl_free (fun s => iprop((∃ g : BufOf F c (ys1 s), ptM c (ys1 s) g) ∗ cellP c (yc1 s))) k

/-- `x`'s side of the mixer's pipeline before trip `k`. -/
abbrev XSide (k : Nat) : sProp 𝕄 := InSide (xHome c XA) (xFlight c XA) (xFree (F := F) c) k
/-- The mixed rows' side before trip `k`. -/
abbrev YSide (k : Nat) : sProp 𝕄 := OutSide (fun b => ptM c (yblk b) Y0) (yHome c YA) (yFlight c YA) (yFree (F := F) c) k

/-- What holds before trip `k` with the carried words `acc`. -/
def inv1 (k : Nat) (acc : BitVec 32 × BitVec 32 × BitVec 32 × BitVec 32 × BitVec 32) : sProp 𝕄 :=
  iprop(⌜acc = (wF k, wN k, wN k, wP k, wI k)⌝ ∗ XSide c XA k ∗ YSide c Y0 YA k ∗ WiSide c fwi k ∗ Keep1 c arg3 CW XA f8 f9 f10 f11 f12 fwi k)

include hYA in
/-- One trip keeps it. -/
theorem inv1_step (k : Fin k0_t1_loop.trips) (acc) :
    inv1 c arg3 CW XA Y0 YA f8 f9 f10 f11 f12 fwi k.val acc
      ⊢ wp frame (wpE (defs₀ (F := F)) 𝒱₀ (c : Thread nD τ) none) Set.univ (trip1 (F := F) arg3 harg3 arg4 arg5 arg6 arg7 harg4 harg5 harg6 harg7 k acc) (inv1 c arg3 CW XA Y0 YA f8 f9 f10 f11 f12 fwi (k.val + 1)) := by
  have h16 : k.val < 16 := k.isLt
  unfold inv1
  iintro ⟨%ha, HX, HY, HW, HK⟩
  subst ha
  by_cases h0 : k.val = 0
  · have h2 : k.val + 1 < 16 := by omega
    ihave HX' := (in_open (xHome c XA) (xFlight c XA) (xFree (F := F) c) (xFree_add c) k.val h2) $$ HX
    icases HX' with ⟨X1, X2, X3, XW⟩
    ihave HY' := (entails_of_eq (congrArg (YSide c Y0 YA) h0)) $$ HY
    ihave HY'' := (out_first (fun b => ptM c (yblk b) Y0) (yHome c YA) (yFlight c YA) (yFree (F := F) c)) $$ HY'
    icases HY'' with ⟨Y1, Y2, YW⟩
    ihave HW' := (entails_of_eq (show WiSide c fwi k.val = wiPend c fwi from if_pos h0)) $$ HW
    iapply (tripFirst c arg3 harg3 arg4 arg5 arg6 arg7 harg4 harg5 harg6 harg7 CW XA Y0 YA f8 f9 f10 f11 f12 fwi hYA k h0 h2)
    isplitl [X1]; · iexact X1
    isplitl [X2]; · iexact X2
    isplitl [X3]; · iexact X3
    isplitl [Y1]; · irw [h0]; iexact Y1
    isplitl [Y2]; · irw [h0]; iexact Y2
    isplitl [HW']; · iexact HW'
    isplitl [HK]; · iexact HK
    iintro ⟨A1, A2, A3, A4, A5, A6, A7, A8⟩
    isplitr; · ipureintro; rfl
    isplitl [XW A1 A2 A3]
    · iapply XW
      isplitl [A1]; · iexact A1
      isplitl [A2]; · iexact A2
      iexact A3
    isplitl [YW A4]
    · ihave A4' := (entails_of_eq (congrArg (yFlight c YA) h0)) $$ A4
      ihave Y' := YW $$ A4'
      iapply (entails_of_eq (congrArg (YSide c Y0 YA) (show (1 : Nat) = k.val + 1 by omega)))
      iexact Y'
    isplitl [A5 A6 A7]
    · iapply (entails_of_eq (show WiSide c fwi (k.val + 1) = iprop(wiHeld c fwi ∗ ptM c wiM fwi ∗ cellP c cc0_scoped9) from if_neg (by omega)).symm)
      isplitl [A5]; · iexact A5
      isplitl [A6]; · iexact A6
      iexact A7
    iexact A8
  · have h1 : 1 ≤ k.val := by omega
    ihave HY' := (out_open (fun b => ptM c (yblk b) Y0) (yHome c YA) (yFlight c YA) (yFree (F := F) c) (yFree_add c) k.val h1 h16) $$ HY
    icases HY' with ⟨Y1, Y2, Y3, YW⟩
    ihave HW' := (entails_of_eq (show WiSide c fwi k.val = iprop(wiHeld c fwi ∗ ptM c wiM fwi ∗ cellP c cc0_scoped9) from if_neg h0)) $$ HW
    icases HW' with ⟨W1, W2, W3⟩
    by_cases h2 : k.val + 1 < 16
    · ihave HX' := (in_open (xHome c XA) (xFlight c XA) (xFree (F := F) c) (xFree_add c) k.val h2) $$ HX
      icases HX' with ⟨X1, X2, X3, XW⟩
      iapply (tripMid c arg3 harg3 arg4 arg5 arg6 arg7 harg4 harg5 harg6 harg7 CW XA Y0 YA f8 f9 f10 f11 f12 fwi hYA k h1 h2)
      isplitl [X1]; · iexact X1
      isplitl [X2]; · iexact X2
      isplitl [X3]; · iexact X3
      isplitl [Y1]; · iexact Y1
      isplitl [Y2]; · iexact Y2
      isplitl [Y3]; · iexact Y3
      isplitl [W1]; · iexact W1
      isplitl [HK]; · iexact HK
      iintro ⟨A1, A2, A3, A4, A5, A6, A7, A8⟩
      isplitr; · ipureintro; rfl
      isplitl [XW A1 A2 A3]
      · iapply XW
        isplitl [A1]; · iexact A1
        isplitl [A2]; · iexact A2
        iexact A3
      isplitl [YW A4 A5 A6]
      · iapply YW
        isplitl [A4]; · iexact A4
        isplitl [A5]; · iexact A5
        iexact A6
      isplitl [A7 W2 W3]
      · iapply (entails_of_eq (show WiSide c fwi (k.val + 1) = iprop(wiHeld c fwi ∗ ptM c wiM fwi ∗ cellP c cc0_scoped9) from if_neg (by omega)).symm)
        isplitl [A7]; · iexact A7
        isplitl [W2]; · iexact W2
        iexact W3
      iexact A8
    · have h15 : k.val = 15 := by omega
      ihave HX0 := (entails_of_eq (congrArg (XSide c XA) h15)) $$ HX
      ihave HX' := (in_last (xHome c XA) (xFlight c XA) (xFree (F := F) c) (xFree_add c)) $$ HX0
      icases HX' with ⟨X1, XW⟩
      iapply (tripLast c arg3 harg3 arg4 arg5 arg6 arg7 harg4 harg5 harg6 harg7 CW XA Y0 YA f8 f9 f10 f11 f12 fwi hYA k h1 h2)
      isplitl [X1]; · irw [h15]; iexact X1
      isplitl [Y1]; · iexact Y1
      isplitl [Y2]; · iexact Y2
      isplitl [Y3]; · iexact Y3
      isplitl [W1]; · iexact W1
      isplitl [HK]; · iexact HK
      iintro ⟨A2, A3, A4, A5, A6, A7, A8⟩
      isplitr; · ipureintro; rfl
      isplitl [XW A2 A3]
      · ihave A2' := (entails_of_eq (congrArg (xFree (F := F) c) h15)) $$ A2
        ihave A3' := (entails_of_eq (congrArg (fun n => xHome c XA (Ring.bk 16 n)) h15)) $$ A3
        iapply (entails_of_eq (congrArg (XSide c XA) (show (16 : Nat) = k.val + 1 by omega)))
        iapply XW
        isplitl [A2']; · iexact A2'
        iexact A3'
      isplitl [YW A4 A5 A6]
      · iapply YW
        isplitl [A4]; · iexact A4
        isplitl [A5]; · iexact A5
        iexact A6
      isplitl [A7 W2 W3]
      · iapply (entails_of_eq (show WiSide c fwi (k.val + 1) = iprop(wiHeld c fwi ∗ ptM c wiM fwi ∗ cellP c cc0_scoped9) from if_neg (by omega)).symm)
        isplitl [A7]; · iexact A7
        isplitl [W2]; · iexact W2
        iexact W3
      iexact A8

set_option warn.classDefReducibility false in
/-- The mixer loop's invariant, as the loop's class has it. -/
def loopInv1 : LoopInvTy_k0_t1 (F := F) Unit ℕ (UU nD τ) ℕ 𝒱₀ c none Set.univ xM (Memref.isWhole_whole _) pM (Memref.isWhole_whole _) wiM (Memref.isWhole_whole _) arg3 harg3 arg4 harg4 arg5 harg5 arg6 harg6 arg7 harg7 woM (Memref.isWhole_whole _) w1M (Memref.isWhole_whole _) w2M (Memref.isWhole_whole _) wgM (Memref.isWhole_whole _) wpM (Memref.isWhole_whole _) oM (Memref.isWhole_whole _) yM (Memref.isWhole_whole _) woS (Memref.isWhole_whole _) w1S (Memref.isWhole_whole _) w2S (Memref.isWhole_whole _) wgS (Memref.isWhole_whole _) wpS (Memref.isWhole_whole _) cntM (Memref.isWhole_whole _) cc0_scoped1 sl0M (Memref.isWhole_whole _) sl1M (Memref.isWhole_whole _) sl2M (Memref.isWhole_whole _) sl3M (Memref.isWhole_whole _) sl4M (Memref.isWhole_whole _) wiS (Memref.isWhole_whole _) zM (Memref.isWhole_whole _) cc0_scoped9 xb1M (Memref.isWhole_whole _) cc0_scoped11 yb1M (Memref.isWhole_whole _) cc0_scoped13 xbM (Memref.isWhole_whole _) hidM (Memref.isWhole_whole _) x2bM (Memref.isWhole_whole _) xb2M (Memref.isWhole_whole _) cc0_scoped18 yb2M (Memref.isWhole_whole _) cc0_scoped20 pb2M (Memref.isWhole_whole _) cc0_scoped22 ob2M (Memref.isWhole_whole _) cc0_scoped24 (Scalar.addi 0#32 1#32) 0#32 0#32 0#32 0#32 0#32 (Scalar.addi 0#32 1#32, 0#32, 0#32, 0#32, 0#32) where
  inv k acc := inv1 c arg3 CW XA Y0 YA f8 f9 f10 f11 f12 fwi k acc
  step k acc := inv1_step c arg3 harg3 arg4 arg5 arg6 arg7 harg4 harg5 harg6 harg7 CW XA Y0 YA f8 f9 f10 f11 f12 fwi hYA k acc

/-- At the loop's entry. -/
theorem inv1_start : iprop(XSide c XA 0 ∗ YSide c Y0 YA 0 ∗ WiSide c fwi 0 ∗ Keep1 c arg3 CW XA f8 f9 f10 f11 f12 fwi 0)
    ⊢ (loopInv1 c arg3 harg3 arg4 arg5 arg6 arg7 harg4 harg5 harg6 harg7 CW XA Y0 YA f8 f9 f10 f11 f12 fwi hYA).inv 0 (1#32, 0#32, 0#32, 0#32, 0#32) := by
  show _ ⊢ inv1 c arg3 CW XA Y0 YA f8 f9 f10 f11 f12 fwi 0 (1#32, 0#32, 0#32, 0#32, 0#32)
  unfold inv1
  iintro H
  isplitr; · ipureintro; decide
  iexact H
/-- At its exit. -/
theorem inv1_end (acc) : (loopInv1 c arg3 harg3 arg4 arg5 arg6 arg7 harg4 harg5 harg6 harg7 CW XA Y0 YA f8 f9 f10 f11 f12 fwi hYA).inv (Scf.trips k0_t1_loop.lb k0_t1_loop.ub k0_t1_loop.st) acc
    ⊢ iprop(⌜acc = (wF 16, wN 16, wN 16, wP 16, wI 16)⌝ ∗ XSide c XA 16 ∗ YSide c Y0 YA 16 ∗ WiSide c fwi 16 ∗ Keep1 c arg3 CW XA f8 f9 f10 f11 f12 fwi 16) := by
  show inv1 c arg3 CW XA Y0 YA f8 f9 f10 f11 f12 fwi k0_t1_loop.trips acc ⊢ _
  rw [trips1]
  unfold inv1
  iintro H
  iexact H
end
end Cert.Proof.Layer
-- ==== Proof.Stores2.lean ====
module

public import proofs.«01_k».proof.Proof.Mixer
public import Idealize.ShloMosaic.Lib.Pointwise
public import Idealize.ShloMosaic.Lib.Pipeline.Value

@[expose] public section

set_option maxRecDepth 8192

noncomputable section

namespace Cert.Proof.Layer

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

/-! # What a trip of the channel loop stores -/

/-- A read at an index where one of the last pieces lies; the earlier pieces do not matter. -/
theorem read_pieces_front {sp : Space} {S : Shape} {e : EltTy} (v : View sig .tc sp S e) (f : v.ty.Contents (Elt F)) (G : S.Idx → Elt F e) (L L' : List (View.Piece (Elt F) S e))
    (hG : ∀ p ∈ L, ∀ x : p.1.shape.Idx, p.2 x = G (p.1.emb x)) (y : S.Idx) (hy : ∃ p ∈ L, y ∈ p.1.set) : v.read (Elt F) (v.writes (Elt F) f (L ++ L')) y = G y := by
  rw [View.writes_append]
  exact View.read_writes_apply_of_pieces v _ G L hG y hy

/-- A load of the whole buffer. -/
theorem readAt_full {sp : Space} {S : Shape} {e : EltTy} (v : View sig .tc sp S e) (f : v.ty.Contents (Elt F)) (o : Fin S.rank → Nat) (ho : ∀ a, o a = 0) (h : ∀ a, o a + S.size a ≤ S.size a) :
    v.readAt (Elt F) (Rect.unit (s := S) o S.size h).toLoadRect f = v.read (Elt F) f := by
  funext j
  refine congrArg (v.read (Elt F) f) (funext fun a => Fin.ext ?_)
  show o a + 1 * (j a).val = (j a).val
  rw [ho a]
  omega

/-- One column block of the first feed-forward weights. -/
theorem w1_col (c : Dev nD) (g : BufOf F c w1S) (j : Nat) (hj : j < 4) (o : Fin 2 → Nat) (h0 : o 0 = 0) (h1 : o 1 = 1024 * j) (h : ∀ a, o a + S1024x1024.size a ≤ S1024x4096.size a) :
    View.readAt (Elt F) w1S.view (Rect.unit (s := S1024x4096) o S1024x1024.size h).toLoadRect g = w1Col (w1S.view.read (Elt F) g) j := by
  funext i
  have hi : (i 1).val < 1024 := (i 1).isLt
  refine congrArg (w1S.view.read (Elt F) g) (funext fun a => Fin.ext ?_)
  match a with
  | ⟨0, _⟩ => show o 0 + 1 * (i 0).val = (i 0).val; omega
  | ⟨1, _⟩ => show o 1 + 1 * (i 1).val = (1024 * j + (i 1).val) % 4096; omega

theorem hid_piece (w : FfnW F) (X : Vec F S2x8192x1024 .f32) (Y : Vec F S2x8192x1024 .bf16) (b : Fin 2) (q j : Nat) (hj : j < 4) (x : S1x256x1024.Idx) (i : S1x256x4096.Idx)
    (h1 : (i 1).val = (x 1).val) (h2 : (i 2).val = 1024 * j + (x 2).val) :
    k0_pay44 (xbT w X Y b q) (w1Col w.W1 j) x = hidT w X Y b q i := by
  have hx0 : (x 0).val < 1 := (x 0).isLt
  have hx2 : (x 2).val < 1024 := (x 2).isLt
  show _ = k0_pay44 (xbT w X Y b q) (w1Col w.W1 ((i 2).val / 1024)) (ix3 0 (i 1) (colIx (i 2).val))
  have e : (i 2).val / 1024 = j := by omega
  rw [e]
  refine congrArg (k0_pay44 (xbT w X Y b q) (w1Col w.W1 j)) (funext fun a => Fin.ext ?_)
  match a with
  | ⟨0, _⟩ => show (x 0).val = 0; omega
  | ⟨1, _⟩ => exact h1.symm
  | ⟨2, _⟩ => show (x 2).val = (i 2).val % 1024; omega

/-- Four column blocks stored side by side in slot 0, loaded back as one. -/
theorem hid_cover_0 (G : S1x256x4096.Idx → Elt F .bf16) (a0 a1 a2 a3 : S1x256x1024.Idx → Elt F .bf16) (L : List (View.Piece (Elt F) S2x256x4096 .bf16))
    (k0 : ∀ (x : S1x256x1024.Idx) (i : S1x256x4096.Idx), (i 1).val = (x 1).val → (i 2).val = 1024 * 0 + (x 2).val → a0 x = G i) (k1 : ∀ (x : S1x256x1024.Idx) (i : S1x256x4096.Idx), (i 1).val = (x 1).val → (i 2).val = 1024 * 1 + (x 2).val → a1 x = G i) (k2 : ∀ (x : S1x256x1024.Idx) (i : S1x256x4096.Idx), (i 1).val = (x 1).val → (i 2).val = 1024 * 2 + (x 2).val → a2 x = G i) (k3 : ∀ (x : S1x256x1024.Idx) (i : S1x256x4096.Idx), (i 1).val = (x 1).val → (i 2).val = 1024 * 3 + (x 2).val → a3 x = G i) :
    hidM.view.readCov (Val := Elt F) (⟨(Rect.unit (s := S2x256x4096) ![0, 0, 3072] S1x256x1024.size inb_S2x256x4096_S1x256x1024_0_0_3072), a3⟩ :: ⟨(Rect.unit (s := S2x256x4096) ![0, 0, 2048] S1x256x1024.size inb_S2x256x4096_S1x256x1024_0_0_2048), a2⟩ :: ⟨(Rect.unit (s := S2x256x4096) ![0, 0, 1024] S1x256x1024.size inb_S2x256x4096_S1x256x1024_0_0_1024), a1⟩ :: ⟨(Rect.unit (s := S2x256x4096) ![0, 0, 0] S1x256x1024.size inb_S2x256x4096_S1x256x1024_0_0_0), a0⟩ :: L) (Rect.unit (s := S2x256x4096) ![0, 0, 0] S1x256x4096.size inb_S2x256x4096_S1x256x4096_0_0_0).toLoadRect = G := by
  funext i
  have h0 : (i 0).val < 1 := (i 0).isLt
  have h1 : (i 1).val < 256 := (i 1).isLt
  have h2 : (i 2).val < 4096 := (i 2).isLt
  have key := read_pieces_front hidM.view hidM.view.junk (fun y : S2x256x4096.Idx => G (ix3 0 (y 1) (y 2))) [⟨(Rect.unit (s := S2x256x4096) ![0, 0, 3072] S1x256x1024.size inb_S2x256x4096_S1x256x1024_0_0_3072), a3⟩, ⟨(Rect.unit (s := S2x256x4096) ![0, 0, 2048] S1x256x1024.size inb_S2x256x4096_S1x256x1024_0_0_2048), a2⟩, ⟨(Rect.unit (s := S2x256x4096) ![0, 0, 1024] S1x256x1024.size inb_S2x256x4096_S1x256x1024_0_0_1024), a1⟩, ⟨(Rect.unit (s := S2x256x4096) ![0, 0, 0] S1x256x1024.size inb_S2x256x4096_S1x256x1024_0_0_0), a0⟩] L ?_ ((Rect.unit (s := S2x256x4096) ![0, 0, 0] S1x256x4096.size inb_S2x256x4096_S1x256x4096_0_0_0).idx i) ?_
  · refine key.trans (congrArg G (funext fun a => Fin.ext ?_))
    match a with
    | ⟨0, _⟩ => show 0 = (i 0).val; omega
    | ⟨1, _⟩ => show 0 + 1 * (i 1).val = (i 1).val; omega
    | ⟨2, _⟩ => show 0 + 1 * (i 2).val = (i 2).val; omega
  · intro p hp
    rcases List.mem_cons.mp hp with rfl | hp
    · intro x
      exact k3 x _ (by show 0 + 1 * (x 1).val = (x 1).val; omega) (by show 3072 + 1 * (x 2).val = 1024 * 3 + (x 2).val; omega)
    rcases List.mem_cons.mp hp with rfl | hp
    · intro x
      exact k2 x _ (by show 0 + 1 * (x 1).val = (x 1).val; omega) (by show 2048 + 1 * (x 2).val = 1024 * 2 + (x 2).val; omega)
    rcases List.mem_cons.mp hp with rfl | hp
    · intro x
      exact k1 x _ (by show 0 + 1 * (x 1).val = (x 1).val; omega) (by show 1024 + 1 * (x 2).val = 1024 * 1 + (x 2).val; omega)
    rcases List.mem_cons.mp hp with rfl | hp
    · intro x
      exact k0 x _ (by show 0 + 1 * (x 1).val = (x 1).val; omega) (by show 0 + 1 * (x 2).val = 1024 * 0 + (x 2).val; omega)
    exact absurd hp List.not_mem_nil
  · rcases Nat.lt_or_ge (i 2).val 2048 with a | a
    · rcases Nat.lt_or_ge (i 2).val 1024 with a' | a'
      · refine ⟨_, (List.mem_cons_of_mem _ (List.mem_cons_of_mem _ (List.mem_cons_of_mem _ List.mem_cons_self))), (Rect.mem_set_unit (inb := inb_S2x256x4096_S1x256x1024_0_0_0)).mpr fun x => ?_⟩
        match x with
        | ⟨0, _⟩ => show 0 ≤ 0 + 1 * (i 0).val ∧ 0 + 1 * (i 0).val < 0 + 1; omega
        | ⟨1, _⟩ => show 0 ≤ 0 + 1 * (i 1).val ∧ 0 + 1 * (i 1).val < 0 + 256; omega
        | ⟨2, _⟩ => show 0 ≤ 0 + 1 * (i 2).val ∧ 0 + 1 * (i 2).val < 0 + 1024; omega
      · refine ⟨_, (List.mem_cons_of_mem _ (List.mem_cons_of_mem _ List.mem_cons_self)), (Rect.mem_set_unit (inb := inb_S2x256x4096_S1x256x1024_0_0_1024)).mpr fun x => ?_⟩
        match x with
        | ⟨0, _⟩ => show 0 ≤ 0 + 1 * (i 0).val ∧ 0 + 1 * (i 0).val < 0 + 1; omega
        | ⟨1, _⟩ => show 0 ≤ 0 + 1 * (i 1).val ∧ 0 + 1 * (i 1).val < 0 + 256; omega
        | ⟨2, _⟩ => show 1024 ≤ 0 + 1 * (i 2).val ∧ 0 + 1 * (i 2).val < 1024 + 1024; omega
    · rcases Nat.lt_or_ge (i 2).val 3072 with a' | a'
      · refine ⟨_, (List.mem_cons_of_mem _ List.mem_cons_self), (Rect.mem_set_unit (inb := inb_S2x256x4096_S1x256x1024_0_0_2048)).mpr fun x => ?_⟩
        match x with
        | ⟨0, _⟩ => show 0 ≤ 0 + 1 * (i 0).val ∧ 0 + 1 * (i 0).val < 0 + 1; omega
        | ⟨1, _⟩ => show 0 ≤ 0 + 1 * (i 1).val ∧ 0 + 1 * (i 1).val < 0 + 256; omega
        | ⟨2, _⟩ => show 2048 ≤ 0 + 1 * (i 2).val ∧ 0 + 1 * (i 2).val < 2048 + 1024; omega
      · refine ⟨_, List.mem_cons_self, (Rect.mem_set_unit (inb := inb_S2x256x4096_S1x256x1024_0_0_3072)).mpr fun x => ?_⟩
        match x with
        | ⟨0, _⟩ => show 0 ≤ 0 + 1 * (i 0).val ∧ 0 + 1 * (i 0).val < 0 + 1; omega
        | ⟨1, _⟩ => show 0 ≤ 0 + 1 * (i 1).val ∧ 0 + 1 * (i 1).val < 0 + 256; omega
        | ⟨2, _⟩ => show 3072 ≤ 0 + 1 * (i 2).val ∧ 0 + 1 * (i 2).val < 3072 + 1024; omega

/-- The hidden units loaded back from slot 0 of their buffer. -/
theorem hid_load_0 (w : FfnW F) (X : Vec F S2x8192x1024 .f32) (Y : Vec F S2x8192x1024 .bf16) (b : Fin 2) (q : Nat) (L : List (View.Piece (Elt F) S2x256x4096 .bf16)) :
    hidM.view.readCov (Val := Elt F) (⟨(Rect.unit (s := S2x256x4096) ![0, 0, 3072] S1x256x1024.size inb_S2x256x4096_S1x256x1024_0_0_3072), k0_pay44 (xbT w X Y b q) (w1Col w.W1 3)⟩ :: ⟨(Rect.unit (s := S2x256x4096) ![0, 0, 2048] S1x256x1024.size inb_S2x256x4096_S1x256x1024_0_0_2048), k0_pay44 (xbT w X Y b q) (w1Col w.W1 2)⟩ :: ⟨(Rect.unit (s := S2x256x4096) ![0, 0, 1024] S1x256x1024.size inb_S2x256x4096_S1x256x1024_0_0_1024), k0_pay44 (xbT w X Y b q) (w1Col w.W1 1)⟩ :: ⟨(Rect.unit (s := S2x256x4096) ![0, 0, 0] S1x256x1024.size inb_S2x256x4096_S1x256x1024_0_0_0), k0_pay44 (xbT w X Y b q) (w1Col w.W1 0)⟩ :: L) (Rect.unit (s := S2x256x4096) ![0, 0, 0] S1x256x4096.size inb_S2x256x4096_S1x256x4096_0_0_0).toLoadRect = hidT w X Y b q :=
  hid_cover_0 (hidT w X Y b q) _ _ _ _ L (fun x i h1 h2 => hid_piece w X Y b q 0 (by decide) x i h1 h2) (fun x i h1 h2 => hid_piece w X Y b q 1 (by decide) x i h1 h2) (fun x i h1 h2 => hid_piece w X Y b q 2 (by decide) x i h1 h2) (fun x i h1 h2 => hid_piece w X Y b q 3 (by decide) x i h1 h2)

/-- Four column blocks stored side by side in slot 1, loaded back as one. -/
theorem hid_cover_1 (G : S1x256x4096.Idx → Elt F .bf16) (a0 a1 a2 a3 : S1x256x1024.Idx → Elt F .bf16) (L : List (View.Piece (Elt F) S2x256x4096 .bf16))
    (k0 : ∀ (x : S1x256x1024.Idx) (i : S1x256x4096.Idx), (i 1).val = (x 1).val → (i 2).val = 1024 * 0 + (x 2).val → a0 x = G i) (k1 : ∀ (x : S1x256x1024.Idx) (i : S1x256x4096.Idx), (i 1).val = (x 1).val → (i 2).val = 1024 * 1 + (x 2).val → a1 x = G i) (k2 : ∀ (x : S1x256x1024.Idx) (i : S1x256x4096.Idx), (i 1).val = (x 1).val → (i 2).val = 1024 * 2 + (x 2).val → a2 x = G i) (k3 : ∀ (x : S1x256x1024.Idx) (i : S1x256x4096.Idx), (i 1).val = (x 1).val → (i 2).val = 1024 * 3 + (x 2).val → a3 x = G i) :
    hidM.view.readCov (Val := Elt F) (⟨(Rect.unit (s := S2x256x4096) ![1, 0, 3072] S1x256x1024.size inb_S2x256x4096_S1x256x1024_1_0_3072), a3⟩ :: ⟨(Rect.unit (s := S2x256x4096) ![1, 0, 2048] S1x256x1024.size inb_S2x256x4096_S1x256x1024_1_0_2048), a2⟩ :: ⟨(Rect.unit (s := S2x256x4096) ![1, 0, 1024] S1x256x1024.size inb_S2x256x4096_S1x256x1024_1_0_1024), a1⟩ :: ⟨(Rect.unit (s := S2x256x4096) ![1, 0, 0] S1x256x1024.size inb_S2x256x4096_S1x256x1024_1_0_0), a0⟩ :: L) (Rect.unit (s := S2x256x4096) ![1, 0, 0] S1x256x4096.size inb_S2x256x4096_S1x256x4096_1_0_0).toLoadRect = G := by
  funext i
  have h0 : (i 0).val < 1 := (i 0).isLt
  have h1 : (i 1).val < 256 := (i 1).isLt
  have h2 : (i 2).val < 4096 := (i 2).isLt
  have key := read_pieces_front hidM.view hidM.view.junk (fun y : S2x256x4096.Idx => G (ix3 0 (y 1) (y 2))) [⟨(Rect.unit (s := S2x256x4096) ![1, 0, 3072] S1x256x1024.size inb_S2x256x4096_S1x256x1024_1_0_3072), a3⟩, ⟨(Rect.unit (s := S2x256x4096) ![1, 0, 2048] S1x256x1024.size inb_S2x256x4096_S1x256x1024_1_0_2048), a2⟩, ⟨(Rect.unit (s := S2x256x4096) ![1, 0, 1024] S1x256x1024.size inb_S2x256x4096_S1x256x1024_1_0_1024), a1⟩, ⟨(Rect.unit (s := S2x256x4096) ![1, 0, 0] S1x256x1024.size inb_S2x256x4096_S1x256x1024_1_0_0), a0⟩] L ?_ ((Rect.unit (s := S2x256x4096) ![1, 0, 0] S1x256x4096.size inb_S2x256x4096_S1x256x4096_1_0_0).idx i) ?_
  · refine key.trans (congrArg G (funext fun a => Fin.ext ?_))
    match a with
    | ⟨0, _⟩ => show 0 = (i 0).val; omega
    | ⟨1, _⟩ => show 0 + 1 * (i 1).val = (i 1).val; omega
    | ⟨2, _⟩ => show 0 + 1 * (i 2).val = (i 2).val; omega
  · intro p hp
    rcases List.mem_cons.mp hp with rfl | hp
    · intro x
      exact k3 x _ (by show 0 + 1 * (x 1).val = (x 1).val; omega) (by show 3072 + 1 * (x 2).val = 1024 * 3 + (x 2).val; omega)
    rcases List.mem_cons.mp hp with rfl | hp
    · intro x
      exact k2 x _ (by show 0 + 1 * (x 1).val = (x 1).val; omega) (by show 2048 + 1 * (x 2).val = 1024 * 2 + (x 2).val; omega)
    rcases List.mem_cons.mp hp with rfl | hp
    · intro x
      exact k1 x _ (by show 0 + 1 * (x 1).val = (x 1).val; omega) (by show 1024 + 1 * (x 2).val = 1024 * 1 + (x 2).val; omega)
    rcases List.mem_cons.mp hp with rfl | hp
    · intro x
      exact k0 x _ (by show 0 + 1 * (x 1).val = (x 1).val; omega) (by show 0 + 1 * (x 2).val = 1024 * 0 + (x 2).val; omega)
    exact absurd hp List.not_mem_nil
  · rcases Nat.lt_or_ge (i 2).val 2048 with a | a
    · rcases Nat.lt_or_ge (i 2).val 1024 with a' | a'
      · refine ⟨_, (List.mem_cons_of_mem _ (List.mem_cons_of_mem _ (List.mem_cons_of_mem _ List.mem_cons_self))), (Rect.mem_set_unit (inb := inb_S2x256x4096_S1x256x1024_1_0_0)).mpr fun x => ?_⟩
        match x with
        | ⟨0, _⟩ => show 1 ≤ 1 + 1 * (i 0).val ∧ 1 + 1 * (i 0).val < 1 + 1; omega
        | ⟨1, _⟩ => show 0 ≤ 0 + 1 * (i 1).val ∧ 0 + 1 * (i 1).val < 0 + 256; omega
        | ⟨2, _⟩ => show 0 ≤ 0 + 1 * (i 2).val ∧ 0 + 1 * (i 2).val < 0 + 1024; omega
      · refine ⟨_, (List.mem_cons_of_mem _ (List.mem_cons_of_mem _ List.mem_cons_self)), (Rect.mem_set_unit (inb := inb_S2x256x4096_S1x256x1024_1_0_1024)).mpr fun x => ?_⟩
        match x with
        | ⟨0, _⟩ => show 1 ≤ 1 + 1 * (i 0).val ∧ 1 + 1 * (i 0).val < 1 + 1; omega
        | ⟨1, _⟩ => show 0 ≤ 0 + 1 * (i 1).val ∧ 0 + 1 * (i 1).val < 0 + 256; omega
        | ⟨2, _⟩ => show 1024 ≤ 0 + 1 * (i 2).val ∧ 0 + 1 * (i 2).val < 1024 + 1024; omega
    · rcases Nat.lt_or_ge (i 2).val 3072 with a' | a'
      · refine ⟨_, (List.mem_cons_of_mem _ List.mem_cons_self), (Rect.mem_set_unit (inb := inb_S2x256x4096_S1x256x1024_1_0_2048)).mpr fun x => ?_⟩
        match x with
        | ⟨0, _⟩ => show 1 ≤ 1 + 1 * (i 0).val ∧ 1 + 1 * (i 0).val < 1 + 1; omega
        | ⟨1, _⟩ => show 0 ≤ 0 + 1 * (i 1).val ∧ 0 + 1 * (i 1).val < 0 + 256; omega
        | ⟨2, _⟩ => show 2048 ≤ 0 + 1 * (i 2).val ∧ 0 + 1 * (i 2).val < 2048 + 1024; omega
      · refine ⟨_, List.mem_cons_self, (Rect.mem_set_unit (inb := inb_S2x256x4096_S1x256x1024_1_0_3072)).mpr fun x => ?_⟩
        match x with
        | ⟨0, _⟩ => show 1 ≤ 1 + 1 * (i 0).val ∧ 1 + 1 * (i 0).val < 1 + 1; omega
        | ⟨1, _⟩ => show 0 ≤ 0 + 1 * (i 1).val ∧ 0 + 1 * (i 1).val < 0 + 256; omega
        | ⟨2, _⟩ => show 3072 ≤ 0 + 1 * (i 2).val ∧ 0 + 1 * (i 2).val < 3072 + 1024; omega

/-- The hidden units loaded back from slot 1 of their buffer. -/
theorem hid_load_1 (w : FfnW F) (X : Vec F S2x8192x1024 .f32) (Y : Vec F S2x8192x1024 .bf16) (b : Fin 2) (q : Nat) (L : List (View.Piece (Elt F) S2x256x4096 .bf16)) :
    hidM.view.readCov (Val := Elt F) (⟨(Rect.unit (s := S2x256x4096) ![1, 0, 3072] S1x256x1024.size inb_S2x256x4096_S1x256x1024_1_0_3072), k0_pay44 (xbT w X Y b q) (w1Col w.W1 3)⟩ :: ⟨(Rect.unit (s := S2x256x4096) ![1, 0, 2048] S1x256x1024.size inb_S2x256x4096_S1x256x1024_1_0_2048), k0_pay44 (xbT w X Y b q) (w1Col w.W1 2)⟩ :: ⟨(Rect.unit (s := S2x256x4096) ![1, 0, 1024] S1x256x1024.size inb_S2x256x4096_S1x256x1024_1_0_1024), k0_pay44 (xbT w X Y b q) (w1Col w.W1 1)⟩ :: ⟨(Rect.unit (s := S2x256x4096) ![1, 0, 0] S1x256x1024.size inb_S2x256x4096_S1x256x1024_1_0_0), k0_pay44 (xbT w X Y b q) (w1Col w.W1 0)⟩ :: L) (Rect.unit (s := S2x256x4096) ![1, 0, 0] S1x256x4096.size inb_S2x256x4096_S1x256x4096_1_0_0).toLoadRect = hidT w X Y b q :=
  hid_cover_1 (hidT w X Y b q) _ _ _ _ L (fun x i h1 h2 => hid_piece w X Y b q 0 (by decide) x i h1 h2) (fun x i h1 h2 => hid_piece w X Y b q 1 (by decide) x i h1 h2) (fun x i h1 h2 => hid_piece w X Y b q 2 (by decide) x i h1 h2) (fun x i h1 h2 => hid_piece w X Y b q 3 (by decide) x i h1 h2)

/-- The result at a row of tile `q`. -/
theorem OS_at (w : FfnW F) (X : Vec F S2x8192x1024 .f32) (Y : Vec F S2x8192x1024 .bf16) (P : Vec F S2x8192x256 .f32) (b : Fin 2) (q p r : Nat) (hq : q < 32) (hp : p < 256) (hr : r = 256 * q + p) (ch : Fin 1024) :
    OS w X Y P (ix3 b (rowIx r) ch) = oT w X Y P b q (ix3 0 ⟨p, hp⟩ ch) := by
  show oT w X Y P b ((r % 8192) / 256) (ix3 0 (tileRow (r % 8192)) ch) = _
  have e1 : (r % 8192) / 256 = q := by omega
  have e2 : tileRow (r % 8192) = ⟨p, hp⟩ := Fin.ext (by show (r % 8192) % 256 = p; omega)
  rw [e1, e2]

/-- One tile of a block of the result. -/
theorem o_piece (w : FfnW F) (X : Vec F S2x8192x1024 .f32) (Y : Vec F S2x8192x1024 .bf16) (P : Vec F S2x8192x256 .f32) (n : Nat) (hn : n < 16) (b : Fin 2) (k : Nat) (hk : k < 2)
    (x : S1x256x1024.Idx) (i : S2x512x1024.Idx) (h0 : (i 0).val = b.val) (h1 : (i 1).val = 256 * k + (x 1).val) (h2 : (i 2).val = (x 2).val) :
    oT w X Y P b (2 * n + k) x = blockOf (OS w X Y P) n i := by
  have hx0 : (x 0).val < 1 := (x 0).isLt
  have hx1 : (x 1).val < 256 := (x 1).isLt
  have e : blockOf (OS w X Y P) n i = OS w X Y P (ix3 b (rowIx (512 * n + (i 1).val)) (i 2)) := congrArg (OS w X Y P) (funext fun a => by
    match a with
    | ⟨0, _⟩ => exact Fin.ext h0
    | ⟨1, _⟩ => rfl
    | ⟨2, _⟩ => rfl)
  rw [e, OS_at w X Y P b (2 * n + k) (x 1).val (512 * n + (i 1).val) (by omega) hx1 (by omega) (i 2)]
  refine congrArg (oT w X Y P b (2 * n + k)) (funext fun a => Fin.ext ?_)
  match a with
  | ⟨0, _⟩ => show (x 0).val = 0; omega
  | ⟨1, _⟩ => rfl
  | ⟨2, _⟩ => exact h2.symm

/-- The four tiles of a block of the result, stored one after the other in slot `s`: the slot holds the block. -/
theorem o_slot (w : FfnW F) (X : Vec F S2x8192x1024 .f32) (Y : Vec F S2x8192x1024 .bf16) (P : Vec F S2x8192x256 .f32) (c : Dev nD) (s : Fin 2) (n : Nat) (hn : n < 16) (f : BufOf F c (os2 s)) :
    (os2 s).view.read (Elt F) ((os2 s).view.writes (Elt F) f [⟨(Rect.unit (s := S2x512x1024) ![1, 256, 0] S1x256x1024.size inb_S2x512x1024_S1x256x1024_1_256_0), oT w X Y P 1 (2 * n + 1)⟩, ⟨(Rect.unit (s := S2x512x1024) ![1, 0, 0] S1x256x1024.size inb_S2x512x1024_S1x256x1024_1_0_0), oT w X Y P 1 (2 * n)⟩, ⟨(Rect.unit (s := S2x512x1024) ![0, 256, 0] S1x256x1024.size inb_S2x512x1024_S1x256x1024_0_256_0), oT w X Y P 0 (2 * n + 1)⟩, ⟨(Rect.unit (s := S2x512x1024) ![0, 0, 0] S1x256x1024.size inb_S2x512x1024_S1x256x1024_0_0_0), oT w X Y P 0 (2 * n)⟩]) = blockOf (OS w X Y P) n := by
  funext i
  have h0 : (i 0).val < 2 := (i 0).isLt
  have h1 : (i 1).val < 512 := (i 1).isLt
  have h2 : (i 2).val < 1024 := (i 2).isLt
  refine View.read_writes_apply_of_pieces (os2 s).view f (blockOf (OS w X Y P) n) _ ?_ i ?_
  · intro p hp
    rcases List.mem_cons.mp hp with rfl | hp
    · intro x
      have hx0 : (x 0).val < 1 := (x 0).isLt
      exact o_piece w X Y P n hn 1 1 (by decide) x _ (by show 1 + 1 * (x 0).val = 1; omega) (by show 256 + 1 * (x 1).val = 256 * 1 + (x 1).val; omega) (by show 0 + 1 * (x 2).val = (x 2).val; omega)
    rcases List.mem_cons.mp hp with rfl | hp
    · intro x
      have hx0 : (x 0).val < 1 := (x 0).isLt
      exact o_piece w X Y P n hn 1 0 (by decide) x _ (by show 1 + 1 * (x 0).val = 1; omega) (by show 0 + 1 * (x 1).val = 256 * 0 + (x 1).val; omega) (by show 0 + 1 * (x 2).val = (x 2).val; omega)
    rcases List.mem_cons.mp hp with rfl | hp
    · intro x
      have hx0 : (x 0).val < 1 := (x 0).isLt
      exact o_piece w X Y P n hn 0 1 (by decide) x _ (by show 0 + 1 * (x 0).val = 0; omega) (by show 256 + 1 * (x 1).val = 256 * 1 + (x 1).val; omega) (by show 0 + 1 * (x 2).val = (x 2).val; omega)
    rcases List.mem_cons.mp hp with rfl | hp
    · intro x
      have hx0 : (x 0).val < 1 := (x 0).isLt
      exact o_piece w X Y P n hn 0 0 (by decide) x _ (by show 0 + 1 * (x 0).val = 0; omega) (by show 0 + 1 * (x 1).val = 256 * 0 + (x 1).val; omega) (by show 0 + 1 * (x 2).val = (x 2).val; omega)
    exact absurd hp List.not_mem_nil
  · rcases Nat.lt_or_ge (i 0).val 1 with a | a <;> rcases Nat.lt_or_ge (i 1).val 256 with a' | a'
    · refine ⟨_, (List.mem_cons_of_mem _ (List.mem_cons_of_mem _ (List.mem_cons_of_mem _ List.mem_cons_self))), (Rect.mem_set_unit (inb := inb_S2x512x1024_S1x256x1024_0_0_0)).mpr fun x => ?_⟩
      match x with
      | ⟨0, _⟩ => show 0 ≤ (i 0).val ∧ (i 0).val < 0 + 1; omega
      | ⟨1, _⟩ => show 0 ≤ (i 1).val ∧ (i 1).val < 0 + 256; omega
      | ⟨2, _⟩ => show 0 ≤ (i 2).val ∧ (i 2).val < 0 + 1024; omega
    · refine ⟨_, (List.mem_cons_of_mem _ (List.mem_cons_of_mem _ List.mem_cons_self)), (Rect.mem_set_unit (inb := inb_S2x512x1024_S1x256x1024_0_256_0)).mpr fun x => ?_⟩
      match x with
      | ⟨0, _⟩ => show 0 ≤ (i 0).val ∧ (i 0).val < 0 + 1; omega
      | ⟨1, _⟩ => show 256 ≤ (i 1).val ∧ (i 1).val < 256 + 256; omega
      | ⟨2, _⟩ => show 0 ≤ (i 2).val ∧ (i 2).val < 0 + 1024; omega
    · refine ⟨_, (List.mem_cons_of_mem _ List.mem_cons_self), (Rect.mem_set_unit (inb := inb_S2x512x1024_S1x256x1024_1_0_0)).mpr fun x => ?_⟩
      match x with
      | ⟨0, _⟩ => show 1 ≤ (i 0).val ∧ (i 0).val < 1 + 1; omega
      | ⟨1, _⟩ => show 0 ≤ (i 1).val ∧ (i 1).val < 0 + 256; omega
      | ⟨2, _⟩ => show 0 ≤ (i 2).val ∧ (i 2).val < 0 + 1024; omega
    · refine ⟨_, List.mem_cons_self, (Rect.mem_set_unit (inb := inb_S2x512x1024_S1x256x1024_1_256_0)).mpr fun x => ?_⟩
      match x with
      | ⟨0, _⟩ => show 1 ≤ (i 0).val ∧ (i 0).val < 1 + 1; omega
      | ⟨1, _⟩ => show 256 ≤ (i 1).val ∧ (i 1).val < 256 + 256; omega
      | ⟨2, _⟩ => show 0 ≤ (i 2).val ∧ (i 2).val < 0 + 1024; omega

/-- Tile 00: the first residual, its rounded copy stored and loaded, the hidden units stored and loaded, the second residual and its rounded copy, as computed. -/
def x1R00 (g1 b1 : Vec F S1x1024 .f32) (y00 : Vec F S1x256x1024 .bf16) (x00 : Vec F S1x256x1024 .f32) (wo : Vec F S1024x1024 .bf16) : FVec F S256x1024 .f32 := k0_pay40 g1 b1 (k0_pay37 y00 wo) x00
def xbR00 (g1 b1 : Vec F S1x1024 .f32) (y00 : Vec F S1x256x1024 .bf16) (x00 : Vec F S1x256x1024 .f32) (wo : Vec F S1024x1024 .bf16) (L : List (View.Piece (Elt F) S2x256x1024 .bf16)) : List (View.Piece (Elt F) S2x256x1024 .bf16) :=
  ⟨(Rect.unit (s := S2x256x1024) ![0, 0, 0] S1x256x1024.size inb_S2x256x1024_S1x256x1024_0_0_0), k0_pay41 g1 b1 (k0_pay37 y00 wo) x00⟩ :: L
def hidR00 (v : Vec F S1x256x1024 .bf16) (c0 c1 c2 c3 : Vec F S1024x1024 .bf16) (L : List (View.Piece (Elt F) S2x256x4096 .bf16)) : List (View.Piece (Elt F) S2x256x4096 .bf16) :=
  ⟨(Rect.unit (s := S2x256x4096) ![0, 0, 3072] S1x256x1024.size inb_S2x256x4096_S1x256x1024_0_0_3072), k0_pay46 v c3⟩ :: ⟨(Rect.unit (s := S2x256x4096) ![0, 0, 2048] S1x256x1024.size inb_S2x256x4096_S1x256x1024_0_0_2048), k0_pay45 v c2⟩ :: ⟨(Rect.unit (s := S2x256x4096) ![0, 0, 1024] S1x256x1024.size inb_S2x256x4096_S1x256x1024_0_0_1024), k0_pay44 v c1⟩ :: ⟨(Rect.unit (s := S2x256x4096) ![0, 0, 0] S1x256x1024.size inb_S2x256x4096_S1x256x1024_0_0_0), k0_pay43 (k0_pay42 v) c0⟩ :: L
def x2R00 (g2 b2 : Vec F S1x1024 .f32) (x1 : FVec F S256x1024 .f32) (h : Vec F S1x256x4096 .bf16) (w2 : Vec F S4096x1024 .bf16) : FVec F S256x1024 .f32 := k0_pay47 g2 b2 x1 h w2
def oR00 (x2 : FVec F S256x1024 .f32) (L : List (View.Piece (Elt F) S2x256x1024 .bf16)) (wg : Vec F S1024x1024 .bf16) (p : Vec F S1x256x256 .f32) (wp : Vec F S256x1024 .bf16) : Vec F S1x256x1024 .f32 :=
  k0_pay61 x2 (x2bM.view.readCov (Val := Elt F) (⟨(Rect.unit (s := S2x256x1024) ![0, 0, 0] S1x256x1024.size inb_S2x256x1024_S1x256x1024_0_0_0), k0_pay60 x2⟩ :: L) (Rect.unit (s := S2x256x1024) ![0, 0, 0] S1x256x1024.size inb_S2x256x1024_S1x256x1024_0_0_0).toLoadRect) wg p wp

/-- Tile 01: the first residual, its rounded copy stored and loaded, the hidden units stored and loaded, the second residual and its rounded copy, as computed. -/
def x1R01 (g1 b1 : Vec F S1x1024 .f32) (y01 : Vec F S1x256x1024 .bf16) (x01 : Vec F S1x256x1024 .f32) (wo : Vec F S1024x1024 .bf16) : FVec F S256x1024 .f32 := k0_pay49 g1 b1 (k0_pay39 (k0_pay38 y01) wo) x01
def xbR01 (g1 b1 : Vec F S1x1024 .f32) (y01 : Vec F S1x256x1024 .bf16) (x01 : Vec F S1x256x1024 .f32) (wo : Vec F S1024x1024 .bf16) (L : List (View.Piece (Elt F) S2x256x1024 .bf16)) : List (View.Piece (Elt F) S2x256x1024 .bf16) :=
  ⟨(Rect.unit (s := S2x256x1024) ![1, 0, 0] S1x256x1024.size inb_S2x256x1024_S1x256x1024_1_0_0), k0_pay50 g1 b1 (k0_pay39 (k0_pay38 y01) wo) x01⟩ :: L
def hidR01 (v : Vec F S1x256x1024 .bf16) (c0 c1 c2 c3 : Vec F S1024x1024 .bf16) (L : List (View.Piece (Elt F) S2x256x4096 .bf16)) : List (View.Piece (Elt F) S2x256x4096 .bf16) :=
  ⟨(Rect.unit (s := S2x256x4096) ![1, 0, 3072] S1x256x1024.size inb_S2x256x4096_S1x256x1024_1_0_3072), k0_pay55 v c3⟩ :: ⟨(Rect.unit (s := S2x256x4096) ![1, 0, 2048] S1x256x1024.size inb_S2x256x4096_S1x256x1024_1_0_2048), k0_pay54 (k0_pay53 v c2)⟩ :: ⟨(Rect.unit (s := S2x256x4096) ![1, 0, 1024] S1x256x1024.size inb_S2x256x4096_S1x256x1024_1_0_1024), k0_pay52 v c1⟩ :: ⟨(Rect.unit (s := S2x256x4096) ![1, 0, 0] S1x256x1024.size inb_S2x256x4096_S1x256x1024_1_0_0), k0_pay51 v c0⟩ :: L
def x2R01 (g2 b2 : Vec F S1x1024 .f32) (x1 : FVec F S256x1024 .f32) (h : Vec F S1x256x4096 .bf16) (w2 : Vec F S4096x1024 .bf16) : FVec F S256x1024 .f32 := k0_pay59 g2 b2 (k0_pay56 x1 h w2) (k0_pay57 x1 h w2) k0_pay58
def oR01 (x2 : FVec F S256x1024 .f32) (L : List (View.Piece (Elt F) S2x256x1024 .bf16)) (wg : Vec F S1024x1024 .bf16) (p : Vec F S1x256x256 .f32) (wp : Vec F S256x1024 .bf16) : Vec F S1x256x1024 .f32 :=
  k0_pay74 x2 (x2bM.view.readCov (Val := Elt F) (⟨(Rect.unit (s := S2x256x1024) ![1, 0, 0] S1x256x1024.size inb_S2x256x1024_S1x256x1024_1_0_0), k0_pay73 x2⟩ :: L) (Rect.unit (s := S2x256x1024) ![1, 0, 0] S1x256x1024.size inb_S2x256x1024_S1x256x1024_1_0_0).toLoadRect) wg p wp

/-- Tile 10: the first residual, its rounded copy stored and loaded, the hidden units stored and loaded, the second residual and its rounded copy, as computed. -/
def x1R10 (g1 b1 : Vec F S1x1024 .f32) (y10 : Vec F S1x256x1024 .bf16) (x10 : Vec F S1x256x1024 .f32) (wo : Vec F S1024x1024 .bf16) : FVec F S256x1024 .f32 := k0_pay63 g1 b1 (k0_pay48 y10 wo) x10
def xbR10 (g1 b1 : Vec F S1x1024 .f32) (y10 : Vec F S1x256x1024 .bf16) (x10 : Vec F S1x256x1024 .f32) (wo : Vec F S1024x1024 .bf16) (L : List (View.Piece (Elt F) S2x256x1024 .bf16)) : List (View.Piece (Elt F) S2x256x1024 .bf16) :=
  ⟨(Rect.unit (s := S2x256x1024) ![0, 0, 0] S1x256x1024.size inb_S2x256x1024_S1x256x1024_0_0_0), k0_pay64 g1 b1 (k0_pay48 y10 wo) x10⟩ :: L
def hidR10 (v : Vec F S1x256x1024 .bf16) (c0 c1 c2 c3 : Vec F S1024x1024 .bf16) (L : List (View.Piece (Elt F) S2x256x4096 .bf16)) : List (View.Piece (Elt F) S2x256x4096 .bf16) :=
  ⟨(Rect.unit (s := S2x256x4096) ![0, 0, 3072] S1x256x1024.size inb_S2x256x4096_S1x256x1024_0_0_3072), k0_pay69 v c3⟩ :: ⟨(Rect.unit (s := S2x256x4096) ![0, 0, 2048] S1x256x1024.size inb_S2x256x4096_S1x256x1024_0_0_2048), k0_pay68 (k0_pay67 v c2)⟩ :: ⟨(Rect.unit (s := S2x256x4096) ![0, 0, 1024] S1x256x1024.size inb_S2x256x4096_S1x256x1024_0_0_1024), k0_pay66 v c1⟩ :: ⟨(Rect.unit (s := S2x256x4096) ![0, 0, 0] S1x256x1024.size inb_S2x256x4096_S1x256x1024_0_0_0), k0_pay65 v c0⟩ :: L
def x2R10 (g2 b2 : Vec F S1x1024 .f32) (x1 : FVec F S256x1024 .f32) (h : Vec F S1x256x4096 .bf16) (w2 : Vec F S4096x1024 .bf16) : FVec F S256x1024 .f32 := k0_pay72 g2 b2 (k0_pay70 x1 h w2) (k0_pay71 x1 h w2)
def oR10 (x2 : FVec F S256x1024 .f32) (L : List (View.Piece (Elt F) S2x256x1024 .bf16)) (wg : Vec F S1024x1024 .bf16) (p : Vec F S1x256x256 .f32) (wp : Vec F S256x1024 .bf16) : Vec F S1x256x1024 .f32 :=
  k0_pay86 x2 (x2bM.view.readCov (Val := Elt F) (⟨(Rect.unit (s := S2x256x1024) ![0, 0, 0] S1x256x1024.size inb_S2x256x1024_S1x256x1024_0_0_0), k0_pay85 x2⟩ :: L) (Rect.unit (s := S2x256x1024) ![0, 0, 0] S1x256x1024.size inb_S2x256x1024_S1x256x1024_0_0_0).toLoadRect) wg p wp

/-- Tile 11: the first residual, its rounded copy stored and loaded, the hidden units stored and loaded, the second residual and its rounded copy, as computed. -/
def x1R11 (g1 b1 : Vec F S1x1024 .f32) (y11 : Vec F S1x256x1024 .bf16) (x11 : Vec F S1x256x1024 .f32) (wo : Vec F S1024x1024 .bf16) : FVec F S256x1024 .f32 := k0_pay75 g1 b1 (k0_pay62 y11 wo) x11
def xbR11 (g1 b1 : Vec F S1x1024 .f32) (y11 : Vec F S1x256x1024 .bf16) (x11 : Vec F S1x256x1024 .f32) (wo : Vec F S1024x1024 .bf16) (L : List (View.Piece (Elt F) S2x256x1024 .bf16)) : List (View.Piece (Elt F) S2x256x1024 .bf16) :=
  ⟨(Rect.unit (s := S2x256x1024) ![1, 0, 0] S1x256x1024.size inb_S2x256x1024_S1x256x1024_1_0_0), k0_pay76 g1 b1 (k0_pay62 y11 wo) x11⟩ :: L
def hidR11 (v : Vec F S1x256x1024 .bf16) (c0 c1 c2 c3 : Vec F S1024x1024 .bf16) (L : List (View.Piece (Elt F) S2x256x4096 .bf16)) : List (View.Piece (Elt F) S2x256x4096 .bf16) :=
  ⟨(Rect.unit (s := S2x256x4096) ![1, 0, 3072] S1x256x1024.size inb_S2x256x4096_S1x256x1024_1_0_3072), k0_pay83 (k0_pay81 v c3) k0_pay82⟩ :: ⟨(Rect.unit (s := S2x256x4096) ![1, 0, 2048] S1x256x1024.size inb_S2x256x4096_S1x256x1024_1_0_2048), k0_pay80 v c2⟩ :: ⟨(Rect.unit (s := S2x256x4096) ![1, 0, 1024] S1x256x1024.size inb_S2x256x4096_S1x256x1024_1_0_1024), k0_pay79 v c1⟩ :: ⟨(Rect.unit (s := S2x256x4096) ![1, 0, 0] S1x256x1024.size inb_S2x256x4096_S1x256x1024_1_0_0), k0_pay78 (k0_pay77 v c0)⟩ :: L
def x2R11 (g2 b2 : Vec F S1x1024 .f32) (x1 : FVec F S256x1024 .f32) (h : Vec F S1x256x4096 .bf16) (w2 : Vec F S4096x1024 .bf16) : FVec F S256x1024 .f32 := k0_pay84 g2 b2 x1 h w2
def oR11 (x2 : FVec F S256x1024 .f32) (L : List (View.Piece (Elt F) S2x256x1024 .bf16)) (wg : Vec F S1024x1024 .bf16) (p : Vec F S1x256x256 .f32) (wp : Vec F S256x1024 .bf16) : Vec F S1x256x1024 .f32 :=
  k0_pay89 x2 (k0_pay88 (x2bM.view.readCov (Val := Elt F) (⟨(Rect.unit (s := S2x256x1024) ![1, 0, 0] S1x256x1024.size inb_S2x256x1024_S1x256x1024_1_0_0), k0_pay87 x2⟩ :: L) (Rect.unit (s := S2x256x1024) ![1, 0, 0] S1x256x1024.size inb_S2x256x1024_S1x256x1024_1_0_0).toLoadRect) wg) p wp

theorem x1R00_eq (w : FfnW F) (X : Vec F S2x8192x1024 .f32) (Y : Vec F S2x8192x1024 .bf16) (b : Fin 2) (q : Nat) : x1R00 (row1 w.G1) (row1 w.B1) (rows Y b q) (rows X b q) w.WO = x1T w X Y b q := rfl
theorem xbR00_load (w : FfnW F) (X : Vec F S2x8192x1024 .f32) (Y : Vec F S2x8192x1024 .bf16) (b : Fin 2) (q : Nat) (L) :
    xbM.view.readCov (Val := Elt F) (xbR00 (row1 w.G1) (row1 w.B1) (rows Y b q) (rows X b q) w.WO L) (Rect.unit (s := S2x256x1024) ![0, 0, 0] S1x256x1024.size inb_S2x256x1024_S1x256x1024_0_0_0).toLoadRect = xbT w X Y b q := by
  rw [xbR00, View.readCov_cons_toLoadRect]
  rfl
theorem hidR00_load (w : FfnW F) (X : Vec F S2x8192x1024 .f32) (Y : Vec F S2x8192x1024 .bf16) (b : Fin 2) (q : Nat) (L) :
    hidM.view.readCov (Val := Elt F) (hidR00 (xbT w X Y b q) (w1Col w.W1 0) (w1Col w.W1 1) (w1Col w.W1 2) (w1Col w.W1 3) L) (Rect.unit (s := S2x256x4096) ![0, 0, 0] S1x256x4096.size inb_S2x256x4096_S1x256x4096_0_0_0).toLoadRect = hidT w X Y b q := by
  rw [hidR00, pay43_eq, pay45_eq, pay46_eq]
  exact hid_load_0 w X Y b q L
theorem x2R00_eq (w : FfnW F) (X : Vec F S2x8192x1024 .f32) (Y : Vec F S2x8192x1024 .bf16) (b : Fin 2) (q : Nat) :
    x2R00 (row1 w.G2) (row1 w.B2) (x1T w X Y b q) (hidT w X Y b q) w.W2 = x2T w X Y b q := rfl
theorem oR00_eq (w : FfnW F) (X : Vec F S2x8192x1024 .f32) (Y : Vec F S2x8192x1024 .bf16) (P : Vec F S2x8192x256 .f32) (b : Fin 2) (q : Nat) (L) :
    oR00 (x2T w X Y b q) L w.WG (rows P b q) w.WP = oT w X Y P b q := by
  rw [oR00, View.readCov_cons_toLoadRect]
  exact rfl

theorem x1R01_eq (w : FfnW F) (X : Vec F S2x8192x1024 .f32) (Y : Vec F S2x8192x1024 .bf16) (b : Fin 2) (q : Nat) : x1R01 (row1 w.G1) (row1 w.B1) (rows Y b q) (rows X b q) w.WO = x1T w X Y b q := rfl
theorem xbR01_load (w : FfnW F) (X : Vec F S2x8192x1024 .f32) (Y : Vec F S2x8192x1024 .bf16) (b : Fin 2) (q : Nat) (L) :
    xbM.view.readCov (Val := Elt F) (xbR01 (row1 w.G1) (row1 w.B1) (rows Y b q) (rows X b q) w.WO L) (Rect.unit (s := S2x256x1024) ![1, 0, 0] S1x256x1024.size inb_S2x256x1024_S1x256x1024_1_0_0).toLoadRect = xbT w X Y b q := by
  rw [xbR01, View.readCov_cons_toLoadRect]
  rfl
theorem hidR01_load (w : FfnW F) (X : Vec F S2x8192x1024 .f32) (Y : Vec F S2x8192x1024 .bf16) (b : Fin 2) (q : Nat) (L) :
    hidM.view.readCov (Val := Elt F) (hidR01 (xbT w X Y b q) (w1Col w.W1 0) (w1Col w.W1 1) (w1Col w.W1 2) (w1Col w.W1 3) L) (Rect.unit (s := S2x256x4096) ![1, 0, 0] S1x256x4096.size inb_S2x256x4096_S1x256x4096_1_0_0).toLoadRect = hidT w X Y b q := by
  rw [hidR01, pay51_eq, pay52_eq, pay54_eq, pay55_eq]
  exact hid_load_1 w X Y b q L
theorem x2R01_eq (w : FfnW F) (X : Vec F S2x8192x1024 .f32) (Y : Vec F S2x8192x1024 .bf16) (b : Fin 2) (q : Nat) :
    x2R01 (row1 w.G2) (row1 w.B2) (x1T w X Y b q) (hidT w X Y b q) w.W2 = x2T w X Y b q := pay59_eq _ _ _ _ _
theorem oR01_eq (w : FfnW F) (X : Vec F S2x8192x1024 .f32) (Y : Vec F S2x8192x1024 .bf16) (P : Vec F S2x8192x256 .f32) (b : Fin 2) (q : Nat) (L) :
    oR01 (x2T w X Y b q) L w.WG (rows P b q) w.WP = oT w X Y P b q := by
  rw [oR01, View.readCov_cons_toLoadRect]
  exact pay74_eq _ _ _ _ _

theorem x1R10_eq (w : FfnW F) (X : Vec F S2x8192x1024 .f32) (Y : Vec F S2x8192x1024 .bf16) (b : Fin 2) (q : Nat) : x1R10 (row1 w.G1) (row1 w.B1) (rows Y b q) (rows X b q) w.WO = x1T w X Y b q := rfl
theorem xbR10_load (w : FfnW F) (X : Vec F S2x8192x1024 .f32) (Y : Vec F S2x8192x1024 .bf16) (b : Fin 2) (q : Nat) (L) :
    xbM.view.readCov (Val := Elt F) (xbR10 (row1 w.G1) (row1 w.B1) (rows Y b q) (rows X b q) w.WO L) (Rect.unit (s := S2x256x1024) ![0, 0, 0] S1x256x1024.size inb_S2x256x1024_S1x256x1024_0_0_0).toLoadRect = xbT w X Y b q := by
  rw [xbR10, View.readCov_cons_toLoadRect]
  rfl
theorem hidR10_load (w : FfnW F) (X : Vec F S2x8192x1024 .f32) (Y : Vec F S2x8192x1024 .bf16) (b : Fin 2) (q : Nat) (L) :
    hidM.view.readCov (Val := Elt F) (hidR10 (xbT w X Y b q) (w1Col w.W1 0) (w1Col w.W1 1) (w1Col w.W1 2) (w1Col w.W1 3) L) (Rect.unit (s := S2x256x4096) ![0, 0, 0] S1x256x4096.size inb_S2x256x4096_S1x256x4096_0_0_0).toLoadRect = hidT w X Y b q := by
  rw [hidR10, pay65_eq, pay66_eq, pay68_eq, pay69_eq]
  exact hid_load_0 w X Y b q L
theorem x2R10_eq (w : FfnW F) (X : Vec F S2x8192x1024 .f32) (Y : Vec F S2x8192x1024 .bf16) (b : Fin 2) (q : Nat) :
    x2R10 (row1 w.G2) (row1 w.B2) (x1T w X Y b q) (hidT w X Y b q) w.W2 = x2T w X Y b q := pay72_eq _ _ _ _ _
theorem oR10_eq (w : FfnW F) (X : Vec F S2x8192x1024 .f32) (Y : Vec F S2x8192x1024 .bf16) (P : Vec F S2x8192x256 .f32) (b : Fin 2) (q : Nat) (L) :
    oR10 (x2T w X Y b q) L w.WG (rows P b q) w.WP = oT w X Y P b q := by
  rw [oR10, View.readCov_cons_toLoadRect]
  exact pay86_eq _ _ _ _ _

theorem x1R11_eq (w : FfnW F) (X : Vec F S2x8192x1024 .f32) (Y : Vec F S2x8192x1024 .bf16) (b : Fin 2) (q : Nat) : x1R11 (row1 w.G1) (row1 w.B1) (rows Y b q) (rows X b q) w.WO = x1T w X Y b q := rfl
theorem xbR11_load (w : FfnW F) (X : Vec F S2x8192x1024 .f32) (Y : Vec F S2x8192x1024 .bf16) (b : Fin 2) (q : Nat) (L) :
    xbM.view.readCov (Val := Elt F) (xbR11 (row1 w.G1) (row1 w.B1) (rows Y b q) (rows X b q) w.WO L) (Rect.unit (s := S2x256x1024) ![1, 0, 0] S1x256x1024.size inb_S2x256x1024_S1x256x1024_1_0_0).toLoadRect = xbT w X Y b q := by
  rw [xbR11, View.readCov_cons_toLoadRect]
  rfl
theorem hidR11_load (w : FfnW F) (X : Vec F S2x8192x1024 .f32) (Y : Vec F S2x8192x1024 .bf16) (b : Fin 2) (q : Nat) (L) :
    hidM.view.readCov (Val := Elt F) (hidR11 (xbT w X Y b q) (w1Col w.W1 0) (w1Col w.W1 1) (w1Col w.W1 2) (w1Col w.W1 3) L) (Rect.unit (s := S2x256x4096) ![1, 0, 0] S1x256x4096.size inb_S2x256x4096_S1x256x4096_1_0_0).toLoadRect = hidT w X Y b q := by
  rw [hidR11, pay78_eq, pay79_eq, pay80_eq, pay83_eq]
  exact hid_load_1 w X Y b q L
theorem x2R11_eq (w : FfnW F) (X : Vec F S2x8192x1024 .f32) (Y : Vec F S2x8192x1024 .bf16) (b : Fin 2) (q : Nat) :
    x2R11 (row1 w.G2) (row1 w.B2) (x1T w X Y b q) (hidT w X Y b q) w.W2 = x2T w X Y b q := pay84_eq _ _ _ _ _
theorem oR11_eq (w : FfnW F) (X : Vec F S2x8192x1024 .f32) (Y : Vec F S2x8192x1024 .bf16) (P : Vec F S2x8192x256 .f32) (b : Fin 2) (q : Nat) (L) :
    oR11 (x2T w X Y b q) L w.WG (rows P b q) w.WP = oT w X Y P b q := by
  rw [oR11, View.readCov_cons_toLoadRect]
  exact pay89_eq _ _ _ _ _

/-- The buffers after tile 00: what is stored in the rounded copy's, the hidden units', and the second residual. -/
def LX00 (g1 b1 : Vec F S1x1024 .f32) (y00 y01 y10 y11 : Vec F S1x256x1024 .bf16) (x00 x01 x10 x11 : Vec F S1x256x1024 .f32) (wo c0 c1 c2 c3 : Vec F S1024x1024 .bf16) (g2 b2 : Vec F S1x1024 .f32) (w2 : Vec F S4096x1024 .bf16) : List (View.Piece (Elt F) S2x256x1024 .bf16) := xbR00 g1 b1 y00 x00 wo []
def LH00 (g1 b1 : Vec F S1x1024 .f32) (y00 y01 y10 y11 : Vec F S1x256x1024 .bf16) (x00 x01 x10 x11 : Vec F S1x256x1024 .f32) (wo c0 c1 c2 c3 : Vec F S1024x1024 .bf16) (g2 b2 : Vec F S1x1024 .f32) (w2 : Vec F S4096x1024 .bf16) : List (View.Piece (Elt F) S2x256x4096 .bf16) := hidR00 (xbM.view.readCov (Val := Elt F) (LX00 g1 b1 y00 y01 y10 y11 x00 x01 x10 x11 wo c0 c1 c2 c3 g2 b2 w2) (Rect.unit (s := S2x256x1024) ![0, 0, 0] S1x256x1024.size inb_S2x256x1024_S1x256x1024_0_0_0).toLoadRect) c0 c1 c2 c3 []
def X200 (g1 b1 : Vec F S1x1024 .f32) (y00 y01 y10 y11 : Vec F S1x256x1024 .bf16) (x00 x01 x10 x11 : Vec F S1x256x1024 .f32) (wo c0 c1 c2 c3 : Vec F S1024x1024 .bf16) (g2 b2 : Vec F S1x1024 .f32) (w2 : Vec F S4096x1024 .bf16) : FVec F S256x1024 .f32 := x2R00 g2 b2 (x1R00 g1 b1 y00 x00 wo) (hidM.view.readCov (Val := Elt F) (LH00 g1 b1 y00 y01 y10 y11 x00 x01 x10 x11 wo c0 c1 c2 c3 g2 b2 w2) (Rect.unit (s := S2x256x4096) ![0, 0, 0] S1x256x4096.size inb_S2x256x4096_S1x256x4096_0_0_0).toLoadRect) w2
def LS00 (g1 b1 : Vec F S1x1024 .f32) (y00 y01 y10 y11 : Vec F S1x256x1024 .bf16) (x00 x01 x10 x11 : Vec F S1x256x1024 .f32) (wo c0 c1 c2 c3 : Vec F S1024x1024 .bf16) (g2 b2 : Vec F S1x1024 .f32) (w2 : Vec F S4096x1024 .bf16) : List (View.Piece (Elt F) S2x256x1024 .bf16) := ⟨(Rect.unit (s := S2x256x1024) ![0, 0, 0] S1x256x1024.size inb_S2x256x1024_S1x256x1024_0_0_0), k0_pay60 (X200 g1 b1 y00 y01 y10 y11 x00 x01 x10 x11 wo c0 c1 c2 c3 g2 b2 w2)⟩ :: []
/-- The buffers after tile 01: what is stored in the rounded copy's, the hidden units', and the second residual. -/
def LX01 (g1 b1 : Vec F S1x1024 .f32) (y00 y01 y10 y11 : Vec F S1x256x1024 .bf16) (x00 x01 x10 x11 : Vec F S1x256x1024 .f32) (wo c0 c1 c2 c3 : Vec F S1024x1024 .bf16) (g2 b2 : Vec F S1x1024 .f32) (w2 : Vec F S4096x1024 .bf16) : List (View.Piece (Elt F) S2x256x1024 .bf16) := xbR01 g1 b1 y01 x01 wo (LX00 g1 b1 y00 y01 y10 y11 x00 x01 x10 x11 wo c0 c1 c2 c3 g2 b2 w2)
def LH01 (g1 b1 : Vec F S1x1024 .f32) (y00 y01 y10 y11 : Vec F S1x256x1024 .bf16) (x00 x01 x10 x11 : Vec F S1x256x1024 .f32) (wo c0 c1 c2 c3 : Vec F S1024x1024 .bf16) (g2 b2 : Vec F S1x1024 .f32) (w2 : Vec F S4096x1024 .bf16) : List (View.Piece (Elt F) S2x256x4096 .bf16) := hidR01 (xbM.view.readCov (Val := Elt F) (LX01 g1 b1 y00 y01 y10 y11 x00 x01 x10 x11 wo c0 c1 c2 c3 g2 b2 w2) (Rect.unit (s := S2x256x1024) ![1, 0, 0] S1x256x1024.size inb_S2x256x1024_S1x256x1024_1_0_0).toLoadRect) c0 c1 c2 c3 (LH00 g1 b1 y00 y01 y10 y11 x00 x01 x10 x11 wo c0 c1 c2 c3 g2 b2 w2)
def X201 (g1 b1 : Vec F S1x1024 .f32) (y00 y01 y10 y11 : Vec F S1x256x1024 .bf16) (x00 x01 x10 x11 : Vec F S1x256x1024 .f32) (wo c0 c1 c2 c3 : Vec F S1024x1024 .bf16) (g2 b2 : Vec F S1x1024 .f32) (w2 : Vec F S4096x1024 .bf16) : FVec F S256x1024 .f32 := x2R01 g2 b2 (x1R01 g1 b1 y01 x01 wo) (hidM.view.readCov (Val := Elt F) (LH01 g1 b1 y00 y01 y10 y11 x00 x01 x10 x11 wo c0 c1 c2 c3 g2 b2 w2) (Rect.unit (s := S2x256x4096) ![1, 0, 0] S1x256x4096.size inb_S2x256x4096_S1x256x4096_1_0_0).toLoadRect) w2
def LS01 (g1 b1 : Vec F S1x1024 .f32) (y00 y01 y10 y11 : Vec F S1x256x1024 .bf16) (x00 x01 x10 x11 : Vec F S1x256x1024 .f32) (wo c0 c1 c2 c3 : Vec F S1024x1024 .bf16) (g2 b2 : Vec F S1x1024 .f32) (w2 : Vec F S4096x1024 .bf16) : List (View.Piece (Elt F) S2x256x1024 .bf16) := ⟨(Rect.unit (s := S2x256x1024) ![1, 0, 0] S1x256x1024.size inb_S2x256x1024_S1x256x1024_1_0_0), k0_pay73 (X201 g1 b1 y00 y01 y10 y11 x00 x01 x10 x11 wo c0 c1 c2 c3 g2 b2 w2)⟩ :: (LS00 g1 b1 y00 y01 y10 y11 x00 x01 x10 x11 wo c0 c1 c2 c3 g2 b2 w2)
/-- The buffers after tile 10: what is stored in the rounded copy's, the hidden units', and the second residual. -/
def LX10 (g1 b1 : Vec F S1x1024 .f32) (y00 y01 y10 y11 : Vec F S1x256x1024 .bf16) (x00 x01 x10 x11 : Vec F S1x256x1024 .f32) (wo c0 c1 c2 c3 : Vec F S1024x1024 .bf16) (g2 b2 : Vec F S1x1024 .f32) (w2 : Vec F S4096x1024 .bf16) : List (View.Piece (Elt F) S2x256x1024 .bf16) := xbR10 g1 b1 y10 x10 wo (LX01 g1 b1 y00 y01 y10 y11 x00 x01 x10 x11 wo c0 c1 c2 c3 g2 b2 w2)
def LH10 (g1 b1 : Vec F S1x1024 .f32) (y00 y01 y10 y11 : Vec F S1x256x1024 .bf16) (x00 x01 x10 x11 : Vec F S1x256x1024 .f32) (wo c0 c1 c2 c3 : Vec F S1024x1024 .bf16) (g2 b2 : Vec F S1x1024 .f32) (w2 : Vec F S4096x1024 .bf16) : List (View.Piece (Elt F) S2x256x4096 .bf16) := hidR10 (xbM.view.readCov (Val := Elt F) (LX10 g1 b1 y00 y01 y10 y11 x00 x01 x10 x11 wo c0 c1 c2 c3 g2 b2 w2) (Rect.unit (s := S2x256x1024) ![0, 0, 0] S1x256x1024.size inb_S2x256x1024_S1x256x1024_0_0_0).toLoadRect) c0 c1 c2 c3 (LH01 g1 b1 y00 y01 y10 y11 x00 x01 x10 x11 wo c0 c1 c2 c3 g2 b2 w2)
def X210 (g1 b1 : Vec F S1x1024 .f32) (y00 y01 y10 y11 : Vec F S1x256x1024 .bf16) (x00 x01 x10 x11 : Vec F S1x256x1024 .f32) (wo c0 c1 c2 c3 : Vec F S1024x1024 .bf16) (g2 b2 : Vec F S1x1024 .f32) (w2 : Vec F S4096x1024 .bf16) : FVec F S256x1024 .f32 := x2R10 g2 b2 (x1R10 g1 b1 y10 x10 wo) (hidM.view.readCov (Val := Elt F) (LH10 g1 b1 y00 y01 y10 y11 x00 x01 x10 x11 wo c0 c1 c2 c3 g2 b2 w2) (Rect.unit (s := S2x256x4096) ![0, 0, 0] S1x256x4096.size inb_S2x256x4096_S1x256x4096_0_0_0).toLoadRect) w2
def LS10 (g1 b1 : Vec F S1x1024 .f32) (y00 y01 y10 y11 : Vec F S1x256x1024 .bf16) (x00 x01 x10 x11 : Vec F S1x256x1024 .f32) (wo c0 c1 c2 c3 : Vec F S1024x1024 .bf16) (g2 b2 : Vec F S1x1024 .f32) (w2 : Vec F S4096x1024 .bf16) : List (View.Piece (Elt F) S2x256x1024 .bf16) := ⟨(Rect.unit (s := S2x256x1024) ![0, 0, 0] S1x256x1024.size inb_S2x256x1024_S1x256x1024_0_0_0), k0_pay85 (X210 g1 b1 y00 y01 y10 y11 x00 x01 x10 x11 wo c0 c1 c2 c3 g2 b2 w2)⟩ :: (LS01 g1 b1 y00 y01 y10 y11 x00 x01 x10 x11 wo c0 c1 c2 c3 g2 b2 w2)
/-- The buffers after tile 11: what is stored in the rounded copy's, the hidden units', and the second residual. -/
def LX11 (g1 b1 : Vec F S1x1024 .f32) (y00 y01 y10 y11 : Vec F S1x256x1024 .bf16) (x00 x01 x10 x11 : Vec F S1x256x1024 .f32) (wo c0 c1 c2 c3 : Vec F S1024x1024 .bf16) (g2 b2 : Vec F S1x1024 .f32) (w2 : Vec F S4096x1024 .bf16) : List (View.Piece (Elt F) S2x256x1024 .bf16) := xbR11 g1 b1 y11 x11 wo (LX10 g1 b1 y00 y01 y10 y11 x00 x01 x10 x11 wo c0 c1 c2 c3 g2 b2 w2)
def LH11 (g1 b1 : Vec F S1x1024 .f32) (y00 y01 y10 y11 : Vec F S1x256x1024 .bf16) (x00 x01 x10 x11 : Vec F S1x256x1024 .f32) (wo c0 c1 c2 c3 : Vec F S1024x1024 .bf16) (g2 b2 : Vec F S1x1024 .f32) (w2 : Vec F S4096x1024 .bf16) : List (View.Piece (Elt F) S2x256x4096 .bf16) := hidR11 (xbM.view.readCov (Val := Elt F) (LX11 g1 b1 y00 y01 y10 y11 x00 x01 x10 x11 wo c0 c1 c2 c3 g2 b2 w2) (Rect.unit (s := S2x256x1024) ![1, 0, 0] S1x256x1024.size inb_S2x256x1024_S1x256x1024_1_0_0).toLoadRect) c0 c1 c2 c3 (LH10 g1 b1 y00 y01 y10 y11 x00 x01 x10 x11 wo c0 c1 c2 c3 g2 b2 w2)
def X211 (g1 b1 : Vec F S1x1024 .f32) (y00 y01 y10 y11 : Vec F S1x256x1024 .bf16) (x00 x01 x10 x11 : Vec F S1x256x1024 .f32) (wo c0 c1 c2 c3 : Vec F S1024x1024 .bf16) (g2 b2 : Vec F S1x1024 .f32) (w2 : Vec F S4096x1024 .bf16) : FVec F S256x1024 .f32 := x2R11 g2 b2 (x1R11 g1 b1 y11 x11 wo) (hidM.view.readCov (Val := Elt F) (LH11 g1 b1 y00 y01 y10 y11 x00 x01 x10 x11 wo c0 c1 c2 c3 g2 b2 w2) (Rect.unit (s := S2x256x4096) ![1, 0, 0] S1x256x4096.size inb_S2x256x4096_S1x256x4096_1_0_0).toLoadRect) w2
def LS11 (g1 b1 : Vec F S1x1024 .f32) (y00 y01 y10 y11 : Vec F S1x256x1024 .bf16) (x00 x01 x10 x11 : Vec F S1x256x1024 .f32) (wo c0 c1 c2 c3 : Vec F S1024x1024 .bf16) (g2 b2 : Vec F S1x1024 .f32) (w2 : Vec F S4096x1024 .bf16) : List (View.Piece (Elt F) S2x256x1024 .bf16) := ⟨(Rect.unit (s := S2x256x1024) ![1, 0, 0] S1x256x1024.size inb_S2x256x1024_S1x256x1024_1_0_0), k0_pay87 (X211 g1 b1 y00 y01 y10 y11 x00 x01 x10 x11 wo c0 c1 c2 c3 g2 b2 w2)⟩ :: (LS10 g1 b1 y00 y01 y10 y11 x00 x01 x10 x11 wo c0 c1 c2 c3 g2 b2 w2)

section Final
variable (w : FfnW F) (X : Vec F S2x8192x1024 .f32) (Y : Vec F S2x8192x1024 .bf16) (P : Vec F S2x8192x256 .f32) (n : Nat)
variable (g1 b1 : Vec F S1x1024 .f32) (y00 y01 y10 y11 : Vec F S1x256x1024 .bf16) (x00 x01 x10 x11 : Vec F S1x256x1024 .f32) (wo : Vec F S1024x1024 .bf16)
  (c0 c1 c2 c3 : Vec F S1024x1024 .bf16) (g2 b2 : Vec F S1x1024 .f32) (w2 : Vec F S4096x1024 .bf16) (wg : Vec F S1024x1024 .bf16) (p00 p01 p10 p11 : Vec F S1x256x256 .f32) (wp : Vec F S256x1024 .bf16)
  (hy00 : y00 = rows Y 0 (2 * n)) (hx00 : x00 = rows X 0 (2 * n)) (hp00 : p00 = rows P 0 (2 * n)) (hy01 : y01 = rows Y 0 (2 * n + 1)) (hx01 : x01 = rows X 0 (2 * n + 1)) (hp01 : p01 = rows P 0 (2 * n + 1)) (hy10 : y10 = rows Y 1 (2 * n)) (hx10 : x10 = rows X 1 (2 * n)) (hp10 : p10 = rows P 1 (2 * n)) (hy11 : y11 = rows Y 1 (2 * n + 1)) (hx11 : x11 = rows X 1 (2 * n + 1)) (hp11 : p11 = rows P 1 (2 * n + 1))
  (hg1 : g1 = row1 w.G1) (hb1 : b1 = row1 w.B1) (hwo : wo = w.WO) (hc0 : c0 = w1Col w.W1 0) (hc1 : c1 = w1Col w.W1 1) (hc2 : c2 = w1Col w.W1 2) (hc3 : c3 = w1Col w.W1 3) (hg2 : g2 = row1 w.G2) (hb2 : b2 = row1 w.B2) (hw2 : w2 = w.W2) (hwg : wg = w.WG) (hwp : wp = w.WP)

include hg1 hb1 hwo hc0 hc1 hc2 hc3 hg2 hb2 hw2 hy00 hx00 in
theorem X200_eq : X200 g1 b1 y00 y01 y10 y11 x00 x01 x10 x11 wo c0 c1 c2 c3 g2 b2 w2 = x2T w X Y 0 (2 * n) := by
  subst hg1 hb1 hwo hc0 hc1 hc2 hc3 hg2 hb2 hw2 hy00 hx00
  rw [X200, LH00, LX00, xbR00_load, hidR00_load, x1R00_eq, x2R00_eq]

include hg1 hb1 hwo hc0 hc1 hc2 hc3 hg2 hb2 hw2 hy01 hx01 in
theorem X201_eq : X201 g1 b1 y00 y01 y10 y11 x00 x01 x10 x11 wo c0 c1 c2 c3 g2 b2 w2 = x2T w X Y 0 (2 * n + 1) := by
  subst hg1 hb1 hwo hc0 hc1 hc2 hc3 hg2 hb2 hw2 hy01 hx01
  rw [X201, LH01, LX01, xbR01_load, hidR01_load, x1R01_eq, x2R01_eq]

include hg1 hb1 hwo hc0 hc1 hc2 hc3 hg2 hb2 hw2 hy10 hx10 in
theorem X210_eq : X210 g1 b1 y00 y01 y10 y11 x00 x01 x10 x11 wo c0 c1 c2 c3 g2 b2 w2 = x2T w X Y 1 (2 * n) := by
  subst hg1 hb1 hwo hc0 hc1 hc2 hc3 hg2 hb2 hw2 hy10 hx10
  rw [X210, LH10, LX10, xbR10_load, hidR10_load, x1R10_eq, x2R10_eq]

include hg1 hb1 hwo hc0 hc1 hc2 hc3 hg2 hb2 hw2 hy11 hx11 in
theorem X211_eq : X211 g1 b1 y00 y01 y10 y11 x00 x01 x10 x11 wo c0 c1 c2 c3 g2 b2 w2 = x2T w X Y 1 (2 * n + 1) := by
  subst hg1 hb1 hwo hc0 hc1 hc2 hc3 hg2 hb2 hw2 hy11 hx11
  rw [X211, LH11, LX11, xbR11_load, hidR11_load, x1R11_eq, x2R11_eq]

include hy00 hx00 hp00 hy01 hx01 hp01 hy10 hx10 hp10 hy11 hx11 hp11 hg1 hb1 hwo hc0 hc1 hc2 hc3 hg2 hb2 hw2 hwg hwp in
/-- A block's four tiles, stored as they are computed: the slot holds the block of the result. -/
theorem o_raw (c : Dev nD) (hn : n < 16) (s : Fin 2) (f : BufOf F c (os2 s)) :
    (os2 s).view.read (Elt F) ((os2 s).view.writes (Elt F) f [⟨(Rect.unit (s := S2x512x1024) ![1, 256, 0] S1x256x1024.size inb_S2x512x1024_S1x256x1024_1_256_0), oR11 (X211 g1 b1 y00 y01 y10 y11 x00 x01 x10 x11 wo c0 c1 c2 c3 g2 b2 w2) (LS10 g1 b1 y00 y01 y10 y11 x00 x01 x10 x11 wo c0 c1 c2 c3 g2 b2 w2) wg p11 wp⟩,
      ⟨(Rect.unit (s := S2x512x1024) ![1, 0, 0] S1x256x1024.size inb_S2x512x1024_S1x256x1024_1_0_0), oR10 (X210 g1 b1 y00 y01 y10 y11 x00 x01 x10 x11 wo c0 c1 c2 c3 g2 b2 w2) (LS01 g1 b1 y00 y01 y10 y11 x00 x01 x10 x11 wo c0 c1 c2 c3 g2 b2 w2) wg p10 wp⟩,
      ⟨(Rect.unit (s := S2x512x1024) ![0, 256, 0] S1x256x1024.size inb_S2x512x1024_S1x256x1024_0_256_0), oR01 (X201 g1 b1 y00 y01 y10 y11 x00 x01 x10 x11 wo c0 c1 c2 c3 g2 b2 w2) (LS00 g1 b1 y00 y01 y10 y11 x00 x01 x10 x11 wo c0 c1 c2 c3 g2 b2 w2) wg p01 wp⟩,
      ⟨(Rect.unit (s := S2x512x1024) ![0, 0, 0] S1x256x1024.size inb_S2x512x1024_S1x256x1024_0_0_0), oR00 (X200 g1 b1 y00 y01 y10 y11 x00 x01 x10 x11 wo c0 c1 c2 c3 g2 b2 w2) [] wg p00 wp⟩]) = blockOf (OS w X Y P) n := by
  rw [X200_eq w X Y n g1 b1 y00 y01 y10 y11 x00 x01 x10 x11 wo c0 c1 c2 c3 g2 b2 w2 hy00 hx00 hg1 hb1 hwo hc0 hc1 hc2 hc3 hg2 hb2 hw2]
  rw [X201_eq w X Y n g1 b1 y00 y01 y10 y11 x00 x01 x10 x11 wo c0 c1 c2 c3 g2 b2 w2 hy01 hx01 hg1 hb1 hwo hc0 hc1 hc2 hc3 hg2 hb2 hw2]
  rw [X210_eq w X Y n g1 b1 y00 y01 y10 y11 x00 x01 x10 x11 wo c0 c1 c2 c3 g2 b2 w2 hy10 hx10 hg1 hb1 hwo hc0 hc1 hc2 hc3 hg2 hb2 hw2]
  rw [X211_eq w X Y n g1 b1 y00 y01 y10 y11 x00 x01 x10 x11 wo c0 c1 c2 c3 g2 b2 w2 hy11 hx11 hg1 hb1 hwo hc0 hc1 hc2 hc3 hg2 hb2 hw2]
  subst hwg hwp hp00 hp01 hp10 hp11
  rw [oR00_eq, oR01_eq, oR10_eq, oR11_eq]
  exact o_slot w X Y P c s n hn f

end Final

end Cert.Proof.Layer
-- ==== Proof.Trip2.lean ====
module

public import proofs.«01_k».proof.Proof.Stores2
public import proofs.«01_k».proof.Proof.Trip1
public import Idealize.ShloMosaic.Lib.Pointwise
public import Idealize.ShloMosaic.Lib.Pipeline.Value

@[expose] public section

set_option maxRecDepth 8192

noncomputable section

namespace Cert.Proof.Layer

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

/-! # One trip of the channel pipeline -/

/-- Block `b` of `p`, at home. -/
abbrev pHome (c : Dev nD) (PA : BufOf F c pM) (b : Fin 16) : sProp 𝕄 := ptM c (pblk b) PA
/-- Block `b` of the result, at home. -/
abbrev oHome (c : Dev nD) (OA : BufOf F c oM) (b : Fin 16) : sProp 𝕄 := ptM c (oblk b) OA
/-- Block `k` of `x` on its way into its slot of the channel loop. -/
abbrev xFlight2 (c : Dev nD) (XA : BufOf F c xM) (k : Nat) : sProp 𝕄 :=
  iprop(∃ g : BufOf F c (xs2 (Ring.sl 2 k)), Transfers.Flight countersEmb (c : Thread nD τ) (SemLoc.dma (xc2 (Ring.sl 2 k)).sem) () 131072
       iprop(ptM c (xs2 (Ring.sl 2 k)) ((xs2 (Ring.sl 2 k)).view.writes (Elt F) g [⟨Rect.whole S2x512x1024, ReadAs.same.apply ((xblk (Ring.bk 16 k)).view.read (Elt F) XA)⟩]) ∗ xHome c XA (Ring.bk 16 k)))
/-- Slot `k` of `x` in the channel loop and its semaphore, at rest. -/
abbrev xFree2 (c : Dev nD) (k : Nat) : sProp 𝕄 := iprop((∃ g : BufOf F c (xs2 (Ring.sl 2 k)), ptM c (xs2 (Ring.sl 2 k)) g) ∗ cellP c (xc2 (Ring.sl 2 k)))
/-- Block `k` of `y` on its way into its slot of the channel loop. -/
abbrev yFlight2 (c : Dev nD) (YA : BufOf F c yM) (k : Nat) : sProp 𝕄 :=
  iprop(∃ g : BufOf F c (ys2 (Ring.sl 2 k)), Transfers.Flight countersEmb (c : Thread nD τ) (SemLoc.dma (yc2 (Ring.sl 2 k)).sem) () 65536
       iprop(ptM c (ys2 (Ring.sl 2 k)) ((ys2 (Ring.sl 2 k)).view.writes (Elt F) g [⟨Rect.whole S2x512x1024, ReadAs.same.apply ((yblk (Ring.bk 16 k)).view.read (Elt F) YA)⟩]) ∗ yHome c YA (Ring.bk 16 k)))
/-- Slot `k` of `y` in the channel loop and its semaphore, at rest. -/
abbrev yFree2 (c : Dev nD) (k : Nat) : sProp 𝕄 := iprop((∃ g : BufOf F c (ys2 (Ring.sl 2 k)), ptM c (ys2 (Ring.sl 2 k)) g) ∗ cellP c (yc2 (Ring.sl 2 k)))
/-- Block `k` of `p` on its way into its slot of the channel loop. -/
abbrev pFlight2 (c : Dev nD) (PA : BufOf F c pM) (k : Nat) : sProp 𝕄 :=
  iprop(∃ g : BufOf F c (ps2 (Ring.sl 2 k)), Transfers.Flight countersEmb (c : Thread nD τ) (SemLoc.dma (pc2 (Ring.sl 2 k)).sem) () 32768
       iprop(ptM c (ps2 (Ring.sl 2 k)) ((ps2 (Ring.sl 2 k)).view.writes (Elt F) g [⟨Rect.whole S2x512x256, ReadAs.same.apply ((pblk (Ring.bk 16 k)).view.read (Elt F) PA)⟩]) ∗ pHome c PA (Ring.bk 16 k)))
/-- Slot `k` of `p` in the channel loop and its semaphore, at rest. -/
abbrev pFree2 (c : Dev nD) (k : Nat) : sProp 𝕄 := iprop((∃ g : BufOf F c (ps2 (Ring.sl 2 k)), ptM c (ps2 (Ring.sl 2 k)) g) ∗ cellP c (pc2 (Ring.sl 2 k)))
/-- Block `k` of the result on its way home. -/
abbrev oFlight (c : Dev nD) (OA : BufOf F c oM) (k : Nat) : sProp 𝕄 :=
  iprop(∃ g : BufOf F c (os2 (Ring.sl 2 k)), Transfers.Flight countersEmb (c : Thread nD τ) (SemLoc.dma (oc2 (Ring.sl 2 k)).sem) () 131072
       iprop(oHome c OA (Ring.bk 16 k) ∗ ptM c (os2 (Ring.sl 2 k)) g))
/-- Slot `k` of the result and its semaphore, at rest. -/
abbrev oFree (c : Dev nD) (k : Nat) : sProp 𝕄 := iprop((∃ g : BufOf F c (os2 (Ring.sl 2 k)), ptM c (os2 (Ring.sl 2 k)) g) ∗ cellP c (oc2 (Ring.sl 2 k)))

theorem zero2 : ∀ a : Fin 2, (![0, 0] : Fin 2 → Nat) a = 0 := by decide

section Trip
variable (c : Dev nD)
  (arg3 : Memref sig .tc .vmem S1x3x1024 .f32) (harg3 : arg3.IsWhole)
  (arg4 arg5 arg6 arg7 : Memref sig .tc .vmem S2x1024 .f32) (harg4 : arg4.IsWhole) (harg5 : arg5.IsWhole) (harg6 : arg6.IsWhole) (harg7 : arg7.IsWhole)

/-- The body of the channel loop. -/
abbrev trip2 (t : Fin k0_t2_loop.trips) (acc : BitVec 32 × BitVec 32 × BitVec 32 × BitVec 32 × BitVec 32 × BitVec 32 × BitVec 32 × BitVec 32 × BitVec 32) :=
  k0_t2_body (F := F) xM (Memref.isWhole_whole _) pM (Memref.isWhole_whole _) wiM (Memref.isWhole_whole _) arg3 harg3 arg4 harg4 arg5 harg5 arg6 harg6 arg7 harg7 woM (Memref.isWhole_whole _) w1M (Memref.isWhole_whole _) w2M (Memref.isWhole_whole _) wgM (Memref.isWhole_whole _) wpM (Memref.isWhole_whole _) oM (Memref.isWhole_whole _) yM (Memref.isWhole_whole _) woS (Memref.isWhole_whole _) w1S (Memref.isWhole_whole _) w2S (Memref.isWhole_whole _) wgS (Memref.isWhole_whole _) wpS (Memref.isWhole_whole _) cntM (Memref.isWhole_whole _) cc0_scoped1 sl0M (Memref.isWhole_whole _) sl1M (Memref.isWhole_whole _) sl2M (Memref.isWhole_whole _) sl3M (Memref.isWhole_whole _) sl4M (Memref.isWhole_whole _) wiS (Memref.isWhole_whole _) zM (Memref.isWhole_whole _) cc0_scoped9 xb1M (Memref.isWhole_whole _) cc0_scoped11 yb1M (Memref.isWhole_whole _) cc0_scoped13 xbM (Memref.isWhole_whole _) hidM (Memref.isWhole_whole _) x2bM (Memref.isWhole_whole _) xb2M (Memref.isWhole_whole _) cc0_scoped18 yb2M (Memref.isWhole_whole _) cc0_scoped20 pb2M (Memref.isWhole_whole _) cc0_scoped22 ob2M (Memref.isWhole_whole _) cc0_scoped24 (Scalar.addi 0#32 1#32) t acc

variable (B4 : BufOf F c arg4) (B5 : BufOf F c arg5) (B6 : BufOf F c arg6) (B7 : BufOf F c arg7) (XA : BufOf F c xM) (YA : BufOf F c yM) (PA : BufOf F c pM) (O0 OA : BufOf F c oM) (w : FfnW F)
   (hOA : oM.view.read (Elt F) OA = OS w (xM.view.read (Elt F) XA) (yM.view.read (Elt F) YA) (pL.view.read (Elt F) PA))
   (e4 : arg4.view.read (Elt F) B4 = w.G1) (e5 : arg5.view.read (Elt F) B5 = w.B1) (e6 : arg6.view.read (Elt F) B6 = w.G2) (e7 : arg7.view.read (Elt F) B7 = w.B2)

/-- What the channel loop keeps throughout: the parameters, the cast weights, the working buffers. -/
abbrev Keep2 : sProp 𝕄 := iprop(ptM c arg4 B4
    ∗ ptM c arg5 B5
    ∗ ptM c arg6 B6
    ∗ ptM c arg7 B7
    ∗ (∃ g, ⌜woS.view.read (Elt F) g = w.WO⌝ ∗ ptM c woS g)
    ∗ (∃ g, ⌜w1S.view.read (Elt F) g = w.W1⌝ ∗ ptM c w1S g)
    ∗ (∃ g, ⌜w2S.view.read (Elt F) g = w.W2⌝ ∗ ptM c w2S g)
    ∗ (∃ g, ⌜wgS.view.read (Elt F) g = w.WG⌝ ∗ ptM c wgS g)
    ∗ (∃ g, ⌜wpS.view.read (Elt F) g = w.WP⌝ ∗ ptM c wpS g)
    ∗ (∃ g, ptM c xbM g)
    ∗ (∃ g, ptM c hidM g)
    ∗ (∃ g, ptM c x2bM g)
    ∗ (∃ W, owes (c : Thread nD τ) 0 W))

include hOA in
/-- A block of the result that leaves its slot is the wanted one. -/
theorem oFlight_done (k : Nat) (hk : k < 16) (ok : BufOf F c oM) (g : BufOf F c (os2 (Ring.sl 2 k)))
    (h : (os2 (Ring.sl 2 k)).view.read (Elt F) g = blockOf (OS w (xM.view.read (Elt F) XA) (yM.view.read (Elt F) YA) (pL.view.read (Elt F) PA)) k) :
    Transfers.Flight countersEmb (c : Thread nD τ) (SemLoc.dma (oc2 (Ring.sl 2 k)).sem) () 131072
       iprop(ptM c (oblk (Ring.bk 16 k)) ((oblk (Ring.bk 16 k)).view.writes (Elt F) ok [⟨Rect.whole S2x512x1024, ReadAs.same.apply ((os2 (Ring.sl 2 k)).view.read (Elt F) g)⟩]) ∗ ptM c (os2 (Ring.sl 2 k)) g)
     ⊢ oFlight c OA k := by
  have e : ptM c (oblk (Ring.bk 16 k)) ((oblk (Ring.bk 16 k)).view.writes (Elt F) ok [⟨Rect.whole S2x512x1024, ReadAs.same.apply ((os2 (Ring.sl 2 k)).view.read (Elt F) g)⟩]) = oHome c OA (Ring.bk 16 k) := by
    refine ptM_congr_read c _ _ _ ?_
    rw [oblk_read c k hk OA, hOA, ← h]
    exact View.read_writes_whole _ _ _
  rw [e]
  iintro H
  iexists _
  iexact H

set_option maxHeartbeats 400000

include hOA e4 e5 e6 e7 in
/-- A trip that is neither the first nor the last. -/
theorem tripMid2 (t : Fin k0_t2_loop.trips) (h1 : 1 ≤ t.val) (h2 : t.val + 1 < 16) (Φ) :
  iprop(xFlight2 c XA t.val
    ∗ yFlight2 c YA t.val
    ∗ pFlight2 c PA t.val
    ∗ xFree2 c (t.val + 1)
    ∗ xHome c XA (Ring.bk 16 (t.val + 1))
    ∗ yFree2 c (t.val + 1)
    ∗ yHome c YA (Ring.bk 16 (t.val + 1))
    ∗ pFree2 c (t.val + 1)
    ∗ pHome c PA (Ring.bk 16 (t.val + 1))
    ∗ oFree c t.val
    ∗ ptM c (oblk (Ring.bk 16 t.val)) O0
    ∗ oFlight c OA (t.val - 1)
    ∗ Keep2 c arg4 arg5 arg6 arg7 B4 B5 B6 B7 w
    ∗ ((xFlight2 c XA (t.val + 1)
    ∗ yFlight2 c YA (t.val + 1)
    ∗ pFlight2 c PA (t.val + 1)
    ∗ xFree2 c t.val
    ∗ xHome c XA (Ring.bk 16 t.val)
    ∗ yFree2 c t.val
    ∗ yHome c YA (Ring.bk 16 t.val)
    ∗ pFree2 c t.val
    ∗ pHome c PA (Ring.bk 16 t.val)
    ∗ oFlight c OA t.val
    ∗ oHome c OA (Ring.bk 16 (t.val - 1))
    ∗ oFree c (t.val - 1)
    ∗ Keep2 c arg4 arg5 arg6 arg7 B4 B5 B6 B7 w) -∗ Φ (wF (t.val + 1), wN (t.val + 1), wF (t.val + 1), wN (t.val + 1), wF (t.val + 1), wN (t.val + 1), wN (t.val + 1), wP (t.val + 1), wI (t.val + 1))))
   ⊢ wp frame (wpE (defs₀ (F := F)) 𝒱₀ (c : Thread nD τ) none) Set.univ (trip2 (F := F) arg3 harg3 arg4 arg5 arg6 arg7 harg4 harg5 harg6 harg7 t (wF t.val, wN t.val, wF t.val, wN t.val, wF t.val, wN t.val, wN t.val, wP t.val, wI t.val)) Φ := by
  have h16 : t.val < 16 := t.isLt
  have c7 := chk7 t
  have c8 := chk8 t
  have c9 := chk9 t
  have c10 := chk10 t
  have c11 := chk11 t
  have d10 := cond10_pos t h2
  have d11 := cond11_pos t h2
  have d12 := cond12_pos t h2
  have d13 := cond13_pos t
  have d14 := cond14_pos t
  have d15 := cond15_pos t
  have d20 := cond20_pos t
  have d24 := cond24_pos t h1
  iintro ⟨⟨%xf, HX⟩, ⟨%yf, HY⟩, ⟨%pf, HP⟩, ⟨⟨%xg, HXs⟩, HXc⟩, HXb, ⟨⟨%yg, HYs⟩, HYc⟩, HYb, ⟨⟨%pg, HPs⟩, HPc⟩, HPb, ⟨⟨%of_, HOs⟩, HOc⟩, HOb, ⟨%og, HO⟩, ⟨H4, H5, H6, H7, ⟨%g15, %hg15, G15⟩, ⟨%g16, %hg16, G16⟩, ⟨%g17, %hg17, G17⟩, ⟨%g18, %hg18, G18⟩, ⟨%g19, %hg19, G19⟩, ⟨%hx, SX⟩, ⟨%hh, SH⟩, ⟨%hx2, S2⟩, ⟨%W, HW⟩⟩, Hk⟩
  dsimp only [trip2]
  sl_unfold [k0_t2_body]
  sl_exec
  have ho : (os2 (Ring.sl 2 t.val)).view.read (Elt F) ((os2 (Ring.sl 2 t.val)).view.writes (Elt F) of_ (tripMid2.sl.HOs_4 c arg4 arg5 arg6 arg7 B4 B5 B6 B7 XA YA PA t g15 g16 g17 g18 g19)) = blockOf (OS w (xM.view.read (Elt F) XA) (yM.view.read (Elt F) YA) (pL.view.read (Elt F) PA)) t.val :=
    o_raw w (xM.view.read (Elt F) XA) (yM.view.read (Elt F) YA) (pL.view.read (Elt F) PA) t.val _ _ _ _ _ _ _ _ _ _ _ _ _ _ _ _ _ _ _ _ _ _ _ _
      (ys2_tile_00 c (Ring.sl 2 t.val) t.val h16 YA) (xs2_tile_00 c (Ring.sl 2 t.val) t.val h16 XA) (ps2_tile_00 c (Ring.sl 2 t.val) t.val h16 PA)
      (ys2_tile_01 c (Ring.sl 2 t.val) t.val h16 YA) (xs2_tile_01 c (Ring.sl 2 t.val) t.val h16 XA) (ps2_tile_01 c (Ring.sl 2 t.val) t.val h16 PA)
      (ys2_tile_10 c (Ring.sl 2 t.val) t.val h16 YA) (xs2_tile_10 c (Ring.sl 2 t.val) t.val h16 XA) (ps2_tile_10 c (Ring.sl 2 t.val) t.val h16 PA)
      (ys2_tile_11 c (Ring.sl 2 t.val) t.val h16 YA) (xs2_tile_11 c (Ring.sl 2 t.val) t.val h16 XA) (ps2_tile_11 c (Ring.sl 2 t.val) t.val h16 PA)
      (congrArg row1 e4) (congrArg row1 e5) ((readAt_full _ _ _ zero2 _).trans hg15)
      ((w1_col c g16 0 (by decide) _ rfl rfl _).trans (congrArg (w1Col · 0) hg16)) ((w1_col c g16 1 (by decide) _ rfl rfl _).trans (congrArg (w1Col · 1) hg16)) ((w1_col c g16 2 (by decide) _ rfl rfl _).trans (congrArg (w1Col · 2) hg16)) ((w1_col c g16 3 (by decide) _ rfl rfl _).trans (congrArg (w1Col · 3) hg16))
      (congrArg row1 e6) (congrArg row1 e7) ((readAt_full _ _ _ zero2 _).trans hg17) ((readAt_full _ _ _ zero2 _).trans hg18) ((readAt_full _ _ _ zero2 _).trans hg19)
      c h16 (Ring.sl 2 t.val) of_
  have rwF : tripMid2.sl.v96_r3 t = wF (t.val + 1) := (by decide +kernel : ∀ t, 1 ≤ t.val → t.val + 1 < 16 → tripMid2.sl.v96_r3 t = wF (t.val + 1)) t h1 h2
  have rwN : tripMid2.sl.v698_r3 t = wN (t.val + 1) := (by decide +kernel : ∀ t, 1 ≤ t.val → t.val + 1 < 16 → tripMid2.sl.v698_r3 t = wN (t.val + 1)) t h1 h2
  have rwP : tripMid2.sl.v724_r3 t = wP (t.val + 1) := (by decide +kernel : ∀ t, 1 ≤ t.val → t.val + 1 < 16 → tripMid2.sl.v724_r3 t = wP (t.val + 1)) t h1 h2
  have rwI : tripMid2.sl.v80_r3 t = wI (t.val + 1) := (by decide +kernel : ∀ t, 1 ≤ t.val → t.val + 1 < 16 → tripMid2.sl.v80_r3 t = wI (t.val + 1)) t h1 h2
  rw [rwF, rwN, rwP, rwI]
  sl_step
  iapply Hk
  isplitl [HXc]; · iexists _; iexact HXc
  isplitl [HYc]; · iexists _; iexact HYc
  isplitl [HPc]; · iexists _; iexact HPc
  isplitl [HX HX_dst]
  · isplitl [HX_dst]; · iexists _; iexact HX_dst
    iexact HX
  isplitl [HX_src]; · iexact HX_src
  isplitl [HY HY_dst]
  · isplitl [HY_dst]; · iexists _; iexact HY_dst
    iexact HY
  isplitl [HY_src]; · iexact HY_src
  isplitl [HP HP_dst]
  · isplitl [HP_dst]; · iexists _; iexact HP_dst
    iexact HP
  isplitl [HP_src]; · iexact HP_src
  isplitl [HOc]; · iapply (oFlight_done c XA YA PA OA w hOA t.val h16 O0 _ ho); iexact HOc
  isplitl [HO_dst]; · iexact HO_dst
  isplitl [HO HO_src]
  · isplitl [HO_src]; · iexists _; iexact HO_src
    iexact HO
  isplitl [H4]; · iexact H4
  isplitl [H5]; · iexact H5
  isplitl [H6]; · iexact H6
  isplitl [H7]; · iexact H7
  isplitl [G15]
  · iexists _
    isplitr
    rotate_left
    · iexact G15
    ipureintro
    exact hg15
  isplitl [G16]
  · iexists _
    isplitr
    rotate_left
    · iexact G16
    ipureintro
    exact hg16
  isplitl [G17]
  · iexists _
    isplitr
    rotate_left
    · iexact G17
    ipureintro
    exact hg17
  isplitl [G18]
  · iexists _
    isplitr
    rotate_left
    · iexact G18
    ipureintro
    exact hg18
  isplitl [G19]
  · iexists _
    isplitr
    rotate_left
    · iexact G19
    ipureintro
    exact hg19
  isplitl [SX]; · iexists _; iexact SX
  isplitl [SH]; · iexists _; iexact SH
  isplitl [S2]; · iexists _; iexact S2
  iexists _; iexact HW

include hOA e4 e5 e6 e7 in
/-- The first trip. -/
theorem tripFirst2 (t : Fin k0_t2_loop.trips) (h0 : t.val = 0) (h2 : t.val + 1 < 16) (Φ) :
  iprop(xFlight2 c XA t.val
    ∗ yFlight2 c YA t.val
    ∗ pFlight2 c PA t.val
    ∗ xFree2 c (t.val + 1)
    ∗ xHome c XA (Ring.bk 16 (t.val + 1))
    ∗ yFree2 c (t.val + 1)
    ∗ yHome c YA (Ring.bk 16 (t.val + 1))
    ∗ pFree2 c (t.val + 1)
    ∗ pHome c PA (Ring.bk 16 (t.val + 1))
    ∗ oFree c t.val
    ∗ ptM c (oblk (Ring.bk 16 t.val)) O0
    ∗ Keep2 c arg4 arg5 arg6 arg7 B4 B5 B6 B7 w
    ∗ ((xFlight2 c XA (t.val + 1)
    ∗ yFlight2 c YA (t.val + 1)
    ∗ pFlight2 c PA (t.val + 1)
    ∗ xFree2 c t.val
    ∗ xHome c XA (Ring.bk 16 t.val)
    ∗ yFree2 c t.val
    ∗ yHome c YA (Ring.bk 16 t.val)
    ∗ pFree2 c t.val
    ∗ pHome c PA (Ring.bk 16 t.val)
    ∗ oFlight c OA t.val
    ∗ Keep2 c arg4 arg5 arg6 arg7 B4 B5 B6 B7 w) -∗ Φ (wF (t.val + 1), wN (t.val + 1), wF (t.val + 1), wN (t.val + 1), wF (t.val + 1), wN (t.val + 1), wN (t.val + 1), wP (t.val + 1), wI (t.val + 1))))
   ⊢ wp frame (wpE (defs₀ (F := F)) 𝒱₀ (c : Thread nD τ) none) Set.univ (trip2 (F := F) arg3 harg3 arg4 arg5 arg6 arg7 harg4 harg5 harg6 harg7 t (wF t.val, wN t.val, wF t.val, wN t.val, wF t.val, wN t.val, wN t.val, wP t.val, wI t.val)) Φ := by
  have h16 : t.val < 16 := t.isLt
  have c7 := chk7 t
  have c8 := chk8 t
  have c9 := chk9 t
  have c10 := chk10 t
  have c11 := chk11 t
  have d10 := cond10_pos t h2
  have d11 := cond11_pos t h2
  have d12 := cond12_pos t h2
  have d13 := cond13_pos t
  have d14 := cond14_pos t
  have d15 := cond15_pos t
  have d20 := cond20_pos t
  have d24 := cond24_neg t (by omega)
  iintro ⟨⟨%xf, HX⟩, ⟨%yf, HY⟩, ⟨%pf, HP⟩, ⟨⟨%xg, HXs⟩, HXc⟩, HXb, ⟨⟨%yg, HYs⟩, HYc⟩, HYb, ⟨⟨%pg, HPs⟩, HPc⟩, HPb, ⟨⟨%of_, HOs⟩, HOc⟩, HOb, ⟨H4, H5, H6, H7, ⟨%g15, %hg15, G15⟩, ⟨%g16, %hg16, G16⟩, ⟨%g17, %hg17, G17⟩, ⟨%g18, %hg18, G18⟩, ⟨%g19, %hg19, G19⟩, ⟨%hx, SX⟩, ⟨%hh, SH⟩, ⟨%hx2, S2⟩, ⟨%W, HW⟩⟩, Hk⟩
  dsimp only [trip2]
  sl_unfold [k0_t2_body]
  sl_exec
  have ho : (os2 (Ring.sl 2 t.val)).view.read (Elt F) ((os2 (Ring.sl 2 t.val)).view.writes (Elt F) of_ (tripFirst2.sl.HOs_4 c arg4 arg5 arg6 arg7 B4 B5 B6 B7 XA YA PA t g15 g16 g17 g18 g19)) = blockOf (OS w (xM.view.read (Elt F) XA) (yM.view.read (Elt F) YA) (pL.view.read (Elt F) PA)) t.val :=
    o_raw w (xM.view.read (Elt F) XA) (yM.view.read (Elt F) YA) (pL.view.read (Elt F) PA) t.val _ _ _ _ _ _ _ _ _ _ _ _ _ _ _ _ _ _ _ _ _ _ _ _
      (ys2_tile_00 c (Ring.sl 2 t.val) t.val h16 YA) (xs2_tile_00 c (Ring.sl 2 t.val) t.val h16 XA) (ps2_tile_00 c (Ring.sl 2 t.val) t.val h16 PA)
      (ys2_tile_01 c (Ring.sl 2 t.val) t.val h16 YA) (xs2_tile_01 c (Ring.sl 2 t.val) t.val h16 XA) (ps2_tile_01 c (Ring.sl 2 t.val) t.val h16 PA)
      (ys2_tile_10 c (Ring.sl 2 t.val) t.val h16 YA) (xs2_tile_10 c (Ring.sl 2 t.val) t.val h16 XA) (ps2_tile_10 c (Ring.sl 2 t.val) t.val h16 PA)
      (ys2_tile_11 c (Ring.sl 2 t.val) t.val h16 YA) (xs2_tile_11 c (Ring.sl 2 t.val) t.val h16 XA) (ps2_tile_11 c (Ring.sl 2 t.val) t.val h16 PA)
      (congrArg row1 e4) (congrArg row1 e5) ((readAt_full _ _ _ zero2 _).trans hg15)
      ((w1_col c g16 0 (by decide) _ rfl rfl _).trans (congrArg (w1Col · 0) hg16)) ((w1_col c g16 1 (by decide) _ rfl rfl _).trans (congrArg (w1Col · 1) hg16)) ((w1_col c g16 2 (by decide) _ rfl rfl _).trans (congrArg (w1Col · 2) hg16)) ((w1_col c g16 3 (by decide) _ rfl rfl _).trans (congrArg (w1Col · 3) hg16))
      (congrArg row1 e6) (congrArg row1 e7) ((readAt_full _ _ _ zero2 _).trans hg17) ((readAt_full _ _ _ zero2 _).trans hg18) ((readAt_full _ _ _ zero2 _).trans hg19)
      c h16 (Ring.sl 2 t.val) of_
  have rwF : tripFirst2.sl.v96_r3 t = wF (t.val + 1) := (by decide +kernel : ∀ t, t.val = 0 → t.val + 1 < 16 → tripFirst2.sl.v96_r3 t = wF (t.val + 1)) t h0 h2
  have rwN : tripFirst2.sl.v698_r3 t = wN (t.val + 1) := (by decide +kernel : ∀ t, t.val = 0 → t.val + 1 < 16 → tripFirst2.sl.v698_r3 t = wN (t.val + 1)) t h0 h2
  have rwP : tripFirst2.sl.v724_r3 t = wP (t.val + 1) := (by decide +kernel : ∀ t, t.val = 0 → t.val + 1 < 16 → tripFirst2.sl.v724_r3 t = wP (t.val + 1)) t h0 h2
  have rwI : tripFirst2.sl.v80_r3 t = wI (t.val + 1) := (by decide +kernel : ∀ t, t.val = 0 → t.val + 1 < 16 → tripFirst2.sl.v80_r3 t = wI (t.val + 1)) t h0 h2
  rw [rwF, rwN, rwP, rwI]
  sl_step
  iapply Hk
  isplitl [HXc]; · iexists _; iexact HXc
  isplitl [HYc]; · iexists _; iexact HYc
  isplitl [HPc]; · iexists _; iexact HPc
  isplitl [HX HX_dst]
  · isplitl [HX_dst]; · iexists _; iexact HX_dst
    iexact HX
  isplitl [HX_src]; · iexact HX_src
  isplitl [HY HY_dst]
  · isplitl [HY_dst]; · iexists _; iexact HY_dst
    iexact HY
  isplitl [HY_src]; · iexact HY_src
  isplitl [HP HP_dst]
  · isplitl [HP_dst]; · iexists _; iexact HP_dst
    iexact HP
  isplitl [HP_src]; · iexact HP_src
  isplitl [HOc]; · iapply (oFlight_done c XA YA PA OA w hOA t.val h16 O0 _ ho); iexact HOc
  isplitl [H4]; · iexact H4
  isplitl [H5]; · iexact H5
  isplitl [H6]; · iexact H6
  isplitl [H7]; · iexact H7
  isplitl [G15]
  · iexists _
    isplitr
    rotate_left
    · iexact G15
    ipureintro
    exact hg15
  isplitl [G16]
  · iexists _
    isplitr
    rotate_left
    · iexact G16
    ipureintro
    exact hg16
  isplitl [G17]
  · iexists _
    isplitr
    rotate_left
    · iexact G17
    ipureintro
    exact hg17
  isplitl [G18]
  · iexists _
    isplitr
    rotate_left
    · iexact G18
    ipureintro
    exact hg18
  isplitl [G19]
  · iexists _
    isplitr
    rotate_left
    · iexact G19
    ipureintro
    exact hg19
  isplitl [SX]; · iexists _; iexact SX
  isplitl [SH]; · iexists _; iexact SH
  isplitl [S2]; · iexists _; iexact S2
  iexists _; iexact HW

include hOA e4 e5 e6 e7 in
/-- The last trip: no block is left to fetch. -/
theorem tripLast2 (t : Fin k0_t2_loop.trips) (h1 : 1 ≤ t.val) (h2 : ¬ t.val + 1 < 16) (Φ) :
  iprop(xFlight2 c XA t.val
    ∗ yFlight2 c YA t.val
    ∗ pFlight2 c PA t.val
    ∗ oFree c t.val
    ∗ ptM c (oblk (Ring.bk 16 t.val)) O0
    ∗ oFlight c OA (t.val - 1)
    ∗ Keep2 c arg4 arg5 arg6 arg7 B4 B5 B6 B7 w
    ∗ ((xFree2 c t.val
    ∗ xHome c XA (Ring.bk 16 t.val)
    ∗ yFree2 c t.val
    ∗ yHome c YA (Ring.bk 16 t.val)
    ∗ pFree2 c t.val
    ∗ pHome c PA (Ring.bk 16 t.val)
    ∗ oFlight c OA t.val
    ∗ oHome c OA (Ring.bk 16 (t.val - 1))
    ∗ oFree c (t.val - 1)
    ∗ Keep2 c arg4 arg5 arg6 arg7 B4 B5 B6 B7 w) -∗ Φ (wF (t.val + 1), wN (t.val + 1), wF (t.val + 1), wN (t.val + 1), wF (t.val + 1), wN (t.val + 1), wN (t.val + 1), wP (t.val + 1), wI (t.val + 1))))
   ⊢ wp frame (wpE (defs₀ (F := F)) 𝒱₀ (c : Thread nD τ) none) Set.univ (trip2 (F := F) arg3 harg3 arg4 arg5 arg6 arg7 harg4 harg5 harg6 harg7 t (wF t.val, wN t.val, wF t.val, wN t.val, wF t.val, wN t.val, wN t.val, wP t.val, wI t.val)) Φ := by
  have h16 : t.val < 16 := t.isLt
  have c7 := chk7 t
  have c8 := chk8 t
  have c9 := chk9 t
  have c10 := chk10 t
  have c11 := chk11 t
  have d10 := cond10_neg t h2
  have d11 := cond11_neg t h2
  have d12 := cond12_neg t h2
  have d13 := cond13_pos t
  have d14 := cond14_pos t
  have d15 := cond15_pos t
  have d20 := cond20_pos t
  have d24 := cond24_pos t h1
  iintro ⟨⟨%xf, HX⟩, ⟨%yf, HY⟩, ⟨%pf, HP⟩, ⟨⟨%of_, HOs⟩, HOc⟩, HOb, ⟨%og, HO⟩, ⟨H4, H5, H6, H7, ⟨%g15, %hg15, G15⟩, ⟨%g16, %hg16, G16⟩, ⟨%g17, %hg17, G17⟩, ⟨%g18, %hg18, G18⟩, ⟨%g19, %hg19, G19⟩, ⟨%hx, SX⟩, ⟨%hh, SH⟩, ⟨%hx2, S2⟩, ⟨%W, HW⟩⟩, Hk⟩
  dsimp only [trip2]
  sl_unfold [k0_t2_body]
  sl_exec
  have ho : (os2 (Ring.sl 2 t.val)).view.read (Elt F) ((os2 (Ring.sl 2 t.val)).view.writes (Elt F) of_ (tripLast2.sl.HOs_4 c arg4 arg5 arg6 arg7 B4 B5 B6 B7 XA YA PA t g15 g16 g17 g18 g19)) = blockOf (OS w (xM.view.read (Elt F) XA) (yM.view.read (Elt F) YA) (pL.view.read (Elt F) PA)) t.val :=
    o_raw w (xM.view.read (Elt F) XA) (yM.view.read (Elt F) YA) (pL.view.read (Elt F) PA) t.val _ _ _ _ _ _ _ _ _ _ _ _ _ _ _ _ _ _ _ _ _ _ _ _
      (ys2_tile_00 c (Ring.sl 2 t.val) t.val h16 YA) (xs2_tile_00 c (Ring.sl 2 t.val) t.val h16 XA) (ps2_tile_00 c (Ring.sl 2 t.val) t.val h16 PA)
      (ys2_tile_01 c (Ring.sl 2 t.val) t.val h16 YA) (xs2_tile_01 c (Ring.sl 2 t.val) t.val h16 XA) (ps2_tile_01 c (Ring.sl 2 t.val) t.val h16 PA)
      (ys2_tile_10 c (Ring.sl 2 t.val) t.val h16 YA) (xs2_tile_10 c (Ring.sl 2 t.val) t.val h16 XA) (ps2_tile_10 c (Ring.sl 2 t.val) t.val h16 PA)
      (ys2_tile_11 c (Ring.sl 2 t.val) t.val h16 YA) (xs2_tile_11 c (Ring.sl 2 t.val) t.val h16 XA) (ps2_tile_11 c (Ring.sl 2 t.val) t.val h16 PA)
      (congrArg row1 e4) (congrArg row1 e5) ((readAt_full _ _ _ zero2 _).trans hg15)
      ((w1_col c g16 0 (by decide) _ rfl rfl _).trans (congrArg (w1Col · 0) hg16)) ((w1_col c g16 1 (by decide) _ rfl rfl _).trans (congrArg (w1Col · 1) hg16)) ((w1_col c g16 2 (by decide) _ rfl rfl _).trans (congrArg (w1Col · 2) hg16)) ((w1_col c g16 3 (by decide) _ rfl rfl _).trans (congrArg (w1Col · 3) hg16))
      (congrArg row1 e6) (congrArg row1 e7) ((readAt_full _ _ _ zero2 _).trans hg17) ((readAt_full _ _ _ zero2 _).trans hg18) ((readAt_full _ _ _ zero2 _).trans hg19)
      c h16 (Ring.sl 2 t.val) of_
  have rwF : tripLast2.sl.v96_r3 t = wF (t.val + 1) := (by decide +kernel : ∀ t, 1 ≤ t.val → ¬ t.val + 1 < 16 → tripLast2.sl.v96_r3 t = wF (t.val + 1)) t h1 h2
  have rwN : tripLast2.sl.v698_r3 t = wN (t.val + 1) := (by decide +kernel : ∀ t, 1 ≤ t.val → ¬ t.val + 1 < 16 → tripLast2.sl.v698_r3 t = wN (t.val + 1)) t h1 h2
  have rwP : tripLast2.sl.v724_r3 t = wP (t.val + 1) := (by decide +kernel : ∀ t, 1 ≤ t.val → ¬ t.val + 1 < 16 → tripLast2.sl.v724_r3 t = wP (t.val + 1)) t h1 h2
  have rwI : tripLast2.sl.v80_r3 t = wI (t.val + 1) := (by decide +kernel : ∀ t, 1 ≤ t.val → ¬ t.val + 1 < 16 → tripLast2.sl.v80_r3 t = wI (t.val + 1)) t h1 h2
  rw [rwF, rwN, rwP, rwI]
  sl_step
  iapply Hk
  isplitl [HX HX_dst]
  · isplitl [HX_dst]; · iexists _; iexact HX_dst
    iexact HX
  isplitl [HX_src]; · iexact HX_src
  isplitl [HY HY_dst]
  · isplitl [HY_dst]; · iexists _; iexact HY_dst
    iexact HY
  isplitl [HY_src]; · iexact HY_src
  isplitl [HP HP_dst]
  · isplitl [HP_dst]; · iexists _; iexact HP_dst
    iexact HP
  isplitl [HP_src]; · iexact HP_src
  isplitl [HOc]; · iapply (oFlight_done c XA YA PA OA w hOA t.val h16 O0 _ ho); iexact HOc
  isplitl [HO_dst]; · iexact HO_dst
  isplitl [HO HO_src]
  · isplitl [HO_src]; · iexists _; iexact HO_src
    iexact HO
  isplitl [H4]; · iexact H4
  isplitl [H5]; · iexact H5
  isplitl [H6]; · iexact H6
  isplitl [H7]; · iexact H7
  isplitl [G15]
  · iexists _
    isplitr
    rotate_left
    · iexact G15
    ipureintro
    exact hg15
  isplitl [G16]
  · iexists _
    isplitr
    rotate_left
    · iexact G16
    ipureintro
    exact hg16
  isplitl [G17]
  · iexists _
    isplitr
    rotate_left
    · iexact G17
    ipureintro
    exact hg17
  isplitl [G18]
  · iexists _
    isplitr
    rotate_left
    · iexact G18
    ipureintro
    exact hg18
  isplitl [G19]
  · iexists _
    isplitr
    rotate_left
    · iexact G19
    ipureintro
    exact hg19
  isplitl [SX]; · iexists _; iexact SX
  isplitl [SH]; · iexists _; iexact SH
  isplitl [S2]; · iexists _; iexact S2
  iexists _; iexact HW

end Trip
end Cert.Proof.Layer
-- ==== Proof.Inv2.lean ====
module

public import proofs.«01_k».proof.Proof.Inv1
public import proofs.«01_k».proof.Proof.Trip2
public import Idealize.ShloMosaic.Lib.Pointwise
public import Idealize.ShloMosaic.Lib.Pipeline.Value

@[expose] public section

set_option maxRecDepth 8192

noncomputable section

namespace Cert.Proof.Layer

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

/-! # The feed-forward loop's invariant -/
section
variable (c : Dev nD)
  (arg3 : Memref sig .tc .vmem S1x3x1024 .f32) (harg3 : arg3.IsWhole) (arg4 arg5 arg6 arg7 : Memref sig .tc .vmem S2x1024 .f32)
  (harg4 : arg4.IsWhole) (harg5 : arg5.IsWhole) (harg6 : arg6.IsWhole) (harg7 : arg7.IsWhole)
variable (B4 : BufOf F c arg4) (B5 : BufOf F c arg5) (B6 : BufOf F c arg6) (B7 : BufOf F c arg7) (XA : BufOf F c xM) (YA : BufOf F c yM) (PA : BufOf F c pM) (O0 OA : BufOf F c oM) (w : FfnW F)
   (hOA : oM.view.read (Elt F) OA = OS w (xM.view.read (Elt F) XA) (yM.view.read (Elt F) YA) (pL.view.read (Elt F) PA))
   (e4 : arg4.view.read (Elt F) B4 = w.G1) (e5 : arg5.view.read (Elt F) B5 = w.B1) (e6 : arg6.view.read (Elt F) B6 = w.G2) (e7 : arg7.view.read (Elt F) B7 = w.B2)

theorem xFree2_add (k : Nat) : (xFree2 (F := F) c (k + 2) : sProp 𝕄) = xFree2 c k := sl_free (fun s => iprop((∃ g : BufOf F c (xs2 s), ptM c (xs2 s) g) ∗ cellP c (xc2 s))) k
theorem yFree2_add (k : Nat) : (yFree2 (F := F) c (k + 2) : sProp 𝕄) = yFree2 c k := sl_free (fun s => iprop((∃ g : BufOf F c (ys2 s), ptM c (ys2 s) g) ∗ cellP c (yc2 s))) k
theorem pFree2_add (k : Nat) : (pFree2 (F := F) c (k + 2) : sProp 𝕄) = pFree2 c k := sl_free (fun s => iprop((∃ g : BufOf F c (ps2 s), ptM c (ps2 s) g) ∗ cellP c (pc2 s))) k
theorem oFree_add (k : Nat) : (oFree (F := F) c (k + 2) : sProp 𝕄) = oFree c k := sl_free (fun s => iprop((∃ g : BufOf F c (os2 s), ptM c (os2 s) g) ∗ cellP c (oc2 s))) k

/-- `x`'s side of the second pipeline before trip `k`. -/
abbrev XSide2 (k : Nat) : sProp 𝕄 := InSide (xHome c XA) (xFlight2 c XA) (xFree2 (F := F) c) k
/-- The mixed rows' side, read back. -/
abbrev YSide2 (k : Nat) : sProp 𝕄 := InSide (yHome c YA) (yFlight2 c YA) (yFree2 (F := F) c) k
/-- The gate's side. -/
abbrev PSide2 (k : Nat) : sProp 𝕄 := InSide (pHome c PA) (pFlight2 c PA) (pFree2 (F := F) c) k
/-- The result's side. -/
abbrev OSide (k : Nat) : sProp 𝕄 := OutSide (fun b => ptM c (oblk b) O0) (oHome c OA) (oFlight c OA) (oFree (F := F) c) k

/-- What holds before trip `k` with the carried words `acc`. -/
def inv2 (k : Nat) (acc : BitVec 32 × BitVec 32 × BitVec 32 × BitVec 32 × BitVec 32 × BitVec 32 × BitVec 32 × BitVec 32 × BitVec 32) : sProp 𝕄 :=
  iprop(⌜acc = (wF k, wN k, wF k, wN k, wF k, wN k, wN k, wP k, wI k)⌝ ∗ XSide2 c XA k ∗ YSide2 c YA k ∗ PSide2 c PA k ∗ OSide c O0 OA k ∗ Keep2 c arg4 arg5 arg6 arg7 B4 B5 B6 B7 w)

include hOA e4 e5 e6 e7 in
/-- One trip keeps it. -/
theorem inv2_step (k : Fin k0_t2_loop.trips) (acc) :
    inv2 c arg4 arg5 arg6 arg7 B4 B5 B6 B7 XA YA PA O0 OA w k.val acc
      ⊢ wp frame (wpE (defs₀ (F := F)) 𝒱₀ (c : Thread nD τ) none) Set.univ (trip2 (F := F) arg3 harg3 arg4 arg5 arg6 arg7 harg4 harg5 harg6 harg7 k acc) (inv2 c arg4 arg5 arg6 arg7 B4 B5 B6 B7 XA YA PA O0 OA w (k.val + 1)) := by
  have h16 : k.val < 16 := k.isLt
  unfold inv2
  iintro ⟨%ha, HX, HY, HP, HO, HK⟩
  subst ha
  by_cases h0 : k.val = 0
  · have h2 : k.val + 1 < 16 := by omega
    ihave HX' := (in_open (xHome c XA) (xFlight2 c XA) (xFree2 (F := F) c) (xFree2_add c) k.val h2) $$ HX
    icases HX' with ⟨X1, X2, X3, XW⟩
    ihave HY' := (in_open (yHome c YA) (yFlight2 c YA) (yFree2 (F := F) c) (yFree2_add c) k.val h2) $$ HY
    icases HY' with ⟨Y1, Y2, Y3, YW⟩
    ihave HP' := (in_open (pHome c PA) (pFlight2 c PA) (pFree2 (F := F) c) (pFree2_add c) k.val h2) $$ HP
    icases HP' with ⟨P1, P2, P3, PW⟩
    ihave HO' := (entails_of_eq (congrArg (OSide c O0 OA) h0)) $$ HO
    ihave HO'' := (out_first (fun b => ptM c (oblk b) O0) (oHome c OA) (oFlight c OA) (oFree (F := F) c)) $$ HO'
    icases HO'' with ⟨O1, O2, OW⟩
    iapply (tripFirst2 c arg3 harg3 arg4 arg5 arg6 arg7 harg4 harg5 harg6 harg7 B4 B5 B6 B7 XA YA PA O0 OA w hOA e4 e5 e6 e7 k h0 h2)
    isplitl [X1]; · iexact X1
    isplitl [Y1]; · iexact Y1
    isplitl [P1]; · iexact P1
    isplitl [X2]; · iexact X2
    isplitl [X3]; · iexact X3
    isplitl [Y2]; · iexact Y2
    isplitl [Y3]; · iexact Y3
    isplitl [P2]; · iexact P2
    isplitl [P3]; · iexact P3
    isplitl [O1]; · irw [h0]; iexact O1
    isplitl [O2]; · irw [h0]; iexact O2
    isplitl [HK]; · iexact HK
    iintro ⟨Xa, Ya, Pa, Xb, Xc, Yb, Yc, Pb, Pc, Oa, HK⟩
    isplitr; · ipureintro; rfl
    isplitl [XW Xa Xb Xc]
    · iapply XW
      isplitl [Xa]; · iexact Xa
      isplitl [Xb]; · iexact Xb
      iexact Xc
    isplitl [YW Ya Yb Yc]
    · iapply YW
      isplitl [Ya]; · iexact Ya
      isplitl [Yb]; · iexact Yb
      iexact Yc
    isplitl [PW Pa Pb Pc]
    · iapply PW
      isplitl [Pa]; · iexact Pa
      isplitl [Pb]; · iexact Pb
      iexact Pc
    isplitl [OW Oa]
    · ihave Oa' := (entails_of_eq (congrArg (oFlight c OA) h0)) $$ Oa
      ihave O' := OW $$ Oa'
      iapply (entails_of_eq (congrArg (OSide c O0 OA) (show (1 : Nat) = k.val + 1 by omega)))
      iexact O'
    iexact HK
  · have h1 : 1 ≤ k.val := by omega
    ihave HO' := (out_open (fun b => ptM c (oblk b) O0) (oHome c OA) (oFlight c OA) (oFree (F := F) c) (oFree_add c) k.val h1 h16) $$ HO
    icases HO' with ⟨O1, O2, O3, OW⟩
    by_cases h2 : k.val + 1 < 16
    · skip
      ihave HX' := (in_open (xHome c XA) (xFlight2 c XA) (xFree2 (F := F) c) (xFree2_add c) k.val h2) $$ HX
      icases HX' with ⟨X1, X2, X3, XW⟩
      ihave HY' := (in_open (yHome c YA) (yFlight2 c YA) (yFree2 (F := F) c) (yFree2_add c) k.val h2) $$ HY
      icases HY' with ⟨Y1, Y2, Y3, YW⟩
      ihave HP' := (in_open (pHome c PA) (pFlight2 c PA) (pFree2 (F := F) c) (pFree2_add c) k.val h2) $$ HP
      icases HP' with ⟨P1, P2, P3, PW⟩
      iapply (tripMid2 c arg3 harg3 arg4 arg5 arg6 arg7 harg4 harg5 harg6 harg7 B4 B5 B6 B7 XA YA PA O0 OA w hOA e4 e5 e6 e7 k h1 h2)
      isplitl [X1]; · iexact X1
      isplitl [Y1]; · iexact Y1
      isplitl [P1]; · iexact P1
      isplitl [X2]; · iexact X2
      isplitl [X3]; · iexact X3
      isplitl [Y2]; · iexact Y2
      isplitl [Y3]; · iexact Y3
      isplitl [P2]; · iexact P2
      isplitl [P3]; · iexact P3
      isplitl [O1]; · iexact O1
      isplitl [O2]; · iexact O2
      isplitl [O3]; · iexact O3
      isplitl [HK]; · iexact HK
      iintro ⟨Xa, Ya, Pa, Xb, Xc, Yb, Yc, Pb, Pc, Oa, Ob, Oc, HK⟩
      isplitr; · ipureintro; rfl
      isplitl [XW Xa Xb Xc]
      · iapply XW
        isplitl [Xa]; · iexact Xa
        isplitl [Xb]; · iexact Xb
        iexact Xc
      isplitl [YW Ya Yb Yc]
      · iapply YW
        isplitl [Ya]; · iexact Ya
        isplitl [Yb]; · iexact Yb
        iexact Yc
      isplitl [PW Pa Pb Pc]
      · iapply PW
        isplitl [Pa]; · iexact Pa
        isplitl [Pb]; · iexact Pb
        iexact Pc
      isplitl [OW Oa Ob Oc]
      · iapply OW
        isplitl [Oa]; · iexact Oa
        isplitl [Ob]; · iexact Ob
        iexact Oc
      iexact HK
    · have h15 : k.val = 15 := by omega
      ihave HX0 := (entails_of_eq (congrArg (XSide2 c XA) h15)) $$ HX
      ihave HX' := (in_last (xHome c XA) (xFlight2 c XA) (xFree2 (F := F) c) (xFree2_add c)) $$ HX0
      icases HX' with ⟨X1, XW⟩
      ihave HY0 := (entails_of_eq (congrArg (YSide2 c YA) h15)) $$ HY
      ihave HY' := (in_last (yHome c YA) (yFlight2 c YA) (yFree2 (F := F) c) (yFree2_add c)) $$ HY0
      icases HY' with ⟨Y1, YW⟩
      ihave HP0 := (entails_of_eq (congrArg (PSide2 c PA) h15)) $$ HP
      ihave HP' := (in_last (pHome c PA) (pFlight2 c PA) (pFree2 (F := F) c) (pFree2_add c)) $$ HP0
      icases HP' with ⟨P1, PW⟩
      iapply (tripLast2 c arg3 harg3 arg4 arg5 arg6 arg7 harg4 harg5 harg6 harg7 B4 B5 B6 B7 XA YA PA O0 OA w hOA e4 e5 e6 e7 k h1 h2)
      isplitl [X1]; · irw [h15]; iexact X1
      isplitl [Y1]; · irw [h15]; iexact Y1
      isplitl [P1]; · irw [h15]; iexact P1
      isplitl [O1]; · iexact O1
      isplitl [O2]; · iexact O2
      isplitl [O3]; · iexact O3
      isplitl [HK]; · iexact HK
      iintro ⟨Xb, Xc, Yb, Yc, Pb, Pc, Oa, Ob, Oc, HK⟩
      isplitr; · ipureintro; rfl
      isplitl [XW Xb Xc]
      · ihave Xb' := (entails_of_eq (congrArg (xFree2 (F := F) c) h15)) $$ Xb
        ihave Xc' := (entails_of_eq (congrArg (fun n => xHome c XA (Ring.bk 16 n)) h15)) $$ Xc
        iapply (entails_of_eq (congrArg (XSide2 c XA) (show (16 : Nat) = k.val + 1 by omega)))
        iapply XW
        isplitl [Xb']; · iexact Xb'
        iexact Xc'
      isplitl [YW Yb Yc]
      · ihave Yb' := (entails_of_eq (congrArg (yFree2 (F := F) c) h15)) $$ Yb
        ihave Yc' := (entails_of_eq (congrArg (fun n => yHome c YA (Ring.bk 16 n)) h15)) $$ Yc
        iapply (entails_of_eq (congrArg (YSide2 c YA) (show (16 : Nat) = k.val + 1 by omega)))
        iapply YW
        isplitl [Yb']; · iexact Yb'
        iexact Yc'
      isplitl [PW Pb Pc]
      · ihave Pb' := (entails_of_eq (congrArg (pFree2 (F := F) c) h15)) $$ Pb
        ihave Pc' := (entails_of_eq (congrArg (fun n => pHome c PA (Ring.bk 16 n)) h15)) $$ Pc
        iapply (entails_of_eq (congrArg (PSide2 c PA) (show (16 : Nat) = k.val + 1 by omega)))
        iapply PW
        isplitl [Pb']; · iexact Pb'
        iexact Pc'
      isplitl [OW Oa Ob Oc]
      · iapply OW
        isplitl [Oa]; · iexact Oa
        isplitl [Ob]; · iexact Ob
        iexact Oc
      iexact HK

set_option warn.classDefReducibility false in
/-- The feed-forward loop's invariant, as the loop's class has it. -/
def loopInv2 : LoopInvTy_k0_t2 (F := F) Unit ℕ (UU nD τ) ℕ 𝒱₀ c none Set.univ xM (Memref.isWhole_whole _) pM (Memref.isWhole_whole _) wiM (Memref.isWhole_whole _) arg3 harg3 arg4 harg4 arg5 harg5 arg6 harg6 arg7 harg7 woM (Memref.isWhole_whole _) w1M (Memref.isWhole_whole _) w2M (Memref.isWhole_whole _) wgM (Memref.isWhole_whole _) wpM (Memref.isWhole_whole _) oM (Memref.isWhole_whole _) yM (Memref.isWhole_whole _) woS (Memref.isWhole_whole _) w1S (Memref.isWhole_whole _) w2S (Memref.isWhole_whole _) wgS (Memref.isWhole_whole _) wpS (Memref.isWhole_whole _) cntM (Memref.isWhole_whole _) cc0_scoped1 sl0M (Memref.isWhole_whole _) sl1M (Memref.isWhole_whole _) sl2M (Memref.isWhole_whole _) sl3M (Memref.isWhole_whole _) sl4M (Memref.isWhole_whole _) wiS (Memref.isWhole_whole _) zM (Memref.isWhole_whole _) cc0_scoped9 xb1M (Memref.isWhole_whole _) cc0_scoped11 yb1M (Memref.isWhole_whole _) cc0_scoped13 xbM (Memref.isWhole_whole _) hidM (Memref.isWhole_whole _) x2bM (Memref.isWhole_whole _) xb2M (Memref.isWhole_whole _) cc0_scoped18 yb2M (Memref.isWhole_whole _) cc0_scoped20 pb2M (Memref.isWhole_whole _) cc0_scoped22 ob2M (Memref.isWhole_whole _) cc0_scoped24 (Scalar.addi 0#32 1#32) (Scalar.addi 0#32 1#32, 0#32, Scalar.addi 0#32 1#32, 0#32, Scalar.addi 0#32 1#32, 0#32, 0#32, 0#32, 0#32) where
  inv k acc := inv2 c arg4 arg5 arg6 arg7 B4 B5 B6 B7 XA YA PA O0 OA w k acc
  step k acc := inv2_step c arg3 harg3 arg4 arg5 arg6 arg7 harg4 harg5 harg6 harg7 B4 B5 B6 B7 XA YA PA O0 OA w hOA e4 e5 e6 e7 k acc

/-- At the loop's entry. -/
theorem inv2_start : iprop(XSide2 c XA 0 ∗ YSide2 c YA 0 ∗ PSide2 c PA 0 ∗ OSide c O0 OA 0 ∗ Keep2 c arg4 arg5 arg6 arg7 B4 B5 B6 B7 w)
    ⊢ (loopInv2 c arg3 harg3 arg4 arg5 arg6 arg7 harg4 harg5 harg6 harg7 B4 B5 B6 B7 XA YA PA O0 OA w hOA e4 e5 e6 e7).inv 0 (1#32, 0#32, 1#32, 0#32, 1#32, 0#32, 0#32, 0#32, 0#32) := by
  show _ ⊢ inv2 c arg4 arg5 arg6 arg7 B4 B5 B6 B7 XA YA PA O0 OA w 0 (1#32, 0#32, 1#32, 0#32, 1#32, 0#32, 0#32, 0#32, 0#32)
  unfold inv2
  iintro H
  isplitr; · ipureintro; rfl
  iexact H
/-- At its exit. -/
theorem inv2_end (acc) : (loopInv2 c arg3 harg3 arg4 arg5 arg6 arg7 harg4 harg5 harg6 harg7 B4 B5 B6 B7 XA YA PA O0 OA w hOA e4 e5 e6 e7).inv (Scf.trips k0_t2_loop.lb k0_t2_loop.ub k0_t2_loop.st) acc
    ⊢ iprop(⌜acc = (wF 16, wN 16, wF 16, wN 16, wF 16, wN 16, wN 16, wP 16, wI 16)⌝ ∗ XSide2 c XA 16 ∗ YSide2 c YA 16 ∗ PSide2 c PA 16 ∗ OSide c O0 OA 16 ∗ Keep2 c arg4 arg5 arg6 arg7 B4 B5 B6 B7 w) := by
  show inv2 c arg4 arg5 arg6 arg7 B4 B5 B6 B7 XA YA PA O0 OA w k0_t2_loop.trips acc ⊢ _
  rw [trips2]
  unfold inv2
  iintro H
  iexact H
end
end Cert.Proof.Layer
-- ==== Proof.Body.lean ====
module

public import proofs.«01_k».proof.Proof.Inv2
public import Idealize.ShloMosaic.Lib.Pointwise
public import Idealize.ShloMosaic.Lib.Pipeline.Value

@[expose] public section

set_option maxRecDepth 8192

noncomputable section

namespace Cert.Proof.Layer

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

/-! # The kernel's run -/
section
variable (c : Dev nD)
  (arg3 : Memref sig .tc .vmem S1x3x1024 .f32) (harg3 : arg3.IsWhole) (arg4 arg5 arg6 arg7 : Memref sig .tc .vmem S2x1024 .f32)
  (harg4 : arg4.IsWhole) (harg5 : arg5.IsWhole) (harg6 : arg6.IsWhole) (harg7 : arg7.IsWhole)
variable (CW : BufOf F c arg3) (B4 : BufOf F c arg4) (B5 : BufOf F c arg5) (B6 : BufOf F c arg6) (B7 : BufOf F c arg7)
   (XA : BufOf F c xM) (Y0 YA : BufOf F c yM) (PA : BufOf F c pM) (O0 OA : BufOf F c oM)
   (f8 : BufOf F c woM) (f9 : BufOf F c w1M) (f10 : BufOf F c w2M) (f11 : BufOf F c wgM) (f12 : BufOf F c wpM) (fwi : BufOf F c wiM)

/-- The feed-forward weights, as the kernel holds them: the channel weights of layer 1 in bf16 and the four rows' pairs. -/
def wOf : FfnW F where
  WO := plane8 (woM.view.read (Elt F) f8)
  W1 := plane9 (w1M.view.read (Elt F) f9)
  W2 := plane10 (w2M.view.read (Elt F) f10)
  WG := plane11 (wgM.view.read (Elt F) f11)
  WP := plane12 (wpM.view.read (Elt F) f12)
  G1 := arg4.view.read (Elt F) B4
  B1 := arg5.view.read (Elt F) B5
  G2 := arg6.view.read (Elt F) B6
  B2 := arg7.view.read (Elt F) B7

variable (hYA : yM.view.read (Elt F) YA = YS (xM.view.read (Elt F) XA) (wiM.view.read (Elt F) fwi) (cwOf c arg3 CW))
   (hOA : oM.view.read (Elt F) OA = OS (wOf c arg4 arg5 arg6 arg7 B4 B5 B6 B7 f8 f9 f10 f11 f12) (xM.view.read (Elt F) XA) (yM.view.read (Elt F) YA) (pL.view.read (Elt F) PA))

/-- The kernel's body on the launch's own buffers and given staging memrefs. -/
abbrev bodyG : Prog (TpuEff nD τ sig (Elt F) Λ₀ .tc) PUnit :=
  cc0_layer_1 (F := F) xM (Memref.isWhole_whole _) pM (Memref.isWhole_whole _) wiM (Memref.isWhole_whole _) arg3 harg3 arg4 harg4 arg5 harg5 arg6 harg6 arg7 harg7 woM (Memref.isWhole_whole _) w1M (Memref.isWhole_whole _) w2M (Memref.isWhole_whole _) wgM (Memref.isWhole_whole _) wpM (Memref.isWhole_whole _) oM (Memref.isWhole_whole _) yM (Memref.isWhole_whole _) woS (Memref.isWhole_whole _) w1S (Memref.isWhole_whole _) w2S (Memref.isWhole_whole _) wgS (Memref.isWhole_whole _) wpS (Memref.isWhole_whole _) cntM (Memref.isWhole_whole _) cc0_scoped1 sl0M (Memref.isWhole_whole _) sl1M (Memref.isWhole_whole _) sl2M (Memref.isWhole_whole _) sl3M (Memref.isWhole_whole _) sl4M (Memref.isWhole_whole _) wiS (Memref.isWhole_whole _) zM (Memref.isWhole_whole _) cc0_scoped9 xb1M (Memref.isWhole_whole _) cc0_scoped11 yb1M (Memref.isWhole_whole _) cc0_scoped13 xbM (Memref.isWhole_whole _) hidM (Memref.isWhole_whole _) x2bM (Memref.isWhole_whole _) xb2M (Memref.isWhole_whole _) cc0_scoped18 yb2M (Memref.isWhole_whole _) cc0_scoped20 pb2M (Memref.isWhole_whole _) cc0_scoped22 ob2M (Memref.isWhole_whole _) cc0_scoped24

/-- What the kernel leaves as it found it: the arguments. -/
abbrev Args : sProp 𝕄 := iprop(bigSep Finset.univ (xHome c XA) ∗ bigSep Finset.univ (pHome c PA) ∗ ptM c arg3 CW ∗ ptM c arg4 B4 ∗ ptM c arg5 B5 ∗ ptM c arg6 B6 ∗ ptM c arg7 B7
    ∗ ptM c woM f8 ∗ ptM c w1M f9 ∗ ptM c w2M f10 ∗ ptM c wgM f11 ∗ ptM c wpM f12 ∗ ptM c wiM fwi)
/-- The kernel's own buffers at anything. -/
abbrev Own : sProp 𝕄 := iprop((∃ g, ptM (F := F) c woS g) ∗ (∃ g, ptM (F := F) c w1S g) ∗ (∃ g, ptM (F := F) c w2S g) ∗ (∃ g, ptM (F := F) c wgS g) ∗ (∃ g, ptM (F := F) c wpS g)
    ∗ (∃ g, ptM (F := F) c sl0M g) ∗ (∃ g, ptM (F := F) c sl1M g) ∗ (∃ g, ptM (F := F) c sl2M g) ∗ (∃ g, ptM (F := F) c sl3M g) ∗ (∃ g, ptM (F := F) c sl4M g)
    ∗ (∃ g, ptM (F := F) c wiS g) ∗ (∃ g, ptM (F := F) c zM g) ∗ (∃ g, ptM (F := F) c xbM g) ∗ (∃ g, ptM (F := F) c hidM g) ∗ (∃ g, ptM (F := F) c x2bM g) ∗ (∃ g, ptM (F := F) c cntM g))
/-- The kernel's semaphores at rest, and its pipelines' slots. -/
abbrev Slots : sProp 𝕄 := iprop(xFree (F := F) c 0 ∗ xFree (F := F) c 1 ∗ yFree (F := F) c 0 ∗ yFree (F := F) c 1
    ∗ xFree2 (F := F) c 0 ∗ xFree2 (F := F) c 1 ∗ yFree2 (F := F) c 0 ∗ yFree2 (F := F) c 1 ∗ pFree2 (F := F) c 0 ∗ pFree2 (F := F) c 1 ∗ oFree (F := F) c 0 ∗ oFree (F := F) c 1)
abbrev Cells : sProp 𝕄 := iprop(cellP (F := F) c (wc 0) ∗ cellP (F := F) c (wc 1) ∗ cellP (F := F) c (wc 2) ∗ cellP (F := F) c (wc 3) ∗ cellP (F := F) c (wc 4) ∗ cellP (F := F) c cc0_scoped9)

/-- Before trip 0 block 0 is on its way. -/
theorem homes_zero (P : Fin 16 → sProp (MT nD τ sig Unit (Elt F) ℕ (UU nD τ) ℕ)) : bigSep Finset.univ P = iprop(P (Ring.bk 16 0) ∗ bigSep (Ring.homeSet (NB := 16) 1 0) P) := by
  conv_lhs => rw [homeSet_zero, bigSep_insert bk0_not_mem]
  rfl

/-- The counter's word after it is stored. -/
theorem cnt_put (cnt : BufOf F c cntM) (v : BitVec 32) :
    cntM.view.readAt (Elt F) (Rect.unit (s := S1) ![0] S1.size inb_S1_S1_0).toLoadRect (cntM.view.writes (Elt F) cnt [⟨Rect.unit (s := S1) ![0] S1.size inb_S1_S1_0, fun _ => v⟩])
      = fun _ => v := by
  funext j
  refine View.read_writes_apply_of_pieces cntM.view cnt (fun _ => v) _ ?_ _ ?_
  · intro p hp x
    rcases List.mem_cons.mp hp with rfl | hp
    · rfl
    · exact absurd hp List.not_mem_nil
  · refine ⟨_, List.mem_cons_self, (Rect.mem_set_unit (inb := inb_S1_S1_0)).mpr fun a => ?_⟩
    match a with
    | ⟨0, _⟩ => exact ⟨Nat.zero_le _, (Nat.zero_add _).symm ▸ (show 0 + 1 * (j 0).val < 0 + 1 by have := (j 0).isLt; change (j 0).val < 1 at this; omega)⟩

include hYA hOA in
/-- THE BODY. -/
theorem bodyRun (W) (Q : PUnit → sProp 𝕄) :
    iprop((Args c arg3 arg4 arg5 arg6 arg7 CW B4 B5 B6 B7 XA PA f8 f9 f10 f11 f12 fwi ∗ bigSep Finset.univ (yHome c Y0) ∗ bigSep Finset.univ (oHome c O0)
        ∗ Own (F := F) c ∗ Slots (F := F) c ∗ Cells (F := F) c ∗ owes (c : Thread nD τ) 0 W)
      ∗ ((Args c arg3 arg4 arg5 arg6 arg7 CW B4 B5 B6 B7 XA PA f8 f9 f10 f11 f12 fwi ∗ bigSep Finset.univ (yHome c YA) ∗ bigSep Finset.univ (oHome c OA)
        ∗ Own (F := F) c ∗ Slots (F := F) c ∗ Cells (F := F) c ∗ ∃ W, owes (c : Thread nD τ) 0 W) -∗ Q ⟨⟩))
      ⊢ wp frame (wpE (defs₀ (F := F)) 𝒱₀ (c : Thread nD τ) none) Set.univ (bodyG (F := F) arg3 harg3 arg4 arg5 arg6 arg7 harg4 harg5 harg6 harg7) Q := by
  have c5 := chk5
  have c6 := chk6
  have c12 := chk12
  have c13 := chk13
  iintro ⟨⟨⟨Hx, Hp, H3, H4, H5, H6, H7, H8, H9, H10, H11, H12, Hwi⟩, HY, HO, ⟨⟨%g0, G0⟩, ⟨%g1, G1⟩, ⟨%g2, G2⟩, ⟨%g3, G3⟩, ⟨%g4, G4⟩, S0, S1, S2, S3, S4, ⟨%wi, Gwi⟩, ⟨%z, Gz⟩, ⟨%xb, Gxb⟩, ⟨%hid, Ghid⟩, ⟨%x2b, Gx2b⟩, ⟨%cnt, Gcnt⟩⟩, ⟨⟨⟨%xf, Xs0⟩, Xc0⟩, X1, Y1s, Y2s, ⟨⟨%xf2, Xs2⟩, Xc2⟩, X21, ⟨⟨%yf2, Ys2⟩, Yc2⟩, Y21, ⟨⟨%pf2, Ps2⟩, Pc2⟩, P21, O20, O21⟩, ⟨C0, C1, C2, C3, C4, C9⟩, HW⟩, Hk⟩
  ihave Hx' := (entails_of_eq (homes_zero (xHome c XA))) $$ Hx
  icases Hx' with ⟨Hx0, Hxr⟩
  ihave Hp' := (entails_of_eq (homes_zero (pHome c PA))) $$ Hp
  icases Hp' with ⟨Hp0, Hpr⟩
  sl_exec
  iapply (exec_loop _ _ _ _ _ _ _ _ _ (loopInv1 c arg3 harg3 arg4 arg5 arg6 arg7 harg4 harg5 harg6 harg7 CW XA Y0 YA f8 f9 f10 f11 f12 fwi hYA)) $$ [H3 H8 H9 H10 H11 H12 G0 G1 G2 G3 G4 S0 S1 S2 S3 S4 C0 C1 C2 C3 C4 Gz Gcnt HW Hxr Xc0 X1 HY Y1s Y2s C9]
  · iapply (inv1_start c arg3 harg3 arg4 arg5 arg6 arg7 harg4 harg5 harg6 harg7 CW XA Y0 YA f8 f9 f10 f11 f12 fwi hYA)
    isplitl [Hxr Xc0 X1]
    · iapply (in_start (xHome c XA) (xFlight c XA) (xFree (F := F) c))
      isplitl [Hxr]; · iexact Hxr
      isplitl [Xc0]; · iexists xf; iexact Xc0
      iexact X1
    isplitl [HY Y1s Y2s]
    · iapply (out_start (yHome c Y0) (yHome c YA) (yFlight c YA) (yFree (F := F) c))
      isplitl [HY]; · iexact HY
      isplitl [Y1s]; · iexact Y1s
      iexact Y2s
    isplitl [C9]
    · iapply (entails_of_eq (show wiPend c fwi = WiSide c fwi 0 from (if_pos rfl).symm))
      iexists wi; iexact C9
    isplitl [H3]; · iexact H3
    isplitl [H8]; · iexact H8
    isplitl [H9]; · iexact H9
    isplitl [H10]; · iexact H10
    isplitl [H11]; · iexact H11
    isplitl [H12]; · iexact H12
    isplitl [G0]
    · iexists g0
      isplitr; · ipureintro; exact fun i h => absurd h (Nat.not_lt_zero _)
      iexact G0
    isplitl [G1]
    · iexists g1
      isplitr; · ipureintro; exact fun i h => absurd h (Nat.not_lt_zero _)
      iexact G1
    isplitl [G2]
    · iexists g2
      isplitr; · ipureintro; exact fun i h => absurd h (Nat.not_lt_zero _)
      iexact G2
    isplitl [G3]
    · iexists g3
      isplitr; · ipureintro; exact fun i h => absurd h (Nat.not_lt_zero _)
      iexact G3
    isplitl [G4]
    · iexists g4
      isplitr; · ipureintro; exact fun i h => absurd h (Nat.not_lt_zero _)
      iexact G4
    isplitl [S0]; · iexact S0
    isplitl [S1]; · iexact S1
    isplitl [S2]; · iexact S2
    isplitl [S3]; · iexact S3
    isplitl [S4]; · iexact S4
    isplitl [C0]; · iexact C0
    isplitl [C1]; · iexact C1
    isplitl [C2]; · iexact C2
    isplitl [C3]; · iexact C3
    isplitl [C4]; · iexact C4
    isplitl [Gz]
    · iexists z
      isplitr; · ipureintro; exact fun h => absurd h (by decide)
      iexact Gz
    isplitl [Gcnt]
    · iexists _
      isplitr; rotate_left
      · iexact Gcnt
      ipureintro
      exact cnt_put c _ _
    iexists W; iexact HW
  iintro %acc HL
  ihave HL' := (inv1_end c arg3 harg3 arg4 arg5 arg6 arg7 harg4 harg5 harg6 harg7 CW XA Y0 YA f8 f9 f10 f11 f12 fwi hYA acc) $$ HL
  icases HL' with ⟨%ha, HX, HY, HW9, ⟨H3, H8, H9, H10, H11, H12, ⟨%g0', %k0, G0⟩, ⟨%g1', %k1, G1⟩, ⟨%g2', %k2, G2⟩, ⟨%g3', %k3, G3⟩, ⟨%g4', %k4, G4⟩, S0, S1, S2, S3, S4, C0, C1, C2, C3, C4, ⟨%z', -, Gz⟩, ⟨%cnt', -, Gcnt⟩, ⟨%W', HW⟩⟩⟩
  subst ha
  ihave HX' := (in_end (xHome c XA) (xFlight c XA) (xFree (F := F) c)) $$ HX
  icases HX' with ⟨Hx, X0, X1⟩
  ihave Hx' := (entails_of_eq (homes_zero (xHome c XA))) $$ Hx
  icases Hx' with ⟨Hx0, Hxr⟩
  ihave HY' := (out_end_apart (yHome c Y0) (yHome c YA) (yFlight c YA) (yFree (F := F) c) (yFree_add c)) $$ HY
  icases HY' with ⟨Y1s, ⟨%yf, HYf⟩, HY0, HYW⟩
  ihave HW9' := (entails_of_eq (show WiSide c fwi 16 = iprop(wiHeld c fwi ∗ ptM c wiM fwi ∗ cellP c cc0_scoped9) from if_neg (by decide))) $$ HW9
  icases HW9' with ⟨⟨%wi', -, Gwi⟩, Hwi, C9⟩
  sl_exec
  iapply (exec_loop _ _ _ _ _ _ _ _ _ (loopInv2 c arg3 harg3 arg4 arg5 arg6 arg7 harg4 harg5 harg6 harg7 B4 B5 B6 B7 XA YA PA O0 OA (wOf c arg4 arg5 arg6 arg7 B4 B5 B6 B7 f8 f9 f10 f11 f12) hOA rfl rfl rfl rfl)) $$ [H4 H5 H6 H7 G0 G1 G2 G3 G4 Gxb Ghid Gx2b HW Hxr Xc2 X21 HYW HYf_dst Yc2 Y21 Hpr Pc2 P21 HO O20 O21]
  · iapply (inv2_start c arg3 harg3 arg4 arg5 arg6 arg7 harg4 harg5 harg6 harg7 B4 B5 B6 B7 XA YA PA O0 OA (wOf c arg4 arg5 arg6 arg7 B4 B5 B6 B7 f8 f9 f10 f11 f12) hOA rfl rfl rfl rfl)
    isplitl [Hxr Xc2 X21]
    · iapply (in_start (xHome c XA) (xFlight2 c XA) (xFree2 (F := F) c))
      isplitl [Hxr]; · iexact Hxr
      isplitl [Xc2]; · iexists xf2; iexact Xc2
      iexact X21
    isplitl [HYW HYf_dst Yc2 Y21]
    · iapply (in_start (yHome c YA) (yFlight2 c YA) (yFree2 (F := F) c))
      isplitl [HYW HYf_dst]; · iapply HYW; iexact HYf_dst
      isplitl [Yc2]; · iexists yf2; iexact Yc2
      iexact Y21
    isplitl [Hpr Pc2 P21]
    · iapply (in_start (pHome c PA) (pFlight2 c PA) (pFree2 (F := F) c))
      isplitl [Hpr]; · iexact Hpr
      isplitl [Pc2]; · iexists pf2; iexact Pc2
      iexact P21
    isplitl [HO O20 O21]
    · iapply (out_start (oHome c O0) (oHome c OA) (oFlight c OA) (oFree (F := F) c))
      isplitl [HO]; · iexact HO
      isplitl [O20]; · iexact O20
      iexact O21
    isplitl [H4]; · iexact H4
    isplitl [H5]; · iexact H5
    isplitl [H6]; · iexact H6
    isplitl [H7]; · iexact H7
    isplitl [G0]
    · iexists g0'
      isplitr; · ipureintro; exact rows8_all c _ g0' k0
      iexact G0
    isplitl [G1]
    · iexists g1'
      isplitr; · ipureintro; exact rows9_all c _ g1' k1
      iexact G1
    isplitl [G2]
    · iexists g2'
      isplitr; · ipureintro; exact rows10_all c _ g2' k2
      iexact G2
    isplitl [G3]
    · iexists g3'
      isplitr; · ipureintro; exact rows11_all c _ g3' k3
      iexact G3
    isplitl [G4]
    · iexists g4'
      isplitr; · ipureintro; exact rows12_all c _ g4' k4
      iexact G4
    isplitl [Gxb]; · iexists xb; iexact Gxb
    isplitl [Ghid]; · iexists hid; iexact Ghid
    isplitl [Gx2b]; · iexists x2b; iexact Gx2b
    iexists _; iexact HW
  iintro %acc HL
  ihave HL' := (inv2_end c arg3 harg3 arg4 arg5 arg6 arg7 harg4 harg5 harg6 harg7 B4 B5 B6 B7 XA YA PA O0 OA (wOf c arg4 arg5 arg6 arg7 B4 B5 B6 B7 f8 f9 f10 f11 f12) hOA rfl rfl rfl rfl acc) $$ HL
  icases HL' with ⟨%ha, HX, HY, HP, HO, ⟨H4, H5, H6, H7, ⟨%g0'', -, G0⟩, ⟨%g1'', -, G1⟩, ⟨%g2'', -, G2⟩, ⟨%g3'', -, G3⟩, ⟨%g4'', -, G4⟩, Gxb, Ghid, Gx2b, ⟨%W'', HW⟩⟩⟩
  subst ha
  ihave HX' := (in_end (xHome c XA) (xFlight2 c XA) (xFree2 (F := F) c)) $$ HX
  icases HX' with ⟨Hx, X20, X21⟩
  ihave HY' := (in_end (yHome c YA) (yFlight2 c YA) (yFree2 (F := F) c)) $$ HY
  icases HY' with ⟨Hy, Y20, Y21⟩
  ihave HP' := (in_end (pHome c PA) (pFlight2 c PA) (pFree2 (F := F) c)) $$ HP
  icases HP' with ⟨Hp, P20, P21⟩
  ihave HO' := (out_end (oHome c O0) (oHome c OA) (oFlight c OA) (oFree (F := F) c) (oFree_add c)) $$ HO
  icases HO' with ⟨O20, ⟨%of, HOf⟩, HOW⟩
  sl_exec
  sl_step
  iapply Hk
  isplitl [Hx Hp H3 H4 H5 H6 H7 H8 H9 H10 H11 H12 Hwi]
  · isplitl [Hx]; · iexact Hx
    isplitl [Hp]; · iexact Hp
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact Hwi
  isplitl [Hy]; · iexact Hy
  isplitl [HOW HOf_dst]; · iapply HOW; iexact HOf_dst
  isplitl [G0 G1 G2 G3 G4 S0 S1 S2 S3 S4 Gwi Gz Gxb Ghid Gx2b Gcnt]
  · isplitl [G0]; · iexists _; iexact G0
    isplitl [G1]; · iexists _; iexact G1
    isplitl [G2]; · iexists _; iexact G2
    isplitl [G3]; · iexists _; iexact G3
    isplitl [G4]; · iexists _; iexact G4
    isplitl [S0]; · iexact S0
    isplitl [S1]; · iexact S1
    isplitl [S2]; · iexact S2
    isplitl [S3]; · iexact S3
    isplitl [S4]; · iexact S4
    isplitl [Gwi]; · iexists _; iexact Gwi
    isplitl [Gz]; · iexists _; iexact Gz
    isplitl [Gxb]; · iexact Gxb
    isplitl [Ghid]; · iexact Ghid
    isplitl [Gx2b]; · iexact Gx2b
    iexists _; iexact Gcnt
  isplitl [X0 X1 Y1s HYf HYf_src X20 X21 Y20 Y21 P20 P21 O20 HOf HOf_src]
  · isplitl [X0]; · iexact X0
    isplitl [X1]; · iexact X1
    isplitl [Y1s]; · iexact Y1s
    isplitl [HYf HYf_src]
    · iapply (entails_of_eq (show yFree (F := F) c 15 = yFree c 1 from by rw [yFree_add c 13, yFree_add c 11, yFree_add c 9, yFree_add c 7, yFree_add c 5, yFree_add c 3, yFree_add c 1]))
      isplitl [HYf_src]; · iexists _; iexact HYf_src
      iexact HYf
    isplitl [X20]; · iexact X20
    isplitl [X21]; · iexact X21
    isplitl [Y20]; · iexact Y20
    isplitl [Y21]; · iexact Y21
    isplitl [P20]; · iexact P20
    isplitl [P21]; · iexact P21
    isplitl [O20]; · iexact O20
    iapply (entails_of_eq (show oFree (F := F) c 15 = oFree c 1 from by rw [oFree_add c 13, oFree_add c 11, oFree_add c 9, oFree_add c 7, oFree_add c 5, oFree_add c 3, oFree_add c 1]))
    isplitl [HOf_src]; · iexists _; iexact HOf_src
    iexact HOf
  isplitl [C0 C1 C2 C3 C4 C9]
  · isplitl [C0]; · iexact C0
    isplitl [C1]; · iexact C1
    isplitl [C2]; · iexact C2
    isplitl [C3]; · iexact C3
    isplitl [C4]; · iexact C4
    iexact C9
  iexists _; iexact HW
end
end Cert.Proof.Layer
-- ==== Proof.Blocks.lean ====
module

public import proofs.«01_k».proof.Proof.Body
public import proofs.«01_k».proof.Proof.Gen.KernelIdeal.Launch
public import Idealize.ShloMosaic.Lib.Pointwise
public import Idealize.ShloMosaic.Lib.Pipeline.Value

@[expose] public section

set_option maxRecDepth 8192

noncomputable section

namespace Cert.Proof.Layer

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

/-! # Arrays as their blocks, buffers as their slots -/

/-- The elements of block `b` of a sequence array: 512 rows of both batches. -/
abbrev B16 (b : Fin 16) : Finset S2x8192x1024.Idx := (Rect.unit (s := S2x8192x1024) (blkOff b) S2x512x1024.size (blkOff_inb b)).set
/-- Likewise in a plane of `p`. -/
abbrev PB16 (b : Fin 16) : Finset S2x8192x256.Idx := (Rect.unit (s := S2x8192x256) (blkOff b) S2x512x256.size (pblkOff_inb b)).set
/-- The elements of slot `s` of a two-slot buffer. -/
abbrev SL2 (s : Fin 2) : Finset S2x2x512x1024.Idx := (Rect.unit (s := S2x2x512x1024) (slotOff s) S1x2x512x1024.size (slotOff_inb s)).set
/-- Likewise for `p`'s buffer. -/
abbrev PSL2 (s : Fin 2) : Finset S2x2x512x256.Idx := (Rect.unit (s := S2x2x512x256) (slotOff s) S1x2x512x256.size (pslotOff_inb s)).set

theorem mem_B16 (b : Fin 16) (y : S2x8192x1024.Idx) : y ∈ B16 b ↔ 512 * b.val ≤ (y 1).val ∧ (y 1).val < 512 * b.val + 512 := by
  rw [Rect.mem_set_unit (inb := blkOff_inb b)]
  have h0 : (y 0).val < 2 := (y 0).isLt
  have h2 : (y 2).val < 1024 := (y 2).isLt
  constructor
  · intro H; exact H 1
  · intro H i; fin_cases i
    · show 0 ≤ (y 0).val ∧ (y 0).val < 0 + 2; omega
    · exact H
    · show 0 ≤ (y 2).val ∧ (y 2).val < 0 + 1024; omega
theorem B16_disjoint : ∀ b b' : Fin 16, b ≠ b' → Disjoint (B16 b) (B16 b') := by
  intro b b' hne; rw [Finset.disjoint_left]; intro y hy hy'; rw [mem_B16] at hy hy'; exact hne (Fin.ext (by omega))
theorem B16_cover : (Finset.univ : Finset (Fin 16)).biUnion B16 = Finset.univ := by
  ext y; simp only [Finset.mem_biUnion, Finset.mem_univ, true_and, iff_true]
  have h1 : (y 1).val < 8192 := (y 1).isLt
  refine ⟨⟨(y 1).val / 512, by omega⟩, ?_⟩
  rw [mem_B16]
  show 512 * ((y 1).val / 512) ≤ (y 1).val ∧ (y 1).val < 512 * ((y 1).val / 512) + 512
  omega

theorem mem_PB16 (b : Fin 16) (y : S2x8192x256.Idx) : y ∈ PB16 b ↔ 512 * b.val ≤ (y 1).val ∧ (y 1).val < 512 * b.val + 512 := by
  rw [Rect.mem_set_unit (inb := pblkOff_inb b)]
  have h0 : (y 0).val < 2 := (y 0).isLt
  have h2 : (y 2).val < 256 := (y 2).isLt
  constructor
  · intro H; exact H 1
  · intro H i; fin_cases i
    · show 0 ≤ (y 0).val ∧ (y 0).val < 0 + 2; omega
    · exact H
    · show 0 ≤ (y 2).val ∧ (y 2).val < 0 + 256; omega
theorem PB16_disjoint : ∀ b b' : Fin 16, b ≠ b' → Disjoint (PB16 b) (PB16 b') := by
  intro b b' hne; rw [Finset.disjoint_left]; intro y hy hy'; rw [mem_PB16] at hy hy'; exact hne (Fin.ext (by omega))
theorem PB16_cover : (Finset.univ : Finset (Fin 16)).biUnion PB16 = Finset.univ := by
  ext y; simp only [Finset.mem_biUnion, Finset.mem_univ, true_and, iff_true]
  have h1 : (y 1).val < 8192 := (y 1).isLt
  refine ⟨⟨(y 1).val / 512, by omega⟩, ?_⟩
  rw [mem_PB16]
  show 512 * ((y 1).val / 512) ≤ (y 1).val ∧ (y 1).val < 512 * ((y 1).val / 512) + 512
  omega

theorem mem_SL2 (s : Fin 2) (y : S2x2x512x1024.Idx) : y ∈ SL2 s ↔ (y 0).val = s.val := by
  rw [Rect.mem_set_unit (inb := slotOff_inb s)]
  have h1 : (y 1).val < 2 := (y 1).isLt
  have h2 : (y 2).val < 512 := (y 2).isLt
  have h3 : (y 3).val < 1024 := (y 3).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 2; omega
    · show 0 ≤ (y 2).val ∧ (y 2).val < 0 + 512; omega
    · show 0 ≤ (y 3).val ∧ (y 3).val < 0 + 1024; omega
theorem SL2_disjoint : ∀ s s' : Fin 2, s ≠ s' → Disjoint (SL2 s) (SL2 s') := by
  intro s s' hne; rw [Finset.disjoint_left]; intro y hy hy'; rw [mem_SL2] at hy hy'; exact hne (Fin.ext (hy.symm.trans hy'))
theorem SL2_cover : (Finset.univ : Finset (Fin 2)).biUnion SL2 = Finset.univ := by
  ext y; simp only [Finset.mem_biUnion, Finset.mem_univ, true_and, iff_true]; exact ⟨⟨(y 0).val, (y 0).isLt⟩, by rw [mem_SL2]⟩

theorem mem_PSL2 (s : Fin 2) (y : S2x2x512x256.Idx) : y ∈ PSL2 s ↔ (y 0).val = s.val := by
  rw [Rect.mem_set_unit (inb := pslotOff_inb s)]
  have h1 : (y 1).val < 2 := (y 1).isLt
  have h2 : (y 2).val < 512 := (y 2).isLt
  have h3 : (y 3).val < 256 := (y 3).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 2; omega
    · show 0 ≤ (y 2).val ∧ (y 2).val < 0 + 512; omega
    · show 0 ≤ (y 3).val ∧ (y 3).val < 0 + 256; omega
theorem PSL2_disjoint : ∀ s s' : Fin 2, s ≠ s' → Disjoint (PSL2 s) (PSL2 s') := by
  intro s s' hne; rw [Finset.disjoint_left]; intro y hy hy'; rw [mem_PSL2] at hy hy'; exact hne (Fin.ext (hy.symm.trans hy'))
theorem PSL2_cover : (Finset.univ : Finset (Fin 2)).biUnion PSL2 = Finset.univ := by
  ext y; simp only [Finset.mem_biUnion, Finset.mem_univ, true_and, iff_true]; exact ⟨⟨(y 0).val, (y 0).isLt⟩, by rw [mem_PSL2]⟩

/-! ## Element sets of the blocks and slots -/
theorem xblk_set (b : Fin 16) : (xblk b).view.set = B16 b := by unfold xblk; exact View.set_slice_whole _ _
theorem yblk_set (b : Fin 16) : (yblk b).view.set = B16 b := by unfold yblk; exact View.set_slice_whole _ _
theorem oblk_set (b : Fin 16) : (oblk b).view.set = B16 b := by unfold oblk; exact View.set_slice_whole _ _
theorem xs1_set (s : Fin 2) : (xs1 s).view.set = SL2 s := by unfold xs1; exact (View.set_reshape _ _).trans (View.set_slice_whole _ _)
theorem ys1_set (s : Fin 2) : (ys1 s).view.set = SL2 s := by unfold ys1; exact (View.set_reshape _ _).trans (View.set_slice_whole _ _)
theorem xs2_set (s : Fin 2) : (xs2 s).view.set = SL2 s := by unfold xs2; exact (View.set_reshape _ _).trans (View.set_slice_whole _ _)
theorem ys2_set (s : Fin 2) : (ys2 s).view.set = SL2 s := by unfold ys2; exact (View.set_reshape _ _).trans (View.set_slice_whole _ _)
theorem ps2_set (s : Fin 2) : (ps2 s).view.set = PSL2 s := by unfold ps2; exact (View.set_reshape _ _).trans (View.set_slice_whole _ _)
theorem os2_set (s : Fin 2) : (os2 s).view.set = SL2 s := by unfold os2; exact (View.set_reshape _ _).trans (View.set_slice_whole _ _)

/-- The elements of block `b` of the layer's plane of `p`. -/
def PK (b : Fin 16) : Finset S2x2x8192x256.Idx := (PB16 b).map pL.view.emb
theorem pblk_set (b : Fin 16) : (pblk b).view.set = PK b := by unfold pblk; exact View.set_slice _ _
theorem PK_disjoint : ∀ b b' : Fin 16, b ≠ b' → Disjoint (PK b) (PK b') := fun b b' hne =>
  (Finset.disjoint_map pL.view.emb).mpr (PB16_disjoint b b' hne)
/-- The elements of `p` in the layer's plane, block by block. -/
def pSet : Finset S2x2x8192x256.Idx := Finset.univ.biUnion PK

section
variable (c : Dev nD)

/-- A whole buffer's points-to, as the kernel's memref on it holds it. -/
theorem whole_eq (b : Ref sig .tc) (f : Buf (Elt F) ((c : Thread nD τ).loc b)) :
    (((c : Thread nD τ).loc b) ↦{fullShare} f : sProp 𝕄) = ptM c (Memref.whole b) f :=
  congrArg (fun S => ((((c : Thread nD τ).loc b) ↦[S]{fullShare} f : sProp 𝕄))) (View.set_whole b).symm
theorem own_eq (b : Ref sig .tc) :
    (iprop(∃ f : Buf (Elt F) ((c : Thread nD τ).loc b), ((c : Thread nD τ).loc b) ↦{fullShare} f) : sProp 𝕄) = iprop(∃ g, ptM (F := F) c (Memref.whole b) g) := by
  exact congrArg (fun P : Buf (Elt F) ((c : Thread nD τ).loc b) → sProp 𝕄 => iprop(∃ f, P f)) (funext (whole_eq c b))

/-- `x` whole is its sixteen blocks home. -/
theorem x_eq (f : Buf (Elt F) ((c : Thread nD τ).loc main_arg0)) :
    (((c : Thread nD τ).loc main_arg0) ↦{fullShare} f : sProp 𝕄) = bigSep Finset.univ (xHome c f) := by
  rw [Ring.pointsTo_blocks (ℓ := (c : Thread nD τ).loc main_arg0) B16 B16_disjoint B16_cover]
  exact bigSep_congr fun b _ => by rw [← xblk_set]; rfl
/-- The mixed rows whole is its sixteen blocks home. -/
theorem y_eq (f : Buf (Elt F) ((c : Thread nD τ).loc main_v2_1)) :
    (((c : Thread nD τ).loc main_v2_1) ↦{fullShare} f : sProp 𝕄) = bigSep Finset.univ (yHome c f) := by
  rw [Ring.pointsTo_blocks (ℓ := (c : Thread nD τ).loc main_v2_1) B16 B16_disjoint B16_cover]
  exact bigSep_congr fun b _ => by rw [← yblk_set]; rfl
/-- The result whole is its sixteen blocks home. -/
theorem o_eq (f : Buf (Elt F) ((c : Thread nD τ).loc main_v2_0)) :
    (((c : Thread nD τ).loc main_v2_0) ↦{fullShare} f : sProp 𝕄) = bigSep Finset.univ (oHome c f) := by
  rw [Ring.pointsTo_blocks (ℓ := (c : Thread nD τ).loc main_v2_0) B16 B16_disjoint B16_cover]
  exact bigSep_congr fun b _ => by rw [← oblk_set]; rfl
/-- The part of `p` the layer does not read. -/
abbrev pRest (f : Buf (Elt F) ((c : Thread nD τ).loc main_arg1)) : sProp 𝕄 := ((c : Thread nD τ).loc main_arg1) ↦[Finset.univ \ pSet]{fullShare} f
/-- `p` whole is the sixteen blocks of the layer's plane home, and the rest. -/
theorem p_eq (f : Buf (Elt F) ((c : Thread nD τ).loc main_arg1)) :
    (((c : Thread nD τ).loc main_arg1) ↦{fullShare} f : sProp 𝕄) = iprop(bigSep Finset.univ (pHome c f) ∗ pRest c f) := by
  have e : (((c : Thread nD τ).loc main_arg1) ↦{fullShare} f : sProp 𝕄) = (((c : Thread nD τ).loc main_arg1) ↦[pSet ∪ (Finset.univ \ pSet)]{fullShare} f) := by
    rw [Finset.union_sdiff_of_subset (Finset.subset_univ pSet)]
  have e2 : (((c : Thread nD τ).loc main_arg1) ↦[pSet]{fullShare} f : sProp 𝕄) = bigSep Finset.univ (pHome c f) :=
    (Ring.pointsTo_sub_blocks (ℓ := (c : Thread nD τ).loc main_arg1) PK PK_disjoint pSet rfl f).trans
      (bigSep_congr fun b _ => by rw [← pblk_set]; rfl)
  rw [e, ← e2]
  have hu : (((c : Thread nD τ).loc main_arg1) ↦[pSet ∪ (Finset.univ \ pSet)]{fullShare} f : sProp 𝕄) ⊣⊢ iprop((((c : Thread nD τ).loc main_arg1) ↦[pSet]{fullShare} f) ∗ pRest c f) :=
    pointsTo_union Finset.disjoint_sdiff
  exact BI.equiv_iff.mp ⟨hu.1, hu.2⟩

theorem bigSep_sl2 (Φ : Fin 2 → sProp (MT nD τ sig Unit (Elt F) ℕ (UU nD τ) ℕ)) : bigSep Finset.univ Φ = iprop(Φ (Ring.sl 2 0) ∗ Φ (Ring.sl 2 1)) :=
  bigSep_univ_eq_bigSepL [(Ring.sl 2 0 : Fin 2), (Ring.sl 2 1 : Fin 2)] (by decide) (by decide) Φ

theorem xs1_eq (s : Fin 2) (f) : ptM (F := F) c (xs1 s) f = (((c : Thread nD τ).loc cc0_scoped10) ↦[SL2 s]{fullShare} f : sProp 𝕄) :=
  congrArg (fun S => (_ ↦[S]{fullShare} f : sProp 𝕄)) (xs1_set s)
/-- The buffer whole is its two slots; -/
theorem xs1_split : iprop(∃ f : Buf (Elt F) ((c : Thread nD τ).loc cc0_scoped10), ((c : Thread nD τ).loc cc0_scoped10) ↦{fullShare} f)
      ⊢ (iprop((∃ g, ptM c (xs1 (Ring.sl 2 0)) g) ∗ ∃ g, ptM c (xs1 (Ring.sl 2 1)) g) : sProp 𝕄) := by
  iintro ⟨%f, H⟩
  ihave H2 := (entails_of_eq ((Ring.pointsTo_blocks (Ix := Unit) (Name := ℕ) (U := UU nD τ) (Lvl := ℕ) (q := fullShare) (ℓ := (c : Thread nD τ).loc cc0_scoped10) SL2 SL2_disjoint SL2_cover f).trans (bigSep_sl2 _))) $$ H
  icases H2 with ⟨H0, H1⟩
  isplitl [H0]
  · iexists f; iapply (entails_of_eq (xs1_eq c (Ring.sl 2 0) f).symm); iexact H0
  · iexists f; iapply (entails_of_eq (xs1_eq c (Ring.sl 2 1) f).symm); iexact H1
/-- and back. -/
theorem xs1_join : iprop((∃ g, ptM c (xs1 (Ring.sl 2 0)) g) ∗ ∃ g, ptM c (xs1 (Ring.sl 2 1)) g)
      ⊢ (iprop(∃ f : Buf (Elt F) ((c : Thread nD τ).loc cc0_scoped10), ((c : Thread nD τ).loc cc0_scoped10) ↦{fullShare} f) : sProp 𝕄) := by
  iintro ⟨⟨%f0, H0⟩, ⟨%f1, H1⟩⟩
  iapply (Ring.pointsTo_blocks_join_exists (ℓ := (c : Thread nD τ).loc cc0_scoped10) SL2 SL2_disjoint SL2_cover f0)
  irw [bigSep_sl2]
  isplitl [H0]
  · iexists f0; iapply (entails_of_eq (xs1_eq c (Ring.sl 2 0) f0)); iexact H0
  · iexists f1; iapply (entails_of_eq (xs1_eq c (Ring.sl 2 1) f1)); iexact H1
theorem ys1_eq (s : Fin 2) (f) : ptM (F := F) c (ys1 s) f = (((c : Thread nD τ).loc cc0_scoped12) ↦[SL2 s]{fullShare} f : sProp 𝕄) :=
  congrArg (fun S => (_ ↦[S]{fullShare} f : sProp 𝕄)) (ys1_set s)
/-- The buffer whole is its two slots; -/
theorem ys1_split : iprop(∃ f : Buf (Elt F) ((c : Thread nD τ).loc cc0_scoped12), ((c : Thread nD τ).loc cc0_scoped12) ↦{fullShare} f)
      ⊢ (iprop((∃ g, ptM c (ys1 (Ring.sl 2 0)) g) ∗ ∃ g, ptM c (ys1 (Ring.sl 2 1)) g) : sProp 𝕄) := by
  iintro ⟨%f, H⟩
  ihave H2 := (entails_of_eq ((Ring.pointsTo_blocks (Ix := Unit) (Name := ℕ) (U := UU nD τ) (Lvl := ℕ) (q := fullShare) (ℓ := (c : Thread nD τ).loc cc0_scoped12) SL2 SL2_disjoint SL2_cover f).trans (bigSep_sl2 _))) $$ H
  icases H2 with ⟨H0, H1⟩
  isplitl [H0]
  · iexists f; iapply (entails_of_eq (ys1_eq c (Ring.sl 2 0) f).symm); iexact H0
  · iexists f; iapply (entails_of_eq (ys1_eq c (Ring.sl 2 1) f).symm); iexact H1
/-- and back. -/
theorem ys1_join : iprop((∃ g, ptM c (ys1 (Ring.sl 2 0)) g) ∗ ∃ g, ptM c (ys1 (Ring.sl 2 1)) g)
      ⊢ (iprop(∃ f : Buf (Elt F) ((c : Thread nD τ).loc cc0_scoped12), ((c : Thread nD τ).loc cc0_scoped12) ↦{fullShare} f) : sProp 𝕄) := by
  iintro ⟨⟨%f0, H0⟩, ⟨%f1, H1⟩⟩
  iapply (Ring.pointsTo_blocks_join_exists (ℓ := (c : Thread nD τ).loc cc0_scoped12) SL2 SL2_disjoint SL2_cover f0)
  irw [bigSep_sl2]
  isplitl [H0]
  · iexists f0; iapply (entails_of_eq (ys1_eq c (Ring.sl 2 0) f0)); iexact H0
  · iexists f1; iapply (entails_of_eq (ys1_eq c (Ring.sl 2 1) f1)); iexact H1
theorem xs2_eq (s : Fin 2) (f) : ptM (F := F) c (xs2 s) f = (((c : Thread nD τ).loc cc0_scoped17) ↦[SL2 s]{fullShare} f : sProp 𝕄) :=
  congrArg (fun S => (_ ↦[S]{fullShare} f : sProp 𝕄)) (xs2_set s)
/-- The buffer whole is its two slots; -/
theorem xs2_split : iprop(∃ f : Buf (Elt F) ((c : Thread nD τ).loc cc0_scoped17), ((c : Thread nD τ).loc cc0_scoped17) ↦{fullShare} f)
      ⊢ (iprop((∃ g, ptM c (xs2 (Ring.sl 2 0)) g) ∗ ∃ g, ptM c (xs2 (Ring.sl 2 1)) g) : sProp 𝕄) := by
  iintro ⟨%f, H⟩
  ihave H2 := (entails_of_eq ((Ring.pointsTo_blocks (Ix := Unit) (Name := ℕ) (U := UU nD τ) (Lvl := ℕ) (q := fullShare) (ℓ := (c : Thread nD τ).loc cc0_scoped17) SL2 SL2_disjoint SL2_cover f).trans (bigSep_sl2 _))) $$ H
  icases H2 with ⟨H0, H1⟩
  isplitl [H0]
  · iexists f; iapply (entails_of_eq (xs2_eq c (Ring.sl 2 0) f).symm); iexact H0
  · iexists f; iapply (entails_of_eq (xs2_eq c (Ring.sl 2 1) f).symm); iexact H1
/-- and back. -/
theorem xs2_join : iprop((∃ g, ptM c (xs2 (Ring.sl 2 0)) g) ∗ ∃ g, ptM c (xs2 (Ring.sl 2 1)) g)
      ⊢ (iprop(∃ f : Buf (Elt F) ((c : Thread nD τ).loc cc0_scoped17), ((c : Thread nD τ).loc cc0_scoped17) ↦{fullShare} f) : sProp 𝕄) := by
  iintro ⟨⟨%f0, H0⟩, ⟨%f1, H1⟩⟩
  iapply (Ring.pointsTo_blocks_join_exists (ℓ := (c : Thread nD τ).loc cc0_scoped17) SL2 SL2_disjoint SL2_cover f0)
  irw [bigSep_sl2]
  isplitl [H0]
  · iexists f0; iapply (entails_of_eq (xs2_eq c (Ring.sl 2 0) f0)); iexact H0
  · iexists f1; iapply (entails_of_eq (xs2_eq c (Ring.sl 2 1) f1)); iexact H1
theorem ys2_eq (s : Fin 2) (f) : ptM (F := F) c (ys2 s) f = (((c : Thread nD τ).loc cc0_scoped19) ↦[SL2 s]{fullShare} f : sProp 𝕄) :=
  congrArg (fun S => (_ ↦[S]{fullShare} f : sProp 𝕄)) (ys2_set s)
/-- The buffer whole is its two slots; -/
theorem ys2_split : iprop(∃ f : Buf (Elt F) ((c : Thread nD τ).loc cc0_scoped19), ((c : Thread nD τ).loc cc0_scoped19) ↦{fullShare} f)
      ⊢ (iprop((∃ g, ptM c (ys2 (Ring.sl 2 0)) g) ∗ ∃ g, ptM c (ys2 (Ring.sl 2 1)) g) : sProp 𝕄) := by
  iintro ⟨%f, H⟩
  ihave H2 := (entails_of_eq ((Ring.pointsTo_blocks (Ix := Unit) (Name := ℕ) (U := UU nD τ) (Lvl := ℕ) (q := fullShare) (ℓ := (c : Thread nD τ).loc cc0_scoped19) SL2 SL2_disjoint SL2_cover f).trans (bigSep_sl2 _))) $$ H
  icases H2 with ⟨H0, H1⟩
  isplitl [H0]
  · iexists f; iapply (entails_of_eq (ys2_eq c (Ring.sl 2 0) f).symm); iexact H0
  · iexists f; iapply (entails_of_eq (ys2_eq c (Ring.sl 2 1) f).symm); iexact H1
/-- and back. -/
theorem ys2_join : iprop((∃ g, ptM c (ys2 (Ring.sl 2 0)) g) ∗ ∃ g, ptM c (ys2 (Ring.sl 2 1)) g)
      ⊢ (iprop(∃ f : Buf (Elt F) ((c : Thread nD τ).loc cc0_scoped19), ((c : Thread nD τ).loc cc0_scoped19) ↦{fullShare} f) : sProp 𝕄) := by
  iintro ⟨⟨%f0, H0⟩, ⟨%f1, H1⟩⟩
  iapply (Ring.pointsTo_blocks_join_exists (ℓ := (c : Thread nD τ).loc cc0_scoped19) SL2 SL2_disjoint SL2_cover f0)
  irw [bigSep_sl2]
  isplitl [H0]
  · iexists f0; iapply (entails_of_eq (ys2_eq c (Ring.sl 2 0) f0)); iexact H0
  · iexists f1; iapply (entails_of_eq (ys2_eq c (Ring.sl 2 1) f1)); iexact H1
theorem ps2_eq (s : Fin 2) (f) : ptM (F := F) c (ps2 s) f = (((c : Thread nD τ).loc cc0_scoped21) ↦[PSL2 s]{fullShare} f : sProp 𝕄) :=
  congrArg (fun S => (_ ↦[S]{fullShare} f : sProp 𝕄)) (ps2_set s)
/-- The buffer whole is its two slots; -/
theorem ps2_split : iprop(∃ f : Buf (Elt F) ((c : Thread nD τ).loc cc0_scoped21), ((c : Thread nD τ).loc cc0_scoped21) ↦{fullShare} f)
      ⊢ (iprop((∃ g, ptM c (ps2 (Ring.sl 2 0)) g) ∗ ∃ g, ptM c (ps2 (Ring.sl 2 1)) g) : sProp 𝕄) := by
  iintro ⟨%f, H⟩
  ihave H2 := (entails_of_eq ((Ring.pointsTo_blocks (Ix := Unit) (Name := ℕ) (U := UU nD τ) (Lvl := ℕ) (q := fullShare) (ℓ := (c : Thread nD τ).loc cc0_scoped21) PSL2 PSL2_disjoint PSL2_cover f).trans (bigSep_sl2 _))) $$ H
  icases H2 with ⟨H0, H1⟩
  isplitl [H0]
  · iexists f; iapply (entails_of_eq (ps2_eq c (Ring.sl 2 0) f).symm); iexact H0
  · iexists f; iapply (entails_of_eq (ps2_eq c (Ring.sl 2 1) f).symm); iexact H1
/-- and back. -/
theorem ps2_join : iprop((∃ g, ptM c (ps2 (Ring.sl 2 0)) g) ∗ ∃ g, ptM c (ps2 (Ring.sl 2 1)) g)
      ⊢ (iprop(∃ f : Buf (Elt F) ((c : Thread nD τ).loc cc0_scoped21), ((c : Thread nD τ).loc cc0_scoped21) ↦{fullShare} f) : sProp 𝕄) := by
  iintro ⟨⟨%f0, H0⟩, ⟨%f1, H1⟩⟩
  iapply (Ring.pointsTo_blocks_join_exists (ℓ := (c : Thread nD τ).loc cc0_scoped21) PSL2 PSL2_disjoint PSL2_cover f0)
  irw [bigSep_sl2]
  isplitl [H0]
  · iexists f0; iapply (entails_of_eq (ps2_eq c (Ring.sl 2 0) f0)); iexact H0
  · iexists f1; iapply (entails_of_eq (ps2_eq c (Ring.sl 2 1) f1)); iexact H1
theorem os2_eq (s : Fin 2) (f) : ptM (F := F) c (os2 s) f = (((c : Thread nD τ).loc cc0_scoped23) ↦[SL2 s]{fullShare} f : sProp 𝕄) :=
  congrArg (fun S => (_ ↦[S]{fullShare} f : sProp 𝕄)) (os2_set s)
/-- The buffer whole is its two slots; -/
theorem os2_split : iprop(∃ f : Buf (Elt F) ((c : Thread nD τ).loc cc0_scoped23), ((c : Thread nD τ).loc cc0_scoped23) ↦{fullShare} f)
      ⊢ (iprop((∃ g, ptM c (os2 (Ring.sl 2 0)) g) ∗ ∃ g, ptM c (os2 (Ring.sl 2 1)) g) : sProp 𝕄) := by
  iintro ⟨%f, H⟩
  ihave H2 := (entails_of_eq ((Ring.pointsTo_blocks (Ix := Unit) (Name := ℕ) (U := UU nD τ) (Lvl := ℕ) (q := fullShare) (ℓ := (c : Thread nD τ).loc cc0_scoped23) SL2 SL2_disjoint SL2_cover f).trans (bigSep_sl2 _))) $$ H
  icases H2 with ⟨H0, H1⟩
  isplitl [H0]
  · iexists f; iapply (entails_of_eq (os2_eq c (Ring.sl 2 0) f).symm); iexact H0
  · iexists f; iapply (entails_of_eq (os2_eq c (Ring.sl 2 1) f).symm); iexact H1
/-- and back. -/
theorem os2_join : iprop((∃ g, ptM c (os2 (Ring.sl 2 0)) g) ∗ ∃ g, ptM c (os2 (Ring.sl 2 1)) g)
      ⊢ (iprop(∃ f : Buf (Elt F) ((c : Thread nD τ).loc cc0_scoped23), ((c : Thread nD τ).loc cc0_scoped23) ↦{fullShare} f) : sProp 𝕄) := by
  iintro ⟨⟨%f0, H0⟩, ⟨%f1, H1⟩⟩
  iapply (Ring.pointsTo_blocks_join_exists (ℓ := (c : Thread nD τ).loc cc0_scoped23) SL2 SL2_disjoint SL2_cover f0)
  irw [bigSep_sl2]
  isplitl [H0]
  · iexists f0; iapply (entails_of_eq (os2_eq c (Ring.sl 2 0) f0)); iexact H0
  · iexists f1; iapply (entails_of_eq (os2_eq c (Ring.sl 2 1) f1)); iexact H1

/-! ## The kernel's own semaphores -/

/-- The slots' cells, the weights' five and the mixer weights' one. -/
abbrev ocell : Fin 18 → DmaSems sig S_ := ![xc1 (Ring.sl 2 0), xc1 (Ring.sl 2 1), yc1 (Ring.sl 2 0), yc1 (Ring.sl 2 1), xc2 (Ring.sl 2 0), xc2 (Ring.sl 2 1), yc2 (Ring.sl 2 0), yc2 (Ring.sl 2 1), pc2 (Ring.sl 2 0), pc2 (Ring.sl 2 1), oc2 (Ring.sl 2 0), oc2 (Ring.sl 2 1), wc 0, wc 1, wc 2, wc 3, wc 4, cc0_scoped9]
abbrev osem : Fin 18 → SemLoc sig := fun i => .dma (ocell i).sem
theorem ownSemFacts : Pipeline.OwnSemFacts spec0 osem := by decide +kernel
/-- The cells, each at zero. -/
abbrev CellsAll : sProp 𝕄 := iprop(cellP (F := F) c (xc1 (Ring.sl 2 0)) ∗ cellP (F := F) c (xc1 (Ring.sl 2 1)) ∗ cellP (F := F) c (yc1 (Ring.sl 2 0)) ∗ cellP (F := F) c (yc1 (Ring.sl 2 1)) ∗ cellP (F := F) c (xc2 (Ring.sl 2 0)) ∗ cellP (F := F) c (xc2 (Ring.sl 2 1)) ∗ cellP (F := F) c (yc2 (Ring.sl 2 0)) ∗ cellP (F := F) c (yc2 (Ring.sl 2 1)) ∗ cellP (F := F) c (pc2 (Ring.sl 2 0)) ∗ cellP (F := F) c (pc2 (Ring.sl 2 1)) ∗ cellP (F := F) c (oc2 (Ring.sl 2 0)) ∗ cellP (F := F) c (oc2 (Ring.sl 2 1)) ∗ cellP (F := F) c (wc 0) ∗ cellP (F := F) c (wc 1) ∗ cellP (F := F) c (wc 2) ∗ cellP (F := F) c (wc 3) ∗ cellP (F := F) c (wc 4) ∗ cellP (F := F) c cc0_scoped9)
theorem ownSems0_eq : (Pipeline.ownSems0 (Ix := Unit) (Name := ℕ) (U := UU nD τ) (Lvl := ℕ) (Val := Elt F) (τ := τ) osem c : sProp 𝕄) = CellsAll (F := F) c := by
  unfold Pipeline.ownSems0
  exact (bigSep_univ_eq_bigSepL [(0 : Fin 18), (1 : Fin 18), (2 : Fin 18), (3 : Fin 18), (4 : Fin 18), (5 : Fin 18), (6 : Fin 18), (7 : Fin 18), (8 : Fin 18), (9 : Fin 18), (10 : Fin 18), (11 : Fin 18), (12 : Fin 18), (13 : Fin 18), (14 : Fin 18), (15 : Fin 18), (16 : Fin 18), (17 : Fin 18)] (by decide) (by decide) _).trans rfl

end

end Cert.Proof.Layer

end
-- ==== Proof.Launch.lean ====
module

public import proofs.«01_k».proof.Proof.Blocks
public import proofs.«01_k».proof.Proof.Gen.KernelIdeal.Points
public import proofs.«01_k».proof.Proof.Gen.KernelIdeal.Frame
public import Idealize.ShloMosaic.Lib.Pointwise
public import Idealize.ShloMosaic.Lib.Pipeline.Value

@[expose] public section

set_option maxRecDepth 8192

noncomputable section

namespace Cert.Proof.Layer

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

/-! # The launch -/

section
variable (m : (ℓ : Loc nD τ sig) → Buf (Elt F) ℓ) (ρ : Dev nD → PrngReg)
section
variable (c : Dev nD)

/-- The one point of the grid. -/
abbrev tt : Fin cfg0.N := t0_0
/-! The staged operands, as the launch stages them. -/
abbrev CWb : BufOf F c (win0_0.stage (cfg0.slots tt 0)) := (st0_0 tt).view.rep (iblk m c 0 tt)
abbrev G1b : BufOf F c (win0_1.stage (cfg0.slots tt 1)) := (st0_1 tt).view.rep (iblk m c 1 tt)
abbrev B1b : BufOf F c (win0_2.stage (cfg0.slots tt 2)) := (st0_2 tt).view.rep (iblk m c 2 tt)
abbrev G2b : BufOf F c (win0_3.stage (cfg0.slots tt 3)) := (st0_3 tt).view.rep (iblk m c 3 tt)
abbrev B2b : BufOf F c (win0_4.stage (cfg0.slots tt 4)) := (st0_4 tt).view.rep (iblk m c 4 tt)

/-- The mixed rows the kernel leaves. -/
def YA : BufOf F c yM :=
  yM.view.rep (YS (xM.view.read (Elt F) (V m c main_arg0)) (wiM.view.read (Elt F) (V m c main_v1)) (cwOf c (win0_0.stage (cfg0.slots tt 0)) (CWb m c)))
/-- The feed-forward weights at launch. -/
def wL : FfnW F := wOf c (win0_1.stage (cfg0.slots tt 1)) (win0_2.stage (cfg0.slots tt 2)) (win0_3.stage (cfg0.slots tt 3)) (win0_4.stage (cfg0.slots tt 4))
  (G1b m c) (B1b m c) (G2b m c) (B2b m c) (V m c main_arg4) (V m c main_arg7) (V m c main_arg8) (V m c main_arg11) (V m c main_arg12)
/-- The result the kernel leaves. -/
def OA : BufOf F c oM :=
  oM.view.rep (OS (wL m c) (xM.view.read (Elt F) (V m c main_arg0)) (yM.view.read (Elt F) (YA m c)) (pL.view.read (Elt F) (V m c main_arg1)))

/-- The mixed rows' array before and after the point; -/
def yAt (n : ℕ) : BufOf F c yM := if n = 0 then V m c main_v2_1 else YA m c
/-- and the result's. -/
def oAt (n : ℕ) : BufOf F c oM := if n = 0 then V m c main_v2_0 else OA m c

/-- The operands the kernel reads in place. -/
abbrev Ins : sProp 𝕄 := iprop(bigSep Finset.univ (xHome c (V m c main_arg0)) ∗ bigSep Finset.univ (pHome c (V m c main_arg1))
    ∗ ptM c woM (V m c main_arg4) ∗ ptM c w1M (V m c main_arg7) ∗ ptM c w2M (V m c main_arg8) ∗ ptM c wgM (V m c main_arg11) ∗ ptM c wpM (V m c main_arg12) ∗ ptM c wiM (V m c main_v1))
/-- The results' arrays, block by block. -/
abbrev Outs (n : ℕ) : sProp 𝕄 := iprop(bigSep Finset.univ (yHome c (yAt m c n)) ∗ bigSep Finset.univ (oHome c (oAt m c n)))

/-- The region's invariant before (`n = 0`) and after the point. -/
def Φ (n : ℕ) : sProp 𝕄 := iprop(Ins m c ∗ Outs m c n ∗ Own (F := F) c ∗ Slots (F := F) c ∗ Cells (F := F) c)

/-- What the region's own buffers are: the kernel's buffers and its pipelines' slots. -/
abbrev SlotBufs : sProp 𝕄 := iprop((∃ g, ptM (F := F) c (xs1 (Ring.sl 2 0)) g) ∗ (∃ g, ptM (F := F) c (xs1 (Ring.sl 2 1)) g) ∗ (∃ g, ptM (F := F) c (ys1 (Ring.sl 2 0)) g) ∗ (∃ g, ptM (F := F) c (ys1 (Ring.sl 2 1)) g) ∗ (∃ g, ptM (F := F) c (xs2 (Ring.sl 2 0)) g) ∗ (∃ g, ptM (F := F) c (xs2 (Ring.sl 2 1)) g) ∗ (∃ g, ptM (F := F) c (ys2 (Ring.sl 2 0)) g) ∗ (∃ g, ptM (F := F) c (ys2 (Ring.sl 2 1)) g) ∗ (∃ g, ptM (F := F) c (ps2 (Ring.sl 2 0)) g) ∗ (∃ g, ptM (F := F) c (ps2 (Ring.sl 2 1)) g) ∗ (∃ g, ptM (F := F) c (os2 (Ring.sl 2 0)) g) ∗ (∃ g, ptM (F := F) c (os2 (Ring.sl 2 1)) g))
theorem bufs_in : Pipeline.scopedRest spec0 c ⊢ (iprop(Own (F := F) c ∗ SlotBufs (F := F) c) : sProp 𝕄) := by
  rw [scopedRest0_eq]
  iintro ⟨HT0, HT1, HT2, HT3, HT4, HS2, HS3, HS4, HS5, HS6, HS7, HS8, HS10, HS12, HS14, HS15, HS16, HS17, HS19, HS21, HS23, HS0⟩
  ihave HS10' := (xs1_split c) $$ HS10
  icases HS10' with ⟨Kxs10, Kxs11⟩
  ihave HS12' := (ys1_split c) $$ HS12
  icases HS12' with ⟨Kys10, Kys11⟩
  ihave HS17' := (xs2_split c) $$ HS17
  icases HS17' with ⟨Kxs20, Kxs21⟩
  ihave HS19' := (ys2_split c) $$ HS19
  icases HS19' with ⟨Kys20, Kys21⟩
  ihave HS21' := (ps2_split c) $$ HS21
  icases HS21' with ⟨Kps20, Kps21⟩
  ihave HS23' := (os2_split c) $$ HS23
  icases HS23' with ⟨Kos20, Kos21⟩
  isplitl [HT0 HT1 HT2 HT3 HT4 HS2 HS3 HS4 HS5 HS6 HS7 HS8 HS14 HS15 HS16 HS0]
  · isplitl [HT0]; · iapply (entails_of_eq (own_eq c cc0_scratch0)); iexact HT0
    isplitl [HT1]; · iapply (entails_of_eq (own_eq c cc0_scratch1)); iexact HT1
    isplitl [HT2]; · iapply (entails_of_eq (own_eq c cc0_scratch2)); iexact HT2
    isplitl [HT3]; · iapply (entails_of_eq (own_eq c cc0_scratch3)); iexact HT3
    isplitl [HT4]; · iapply (entails_of_eq (own_eq c cc0_scratch4)); iexact HT4
    isplitl [HS2]; · iapply (entails_of_eq (own_eq c cc0_scoped2)); iexact HS2
    isplitl [HS3]; · iapply (entails_of_eq (own_eq c cc0_scoped3)); iexact HS3
    isplitl [HS4]; · iapply (entails_of_eq (own_eq c cc0_scoped4)); iexact HS4
    isplitl [HS5]; · iapply (entails_of_eq (own_eq c cc0_scoped5)); iexact HS5
    isplitl [HS6]; · iapply (entails_of_eq (own_eq c cc0_scoped6)); iexact HS6
    isplitl [HS7]; · iapply (entails_of_eq (own_eq c cc0_scoped7)); iexact HS7
    isplitl [HS8]; · iapply (entails_of_eq (own_eq c cc0_scoped8)); iexact HS8
    isplitl [HS14]; · iapply (entails_of_eq (own_eq c cc0_scoped14)); iexact HS14
    isplitl [HS15]; · iapply (entails_of_eq (own_eq c cc0_scoped15)); iexact HS15
    isplitl [HS16]; · iapply (entails_of_eq (own_eq c cc0_scoped16)); iexact HS16
    iapply (entails_of_eq (own_eq c cc0_scoped0)); iexact HS0
  isplitl [Kxs10]; · iexact Kxs10
  isplitl [Kxs11]; · iexact Kxs11
  isplitl [Kys10]; · iexact Kys10
  isplitl [Kys11]; · iexact Kys11
  isplitl [Kxs20]; · iexact Kxs20
  isplitl [Kxs21]; · iexact Kxs21
  isplitl [Kys20]; · iexact Kys20
  isplitl [Kys21]; · iexact Kys21
  isplitl [Kps20]; · iexact Kps20
  isplitl [Kps21]; · iexact Kps21
  isplitl [Kos20]; · iexact Kos20
  iexact Kos21
theorem bufs_out : (iprop(Own (F := F) c ∗ SlotBufs (F := F) c) : sProp 𝕄) ⊢ Pipeline.scopedRest spec0 c := by
  rw [scopedRest0_eq]
  iintro ⟨⟨HT0, HT1, HT2, HT3, HT4, HS2, HS3, HS4, HS5, HS6, HS7, HS8, HS14, HS15, HS16, HS0⟩, ⟨Kxs10, Kxs11, Kys10, Kys11, Kxs20, Kxs21, Kys20, Kys21, Kps20, Kps21, Kos20, Kos21⟩⟩
  isplitl [HT0]; · iapply (entails_of_eq (own_eq c cc0_scratch0).symm); iexact HT0
  isplitl [HT1]; · iapply (entails_of_eq (own_eq c cc0_scratch1).symm); iexact HT1
  isplitl [HT2]; · iapply (entails_of_eq (own_eq c cc0_scratch2).symm); iexact HT2
  isplitl [HT3]; · iapply (entails_of_eq (own_eq c cc0_scratch3).symm); iexact HT3
  isplitl [HT4]; · iapply (entails_of_eq (own_eq c cc0_scratch4).symm); iexact HT4
  isplitl [HS2]; · iapply (entails_of_eq (own_eq c cc0_scoped2).symm); iexact HS2
  isplitl [HS3]; · iapply (entails_of_eq (own_eq c cc0_scoped3).symm); iexact HS3
  isplitl [HS4]; · iapply (entails_of_eq (own_eq c cc0_scoped4).symm); iexact HS4
  isplitl [HS5]; · iapply (entails_of_eq (own_eq c cc0_scoped5).symm); iexact HS5
  isplitl [HS6]; · iapply (entails_of_eq (own_eq c cc0_scoped6).symm); iexact HS6
  isplitl [HS7]; · iapply (entails_of_eq (own_eq c cc0_scoped7).symm); iexact HS7
  isplitl [HS8]; · iapply (entails_of_eq (own_eq c cc0_scoped8).symm); iexact HS8
  isplitl [Kxs10 Kxs11]
  · iapply (xs1_join c)
    isplitl [Kxs10]; · iexact Kxs10
    iexact Kxs11
  isplitl [Kys10 Kys11]
  · iapply (ys1_join c)
    isplitl [Kys10]; · iexact Kys10
    iexact Kys11
  isplitl [HS14]; · iapply (entails_of_eq (own_eq c cc0_scoped14).symm); iexact HS14
  isplitl [HS15]; · iapply (entails_of_eq (own_eq c cc0_scoped15).symm); iexact HS15
  isplitl [HS16]; · iapply (entails_of_eq (own_eq c cc0_scoped16).symm); iexact HS16
  isplitl [Kxs20 Kxs21]
  · iapply (xs2_join c)
    isplitl [Kxs20]; · iexact Kxs20
    iexact Kxs21
  isplitl [Kys20 Kys21]
  · iapply (ys2_join c)
    isplitl [Kys20]; · iexact Kys20
    iexact Kys21
  isplitl [Kps20 Kps21]
  · iapply (ps2_join c)
    isplitl [Kps20]; · iexact Kps20
    iexact Kps21
  isplitl [Kos20 Kos21]
  · iapply (os2_join c)
    isplitl [Kos20]; · iexact Kos20
    iexact Kos21
  iapply (entails_of_eq (own_eq c cc0_scoped0).symm); iexact HS0
/-- The slots with their cells. -/
theorem slots_in : (iprop(SlotBufs (F := F) c ∗ CellsAll (F := F) c) : sProp 𝕄) ⊢ iprop(Slots (F := F) c ∗ Cells (F := F) c) := by
  iintro ⟨⟨Kxs10, Kxs11, Kys10, Kys11, Kxs20, Kxs21, Kys20, Kys21, Kps20, Kps21, Kos20, Kos21⟩, ⟨C0, C1, C2, C3, C4, C5, C6, C7, C8, C9, C10, C11, C12, C13, C14, C15, C16, C17⟩⟩
  isplitl [Kxs10 Kxs11 Kys10 Kys11 Kxs20 Kxs21 Kys20 Kys21 Kps20 Kps21 Kos20 Kos21 C0 C1 C2 C3 C4 C5 C6 C7 C8 C9 C10 C11]
  · isplitl [Kxs10 C0]
    · isplitl [Kxs10]; · iexact Kxs10
      iexact C0
    isplitl [Kxs11 C1]
    · isplitl [Kxs11]; · iexact Kxs11
      iexact C1
    isplitl [Kys10 C2]
    · isplitl [Kys10]; · iexact Kys10
      iexact C2
    isplitl [Kys11 C3]
    · isplitl [Kys11]; · iexact Kys11
      iexact C3
    isplitl [Kxs20 C4]
    · isplitl [Kxs20]; · iexact Kxs20
      iexact C4
    isplitl [Kxs21 C5]
    · isplitl [Kxs21]; · iexact Kxs21
      iexact C5
    isplitl [Kys20 C6]
    · isplitl [Kys20]; · iexact Kys20
      iexact C6
    isplitl [Kys21 C7]
    · isplitl [Kys21]; · iexact Kys21
      iexact C7
    isplitl [Kps20 C8]
    · isplitl [Kps20]; · iexact Kps20
      iexact C8
    isplitl [Kps21 C9]
    · isplitl [Kps21]; · iexact Kps21
      iexact C9
    isplitl [Kos20 C10]
    · isplitl [Kos20]; · iexact Kos20
      iexact C10
    isplitl [Kos21]; · iexact Kos21
    iexact C11
  isplitl [C12]; · iexact C12
  isplitl [C13]; · iexact C13
  isplitl [C14]; · iexact C14
  isplitl [C15]; · iexact C15
  isplitl [C16]; · iexact C16
  iexact C17
theorem slots_out : (iprop(Slots (F := F) c ∗ Cells (F := F) c) : sProp 𝕄) ⊢ iprop(CellsAll (F := F) c ∗ SlotBufs (F := F) c) := by
  iintro ⟨⟨⟨Kxs10, C0⟩, ⟨Kxs11, C1⟩, ⟨Kys10, C2⟩, ⟨Kys11, C3⟩, ⟨Kxs20, C4⟩, ⟨Kxs21, C5⟩, ⟨Kys20, C6⟩, ⟨Kys21, C7⟩, ⟨Kps20, C8⟩, ⟨Kps21, C9⟩, ⟨Kos20, C10⟩, ⟨Kos21, C11⟩⟩, ⟨C12, C13, C14, C15, C16, C17⟩⟩
  isplitl [C0 C1 C2 C3 C4 C5 C6 C7 C8 C9 C10 C11 C12 C13 C14 C15 C16 C17]
  · isplitl [C0]; · iexact C0
    isplitl [C1]; · iexact C1
    isplitl [C2]; · iexact C2
    isplitl [C3]; · iexact C3
    isplitl [C4]; · iexact C4
    isplitl [C5]; · iexact C5
    isplitl [C6]; · iexact C6
    isplitl [C7]; · iexact C7
    isplitl [C8]; · iexact C8
    isplitl [C9]; · iexact C9
    isplitl [C10]; · iexact C10
    isplitl [C11]; · iexact C11
    isplitl [C12]; · iexact C12
    isplitl [C13]; · iexact C13
    isplitl [C14]; · iexact C14
    isplitl [C15]; · iexact C15
    isplitl [C16]; · iexact C16
    iexact C17
  isplitl [Kxs10]; · iexact Kxs10
  isplitl [Kxs11]; · iexact Kxs11
  isplitl [Kys10]; · iexact Kys10
  isplitl [Kys11]; · iexact Kys11
  isplitl [Kxs20]; · iexact Kxs20
  isplitl [Kxs21]; · iexact Kxs21
  isplitl [Kys20]; · iexact Kys20
  isplitl [Kys21]; · iexact Kys21
  isplitl [Kps20]; · iexact Kps20
  isplitl [Kps21]; · iexact Kps21
  isplitl [Kos20]; · iexact Kos20
  iexact Kos21
end

/-! ## The pipeline's proof data -/

def dats (_ : Fin 1) (c : Dev nD) : Dat τ (Elt F) Unit ℕ (UU nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
  Φ t := Φ m c t.val
  q _ := fullShare
  owed _ := 0

theorem before_w0 (c : Dev nD) (t : Fin cfg0.N) (d) : (dats m 0 c).before 0 t d = iblk m c 0 t := by
  unfold Dat.before; rw [if_pos (fetch0_0 t)]; unfold Dat.fetched Dat.blockOf iblk; dsimp only [dats]; rfl
theorem after_w0 (c : Dev nD) (t : Fin cfg0.N) : (dats m 0 c).after 0 t = iblk m c 0 t := by dsimp only [dats]
theorem before_w1 (c : Dev nD) (t : Fin cfg0.N) (d) : (dats m 0 c).before 1 t d = iblk m c 1 t := by
  unfold Dat.before; rw [if_pos (fetch0_1 t)]; unfold Dat.fetched Dat.blockOf iblk; dsimp only [dats]; rfl
theorem after_w1 (c : Dev nD) (t : Fin cfg0.N) : (dats m 0 c).after 1 t = iblk m c 1 t := by dsimp only [dats]
theorem before_w2 (c : Dev nD) (t : Fin cfg0.N) (d) : (dats m 0 c).before 2 t d = iblk m c 2 t := by
  unfold Dat.before; rw [if_pos (fetch0_2 t)]; unfold Dat.fetched Dat.blockOf iblk; dsimp only [dats]; rfl
theorem after_w2 (c : Dev nD) (t : Fin cfg0.N) : (dats m 0 c).after 2 t = iblk m c 2 t := by dsimp only [dats]
theorem before_w3 (c : Dev nD) (t : Fin cfg0.N) (d) : (dats m 0 c).before 3 t d = iblk m c 3 t := by
  unfold Dat.before; rw [if_pos (fetch0_3 t)]; unfold Dat.fetched Dat.blockOf iblk; dsimp only [dats]; rfl
theorem after_w3 (c : Dev nD) (t : Fin cfg0.N) : (dats m 0 c).after 3 t = iblk m c 3 t := by dsimp only [dats]
theorem before_w4 (c : Dev nD) (t : Fin cfg0.N) (d) : (dats m 0 c).before 4 t d = iblk m c 4 t := by
  unfold Dat.before; rw [if_pos (fetch0_4 t)]; unfold Dat.fetched Dat.blockOf iblk; dsimp only [dats]; rfl
theorem after_w4 (c : Dev nD) (t : Fin cfg0.N) : (dats m 0 c).after 4 t = iblk m c 4 t := by dsimp only [dats]

end

end Cert.Proof.Layer

end
-- ==== Proof.Oblig.lean ====
module

public import proofs.«01_k».proof.Proof.Launch
public import Idealize.ShloMosaic.Lib.Pointwise
public import Idealize.ShloMosaic.Lib.Pipeline.Value

@[expose] public section

set_option maxRecDepth 8192

noncomputable section

namespace Cert.Proof.Layer

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

/-! # The body at the region's one point -/

section
variable (m : (ℓ : Loc nD τ sig) → Buf (Elt F) ℓ) (ρ : Dev nD → PrngReg)

/-! ## The body obligation -/

/-- The body table's entry for the kernel. -/
theorem defs_tc : (defs₀ (F := F)) .tc cfg0.body
    = fun a => bodyG (win0_0.stage (a.2 0)) (hstage0_0 0) (win0_1.stage (a.2 1)) (win0_2.stage (a.2 2)) (win0_3.stage (a.2 3)) (win0_4.stage (a.2 4)) (hstage0_1 0) (hstage0_2 0) (hstage0_3 0) (hstage0_4 0) := rfl
theorem prog_eq (t : Fin cfg0.N) : (defs₀ (F := F)) .tc cfg0.body (cfg0.bodyArgs t (cfg0.slots t))
    = bodyG (win0_0.stage (cfg0.slots t 0)) (hstage0_0 0) (win0_1.stage (cfg0.slots t 1)) (win0_2.stage (cfg0.slots t 2)) (win0_3.stage (cfg0.slots t 3)) (win0_4.stage (cfg0.slots t 4)) (hstage0_1 0) (hstage0_2 0) (hstage0_3 0) (hstage0_4 0) :=
  (congrFun defs_tc _).trans rfl

theorem yRead (c : Dev nD) : yM.view.read (Elt F) (YA m c)
    = YS (xM.view.read (Elt F) (V m c main_arg0)) (wiM.view.read (Elt F) (V m c main_v1)) (cwOf c (win0_0.stage (cfg0.slots tt 0)) (CWb m c)) := View.read_rep _ _
theorem oRead (c : Dev nD) : oM.view.read (Elt F) (OA m c)
    = OS (wL m c) (xM.view.read (Elt F) (V m c main_arg0)) (yM.view.read (Elt F) (YA m c)) (pL.view.read (Elt F) (V m c main_arg1)) := View.read_rep _ _

theorem yAt_one (c : Dev nD) : YA m c = yAt m c 1 := (if_neg (by decide)).symm
theorem oAt_one (c : Dev nD) : OA m c = oAt m c 1 := (if_neg (by decide)).symm
/-- A staged operand's buffer, held at the block it shows. -/
theorem rep_in (c : Dev nD) {sp : Space} {S : Shape} {e : EltTy} (M : Memref sig .tc sp S e) (g : BufOf F c M) (x : S.Idx → Elt F e) (h : M.view.read (Elt F) g = x) :
    (ptM c M g : sProp 𝕄) ⊢ ptM c M (M.view.rep x) := by
  subst h; exact pointsTo_rep_entails (c : Thread nD τ) M g fullShare

set_option backward.isDefEq.respectTransparency.types false in
theorem body_obligation (c : Dev nD) : BodyObligation (dats (F := F) m 0 c) (defs₀ (F := F)) 𝒱₀ () Set.univ := fun t => by
  rw [fin_N0 t]
  rw [bigSep_W0, bigSep_W0]
  dsimp only
  simp only [before_w0, after_w0, before_w1, after_w1, before_w2, after_w2, before_w3, after_w3, before_w4, after_w4]
  rw [show (dats m 0 c).Φ (Fin.castSucc t0_0) = Φ m c 0 from rfl, show (dats m 0 c).Φ (Fin.succ t0_0) = Φ m c 1 from rfl]
  unfold Dat.owesAt Pipeline.owesWithin
  rw [show (dats m 0 c).owed (Fin.castSucc t0_0) = 0 from rfl, show (dats m 0 c).owed (Fin.succ t0_0) = 0 from rfl]
  unfold owns Φ
  iintro ⟨⟨⟨Hx, Hp, H8, H9, H10, H11, H12, Hwi⟩, ⟨Hy, Ho⟩, HOwn, HSlots, HCells⟩, ⟨%W, -, HW⟩, ⟨%d0, %g0, %hg0, A0⟩, ⟨%d1, %g1, %hg1, A1⟩, ⟨%d2, %g2, %hg2, A2⟩, ⟨%d3, %g3, %hg3, A3⟩, ⟨%d4, %g4, %hg4, A4⟩⟩
  ihave A0' := (rep_in c (win0_0.stage (cfg0.slots t0_0 0)) g0 (iblk m c 0 t0_0) hg0) $$ A0
  ihave A1' := (rep_in c (win0_1.stage (cfg0.slots t0_0 1)) g1 (iblk m c 1 t0_0) hg1) $$ A1
  ihave A2' := (rep_in c (win0_2.stage (cfg0.slots t0_0 2)) g2 (iblk m c 2 t0_0) hg2) $$ A2
  ihave A3' := (rep_in c (win0_3.stage (cfg0.slots t0_0 3)) g3 (iblk m c 3 t0_0) hg3) $$ A3
  ihave A4' := (rep_in c (win0_4.stage (cfg0.slots t0_0 4)) g4 (iblk m c 4 t0_0) hg4) $$ A4
  sl_rw [prog_eq t0_0]
  iapply (bodyRun c (win0_0.stage (cfg0.slots t0_0 0)) (hstage0_0 0) (win0_1.stage (cfg0.slots t0_0 1)) (win0_2.stage (cfg0.slots t0_0 2)) (win0_3.stage (cfg0.slots t0_0 3)) (win0_4.stage (cfg0.slots t0_0 4))
    (hstage0_1 0) (hstage0_2 0) (hstage0_3 0) (hstage0_4 0) (CWb m c) (G1b m c) (B1b m c) (G2b m c) (B2b m c) (V m c main_arg0) (yAt m c 0) (YA m c) (V m c main_arg1) (oAt m c 0) (OA m c)
    (V m c main_arg4) (V m c main_arg7) (V m c main_arg8) (V m c main_arg11) (V m c main_arg12) (V m c main_v1) (yRead m c) (oRead m c) W)
  isplitl [Hx Hp H8 H9 H10 H11 H12 Hwi Hy Ho HOwn HSlots HCells HW A0' A1' A2' A3' A4']
  · isplitl [Hx Hp H8 H9 H10 H11 H12 Hwi A0' A1' A2' A3' A4']
    · isplitl [Hx]; · iexact Hx
      isplitl [Hp]; · iexact Hp
      isplitl [A0']; · iexact A0'
      isplitl [A1']; · iexact A1'
      isplitl [A2']; · iexact A2'
      isplitl [A3']; · iexact A3'
      isplitl [A4']; · iexact A4'
      isplitl [H8]; · iexact H8
      isplitl [H9]; · iexact H9
      isplitl [H10]; · iexact H10
      isplitl [H11]; · iexact H11
      isplitl [H12]; · iexact H12
      iexact Hwi
    isplitl [Hy]; · iexact Hy
    isplitl [Ho]; · iexact Ho
    isplitl [HOwn]; · iexact HOwn
    isplitl [HSlots]; · iexact HSlots
    isplitl [HCells]; · iexact HCells
    iexact HW
  · iintro ⟨⟨Hx, Hp, A0, A1, A2, A3, A4, H8, H9, H10, H11, H12, Hwi⟩, Hy, Ho, HOwn, HSlots, HCells, ⟨%W', HW⟩⟩
    isplitl [Hx Hp H8 H9 H10 H11 H12 Hwi Hy Ho HOwn HSlots HCells]
    · isplitl [Hx Hp H8 H9 H10 H11 H12 Hwi]
      · isplitl [Hx]; · iexact Hx
        isplitl [Hp]; · iexact Hp
        isplitl [H8]; · iexact H8
        isplitl [H9]; · iexact H9
        isplitl [H10]; · iexact H10
        isplitl [H11]; · iexact H11
        isplitl [H12]; · iexact H12
        iexact Hwi
      isplitl [Hy Ho]
      · isplitl [Hy]; · iapply (entails_of_eq (congrArg (fun Y => bigSep Finset.univ (yHome c Y)) (yAt_one m c))); iexact Hy
        iapply (entails_of_eq (congrArg (fun O => bigSep Finset.univ (oHome c O)) (oAt_one m c))); iexact Ho
      isplitl [HOwn]; · iexact HOwn
      isplitl [HSlots]; · iexact HSlots
      iexact HCells
    isplitl [HW]
    · iexists W'; isplitr; · ipureintro; exact fun _ _ => Or.inl trivial
      iexact HW
    isplitl [A0]
    · iexists _; isplitr; · ipureintro; exact View.read_rep _ _
      iexact A0
    isplitl [A1]
    · iexists _; isplitr; · ipureintro; exact View.read_rep _ _
      iexact A1
    isplitl [A2]
    · iexists _; isplitr; · ipureintro; exact View.read_rep _ _
      iexact A2
    isplitl [A3]
    · iexists _; isplitr; · ipureintro; exact View.read_rep _ _
      iexact A3
    iexists _; isplitr; · ipureintro; exact View.read_rep _ _
    iexact A4

end

end Cert.Proof.Layer

end
-- ==== Proof.Run.lean ====
module

public import proofs.«01_k».proof.Proof.Oblig
public import Idealize.ShloMosaic.Lib.Pointwise
public import Idealize.ShloMosaic.Lib.Pipeline.Value

@[expose] public section

set_option maxRecDepth 8192

noncomputable section

namespace Cert.Proof.Layer

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

/-! # The run -/

section
variable (m : (ℓ : Loc nD τ sig) → Buf (Elt F) ℓ) (ρ : Dev nD → PrngReg)

/-! ## The run -/

/-- What the region takes in; -/
def intoΦ (c : Dev nD) : sProp 𝕄 := iprop((Ins m c ∗ Outs m c 0) ∗ Pipeline.ownSems0 osem c)
/-- what it gives back; -/
def outOfΦ (c : Dev nD) : sProp 𝕄 := iprop(Ins m c ∗ Outs m c 1)
/-- what it never touches. -/
def besideΦ (c : Dev nD) : sProp 𝕄 := iprop((((c : Thread nD τ).loc main_arg2) ↦{fullShare} V m c main_arg2) ∗ pRest c (V m c main_arg1))
def u₀ : UU nD τ := (initOf (Pipeline.cells cfgs Cert.KernelIdeal.Gen.cellOf_inj) (Pipeline.launchToks cfgs Cert.KernelIdeal.Gen.cellOf_inj), 1)
/-- What a final state holds: the operands as they were, the result computed. -/
def QY (c : Dev nD) (s : MemSt nD τ sig (Elt F)) : Prop :=
  s.mem ((c : Thread nD τ).loc main_arg0) = V m c main_arg0 ∧ s.mem ((c : Thread nD τ).loc main_arg1) = V m c main_arg1 ∧ s.mem ((c : Thread nD τ).loc main_arg2) = V m c main_arg2 ∧ s.mem ((c : Thread nD τ).loc main_arg4) = V m c main_arg4 ∧ s.mem ((c : Thread nD τ).loc main_arg7) = V m c main_arg7 ∧ s.mem ((c : Thread nD τ).loc main_arg8) = V m c main_arg8 ∧ s.mem ((c : Thread nD τ).loc main_arg11) = V m c main_arg11 ∧ s.mem ((c : Thread nD τ).loc main_arg12) = V m c main_arg12 ∧ s.mem ((c : Thread nD τ).loc main_v2_0) = OA m c
def QC : PUnit × MemSt nD τ sig (Elt F) → Prop := fun r =>
  ∀ c : Dev nD, (∀ w : Fin cfg0.W, r.2.mem ((cfg0.win w).arr.view.loc (c : Thread nD τ)) = (dats m 0 c).arrAt w cfg0.N) ∧ QY m c r.2

theorem outs_zero (c : Dev nD) : (iprop((((c : Thread nD τ).loc main_v2_1) ↦{fullShare} V m c main_v2_1) ∗ (((c : Thread nD τ).loc main_v2_0) ↦{fullShare} V m c main_v2_0)) : sProp 𝕄) = Outs m c 0 := by
  rw [y_eq, o_eq]; rfl
theorem outs_one (c : Dev nD) : (iprop((((c : Thread nD τ).loc main_v2_1) ↦{fullShare} YA m c) ∗ (((c : Thread nD τ).loc main_v2_0) ↦{fullShare} OA m c)) : sProp 𝕄) = Outs m c 1 := by
  rw [y_eq, o_eq]
  rw [yAt_one, oAt_one]

theorem hX (c : Dev nD) (g : sProp (MT nD τ sig Unit (Elt F) ℕ (UU nD τ) ℕ)) (l : sProp (MT nD τ sig Unit (Elt F) ℕ (UU nD τ) ℕ)) (e : sProp (MT nD τ sig Unit (Elt F) ℕ (UU nD τ) ℕ)) :
    iprop(Pipeline.unscopedRest spec0 c (V m c) ∗ Pipeline.ownSems0 osem c ∗ l ∗ g ∗ e) ⊢ |={Set.univ}=> (iprop(intoΦ m c ∗ besideΦ m c) : sProp 𝕄) := by
  rw [unscopedRest0_eq]
  unfold intoΦ besideΦ
  iintro ⟨⟨H0, H1, H2, H4, H7, H8, H11, H12, -, Hv1, Ho, Hy⟩, HS, -, -, -⟩
  imodintro
  ihave H1' := (entails_of_eq (p_eq c (V m c main_arg1))) $$ H1
  icases H1' with ⟨Hp, Hr⟩
  isplitl [H0 Hp H4 H7 H8 H11 H12 Hv1 Ho Hy HS]
  · isplitl [H0 Hp H4 H7 H8 H11 H12 Hv1 Ho Hy]
    · isplitl [H0 Hp H4 H7 H8 H11 H12 Hv1]
      · isplitl [H0]; · iapply (entails_of_eq (x_eq c (V m c main_arg0))); iexact H0
        isplitl [Hp]; · iexact Hp
        isplitl [H4]; · iapply (entails_of_eq (whole_eq c main_arg4 (V m c main_arg4))); iexact H4
        isplitl [H7]; · iapply (entails_of_eq (whole_eq c main_arg7 (V m c main_arg7))); iexact H7
        isplitl [H8]; · iapply (entails_of_eq (whole_eq c main_arg8 (V m c main_arg8))); iexact H8
        isplitl [H11]; · iapply (entails_of_eq (whole_eq c main_arg11 (V m c main_arg11))); iexact H11
        isplitl [H12]; · iapply (entails_of_eq (whole_eq c main_arg12 (V m c main_arg12))); iexact H12
        iapply (entails_of_eq (whole_eq c main_v1 (V m c main_v1))); iexact Hv1
      iapply (entails_of_eq (outs_zero m c))
      isplitl [Hy]; · iexact Hy
      iexact Ho
    iexact HS
  isplitl [H2]; · iexact H2
  iexact Hr

theorem hin (c : Dev nD) : iprop(intoΦ m c ∗ Pipeline.scopedRest spec0 c) ⊢ (Φ m c 0 : sProp 𝕄) := by
  unfold intoΦ Φ
  rw [ownSems0_eq]
  iintro ⟨⟨⟨HI, HO⟩, HC⟩, HB⟩
  ihave HB' := (bufs_in c) $$ HB
  icases HB' with ⟨HOwn, HSB⟩
  isplitl [HI]; · iexact HI
  isplitl [HO]; · iexact HO
  isplitl [HOwn]; · iexact HOwn
  iapply (slots_in c)
  isplitl [HSB]; · iexact HSB
  iexact HC

theorem hout (c : Dev nD) : (Φ m c 1 : sProp 𝕄) ⊢ iprop(outOfΦ m c ∗ Pipeline.ownSems0 osem c ∗ Pipeline.scopedRest spec0 c) := by
  unfold outOfΦ Φ
  rw [ownSems0_eq]
  iintro ⟨HI, HO, HOwn, HS⟩
  ihave HS' := (slots_out c) $$ HS
  icases HS' with ⟨HC, HSB⟩
  isplitl [HI HO]
  · isplitl [HI]; · iexact HI
    iexact HO
  isplitl [HC]; · iexact HC
  iapply (bufs_out c)
  isplitl [HOwn]; · iexact HOwn
  iexact HSB

theorem hY (c : Dev nD) (s' : Phys nD τ sig (Elt F)) : (iprop(outOfΦ m c ∗ besideΦ m c ∗ SI s') : sProp 𝕄) ⊢ |={Set.univ}=> iprop(⌜QY m c s'.mem⌝ ∗ SI s') := by
  unfold outOfΦ besideΦ
  iintro ⟨⟨⟨H0, Hp, H4, H7, H8, H11, H12, -⟩, HO⟩, ⟨H2, Hr⟩, HSI⟩
  ihave H0' := (entails_of_eq (x_eq c (V m c main_arg0)).symm) $$ H0
  ihave H1' := (entails_of_eq (p_eq c (V m c main_arg1)).symm) $$ [Hp Hr]
  · isplitl [Hp]; · iexact Hp
    iexact Hr
  ihave H4' := (entails_of_eq (whole_eq c main_arg4 (V m c main_arg4)).symm) $$ H4
  ihave H7' := (entails_of_eq (whole_eq c main_arg7 (V m c main_arg7)).symm) $$ H7
  ihave H8' := (entails_of_eq (whole_eq c main_arg8 (V m c main_arg8)).symm) $$ H8
  ihave H11' := (entails_of_eq (whole_eq c main_arg11 (V m c main_arg11)).symm) $$ H11
  ihave H12' := (entails_of_eq (whole_eq c main_arg12 (V m c main_arg12)).symm) $$ H12
  ihave HO' := (entails_of_eq (outs_one m c).symm) $$ HO
  icases HO' with ⟨-, Ho⟩
  icombine HSI H0' gives %h0
  icombine HSI H1' gives %h1
  icombine HSI H2 gives %h2
  icombine HSI H4' gives %h4
  icombine HSI H7' gives %h7
  icombine HSI H8' gives %h8
  icombine HSI H11' gives %h11
  icombine HSI H12' gives %h12
  icombine HSI Ho gives %ho
  imodintro
  isplitr
  · ipureintro
    exact ⟨Buf.eq_of_forall_mem_univ h0, Buf.eq_of_forall_mem_univ h1, Buf.eq_of_forall_mem_univ h2, Buf.eq_of_forall_mem_univ h4, Buf.eq_of_forall_mem_univ h7, Buf.eq_of_forall_mem_univ h8, Buf.eq_of_forall_mem_univ h11, Buf.eq_of_forall_mem_univ h12, Buf.eq_of_forall_mem_univ ho⟩
  iexact HSI

set_option backward.isDefEq.respectTransparency.types false in
/-- For any float values, from any memory with every counter at zero: every weakly fair execution of the program
    terminates, and every final state has the result computed, the operands unchanged, every counter at zero. -/
theorem run_main : θ_run defs (onTc (τ := τ) (main (F := F))) ⟨m, fun _ => 0, ρ⟩ (fun r => QC m r ∧ r.2.sem = fun _ => 0) :=
  Pipeline.θ_run_region_kit_quiescent cfgs (dats m) () (0 : Fin 1) launch0 ownSemFacts EP defs₀ 𝒱₀ m ρ main
    (hbody := fun c => (body_obligation m c).loose) (hshare := fun c => (dats m 0 c).share_full fun _ => rfl)
    (howed := fun _ _ => rfl)
    (G := fun _ => iprop(emp)) (u₀ := u₀)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (V := V m)
    (hmain := Pipeline.hmain_prefix cfgs 0 defs₀ 𝒱₀ m main hostOps0 hostOps0_sub hostOps0_fresh main_chain)
    (hA := fun _ _ => rfl)
    (X := intoΦ m) (Y := outOfΦ m) (Z := besideΦ m)
    (hX := fun c => hX m c _ _ _)
    (hin := hin m)
    (hout := hout m)
    (QY := QY m)
    (hY := hY m)
    (hQ := fun _ hh hz => ⟨hh, hz⟩)

end

end Cert.Proof.Layer

end
-- ==== Proof.Held.lean ====
module

public import proofs.«01_k».proof.Proof.Run
public import Idealize.ShloMosaic.Lib.Pointwise
public import Idealize.ShloMosaic.Lib.Pipeline.Value

@[expose] public section

set_option maxRecDepth 8192

noncomputable section

namespace Cert.Proof.Layer

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

/-! # What a final state holds, at the launch's memory -/

section
variable (m : (ℓ : Loc nD τ sig) → Buf (Elt F) ℓ) (ρ : Dev nD → PrngReg)

/-- The result computed and the arguments unchanged. -/
abbrev Held (c : Dev nD) (s : MemSt nD τ sig (Elt F)) : Prop :=
  s.mem ((c.tc : Thread nD τ).loc main_v2_0) = OA m c
    ∧ s.mem ((c.tc : Thread nD τ).loc main_arg0) = m ((c.tc : Thread nD τ).loc main_arg0)
    ∧ s.mem ((c.tc : Thread nD τ).loc main_arg1) = m ((c.tc : Thread nD τ).loc main_arg1)
    ∧ s.mem ((c.tc : Thread nD τ).loc main_arg2) = m ((c.tc : Thread nD τ).loc main_arg2)
    ∧ s.mem ((c.tc : Thread nD τ).loc main_arg3) = m ((c.tc : Thread nD τ).loc main_arg3)
    ∧ s.mem ((c.tc : Thread nD τ).loc main_arg4) = m ((c.tc : Thread nD τ).loc main_arg4)
    ∧ s.mem ((c.tc : Thread nD τ).loc main_arg5) = m ((c.tc : Thread nD τ).loc main_arg5)
    ∧ s.mem ((c.tc : Thread nD τ).loc main_arg6) = m ((c.tc : Thread nD τ).loc main_arg6)
    ∧ s.mem ((c.tc : Thread nD τ).loc main_arg7) = m ((c.tc : Thread nD τ).loc main_arg7)
    ∧ s.mem ((c.tc : Thread nD τ).loc main_arg8) = m ((c.tc : Thread nD τ).loc main_arg8)
    ∧ s.mem ((c.tc : Thread nD τ).loc main_arg9) = m ((c.tc : Thread nD τ).loc main_arg9)
    ∧ s.mem ((c.tc : Thread nD τ).loc main_arg10) = m ((c.tc : Thread nD τ).loc main_arg10)
    ∧ s.mem ((c.tc : Thread nD τ).loc main_arg11) = m ((c.tc : Thread nD τ).loc main_arg11)
    ∧ s.mem ((c.tc : Thread nD τ).loc main_arg12) = m ((c.tc : Thread nD τ).loc main_arg12)

theorem held_of (r : PUnit × MemSt nD τ sig (Elt F)) (h : QC m r) (c : Dev nD) : Held m c r.2 := by
  obtain ⟨hw, h0, h1, h2, h4, h7, h8, h11, h12, ho⟩ := h c
  exact ⟨ho, h0.trans (V_main_arg0 m c), h1.trans (V_main_arg1 m c), h2.trans (V_main_arg2 m c), (hw 0).trans (((dats m 0 c).arrAt_in 0 rfl _).trans (V_main_arg3 m c)), h4.trans (V_main_arg4 m c), (hw 1).trans (((dats m 0 c).arrAt_in 1 rfl _).trans (V_main_arg5 m c)), (hw 2).trans (((dats m 0 c).arrAt_in 2 rfl _).trans (V_main_arg6 m c)), h7.trans (V_main_arg7 m c), h8.trans (V_main_arg8 m c), (hw 3).trans (((dats m 0 c).arrAt_in 3 rfl _).trans (V_main_arg9 m c)), (hw 4).trans (((dats m 0 c).arrAt_in 4 rfl _).trans (V_main_arg10 m c)), h11.trans (V_main_arg11 m c), h12.trans (V_main_arg12 m c)⟩

/-- The run, at the launch's memory. -/
theorem run_held : θ_run defs (onTc (τ := τ) (main (F := F))) ⟨m, fun _ => 0, ρ⟩ (fun r => (∀ c, Held m c r.2) ∧ r.2.sem = fun _ => 0) :=
  (θ_run defs _ _).mono (fun r h => ⟨held_of m r h.1, h.2⟩) (run_main m ρ)

end

end Cert.Proof.Layer

end
-- ==== Proof.Same.lean ====
module

public import proofs.«01_k».proof.Defs
public import proofs.«01_k».proof.Proof.Gen.Kernel
public import proofs.«01_k».proof.Proof.Held

@[expose] public section

noncomputable section

/-! # The kernel and its idealization have one text

At any one float semantics the two programs are the same program, so that a run of the one is a run of the other. -/

namespace Cert.Proof.Same

open Idealize.ShloMosaic Idealize.SL.Sem

instance : Cert.Kernel.Facts := Cert.Kernel.Gen.facts
instance : Cert.KernelIdeal.Facts := Cert.KernelIdeal.Gen.facts

/-- The kernel function is the same. -/
theorem kernel_eq : Cert.Kernel.cc0_layer_1 (F := Bits) = Cert.KernelIdeal.cc0_layer_1 (F := Bits) := rfl

/-- So is the table that calls it. -/
theorem table_eq : Cert.Kernel.defs₀ (F := Bits) = Cert.KernelIdeal.defs₀ (F := Bits) := by
  unfold Cert.Kernel.defs₀ Cert.KernelIdeal.defs₀
  refine congrArg Defs.onTc ?_
  funext l a
  match l, a with
  | 0, (t, s) => rfl

/-- So is the table with the pipeline in it. -/
theorem defs_eq : Cert.Kernel.defs (F := Bits) = Cert.KernelIdeal.defs (F := Bits) := by
  unfold Cert.Kernel.defs Cert.KernelIdeal.defs
  exact congrArg (Pipeline.defs _) table_eq

/-- So is the main function. -/
theorem main_eq : Cert.Kernel.main (F := Bits) = Cert.KernelIdeal.main (F := Bits) := rfl

end Cert.Proof.Same

end
-- ==== Proof.Maths.lean ====
module

public import proofs.«01_k».proof.Proof.Spec
public import Idealize.ShloMosaic.Lib.Pointwise

@[expose] public section

set_option maxRecDepth 16384

noncomputable section

/-! # The layer over the extended reals -/

namespace Cert.Proof.Layer

open Idealize.ShloMosaic Cert.KernelIdeal Cert.KernelIdeal.Gen

/-- The mean of a row of 1024 numbers. -/
def rowMean (v : Fin 1024 → EReal) : EReal := Ideal.div (∑ k : Fin 1024, v k) (Ideal.ofBits .f32 0x44800000#32)

/-- A row normalised, its element `c` scaled by `g` and moved by `b`. -/
def rowNorm (v : Fin 1024 → EReal) (g b : EReal) (c : Fin 1024) : EReal :=
  (v c - rowMean v) * Ideal.rsqrt (rowMean (fun k => (v k - rowMean v) * (v k - rowMean v)) + Ideal.ofBits .f32 0x3727C5AC#32) * g + b

/-- The factor of the residual. -/
def alpha : EReal := Ideal.ofBits .f32 0x3FB504F3#32

/-- The layer's arguments, the weights of one layer alone. -/
structure Layer1 where
  /-- the activations -/
  X : S2x8192x1024.Idx → EReal
  /-- the layer's own embedding -/
  P : S2x8192x256.Idx → EReal
  /-- the mixer's weights: input projection, taps, output projection -/
  WI : S1024x3072.Idx → EReal
  CW : S3x1024.Idx → EReal
  WO : S1024x1024.Idx → EReal
  /-- the feed-forward weights -/
  W1 : S1024x4096.Idx → EReal
  W2 : S4096x1024.Idx → EReal
  /-- the gate's weights and the embedding's projection -/
  WG : S1024x1024.Idx → EReal
  WP : S256x1024.Idx → EReal
  /-- the normalisations' gains and offsets -/
  G1 : Fin 1024 → EReal
  B1 : Fin 1024 → EReal
  G2 : Fin 1024 → EReal
  B2 : Fin 1024 → EReal

variable (a : Layer1) (b : Fin 2) (n : Fin 8192)

/-- The mixer's input projection. -/
def Layer1.proj (e : Fin 3072) : EReal := ∑ k : Fin 1024, a.X (ix3 b n k) * a.WI (ix2 k e)

/-- The convolution's input: the product of the second and the third thousand of columns. -/
def Layer1.z (c : Fin 1024) : EReal := a.proj b n ⟨1024 + c.val, by omega⟩ * a.proj b n ⟨2048 + c.val, by omega⟩

/-- The same `d` rows earlier, zero before row 0. -/
def Layer1.zLag (d : Nat) (c : Fin 1024) : EReal := if n.val < d then 0 else a.z b ⟨n.val - d, by omega⟩ c

/-- The mixer: the gate times the causal convolution of three taps. -/
def Layer1.mix (c : Fin 1024) : EReal :=
  a.proj b n ⟨c.val, by omega⟩ * (a.CW (ix2 0 c) * a.zLag b n 2 c + a.CW (ix2 1 c) * a.zLag b n 1 c + a.CW (ix2 2 c) * a.z b n c)

/-- After the mixer: residual and normalisation. -/
def Layer1.x1 (c : Fin 1024) : EReal :=
  rowNorm (fun k => alpha * a.X (ix3 b n k) + ∑ e : Fin 1024, a.mix b n e * a.WO (ix2 e k)) (a.G1 c) (a.B1 c) c

/-- The hidden units: the square of the positive part. -/
def Layer1.hid (f : Fin 4096) : EReal :=
  max (∑ k : Fin 1024, a.x1 b n k * a.W1 (ix2 k f)) 0 * max (∑ k : Fin 1024, a.x1 b n k * a.W1 (ix2 k f)) 0

/-- After the feed-forward network: residual and normalisation. -/
def Layer1.x2 (c : Fin 1024) : EReal :=
  rowNorm (fun k => alpha * a.x1 b n k + ∑ f : Fin 4096, a.hid b n f * a.W2 (ix2 f k)) (a.G2 c) (a.B2 c) c

/-- The layer's result: the gated embedding added. -/
def Layer1.out (c : Fin 1024) : EReal :=
  a.x2 b n c + Ideal.logistic (∑ k : Fin 1024, a.x2 b n k * a.WG (ix2 k c)) * ∑ k : Fin 256, a.P (ix3 b n k) * a.WP (ix2 k c)

end Cert.Proof.Layer

end
-- ==== Proof.KernelAt.lean ====
module

public import proofs.«01_k».proof.Proof.Maths
public import Idealize.ShloMosaic.Lib.Pointwise

@[expose] public section

set_option maxRecDepth 16384

noncomputable section

/-! # The tiles' values, element by element, over the extended reals -/

namespace Cert.Proof.Layer

open Idealize.ShloMosaic Cert.KernelIdeal Cert.KernelIdeal.Gen

section Payloads
variable (r : Fin 256) (c : Fin 1024)

theorem pay4_at (x : Vec Ideal S1x256x1024 .f32) (w v : Vec Ideal S1024x1024 .bf16) :
    k0_pay4 x w v (ix2 r c) = (∑ k : Fin 1024, x (ix3 0 r k) * w (ix2 k c)) * (∑ k : Fin 1024, x (ix3 0 r k) * v (ix2 k c)) := by
  pointwise [k0_pay4, k0_pay3]

theorem pay6_at (x : Vec Ideal S1x256x1024 .f32) (w : Vec Ideal S1024x1024 .bf16) :
    k0_pay6 (k0_pay3 x) w (ix2 r c) = ∑ k : Fin 1024, x (ix3 0 r k) * w (ix2 k c) := by
  pointwise [k0_pay6, k0_pay3]

theorem pay24_at (z g : FVec Ideal S256x1024 .f32) (cw : Vec Ideal S1x3x1024 .f32) (z2 z1 : Vec Ideal S1x256x1024 .f32) :
    k0_pay24 z g (k0_pay20 cw) z2 z1 (ix2 r c)
      = g (ix2 r c) * (cw (ix3 0 2 c) * z (ix2 r c) + cw (ix3 0 0 c) * z2 (ix3 0 r c) + cw (ix3 0 1 c) * z1 (ix3 0 r c)) := by
  pointwise [k0_pay24, k0_pay20]
  try rfl

theorem pay37_at (y : Vec Ideal S1x256x1024 .bf16) (w : Vec Ideal S1024x1024 .bf16) :
    k0_pay37 y w (ix2 r c) = ∑ k : Fin 1024, y (ix3 0 r k) * w (ix2 k c) := by
  pointwise [k0_pay37]

theorem pay40_at (g b : Vec Ideal S1x1024 .f32) (u : FVec Ideal S256x1024 .f32) (x : Vec Ideal S1x256x1024 .f32) :
    k0_pay40 g b u x (ix2 r c) = rowNorm (fun k => alpha * x (ix3 0 r k) + u (ix2 r k)) (g (ix2 0 c)) (b (ix2 0 c)) c := by
  pointwise [k0_pay40]
  rfl

theorem pay41_at (g b : Vec Ideal S1x1024 .f32) (u : FVec Ideal S256x1024 .f32) (x : Vec Ideal S1x256x1024 .f32) :
    k0_pay41 g b u x (ix3 0 r c) = k0_pay40 g b u x (ix2 r c) := by
  pointwise [k0_pay41]

theorem pay44_at (x : Vec Ideal S1x256x1024 .bf16) (w : Vec Ideal S1024x1024 .bf16) :
    k0_pay44 x w (ix3 0 r c) = max (∑ k : Fin 1024, x (ix3 0 r k) * w (ix2 k c)) 0 * max (∑ k : Fin 1024, x (ix3 0 r k) * w (ix2 k c)) 0 := by
  pointwise [k0_pay44]

theorem pay47_at (g b : Vec Ideal S1x1024 .f32) (x : FVec Ideal S256x1024 .f32) (h : Vec Ideal S1x256x4096 .bf16) (w : Vec Ideal S4096x1024 .bf16) :
    k0_pay47 g b x h w (ix2 r c)
      = rowNorm (fun k => alpha * x (ix2 r k) + ∑ f : Fin 4096, h (ix3 0 r f) * w (ix2 f k)) (g (ix2 0 c)) (b (ix2 0 c)) c := by
  pointwise [k0_pay47]
  rfl

theorem pay61_at (x : FVec Ideal S256x1024 .f32) (wg : Vec Ideal S1024x1024 .bf16) (p : Vec Ideal S1x256x256 .f32) (wp : Vec Ideal S256x1024 .bf16) :
    k0_pay61 x (k0_pay60 x) wg p wp (ix3 0 r c)
      = x (ix2 r c) + Ideal.logistic (∑ k : Fin 1024, x (ix2 r k) * wg (ix2 k c)) * ∑ k : Fin 256, p (ix3 0 r k) * wp (ix2 k c) := by
  pointwise [k0_pay61, k0_pay60]
  try rfl

end Payloads

end Cert.Proof.Layer

end
-- ==== Proof.TilesAt.lean ====
module

public import proofs.«01_k».proof.Proof.KernelAt
public import Idealize.ShloMosaic.Lib.Pointwise

@[expose] public section

set_option maxRecDepth 16384

noncomputable section

/-! # The kernel's result over the extended reals -/

namespace Cert.Proof.Layer

open Idealize.ShloMosaic Cert.KernelIdeal Cert.KernelIdeal.Gen

section Rows
variable (n : Fin 8192)

theorem row_split : rowIx (256 * (n.val / 256) + (tileRow n.val).val) = n :=
  Fin.ext (by show (256 * (n.val / 256) + n.val % 256) % 8192 = n.val; omega)

/-- A tile's row is the array's. -/
theorem rows_row {C : Nat} (X : (⟨3, ![2, 8192, C]⟩ : Shape).Idx → EReal) (b : Fin 2) (k : Fin C) :
    rows X b (n.val / 256) (ix3 0 (tileRow n.val) k) = X (ix3 b n k) :=
  congrArg (fun m => X (ix3 b m k)) (row_split n)

end Rows

theorem wiB_at (WI : Vec Ideal S1024x3072 .bf16) (k c : Fin 1024) : wiB WI (ix2 k c) = WI (ix2 k ⟨c.val, by omega⟩) := by
  pointwise [wiB]
theorem wiC_at (WI : Vec Ideal S1024x3072 .bf16) (k c : Fin 1024) : wiC WI (ix2 k c) = WI (ix2 k ⟨1024 + c.val, by omega⟩) := by
  pointwise [wiC]
theorem wiH_at (WI : Vec Ideal S1024x3072 .bf16) (k c : Fin 1024) : wiH WI (ix2 k c) = WI (ix2 k ⟨2048 + c.val, by omega⟩) := by
  pointwise [wiH]
theorem row1_at (G : Vec Ideal S2x1024 .f32) (c : Fin 1024) : row1 G (ix2 0 c) = G (ix2 1 c) := by
  pointwise [row1]

/-- The layer's arguments, as the kernel's tiles read them. -/
def argsK (w : FfnW Ideal) (X : Vec Ideal S2x8192x1024 .f32) (WI : Vec Ideal S1024x3072 .bf16) (CW : Vec Ideal S1x3x1024 .f32) (P : Vec Ideal S2x8192x256 .f32) : Layer1 where
  X := X
  P := P
  WI := WI
  CW := fun i => CW (ix3 0 (i 0) (i 1))
  WO := w.WO
  W1 := w.W1
  W2 := w.W2
  WG := w.WG
  WP := w.WP
  G1 := fun c => w.G1 (ix2 1 c)
  B1 := fun c => w.B1 (ix2 1 c)
  G2 := fun c => w.G2 (ix2 1 c)
  B2 := fun c => w.B2 (ix2 1 c)

section Tiles
variable (w : FfnW Ideal) (X : Vec Ideal S2x8192x1024 .f32) (WI : Vec Ideal S1024x3072 .bf16) (CW : Vec Ideal S1x3x1024 .f32) (P : Vec Ideal S2x8192x256 .f32)
variable (b : Fin 2) (n : Fin 8192) (c : Fin 1024)

theorem zT_at : zT X WI b (n.val / 256) (ix2 (tileRow n.val) c) = (argsK w X WI CW P).z b n c := by
  unfold zT
  rw [pay4_at]
  simp only [rows_row, wiC_at, wiH_at]
  rfl

theorem gT_at : gT X WI b (n.val / 256) (ix2 (tileRow n.val) c) = (argsK w X WI CW P).proj b n ⟨c.val, by omega⟩ := by
  unfold gT
  rw [pay6_at]
  simp only [rows_row, wiB_at]
  rfl

theorem zWin_at (d : Nat) : zWin X WI b (n.val / 256) d (ix3 0 (tileRow n.val) c) = (argsK w X WI CW P).zLag b n d c := by
  have e : 256 * (n.val / 256) + (tileRow n.val).val = n.val := by show 256 * (n.val / 256) + n.val % 256 = n.val; omega
  show zLate X WI b (256 * (n.val / 256) + (tileRow n.val).val) d c = _
  rw [e]
  unfold zLate Layer1.zLag
  by_cases h : n.val < d
  · rw [if_pos h, if_pos h]
    exact Ideal.ofBits_zero_f32
  · rw [if_neg h, if_neg h]
    have e2 : rowIx (n.val - d) = ⟨n.val - d, by omega⟩ := Fin.ext (Nat.mod_eq_of_lt (by omega))
    rw [e2]
    exact zT_at w X WI CW P b ⟨n.val - d, by omega⟩ c

/-- The mixer's result. -/
theorem YS_layer : YS X WI CW (ix3 b n c) = (argsK w X WI CW P).mix b n c := by
  show yT X WI CW b (n.val / 256) (ix2 (tileRow n.val) c) = _
  unfold yT
  rw [pay24_at, zT_at w X WI CW P, gT_at w X WI CW P, zWin_at w X WI CW P, zWin_at w X WI CW P]
  unfold Layer1.mix
  refine congrArg (_ * ·) ?_
  rw [add_assoc, add_comm]
  rfl

theorem x1T_at : x1T w X (YS X WI CW) b (n.val / 256) (ix2 (tileRow n.val) c) = (argsK w X WI CW P).x1 b n c := by
  unfold x1T
  rw [pay40_at]
  simp only [pay37_at, rows_row, row1_at, YS_layer w X WI CW P]
  rfl

theorem xbT_at : xbT w X (YS X WI CW) b (n.val / 256) (ix3 0 (tileRow n.val) c) = (argsK w X WI CW P).x1 b n c :=
  (pay41_at _ _ _ _ _ _).trans (x1T_at w X WI CW P b n c)

/-- The hidden units, whatever the column block. -/
theorem hidT_at (f : Fin 4096) : hidT w X (YS X WI CW) b (n.val / 256) (ix3 0 (tileRow n.val) f) = (argsK w X WI CW P).hid b n f := by
  show k0_pay44 (xbT w X (YS X WI CW) b (n.val / 256)) (w1Col w.W1 (f.val / 1024)) (ix3 0 (tileRow n.val) (colIx f.val)) = _
  rw [pay44_at]
  have e : col4Ix (1024 * (f.val / 1024) + (colIx f.val).val) = f := Fin.ext (by
    show (1024 * (f.val / 1024) + f.val % 1024) % 4096 = f.val
    omega)
  have hw : ∀ k : Fin 1024, w1Col w.W1 (f.val / 1024) (ix2 k (colIx f.val)) = w.W1 (ix2 k f) := fun k =>
    congrArg (fun m => w.W1 (ix2 k m)) e
  simp only [hw, xbT_at w X WI CW P]
  rfl

theorem x2T_at : x2T w X (YS X WI CW) b (n.val / 256) (ix2 (tileRow n.val) c) = (argsK w X WI CW P).x2 b n c := by
  unfold x2T
  rw [pay47_at]
  simp only [x1T_at w X WI CW P, hidT_at w X WI CW P, row1_at]
  rfl

/-- The kernel's result is the layer's. -/
theorem OS_layer : OS w X (YS X WI CW) P (ix3 b n c) = (argsK w X WI CW P).out b n c := by
  show oT w X (YS X WI CW) P b (n.val / 256) (ix3 0 (tileRow n.val) c) = _
  unfold oT
  rw [pay61_at]
  simp only [x2T_at w X WI CW P, rows_row]
  rfl

end Tiles

end Cert.Proof.Layer

end
-- ==== Proof.RefAt.lean ====
module

public import proofs.«01_k».proof.Proof.Maths
public import proofs.«01_k».proof.Proof.Gen.ReferenceIdeal.Run
public import Idealize.ShloMosaic.Lib.Tactic.CleanTypes
public import Idealize.ShloMosaic.Lib.Pointwise

@[expose] public section

set_option maxRecDepth 16384

noncomputable section

/-! # The reference's result over the extended reals -/

namespace Cert.Proof.Layer

open Idealize.ShloMosaic Idealize.ShloMosaic.TcCoe Idealize.ShloMosaic.StableHlo
open Cert.ReferenceIdeal Cert.ReferenceIdeal.Gen Cert.ReferenceIdeal.Value

/-- The layer's arguments, taken out of the program's arrays. -/
def argsOf (A0 : S2x8192x1024.Idx → EReal) (A1 : S2x2x8192x256.Idx → EReal) (A2 : S1x1024x3072.Idx → EReal) (A3 : S1x3x1024.Idx → EReal) (A4 : S1x1024x1024.Idx → EReal) (A5 : S2x1024.Idx → EReal) (A6 : S2x1024.Idx → EReal) (A7 : S2x1024x4096.Idx → EReal) (A8 : S2x4096x1024.Idx → EReal) (A9 : S2x1024.Idx → EReal) (A10 : S2x1024.Idx → EReal) (A11 : S2x1024x1024.Idx → EReal) (A12 : S2x256x1024.Idx → EReal) : Layer1 where
  X := A0
  P := fun i => A1 (ix4 1 (i 0) (i 1) (i 2))
  WI := fun i => A2 (ix3 0 (i 0) (i 1))
  CW := fun i => A3 (ix3 0 (i 0) (i 1))
  WO := fun i => A4 (ix3 0 (i 0) (i 1))
  W1 := fun i => A7 (ix3 1 (i 0) (i 1))
  W2 := fun i => A8 (ix3 1 (i 0) (i 1))
  WG := fun i => A11 (ix3 1 (i 0) (i 1))
  WP := fun i => A12 (ix3 1 (i 0) (i 1))
  G1 := fun c => A5 (ix2 1 c)
  B1 := fun c => A6 (ix2 1 c)
  G2 := fun c => A9 (ix2 1 c)
  B2 := fun c => A10 (ix2 1 c)

variable (V0 : Valuation τ sig (Elt Ideal))

/-- The same of the reference's arrays. -/
def argsR : Layer1 := argsOf (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12))

variable (b : Fin 2) (n : Fin 8192) (c : Fin 1024)

theorem v3_at (e : Fin 3072) : res_main_v3 V0 (ix3 b n e) = (argsR V0).proj b n e := by
  unfold res_main_v3
  clean_types
  pointwise
  try rfl

theorem v1_at (k : Fin 3) : res_main_v1 V0 (ix2 k c) = (argsR V0).CW (ix2 k c) := by
  unfold res_main_v1
  clean_types
  pointwise
  try rfl

theorem v8_at (j : Fin 8194) : res_main_v8 V0 (ix3 b j c) = if h : j.val < 2 then 0 else (argsR V0).z b ⟨j.val - 2, by omega⟩ c := by
  unfold res_main_v8
  clean_types
  pointwise
  simp only [v3_at]
  by_cases h : j.val < 2
  · rw [dif_neg (by omega), dif_pos h]
    show ((((0#32 : BitVec 32).toInt : ℤ) : ℝ) : EReal) = 0
    simp
  · rw [dif_pos (by omega), dif_neg h]
    rfl

/-- The two residuals' rows. -/
def row1R (k : Fin 1024) : EReal := res_main_v35 V0 (ix3 b n k)
def row2R (k : Fin 1024) : EReal := res_main_v74 V0 (ix3 b n k)

theorem row1R_at : row1R V0 b n c = alpha * (argsR V0).X (ix3 b n c) + ∑ e : Fin 1024, (argsR V0).mix b n e * (argsR V0).WO (ix2 e c) := by
  unfold row1R res_main_v35
  clean_types
  pointwise
  simp only [v3_at, v1_at, v8_at]
  refine congrArg (_ + ·) (Finset.sum_congr rfl fun e _ => ?_)
  refine congrArg (· * _) (congrArg (_ * ·) ?_)
  refine congrArg₂ (· + ·) (congrArg₂ (· + ·) ?_ ?_) ?_
  · rfl
  · refine congrArg (_ * ·) ?_
    unfold Layer1.zLag
    by_cases h : n.val < 1
    · rw [dif_pos (by omega), if_pos h]
    · rw [dif_neg (by omega), if_neg h]
      exact congrArg (fun m => (argsR V0).z b m e) (Fin.ext (by show 1 + n.val - 2 = n.val - 1; omega))
  · refine congrArg (_ * ·) ?_
    rw [dif_neg (by omega)]
    exact congrArg (fun m => (argsR V0).z b m e) (Fin.ext (by show 2 + n.val - 2 = n.val; omega))

theorem v43_at : res_main_v43 V0 (ix3 b n 0) = rowMean (row1R V0 b n) := by
  unfold res_main_v43
  clean_types
  pointwise
  try rfl

theorem v45_at : res_main_v45 V0 (ix3 b n c) = row1R V0 b n c - rowMean (row1R V0 b n) := by
  unfold res_main_v45
  clean_types
  pointwise
  simp only [v43_at]
  rfl

theorem v63_at : res_main_v63 V0 (ix3 b n c) = (argsR V0).x1 b n c := by
  have e : res_main_v63 V0 (ix3 b n c) = rowNorm (row1R V0 b n) ((argsR V0).G1 c) ((argsR V0).B1 c) c := by
    unfold res_main_v63
    clean_types
    pointwise
    simp only [v43_at, v45_at]
    rfl
  rw [e]
  simp only [funext (row1R_at V0 b n)]
  rfl

theorem v67_at (f : Fin 4096) : res_main_v67 V0 (ix3 b n f) = max (∑ k : Fin 1024, (argsR V0).x1 b n k * (argsR V0).W1 (ix2 k f)) 0 := by
  unfold res_main_v67
  clean_types
  pointwise
  simp only [v63_at]
  rfl

theorem row2R_at : row2R V0 b n c = alpha * (argsR V0).x1 b n c + ∑ f : Fin 4096, (argsR V0).hid b n f * (argsR V0).W2 (ix2 f c) := by
  unfold row2R res_main_v74
  clean_types
  pointwise
  simp only [v63_at, v67_at]
  rfl

theorem v82_at : res_main_v82 V0 (ix3 b n 0) = rowMean (row2R V0 b n) := by
  unfold res_main_v82
  clean_types
  pointwise
  try rfl

theorem v84_at : res_main_v84 V0 (ix3 b n c) = row2R V0 b n c - rowMean (row2R V0 b n) := by
  unfold res_main_v84
  clean_types
  pointwise
  simp only [v82_at]
  rfl

theorem v102_at : res_main_v102 V0 (ix3 b n c) = (argsR V0).x2 b n c := by
  have e : res_main_v102 V0 (ix3 b n c) = rowNorm (row2R V0 b n) ((argsR V0).G2 c) ((argsR V0).B2 c) c := by
    unfold res_main_v102
    clean_types
    pointwise
    simp only [v82_at, v84_at]
    rfl
  rw [e]
  simp only [funext (row2R_at V0 b n)]
  rfl

end Cert.Proof.Layer

end
-- ==== Proof.KernelOut.lean ====
module

public import proofs.«01_k».proof.Proof.Oblig
public import proofs.«01_k».proof.Proof.TilesAt
public import proofs.«01_k».proof.Proof.RefAt

@[expose] public section

set_option maxRecDepth 16384

noncomputable section

/-! # The kernel's result over the extended reals, in the program's arguments -/

namespace Cert.Proof.Layer

open Cert.KernelIdeal Cert.KernelIdeal.Gen
open Idealize.ShloMosaic Idealize.ShloMosaic.TcCoe Idealize.ShloMosaic.StableHlo

variable (m : (ℓ : Loc nD τ sig) → Buf (Elt Ideal) ℓ) (c : Dev nD)

/-! ## The staged operands: each is its whole array. -/

theorem cw_blk (i : S1x3x1024.Idx) : iblk m c 0 tt i = m ((c : Thread nD τ).loc main_arg3) i := by
  unfold iblk
  have e : ((cfg0.win 0).rect tt).emb i = i := by
    funext a
    apply Fin.ext
    refine Pipeline.Window.rect_emb_val_of_index_zero (cfg0.win 0) tt a ?_ i
    fin_cases a <;> rfl
  rw [← V_main_arg3 m c]
  exact congrArg (V m c main_arg3) e

theorem g1_blk (i : S2x1024.Idx) : iblk m c 1 tt i = m ((c : Thread nD τ).loc main_arg5) i := by
  unfold iblk
  have e : ((cfg0.win 1).rect tt).emb i = i := by
    funext a
    apply Fin.ext
    refine Pipeline.Window.rect_emb_val_of_index_zero (cfg0.win 1) tt a ?_ i
    fin_cases a <;> rfl
  rw [← V_main_arg5 m c]
  exact congrArg (V m c main_arg5) e

theorem b1_blk (i : S2x1024.Idx) : iblk m c 2 tt i = m ((c : Thread nD τ).loc main_arg6) i := by
  unfold iblk
  have e : ((cfg0.win 2).rect tt).emb i = i := by
    funext a
    apply Fin.ext
    refine Pipeline.Window.rect_emb_val_of_index_zero (cfg0.win 2) tt a ?_ i
    fin_cases a <;> rfl
  rw [← V_main_arg6 m c]
  exact congrArg (V m c main_arg6) e

theorem g2_blk (i : S2x1024.Idx) : iblk m c 3 tt i = m ((c : Thread nD τ).loc main_arg9) i := by
  unfold iblk
  have e : ((cfg0.win 3).rect tt).emb i = i := by
    funext a
    apply Fin.ext
    refine Pipeline.Window.rect_emb_val_of_index_zero (cfg0.win 3) tt a ?_ i
    fin_cases a <;> rfl
  rw [← V_main_arg9 m c]
  exact congrArg (V m c main_arg9) e

theorem b2_blk (i : S2x1024.Idx) : iblk m c 4 tt i = m ((c : Thread nD τ).loc main_arg10) i := by
  unfold iblk
  have e : ((cfg0.win 4).rect tt).emb i = i := by
    funext a
    apply Fin.ext
    refine Pipeline.Window.rect_emb_val_of_index_zero (cfg0.win 4) tt a ?_ i
    fin_cases a <;> rfl
  rw [← V_main_arg10 m c]
  exact congrArg (V m c main_arg10) e

theorem cw_read : cwOf c (win0_0.stage (cfg0.slots tt 0)) (CWb m c) = m ((c : Thread nD τ).loc main_arg3) := by
  have e : ∀ i : S1x3x1024.Idx, (Rect.unit (s := S1x3x1024) ![0, 0, 0] S1x3x1024.size inb_S1x3x1024_S1x3x1024_0_0_0).emb i = i := fun i => by
    funext a
    apply Fin.ext
    match a with
    | ⟨0, _⟩ => show 0 + 1 * (i 0).val = (i 0).val; omega
    | ⟨1, _⟩ => show 0 + 1 * (i 1).val = (i 1).val; omega
    | ⟨2, _⟩ => show 0 + 1 * (i 2).val = (i 2).val; omega
  funext i
  exact (congrFun (View.read_rep (st0_0 tt).view (iblk m c 0 tt)) _).trans ((congrArg (iblk m c 0 tt) (e i)).trans (cw_blk m c i))

theorem g1_read : (wL m c).G1 = m ((c : Thread nD τ).loc main_arg5) := by
  unfold wL wOf
  dsimp only
  exact (View.read_rep (st0_1 tt).view (iblk m c 1 tt)).trans (funext (g1_blk m c))

theorem b1_read : (wL m c).B1 = m ((c : Thread nD τ).loc main_arg6) := by
  unfold wL wOf
  dsimp only
  exact (View.read_rep (st0_2 tt).view (iblk m c 2 tt)).trans (funext (b1_blk m c))

theorem g2_read : (wL m c).G2 = m ((c : Thread nD τ).loc main_arg9) := by
  unfold wL wOf
  dsimp only
  exact (View.read_rep (st0_3 tt).view (iblk m c 3 tt)).trans (funext (g2_blk m c))

theorem b2_read : (wL m c).B2 = m ((c : Thread nD τ).loc main_arg10) := by
  unfold wL wOf
  dsimp only
  exact (View.read_rep (st0_4 tt).view (iblk m c 4 tt)).trans (funext (b2_blk m c))

/-- The weights of the first projection, cast. -/
theorem wi_read : wiM.view.read (Elt Ideal) (V m c main_v1) = fun i => m ((c : Thread nD τ).loc main_arg2) (ix3 0 (i 0) (i 1)) := by
  show V m c main_v1 = _
  unfold V hostOps0
  after_results_simp
  funext i
  refine shapeCast_apply (m (c, Proc.devRef .tc main_arg2)) shapeCasts_S1x1024x3072_S1024x3072 i (ix3 0 (i 0) (i 1)) ?_
  refine (Shape.rowMajor_val_three (d := ![1, 1024, 3072]) _).trans (Eq.trans ?_ (Shape.rowMajor_val_two (d := ![1024, 3072]) _).symm)
  show (0 * 1024 + (i 0).val) * 3072 + (i 1).val = (i 0).val * 3072 + (i 1).val
  omega

/-- The layer's plane of the embeddings. -/
theorem p_read : pL.view.read (Elt Ideal) (V m c main_arg1) = fun i => m ((c : Thread nD τ).loc main_arg1) (ix4 1 (i 0) (i 1) (i 2)) := by
  have e : ∀ i : S2x8192x256.Idx, Shape.reshapeEquiv (s := S1x2x8192x256) (s' := S2x8192x256) (by decide) i = (ix4 (0 : Fin 1) (i 0) (i 1) (i 2) : S1x2x8192x256.Idx) := fun i => by
    apply Shape.reshapeEquiv_eq_of_rowMajor
    refine (Shape.rowMajor_val_four (d := ![1, 2, 8192, 256]) _).trans (Eq.trans ?_ (Shape.rowMajor_val_three (d := ![2, 8192, 256]) _).symm)
    show ((0 * 2 + (i 0).val) * 8192 + (i 1).val) * 256 + (i 2).val = ((i 0).val * 8192 + (i 1).val) * 256 + (i 2).val
    omega
  have e2 : ∀ i : S2x8192x256.Idx, (Rect.unit (s := S2x2x8192x256) ![1, 0, 0, 0] S1x2x8192x256.size inb_S2x2x8192x256_S1x2x8192x256_1_0_0_0).emb (ix4 (0 : Fin 1) (i 0) (i 1) (i 2) : S1x2x8192x256.Idx) = (ix4 1 (i 0) (i 1) (i 2) : S2x2x8192x256.Idx) := fun i => by
    funext a
    apply Fin.ext
    match a with
    | ⟨0, _⟩ => show 1 + 1 * 0 = 1; omega
    | ⟨1, _⟩ => show 0 + 1 * (i 0).val = (i 0).val; omega
    | ⟨2, _⟩ => show 0 + 1 * (i 1).val = (i 1).val; omega
    | ⟨3, _⟩ => show 0 + 1 * (i 2).val = (i 2).val; omega
  rw [V_main_arg1 m c]
  exact funext fun i => congrArg (pM.view.read (Elt Ideal) (m ((c : Thread nD τ).loc main_arg1))) ((congrArg (Rect.unit (s := S2x2x8192x256) ![1, 0, 0, 0] S1x2x8192x256.size inb_S2x2x8192x256_S1x2x8192x256_1_0_0_0).emb (e i)).trans (e2 i))

/-- The kernel's arguments are the layer's. -/
theorem argsK_eq : argsK (wL m c) (xM.view.read (Elt Ideal) (V m c main_arg0)) (wiM.view.read (Elt Ideal) (V m c main_v1)) (cwOf c (win0_0.stage (cfg0.slots tt 0)) (CWb m c)) (pL.view.read (Elt Ideal) (V m c main_arg1))
    = argsOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  rw [wi_read, p_read, cw_read]
  unfold argsK argsOf
  rw [g1_read, b1_read, g2_read, b2_read]
  rw [← V_main_arg4 m c, ← V_main_arg7 m c, ← V_main_arg8 m c, ← V_main_arg11 m c, ← V_main_arg12 m c, ← V_main_arg0 m c]
  rfl

/-- The kernel's result is the layer's, index by index. -/
theorem OA_at (b : Fin 2) (n : Fin 8192) (f : Fin 1024) : oM.view.read (Elt Ideal) (OA m c) (ix3 b n f)
    = (argsOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))).out b n f := by
  rw [oRead, yRead, ← argsK_eq]
  exact OS_layer (wL m c) _ _ _ _ b n f

end Cert.Proof.Layer

end
-- ==== Proof.RefOut.lean ====
module

public import proofs.«01_k».proof.Proof.RefAt

@[expose] public section

set_option maxRecDepth 16384

noncomputable section

/-! # The reference's run, with its result read at an index -/

namespace Cert.Proof.Layer

open Idealize.ShloMosaic Idealize.ShloMosaic.TcCoe Idealize.ShloMosaic.StableHlo Idealize.SL.Sem
open Cert.ReferenceIdeal Cert.ReferenceIdeal.Gen Cert.ReferenceIdeal.Value

variable (V0 : Valuation τ sig (Elt Ideal))

/-- The reference's result. -/
def refOut : FVec Ideal S2x8192x1024 .f32 :=
  addf (res_main_v102 V0) (mulf (Host.divf (broadcastInDim S2x8192x1024 ![] bcast_S_S2x8192x1024 (constant S_ .f32 0x3F800000#32)) (addf (broadcastInDim S2x8192x1024 ![] bcast_S_S2x8192x1024 (constant S_ .f32 0x3F800000#32)) (Host.exp (Host.negf (Host.dotGeneral (φ₁ := .f32) (φ₂ := .f32) dot_S2x8192x1024_S1024x1024_S2x8192x1024_2_0_01_1_n_n none (res_main_v102 V0) (shapeCast _ (extractStridedSlice (α := Elt Ideal .f32) S1x1024x1024 ![1, 0, 0] (V0 (Proc.devRef .tc main_arg11)) slices_S2x1024x1024_S1x1024x1024_1_0_0) shapeCasts_S1x1024x1024_S1024x1024)))))) (Host.dotGeneral (φ₁ := .f32) (φ₂ := .f32) dot_S2x8192x256_S256x1024_S2x8192x1024_2_0_01_1_n_n none (shapeCast _ (extractStridedSlice (α := Elt Ideal .f32) S1x2x8192x256 ![1, 0, 0, 0] (V0 (Proc.devRef .tc main_arg1)) slices_S2x2x8192x256_S1x2x8192x256_1_0_0_0) shapeCasts_S1x2x8192x256_S2x8192x256) (shapeCast _ (extractStridedSlice (α := Elt Ideal .f32) S1x256x1024 ![1, 0, 0] (V0 (Proc.devRef .tc main_arg12)) slices_S2x256x1024_S1x256x1024_1_0_0) shapeCasts_S1x256x1024_S256x1024)))

/-- The reference's run leaves it. -/
theorem ref_leaves (m : (ℓ : Loc nD τ sig) → Buf (Elt Ideal) ℓ) (ρ : Dev nD → PrngReg) :
    θ_run defs (onTc main) ⟨m, 0, ρ⟩ fun r => ∀ c : Dev nD, r.2.mem ((c.tc : Thread nD τ).loc main_v118) = refOut (launchContents m c) :=
  (θ_run defs _ _).mono (fun _ h c => (h c).1) (run (F := Ideal) m ρ)

/-- It is the layer's, index by index. -/
theorem refOut_at (b : Fin 2) (n : Fin 8192) (c : Fin 1024) : refOut V0 (ix3 b n c) = (argsR V0).out b n c := by
  unfold refOut
  clean_types
  pointwise
  simp only [v102_at]
  rfl

end Cert.Proof.Layer

end
-- ==== Proof.Equation.lean ====
module

public import proofs.«01_k».proof.Defs
public import proofs.«01_k».proof.Proof.Held
public import proofs.«01_k».proof.Proof.KernelOut
public import proofs.«01_k».proof.Proof.RefOut

@[expose] public section

set_option maxRecDepth 16384

noncomputable section

/-! # Over the extended reals the kernel and the reference leave one result -/

namespace Cert.Proof.Layer

open Idealize.ShloMosaic Idealize.ShloMosaic.TcCoe Idealize.SL.Sem

/-- Reading the result's memref reads its buffer. -/
theorem oM_read (c : Dev Cert.KernelIdeal.nD) (f : BufOf Ideal c oM) : oM.view.read (Elt Ideal) f = f := rfl

/-- Two arrays of the result's shape are equal when they are index by index. -/
theorem ext_ix3 (f g : Cert.ReferenceIdeal.S2x8192x1024.Idx → EReal) (h : ∀ (b : Fin 2) (n : Fin 8192) (k : Fin 1024), f (ix3 b n k) = g (ix3 b n k)) : f = g :=
  funext fun i => by rw [eq_ix3 (n0 := 2) (n1 := 8192) (n2 := 1024) i]; exact h _ _ _

/-- A valuation holding the kernel's arguments makes the reference's result the kernel's. -/
theorem result_eq (m : (ℓ : Loc Cert.KernelIdeal.nD Cert.KernelIdeal.τ Cert.KernelIdeal.sig) → Buf (Elt Ideal) ℓ) (c : Dev Cert.KernelIdeal.nD)
    (V0 : Valuation Cert.ReferenceIdeal.τ Cert.ReferenceIdeal.sig (Elt Ideal))
    (h : argsR V0 = argsOf (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) : refOut V0 = OA m c := by
  refine (ext_ix3 _ _ fun b n k => ?_).trans (oM_read c (OA m c))
  rw [refOut_at, h]
  exact (OA_at m c b n k).symm

/-- The two programs, on equal arguments, leave equal results. -/
theorem equal_results : Cert.algebraic_KernelIdeal_ReferenceIdeal := fun m g m' g' _ hm => by
  refine ⟨fun c => OA m c, (θ_run Cert.KernelIdeal.defs _ _).mono (fun _ h c => h.1 c) (run_held (F := Ideal) m g), ?_⟩
  refine (θ_run Cert.ReferenceIdeal.defs _ _).mono (fun _ h c => ⟨(h c).1.trans ?_, (h c).2⟩) (Cert.ReferenceIdeal.Value.run (F := Ideal) m' g')
  obtain ⟨h0, h1, h2, h3, h4, h5, h6, h7, h8, h9, h10, h11, h12⟩ := hm c
  refine result_eq m c (StableHlo.launchContents m' c) ?_
  rw [← h0, ← h1, ← h2, ← h3, ← h4, ← h5, ← h6, ← h7, ← h8, ← h9, ← h10, ← h11, ← h12]
  rfl

end Cert.Proof.Layer

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Same
public import proofs.«01_k».proof.Proof.Equation
public import Idealize.ShloMosaic.Adequacy
public import Idealize.ShloMosaic.Init

@[expose] public section

noncomputable section

namespace Cert.Proof

open Idealize.ShloMosaic Idealize.SL.Sem Cert.Kernel

/-- Every run of the kernel ends, with its arguments unchanged and its semaphores at rest. -/
theorem frame_kernel : Cert.quiescent_Kernel := fun m ρ _ => by
  rw [Same.defs_eq, Same.main_eq]
  exact (θ_run Cert.KernelIdeal.defs _ _).mono (fun _ h => ⟨fun c => (h.1 c).2, h.2⟩) (Layer.run_held (F := Bits) m ρ)

/-- The same of the kernel at the extended reals. -/
theorem frame_kernelIdeal : Cert.quiescent_KernelIdeal := fun m ρ _ =>
  (θ_run Cert.KernelIdeal.defs _ _).mono (fun _ h => ⟨fun c => (h.1 c).2, h.2⟩) (Layer.run_held (F := Ideal) m ρ)

/-- The same of the reference, which has no semaphore. -/
theorem frame_reference : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

theorem claim : Cert.Claim := ⟨Cert.Kernel.Gen.facts, Cert.KernelIdeal.Gen.facts, Cert.ReferenceIdeal.Gen.facts,
  frame_kernel, frame_kernelIdeal, frame_reference, trivial, Layer.equal_results⟩

end Cert.Proof

end
